-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_admissible [hPre_admissible : Cert.Pre_admissible.Facts] (m : (ℓ : Loc Cert.KernelIdeal.nD Cert.KernelIdeal.τ Cert.KernelIdeal.sig) → Buf (Elt Ideal) ℓ) : Prop :=
  ∀ c : Dev Cert.KernelIdeal.nD,
    (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_admissible.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_admissible [hPre_admissible : Cert.Pre_admissible.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_admissible.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_admissible [hKernelIdeal : Cert.KernelIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_admissible m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_admissible [hReferenceIdeal : Cert.ReferenceIdeal.Facts] [hPre_admissible : Cert.Pre_admissible.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_admissible m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_admissible [hKernelIdeal : Cert.KernelIdeal.Facts] [hReferenceIdeal : Cert.ReferenceIdeal.Facts] [hPre_admissible : Cert.Pre_admissible.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_admissible m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_1)) (v1 : (c : Dev Cert.KernelIdeal.nD) → Buf (Elt Ideal) ((c.tc : Thread Cert.KernelIdeal.nD Cert.KernelIdeal.τ).loc Cert.KernelIdeal.main_v3_2)) (v2 : (c : Dev Cert.KernelIdeal.nD) → Buf (Elt Ideal) ((c.tc : Thread Cert.KernelIdeal.nD Cert.KernelIdeal.τ).loc Cert.KernelIdeal.main_v3_3)) (v3 : (c : Dev Cert.KernelIdeal.nD) → Buf (Elt Ideal) ((c.tc : Thread Cert.KernelIdeal.nD Cert.KernelIdeal.τ).loc Cert.KernelIdeal.main_v3_4)) (v4 : (c : Dev Cert.KernelIdeal.nD) → Buf (Elt Ideal) ((c.tc : Thread Cert.KernelIdeal.nD Cert.KernelIdeal.τ).loc Cert.KernelIdeal.main_v3_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_v3_2) = v1 c
          ∧ r.2.mem ((c.tc : Thread Cert.KernelIdeal.nD Cert.KernelIdeal.τ).loc Cert.KernelIdeal.main_v3_3) = v2 c
          ∧ r.2.mem ((c.tc : Thread Cert.KernelIdeal.nD Cert.KernelIdeal.τ).loc Cert.KernelIdeal.main_v3_4) = v3 c
          ∧ r.2.mem ((c.tc : Thread Cert.KernelIdeal.nD Cert.KernelIdeal.τ).loc Cert.KernelIdeal.main_v3_5) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_v2_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_admissible : Cert.Pre_admissible.Facts),
    quiescent_Kernel (hKernel := hKernel)
    ∧ quiescent_KernelIdeal (hKernelIdeal := hKernelIdeal)
    ∧ quiescent_KernelIdeal_pre_admissible (hKernelIdeal := hKernelIdeal) (hPre_admissible := hPre_admissible)
    ∧ quiescent_ReferenceIdeal (hReferenceIdeal := hReferenceIdeal)
    ∧ quiescent_ReferenceIdeal_pre_admissible (hReferenceIdeal := hReferenceIdeal) (hPre_admissible := hPre_admissible)
    ∧ preserves_Kernel_KernelIdeal
    ∧ algebraic_KernelIdeal_ReferenceIdeal_pre_admissible (hKernelIdeal := hKernelIdeal) (hReferenceIdeal := hReferenceIdeal) (hPre_admissible := hPre_admissible)
-- ==== Pre_admissible.lean ====
abbrev S4x384x1024 : Shape := ⟨3, ![4, 384, 1024]⟩
abbrev S32000x1024 : Shape := ⟨2, ![32000, 1024]⟩
abbrev S32000x8 : Shape := ⟨2, ![32000, 8]⟩
abbrev S9x1536x128 : Shape := ⟨3, ![9, 1536, 128]⟩
abbrev S4x384x50 : Shape := ⟨3, ![4, 384, 50]⟩
abbrev S1536x50 : Shape := ⟨2, ![1536, 50]⟩
abbrev S_ : Shape := ⟨0, ![]⟩
abbrev S1536x50x50 : Shape := ⟨3, ![1536, 50, 50]⟩
abbrev S1536x50x1 : Shape := ⟨3, ![1536, 50, 1]⟩
abbrev S1536x1x50 : Shape := ⟨3, ![1536, 1, 50]⟩
abbrev S9x1536x30x128 : Shape := ⟨4, ![9, 1536, 30, 128]⟩
abbrev S9x1536x30x128x1 : Shape := ⟨5, ![9, 1536, 30, 128, 1]⟩
abbrev S1x1536x1x1x50 : Shape := ⟨5, ![1, 1536, 1, 1, 50]⟩
abbrev S9x1536x30x128x50 : Shape := ⟨5, ![9, 1536, 30, 128, 50]⟩

class Facts : Prop where
  shapeCasts_S4x384x50_S1536x50 : S4x384x50.ShapeCasts S1536x50
  bitsLt_bf16_f32 : FTy.bits .bf16 < FTy.bits .f32
  bcast_S_S4x384x1024 : S_.BroadcastsInDim S4x384x1024 (![] : Fin 0 → Fin S4x384x1024.rank)
  bcast_S_S1536x50 : S_.BroadcastsInDim S1536x50 (![] : Fin 0 → Fin S1536x50.rank)
  bcast_S1536x50_S1536x50x1_0_1 : S1536x50.BroadcastsInDim S1536x50x1 (![0, 1] : Fin 2 → Fin S1536x50x1.rank)
  bcast_S1536x50_S1536x1x50_0_2 : S1536x50.BroadcastsInDim S1536x1x50 (![0, 2] : Fin 2 → Fin S1536x1x50.rank)
  bcast_S1536x50x1_S1536x50x50_0_1_2 : S1536x50x1.BroadcastsInDim S1536x50x50 (![0, 1, 2] : Fin 3 → Fin S1536x50x50.rank)
  bcast_S1536x1x50_S1536x50x50_0_1_2 : S1536x1x50.BroadcastsInDim S1536x50x50 (![0, 1, 2] : Fin 3 → Fin S1536x50x50.rank)
  bcast_S_S9x1536x30x128 : S_.BroadcastsInDim S9x1536x30x128 (![] : Fin 0 → Fin S9x1536x30x128.rank)
  bcast_S9x1536x128_S9x1536x30x128_0_1_3 : S9x1536x128.BroadcastsInDim S9x1536x30x128 (![0, 1, 3] : Fin 3 → Fin S9x1536x30x128.rank)
  bcast_S9x1536x30x128_S9x1536x30x128x1_0_1_2_3 : S9x1536x30x128.BroadcastsInDim S9x1536x30x128x1 (![0, 1, 2, 3] : Fin 4 → Fin S9x1536x30x128x1.rank)
  bcast_S1536x50_S1x1536x1x1x50_1_4 : S1536x50.BroadcastsInDim S1x1536x1x1x50 (![1, 4] : Fin 2 → Fin S1x1536x1x1x50.rank)
  bcast_S9x1536x30x128x1_S9x1536x30x128x50_0_1_2_3_4 : S9x1536x30x128x1.BroadcastsInDim S9x1536x30x128x50 (![0, 1, 2, 3, 4] : Fin 5 → Fin S9x1536x30x128x50.rank)
  bcast_S1x1536x1x1x50_S9x1536x30x128x50_0_1_2_3_4 : S1x1536x1x1x50.BroadcastsInDim S9x1536x30x128x50 (![0, 1, 2, 3, 4] : Fin 5 → Fin S9x1536x30x128x50.rank)
  reducesTo_S9x1536x30x128x50_S9x1536x30x128_d4 : S9x1536x30x128x50.ReducesTo [4] S9x1536x30x128
  h_S_ : 0 < S_.numel

variable [Facts]

def fn_part2 {F : FTy → Type} [FloatOps F] (main_v4 : IVec S4x384x1024 1) (main_v9 : IVec S1536x50 1) (main_v18 : IVec S1536x50x50 1) (main_v27 : IVec S9x1536x30x128 32) (main_v33 : IVec S9x1536x30x128 1) (main_v39 : IVec S9x1536x30x128 1) : IVec S4x384x1024 1 × IVec S1536x50 1 × IVec S1536x50x50 1 × IVec S9x1536x30x128 1 :=
  let main_v40 : IVec S9x1536x30x128 1 := cmpi .eq main_v33 main_v39
  let main_c_6 : IVec S_ 32 := constantI S_ 32 32000#32
  let main_v41 : IVec S9x1536x30x128 32 := broadcastInDim S9x1536x30x128 ![] bcast_S_S9x1536x30x128 main_c_6
  let main_v42 : IVec S9x1536x30x128 1 := cmpi .sge main_v27 main_v41
  let main_v43 : IVec S9x1536x30x128 1 := ori main_v40 main_v42
  (main_v4, main_v9, main_v18, main_v43)

def fn_part1 {F : FTy → Type} [FloatOps F] (main_arg3 : IVec S9x1536x128 32) (main_v0 : IVec S1536x50 32) (main_v4 : IVec S4x384x1024 1) (main_v9 : IVec S1536x50 1) (main_v18 : IVec S1536x50x50 1) (main_v19 : IVec S9x1536x30x128 32) (main_v20 : IVec S9x1536x30x128 32) : IVec S4x384x1024 1 × IVec S1536x50 1 × IVec S1536x50x50 1 × IVec S9x1536x30x128 1 :=
  let main_c_1 : IVec S_ 32 := constantI S_ 32 3840#32
  let main_v21 : IVec S9x1536x30x128 32 := broadcastInDim S9x1536x30x128 ![] bcast_S_S9x1536x30x128 main_c_1
  let main_v22 : IVec S9x1536x30x128 32 := muli main_v20 main_v21
  let main_c_2 : IVec S_ 32 := constantI S_ 32 128#32
  let main_v23 : IVec S9x1536x30x128 32 := broadcastInDim S9x1536x30x128 ![] bcast_S_S9x1536x30x128 main_c_2
  let main_v24 : IVec S9x1536x30x128 32 := muli main_v19 main_v23
  let main_v25 : IVec S9x1536x30x128 32 := addi main_v22 main_v24
  let main_v26 : IVec S9x1536x30x128 32 := iotaInDim S9x1536x30x128 32 3
  let main_v27 : IVec S9x1536x30x128 32 := addi main_v25 main_v26
  let main_v28 : IVec S9x1536x30x128 32 := broadcastInDim S9x1536x30x128 ![0, 1, 3] bcast_S9x1536x128_S9x1536x30x128_0_1_3 main_arg3
  let main_v29 : IVec S9x1536x30x128 32 := Host.shrui main_v28 main_v19
  let main_c_3 : IVec S_ 32 := constantI S_ 32 1#32
  let main_v30 : IVec S9x1536x30x128 32 := broadcastInDim S9x1536x30x128 ![] bcast_S_S9x1536x30x128 main_c_3
  let main_v31 : IVec S9x1536x30x128 32 := andi main_v29 main_v30
  let main_c_4 : IVec S_ 32 := constantI S_ 32 0#32
  let main_v32 : IVec S9x1536x30x128 32 := broadcastInDim S9x1536x30x128 ![] bcast_S_S9x1536x30x128 main_c_4
  let main_v33 : IVec S9x1536x30x128 1 := cmpi .ne main_v31 main_v32
  let main_v34 : IVec S9x1536x30x128x1 32 := broadcastInDim S9x1536x30x128x1 ![0, 1, 2, 3] bcast_S9x1536x30x128_S9x1536x30x128x1_0_1_2_3 main_v27
  let main_v35 : IVec S1x1536x1x1x50 32 := broadcastInDim S1x1536x1x1x50 ![1, 4] bcast_S1536x50_S1x1536x1x1x50_1_4 main_v0
  let main_v36 : IVec S9x1536x30x128x50 32 := broadcastInDim S9x1536x30x128x50 ![0, 1, 2, 3, 4] bcast_S9x1536x30x128x1_S9x1536x30x128x50_0_1_2_3_4 main_v34
  let main_v37 : IVec S9x1536x30x128x50 32 := broadcastInDim S9x1536x30x128x50 ![0, 1, 2, 3, 4] bcast_S1x1536x1x1x50_S9x1536x30x128x50_0_1_2_3_4 main_v35
  let main_v38 : IVec S9x1536x30x128x50 1 := cmpi .eq main_v36 main_v37
  let main_c_5 : IVec S_ 1 := constantI S_ 1 0#1
  let main_v39 : IVec S9x1536x30x128 1 := (fun x v => Host.reduce IntOp.ori x v reducesTo_S9x1536x30x128x50_S9x1536x30x128_d4 h_S_) main_v38 main_c_5
  fn_part2 (F := F) main_v4 main_v9 main_v18 main_v27 main_v33 main_v39

def fn {F : FTy → Type} [FloatOps F] (main_arg0 : FVec F S4x384x1024 .bf16) (main_arg1 : FVec F S32000x1024 .fp8e4m3) (main_arg2 : FVec F S32000x8 .f32) (main_arg3 : IVec S9x1536x128 32) (main_arg4 : IVec S4x384x50 32) (main_arg5 : FVec F S4x384x50 .bf16) : IVec S4x384x1024 1 × IVec S1536x50 1 × IVec S1536x50x50 1 × IVec S9x1536x30x128 1 :=
  let main_v0 : IVec S1536x50 32 := shapeCast S1536x50 main_arg4 shapeCasts_S4x384x50_S1536x50
  let main_v1 : FVec F S4x384x1024 .f32 := (extf .f32 · bitsLt_bf16_f32) main_arg0
  let main_v2 : FVec F S4x384x1024 .f32 := Host.absf main_v1
  let main_cst : FVec F S_ .f32 := constant S_ .f32 0x7F7F0000#32
  let main_v3 : FVec F S4x384x1024 .f32 := broadcastInDim S4x384x1024 ![] bcast_S_S4x384x1024 main_cst
  let main_v4 : IVec S4x384x1024 1 := cmpf .ole main_v2 main_v3
  let main_c : IVec S_ 32 := constantI S_ 32 0#32
  let main_v5 : IVec S1536x50 32 := broadcastInDim S1536x50 ![] bcast_S_S1536x50 main_c
  let main_v6 : IVec S1536x50 1 := cmpi .sge main_v0 main_v5
  let main_c_0 : IVec S_ 32 := constantI S_ 32 32000#32
  let main_v7 : IVec S1536x50 32 := broadcastInDim S1536x50 ![] bcast_S_S1536x50 main_c_0
  let main_v8 : IVec S1536x50 1 := cmpi .slt main_v0 main_v7
  let main_v9 : IVec S1536x50 1 := andi main_v6 main_v8
  let main_v10 : IVec S1536x50x50 32 := iotaInDim S1536x50x50 32 1
  let main_v11 : IVec S1536x50x50 32 := iotaInDim S1536x50x50 32 2
  let main_v12 : IVec S1536x50x1 32 := broadcastInDim S1536x50x1 ![0, 1] bcast_S1536x50_S1536x50x1_0_1 main_v0
  let main_v13 : IVec S1536x1x50 32 := broadcastInDim S1536x1x50 ![0, 2] bcast_S1536x50_S1536x1x50_0_2 main_v0
  let main_v14 : IVec S1536x50x50 32 := broadcastInDim S1536x50x50 ![0, 1, 2] bcast_S1536x50x1_S1536x50x50_0_1_2 main_v12
  let main_v15 : IVec S1536x50x50 32 := broadcastInDim S1536x50x50 ![0, 1, 2] bcast_S1536x1x50_S1536x50x50_0_1_2 main_v13
  let main_v16 : IVec S1536x50x50 1 := cmpi .ne main_v14 main_v15
  let main_v17 : IVec S1536x50x50 1 := cmpi .eq main_v10 main_v11
  let main_v18 : IVec S1536x50x50 1 := ori main_v16 main_v17
  let main_v19 : IVec S9x1536x30x128 32 := iotaInDim S9x1536x30x128 32 2
  let main_v20 : IVec S9x1536x30x128 32 := iotaInDim S9x1536x30x128 32 0
  fn_part1 (F := F) main_arg3 main_v0 main_v4 main_v9 main_v18 main_v19 main_v20
-- ==== Kernel.lean ====
abbrev S4x384x1024 : Shape := ⟨3, ![4, 384, 1024]⟩
abbrev S32000x1024 : Shape := ⟨2, ![32000, 1024]⟩
abbrev S32000x8 : Shape := ⟨2, ![32000, 8]⟩
abbrev S9x1536x128 : Shape := ⟨3, ![9, 1536, 128]⟩
abbrev S4x384x50 : Shape := ⟨3, ![4, 384, 50]⟩
abbrev S1536x1024 : Shape := ⟨2, ![1536, 1024]⟩
abbrev S1536x50 : Shape := ⟨2, ![1536, 50]⟩
abbrev S4x384 : Shape := ⟨2, ![4, 384]⟩
abbrev S1536x8 : Shape := ⟨2, ![1536, 8]⟩
abbrev S1280x1024 : Shape := ⟨2, ![1280, 1024]⟩
abbrev S1280x8 : Shape := ⟨2, ![1280, 8]⟩
abbrev S1x1536x128 : Shape := ⟨3, ![1, 1536, 128]⟩
abbrev S512x1280 : Shape := ⟨2, ![512, 1280]⟩
abbrev S1536x128 : Shape := ⟨2, ![1536, 128]⟩
abbrev S32x128 : Shape := ⟨2, ![32, 128]⟩
abbrev S32 : Shape := ⟨1, ![32]⟩
abbrev S32x1 : Shape := ⟨2, ![32, 1]⟩
abbrev S32x8 : Shape := ⟨2, ![32, 8]⟩
abbrev S8x50 : Shape := ⟨2, ![8, 50]⟩
abbrev S512x1024 : Shape := ⟨2, ![512, 1024]⟩
abbrev S1x8x128 : Shape := ⟨3, ![1, 8, 128]⟩
abbrev S8x128 : Shape := ⟨2, ![8, 128]⟩
abbrev S8x128x1 : Shape := ⟨3, ![8, 128, 1]⟩
abbrev S128x128 : Shape := ⟨2, ![128, 128]⟩
abbrev S128 : Shape := ⟨1, ![128]⟩
abbrev S128x1 : Shape := ⟨2, ![128, 1]⟩
abbrev S128x50 : Shape := ⟨2, ![128, 50]⟩
abbrev S128x78 : Shape := ⟨2, ![128, 78]⟩
abbrev S1x128 : Shape := ⟨2, ![1, 128]⟩

abbrev nBuf : Space → Nat
  | .hbm => 15
  | .vmem => 24
  | .smem => 0
  | _ => 0

abbrev bufTy : (tb : Table) → Fin (tcTables nBuf tb) → BufTy
  | .hbm, ⟨0, _⟩ => ⟨S4x384x1024, .bf16⟩
  | .hbm, ⟨1, _⟩ => ⟨S32000x1024, .fp8e4m3⟩
  | .hbm, ⟨2, _⟩ => ⟨S32000x8, .f32⟩
  | .hbm, ⟨3, _⟩ => ⟨S9x1536x128, .i32⟩
  | .hbm, ⟨4, _⟩ => ⟨S4x384x50, .i32⟩
  | .hbm, ⟨5, _⟩ => ⟨S4x384x50, .bf16⟩
  | .hbm, ⟨6, _⟩ => ⟨S1536x1024, .bf16⟩
  | .hbm, ⟨7, _⟩ => ⟨S1536x50, .i32⟩
  | .hbm, ⟨8, _⟩ => ⟨S1536x50, .bf16⟩
  | .hbm, ⟨9, _⟩ => ⟨S4x384, .f32⟩
  | .hbm, ⟨10, _⟩ => ⟨S4x384, .f32⟩
  | .hbm, ⟨11, _⟩ => ⟨S4x384, .f32⟩
  | .hbm, ⟨12, _⟩ => ⟨S1536x50, .f32⟩
  | .hbm, ⟨13, _⟩ => ⟨S1536x1024, .fp8e4m3⟩
  | .hbm, ⟨14, _⟩ => ⟨S1536x8, .f32⟩
  | .local _ .vmem, ⟨0, _⟩ => ⟨S1536x1024, .bf16⟩
  | .local _ .vmem, ⟨1, _⟩ => ⟨S1280x1024, .fp8e4m3⟩
  | .local _ .vmem, ⟨2, _⟩ => ⟨S1280x1024, .fp8e4m3⟩
  | .local _ .vmem, ⟨3, _⟩ => ⟨S1280x8, .f32⟩
  | .local _ .vmem, ⟨4, _⟩ => ⟨S1280x8, .f32⟩
  | .local _ .vmem, ⟨5, _⟩ => ⟨S1x1536x128, .i32⟩
  | .local _ .vmem, ⟨6, _⟩ => ⟨S1x1536x128, .i32⟩
  | .local _ .vmem, ⟨7, _⟩ => ⟨S1536x50, .i32⟩
  | .local _ .vmem, ⟨8, _⟩ => ⟨S1536x50, .bf16⟩
  | .local _ .vmem, ⟨9, _⟩ => ⟨S4x384, .f32⟩
  | .local _ .vmem, ⟨10, _⟩ => ⟨S4x384, .f32⟩
  | .local _ .vmem, ⟨11, _⟩ => ⟨S4x384, .f32⟩
  | .local _ .vmem, ⟨12, _⟩ => ⟨S1536x50, .f32⟩
  | .local _ .vmem, ⟨13, _⟩ => ⟨S1536x1024, .fp8e4m3⟩
  | .local _ .vmem, ⟨14, _⟩ => ⟨S1536x8, .f32⟩
  | .local _ .vmem, ⟨15, _⟩ => ⟨S1536x1024, .bf16⟩
  | .local _ .vmem, ⟨16, _⟩ => ⟨S1280x1024, .bf16⟩
  | .local _ .vmem, ⟨17, _⟩ => ⟨S512x1280, .f32⟩
  | .local _ .vmem, ⟨18, _⟩ => ⟨S512x1280, .f32⟩
  | .local _ .vmem, ⟨19, _⟩ => ⟨S1536x128, .f32⟩
  | .local _ .vmem, ⟨20, _⟩ => ⟨S1536x128, .f32⟩
  | .local _ .vmem, ⟨21, _⟩ => ⟨S1536x128, .f32⟩
  | .local _ .vmem, ⟨22, _⟩ => ⟨S1536x128, .i32⟩
  | .local _ .vmem, ⟨23, _⟩ => ⟨S1536x128, .i32⟩
  | _, _ => ⟨S4x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14

abbrev nD : Nat := 1
abbrev τ : Topo := Topo.v7x

variable {F : FTy → Type} [FloatOps F]

abbrev grid0 : Pipeline.Grid := ⟨1, ![25], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_33 : BitVec 32 := 0#32
  let c48_i32 : BitVec 32 := 48#32
  let v32 : BitVec 32 := Scalar.addi c0_i32_33 c48_i32
  let c1_i32_34 : BitVec 32 := 1#32
  ⟨c0_i32_33, v32, c1_i32_34⟩
def k0_mult1 (k0_t1 : Fin k0_t1_loop.trips) : BitVec 32 :=
  let c0_i32_33 : BitVec 32 := 0#32
  let c1_i32_34 : BitVec 32 := 1#32
  let arg22 : BitVec 32 := Scf.iv c0_i32_33 c1_i32_34 k0_t1
  let c32_i32 : BitVec 32 := 32#32
  let v54 : BitVec 32 := Scalar.muli arg22 c32_i32
  v54
def k0_off1 (k0_t1 : Fin k0_t1_loop.trips) : Fin 2 → Nat :=
  let c0_i32_33 : BitVec 32 := 0#32
  let c1_i32_34 : BitVec 32 := 1#32
  let arg22 : BitVec 32 := Scf.iv c0_i32_33 c1_i32_34 k0_t1
  let c32_i32 : BitVec 32 := 32#32
  let v54 : BitVec 32 := Scalar.muli arg22 c32_i32
  let v55 : BitVec 32 := v54
  let v57 : Index := Scalar.indexCast v55
  let c0_54 : Index := 0#32
  ![v57.toNat, 0]
def k0_off2 (k0_t1 : Fin k0_t1_loop.trips) : Fin 2 → Nat :=
  let c0_i32_33 : BitVec 32 := 0#32
  let c1_i32_34 : BitVec 32 := 1#32
  let arg22 : BitVec 32 := Scf.iv c0_i32_33 c1_i32_34 k0_t1
  let c32_i32 : BitVec 32 := 32#32
  let v54 : BitVec 32 := Scalar.muli arg22 c32_i32
  let v55 : BitVec 32 := v54
  let v162 : Index := Scalar.indexCast v55
  let c128 : Index := 128#32
  ![v162.toNat, 128]
def k0_off3 (k0_t1 : Fin k0_t1_loop.trips) : Fin 2 → Nat :=
  let c0_i32_33 : BitVec 32 := 0#32
  let c1_i32_34 : BitVec 32 := 1#32
  let arg22 : BitVec 32 := Scf.iv c0_i32_33 c1_i32_34 k0_t1
  let c32_i32 : BitVec 32 := 32#32
  let v54 : BitVec 32 := Scalar.muli arg22 c32_i32
  let v55 : BitVec 32 := v54
  let v267 : Index := Scalar.indexCast v55
  let c256 : Index := 256#32
  ![v267.toNat, 256]
def k0_off4 (k0_t1 : Fin k0_t1_loop.trips) : Fin 2 → Nat :=
  let c0_i32_33 : BitVec 32 := 0#32
  let c1_i32_34 : BitVec 32 := 1#32
  let arg22 : BitVec 32 := Scf.iv c0_i32_33 c1_i32_34 k0_t1
  let c32_i32 : BitVec 32 := 32#32
  let v54 : BitVec 32 := Scalar.muli arg22 c32_i32
  let v55 : BitVec 32 := v54
  let v372 : Index := Scalar.indexCast v55
  let c384 : Index := 384#32
  ![v372.toNat, 384]
def k0_off5 (k0_t1 : Fin k0_t1_loop.trips) : Fin 2 → Nat :=
  let c0_i32_33 : BitVec 32 := 0#32
  let c1_i32_34 : BitVec 32 := 1#32
  let arg22 : BitVec 32 := Scf.iv c0_i32_33 c1_i32_34 k0_t1
  let c32_i32 : BitVec 32 := 32#32
  let v54 : BitVec 32 := Scalar.muli arg22 c32_i32
  let v55 : BitVec 32 := v54
  let v477 : Index := Scalar.indexCast v55
  let c512_174 : Index := 512#32
  ![v477.toNat, 512]
def k0_off6 (k0_t1 : Fin k0_t1_loop.trips) : Fin 2 → Nat :=
  let c0_i32_33 : BitVec 32 := 0#32
  let c1_i32_34 : BitVec 32 := 1#32
  let arg22 : BitVec 32 := Scf.iv c0_i32_33 c1_i32_34 k0_t1
  let c32_i32 : BitVec 32 := 32#32
  let v54 : BitVec 32 := Scalar.muli arg22 c32_i32
  let v55 : BitVec 32 := v54
  let v582 : Index := Scalar.indexCast v55
  let c640 : Index := 640#32
  ![v582.toNat, 640]
def k0_off7 (k0_t1 : Fin k0_t1_loop.trips) : Fin 2 → Nat :=
  let c0_i32_33 : BitVec 32 := 0#32
  let c1_i32_34 : BitVec 32 := 1#32
  let arg22 : BitVec 32 := Scf.iv c0_i32_33 c1_i32_34 k0_t1
  let c32_i32 : BitVec 32 := 32#32
  let v54 : BitVec 32 := Scalar.muli arg22 c32_i32
  let v55 : BitVec 32 := v54
  let v687 : Index := Scalar.indexCast v55
  let c768 : Index := 768#32
  ![v687.toNat, 768]
def k0_off8 (k0_t1 : Fin k0_t1_loop.trips) : Fin 2 → Nat :=
  let c0_i32_33 : BitVec 32 := 0#32
  let c1_i32_34 : BitVec 32 := 1#32
  let arg22 : BitVec 32 := Scf.iv c0_i32_33 c1_i32_34 k0_t1
  let c32_i32 : BitVec 32 := 32#32
  let v54 : BitVec 32 := Scalar.muli arg22 c32_i32
  let v55 : BitVec 32 := v54
  let v792 : Index := Scalar.indexCast v55
  let c896 : Index := 896#32
  ![v792.toNat, 896]
def k0_off9 (k0_t1 : Fin k0_t1_loop.trips) : Fin 2 → Nat :=
  let c0_i32_33 : BitVec 32 := 0#32
  let c1_i32_34 : BitVec 32 := 1#32
  let arg22 : BitVec 32 := Scf.iv c0_i32_33 c1_i32_34 k0_t1
  let c32_i32 : BitVec 32 := 32#32
  let v54 : BitVec 32 := Scalar.muli arg22 c32_i32
  let v55 : BitVec 32 := v54
  let v898 : Index := Scalar.indexCast v55
  let c0_300 : Index := 0#32
  ![v898.toNat, 0]
@[reducible] def k0_t2_loop : Scf.Loop 32 :=
  let c0_i32_41 : BitVec 32 := 0#32
  let c192_i32 : BitVec 32 := 192#32
  let v41 : BitVec 32 := Scalar.addi c0_i32_41 c192_i32
  let c1_i32_42 : BitVec 32 := 1#32
  ⟨c0_i32_41, v41, c1_i32_42⟩
def k0_mult2 (k0_t2 : Fin k0_t2_loop.trips) : BitVec 32 :=
  let c0_i32_41 : BitVec 32 := 0#32
  let c1_i32_42 : BitVec 32 := 1#32
  let arg22 : BitVec 32 := Scf.iv c0_i32_41 c1_i32_42 k0_t2
  let c8_i32 : BitVec 32 := 8#32
  let v54 : BitVec 32 := Scalar.muli arg22 c8_i32
  v54
def k0_off10 (k0_t2 : Fin k0_t2_loop.trips) : Fin 2 → Nat :=
  let c0_i32_41 : BitVec 32 := 0#32
  let c1_i32_42 : BitVec 32 := 1#32
  let arg22 : BitVec 32 := Scf.iv c0_i32_41 c1_i32_42 k0_t2
  let c8_i32 : BitVec 32 := 8#32
  let v54 : BitVec 32 := Scalar.muli arg22 c8_i32
  let v55 : BitVec 32 := v54
  let v56 : Index := Scalar.indexCast v55
  let c0_53 : Index := 0#32
  ![v56.toNat, 0]
def k0_off11 (k0_t2 : Fin k0_t2_loop.trips) : Fin 2 → Nat :=
  let c0_i32_41 : BitVec 32 := 0#32
  let c1_i32_42 : BitVec 32 := 1#32
  let arg22 : BitVec 32 := Scf.iv c0_i32_41 c1_i32_42 k0_t2
  let c8_i32 : BitVec 32 := 8#32
  let v54 : BitVec 32 := Scalar.muli arg22 c8_i32
  let v55 : BitVec 32 := v54
  let v61 : Index := Scalar.indexCast v55
  let c0_54 : Index := 0#32
  ![v61.toNat, 0]
@[reducible] def k0_t3_loop : Scf.Loop 32 :=
  let c0_i32_1 : BitVec 32 := 0#32
  let c40_i32 : BitVec 32 := 40#32
  let v3 : BitVec 32 := Scalar.addi c0_i32_1 c40_i32
  let c1_i32 : BitVec 32 := 1#32
  ⟨c0_i32_1, v3, c1_i32⟩
def k0_mult3 (k0_t3 : Fin k0_t3_loop.trips) : BitVec 32 :=
  let c0_i32_1 : BitVec 32 := 0#32
  let c1_i32 : BitVec 32 := 1#32
  let arg22 : BitVec 32 := Scf.iv c0_i32_1 c1_i32 k0_t3
  let c32_i32 : BitVec 32 := 32#32
  let v31 : BitVec 32 := Scalar.muli arg22 c32_i32
  v31
def k0_off12 (k0_t3 : Fin k0_t3_loop.trips) : Fin 2 → Nat :=
  let c0_i32_1 : BitVec 32 := 0#32
  let c1_i32 : BitVec 32 := 1#32
  let arg22 : BitVec 32 := Scf.iv c0_i32_1 c1_i32 k0_t3
  let c32_i32 : BitVec 32 := 32#32
  let v31 : BitVec 32 := Scalar.muli arg22 c32_i32
  let v32 : BitVec 32 := v31
  let v33 : Index := Scalar.indexCast v32
  let c0_33 : Index := 0#32
  ![v33.toNat, 0]
def k0_off13 (k0_t3 : Fin k0_t3_loop.trips) : Fin 2 → Nat :=
  let c0_i32_1 : BitVec 32 := 0#32
  let c1_i32 : BitVec 32 := 1#32
  let arg22 : BitVec 32 := Scf.iv c0_i32_1 c1_i32 k0_t3
  let c32_i32 : BitVec 32 := 32#32
  let v31 : BitVec 32 := Scalar.muli arg22 c32_i32
  let v32 : BitVec 32 := v31
  let v38 : Index := Scalar.indexCast v32
  let c0_34 : Index := 0#32
  ![v38.toNat, 0]
def k0_off14 (k0_t3 : Fin k0_t3_loop.trips) : Fin 2 → Nat :=
  let c0_i32_1 : BitVec 32 := 0#32
  let c1_i32 : BitVec 32 := 1#32
  let arg22 : BitVec 32 := Scf.iv c0_i32_1 c1_i32 k0_t3
  let c32_i32 : BitVec 32 := 32#32
  let v31 : BitVec 32 := Scalar.muli arg22 c32_i32
  let v32 : BitVec 32 := v31
  let v46 : Index := Scalar.indexCast v32
  let c1 : Index := 1#32
  ![v46.toNat, 1]
def k0_off15 (k0_t3 : Fin k0_t3_loop.trips) : Fin 2 → Nat :=
  let c0_i32_1 : BitVec 32 := 0#32
  let c1_i32 : BitVec 32 := 1#32
  let arg22 : BitVec 32 := Scf.iv c0_i32_1 c1_i32 k0_t3
  let c32_i32 : BitVec 32 := 32#32
  let v31 : BitVec 32 := Scalar.muli arg22 c32_i32
  let v32 : BitVec 32 := v31
  let v51 : Index := Scalar.indexCast v32
  let c128 : Index := 128#32
  ![v51.toNat, 128]
def k0_off16 (k0_t3 : Fin k0_t3_loop.trips) : Fin 2 → Nat :=
  let c0_i32_1 : BitVec 32 := 0#32
  let c1_i32 : BitVec 32 := 1#32
  let arg22 : BitVec 32 := Scf.iv c0_i32_1 c1_i32 k0_t3
  let c32_i32 : BitVec 32 := 32#32
  let v31 : BitVec 32 := Scalar.muli arg22 c32_i32
  let v32 : BitVec 32 := v31
  let v59 : Index := Scalar.indexCast v32
  let c2 : Index := 2#32
  ![v59.toNat, 2]
def k0_off17 (k0_t3 : Fin k0_t3_loop.trips) : Fin 2 → Nat :=
  let c0_i32_1 : BitVec 32 := 0#32
  let c1_i32 : BitVec 32 := 1#32
  let arg22 : BitVec 32 := Scf.iv c0_i32_1 c1_i32 k0_t3
  let c32_i32 : BitVec 32 := 32#32
  let v31 : BitVec 32 := Scalar.muli arg22 c32_i32
  let v32 : BitVec 32 := v31
  let v64 : Index := Scalar.indexCast v32
  let c256 : Index := 256#32
  ![v64.toNat, 256]
def k0_off18 (k0_t3 : Fin k0_t3_loop.trips) : Fin 2 → Nat :=
  let c0_i32_1 : BitVec 32 := 0#32
  let c1_i32 : BitVec 32 := 1#32
  let arg22 : BitVec 32 := Scf.iv c0_i32_1 c1_i32 k0_t3
  let c32_i32 : BitVec 32 := 32#32
  let v31 : BitVec 32 := Scalar.muli arg22 c32_i32
  let v32 : BitVec 32 := v31
  let v72 : Index := Scalar.indexCast v32
  let c3 : Index := 3#32
  ![v72.toNat, 3]
def k0_off19 (k0_t3 : Fin k0_t3_loop.trips) : Fin 2 → Nat :=
  let c0_i32_1 : BitVec 32 := 0#32
  let c1_i32 : BitVec 32 := 1#32
  let arg22 : BitVec 32 := Scf.iv c0_i32_1 c1_i32 k0_t3
  let c32_i32 : BitVec 32 := 32#32
  let v31 : BitVec 32 := Scalar.muli arg22 c32_i32
  let v32 : BitVec 32 := v31
  let v77 : Index := Scalar.indexCast v32
  let c384 : Index := 384#32
  ![v77.toNat, 384]
def k0_off20 (k0_t3 : Fin k0_t3_loop.trips) : Fin 2 → Nat :=
  let c0_i32_1 : BitVec 32 := 0#32
  let c1_i32 : BitVec 32 := 1#32
  let arg22 : BitVec 32 := Scf.iv c0_i32_1 c1_i32 k0_t3
  let c32_i32 : BitVec 32 := 32#32
  let v31 : BitVec 32 := Scalar.muli arg22 c32_i32
  let v32 : BitVec 32 := v31
  let v85 : Index := Scalar.indexCast v32
  let c4 : Index := 4#32
  ![v85.toNat, 4]
def k0_off21 (k0_t3 : Fin k0_t3_loop.trips) : Fin 2 → Nat :=
  let c0_i32_1 : BitVec 32 := 0#32
  let c1_i32 : BitVec 32 := 1#32
  let arg22 : BitVec 32 := Scf.iv c0_i32_1 c1_i32 k0_t3
  let c32_i32 : BitVec 32 := 32#32
  let v31 : BitVec 32 := Scalar.muli arg22 c32_i32
  let v32 : BitVec 32 := v31
  let v90 : Index := Scalar.indexCast v32
  let c512_39 : Index := 512#32
  ![v90.toNat, 512]
def k0_off22 (k0_t3 : Fin k0_t3_loop.trips) : Fin 2 → Nat :=
  let c0_i32_1 : BitVec 32 := 0#32
  let c1_i32 : BitVec 32 := 1#32
  let arg22 : BitVec 32 := Scf.iv c0_i32_1 c1_i32 k0_t3
  let c32_i32 : BitVec 32 := 32#32
  let v31 : BitVec 32 := Scalar.muli arg22 c32_i32
  let v32 : BitVec 32 := v31
  let v98 : Index := Scalar.indexCast v32
  let c5 : Index := 5#32
  ![v98.toNat, 5]
def k0_off23 (k0_t3 : Fin k0_t3_loop.trips) : Fin 2 → Nat :=
  let c0_i32_1 : BitVec 32 := 0#32
  let c1_i32 : BitVec 32 := 1#32
  let arg22 : BitVec 32 := Scf.iv c0_i32_1 c1_i32 k0_t3
  let c32_i32 : BitVec 32 := 32#32
  let v31 : BitVec 32 := Scalar.muli arg22 c32_i32
  let v32 : BitVec 32 := v31
  let v103 : Index := Scalar.indexCast v32
  let c640 : Index := 640#32
  ![v103.toNat, 640]
def k0_off24 (k0_t3 : Fin k0_t3_loop.trips) : Fin 2 → Nat :=
  let c0_i32_1 : BitVec 32 := 0#32
  let c1_i32 : BitVec 32 := 1#32
  let arg22 : BitVec 32 := Scf.iv c0_i32_1 c1_i32 k0_t3
  let c32_i32 : BitVec 32 := 32#32
  let v31 : BitVec 32 := Scalar.muli arg22 c32_i32
  let v32 : BitVec 32 := v31
  let v111 : Index := Scalar.indexCast v32
  let c6 : Index := 6#32
  ![v111.toNat, 6]
def k0_off25 (k0_t3 : Fin k0_t3_loop.trips) : Fin 2 → Nat :=
  let c0_i32_1 : BitVec 32 := 0#32
  let c1_i32 : BitVec 32 := 1#32
  let arg22 : BitVec 32 := Scf.iv c0_i32_1 c1_i32 k0_t3
  let c32_i32 : BitVec 32 := 32#32
  let v31 : BitVec 32 := Scalar.muli arg22 c32_i32
  let v32 : BitVec 32 := v31
  let v116 : Index := Scalar.indexCast v32
  let c768 : Index := 768#32
  ![v116.toNat, 768]
def k0_off26 (k0_t3 : Fin k0_t3_loop.trips) : Fin 2 → Nat :=
  let c0_i32_1 : BitVec 32 := 0#32
  let c1_i32 : BitVec 32 := 1#32
  let arg22 : BitVec 32 := Scf.iv c0_i32_1 c1_i32 k0_t3
  let c32_i32 : BitVec 32 := 32#32
  let v31 : BitVec 32 := Scalar.muli arg22 c32_i32
  let v32 : BitVec 32 := v31
  let v124 : Index := Scalar.indexCast v32
  let c7 : Index := 7#32
  ![v124.toNat, 7]
def k0_off27 (k0_t3 : Fin k0_t3_loop.trips) : Fin 2 → Nat :=
  let c0_i32_1 : BitVec 32 := 0#32
  let c1_i32 : BitVec 32 := 1#32
  let arg22 : BitVec 32 := Scf.iv c0_i32_1 c1_i32 k0_t3
  let c32_i32 : BitVec 32 := 32#32
  let v31 : BitVec 32 := Scalar.muli arg22 c32_i32
  let v32 : BitVec 32 := v31
  let v129 : Index := Scalar.indexCast v32
  let c896 : Index := 896#32
  ![v129.toNat, 896]
@[reducible] def k0_t4_loop : Scf.Loop 32 :=
  let c0_i32_15 : BitVec 32 := 0#32
  let c64_i32 : BitVec 32 := 64#32
  let v19 : BitVec 32 := Scalar.addi c0_i32_15 c64_i32
  let c1_i32_16 : BitVec 32 := 1#32
  ⟨c0_i32_15, v19, c1_i32_16⟩
def k0_mult4 (k0_t4 : Fin k0_t4_loop.trips) : BitVec 32 :=
  let c0_i32_15 : BitVec 32 := 0#32
  let c1_i32_16 : BitVec 32 := 1#32
  let arg22 : BitVec 32 := Scf.iv c0_i32_15 c1_i32_16 k0_t4
  let c8_i32 : BitVec 32 := 8#32
  let v31 : BitVec 32 := Scalar.muli arg22 c8_i32
  v31
def k0_mult5 (k0_t4 : Fin k0_t4_loop.trips) : BitVec 32 :=
  let c0_i32_34 : BitVec 32 := 0#32
  let c0_i32_15 : BitVec 32 := 0#32
  let c1_i32_16 : BitVec 32 := 1#32
  let arg22 : BitVec 32 := Scf.iv c0_i32_15 c1_i32_16 k0_t4
  let c8_i32_33 : BitVec 32 := 8#32
  let v33 : BitVec 32 := Scalar.muli arg22 c8_i32_33
  let v34 : BitVec 32 := Scalar.addi c0_i32_34 v33
  v34
def k0_off28 (k0_t4 : Fin k0_t4_loop.trips) : Fin 3 → Nat :=
  let c0_35 : Index := 0#32
  let c0_i32_34 : BitVec 32 := 0#32
  let c0_i32_15 : BitVec 32 := 0#32
  let c1_i32_16 : BitVec 32 := 1#32
  let arg22 : BitVec 32 := Scf.iv c0_i32_15 c1_i32_16 k0_t4
  let c8_i32_33 : BitVec 32 := 8#32
  let v33 : BitVec 32 := Scalar.muli arg22 c8_i32_33
  let v34 : BitVec 32 := Scalar.addi c0_i32_34 v33
  let v35 : BitVec 32 := v34
  let v36 : Index := Scalar.indexCast v35
  let c0_36 : Index := 0#32
  ![0, v36.toNat, 0]
def k0_off29 (k0_t4 : Fin k0_t4_loop.trips) : Fin 2 → Nat :=
  let c0_i32_34 : BitVec 32 := 0#32
  let c0_i32_15 : BitVec 32 := 0#32
  let c1_i32_16 : BitVec 32 := 1#32
  let arg22 : BitVec 32 := Scf.iv c0_i32_15 c1_i32_16 k0_t4
  let c8_i32_33 : BitVec 32 := 8#32
  let v33 : BitVec 32 := Scalar.muli arg22 c8_i32_33
  let v34 : BitVec 32 := Scalar.addi c0_i32_34 v33
  let v35 : BitVec 32 := v34
  let v41 : Index := Scalar.indexCast v35
  let c0_37 : Index := 0#32
  ![v41.toNat, 0]
def k0_off30 (k0_t4 : Fin k0_t4_loop.trips) : Fin 2 → Nat :=
  let c0_i32_15 : BitVec 32 := 0#32
  let c1_i32_16 : BitVec 32 := 1#32
  let arg22 : BitVec 32 := Scf.iv c0_i32_15 c1_i32_16 k0_t4
  let c8_i32 : BitVec 32 := 8#32
  let v31 : BitVec 32 := Scalar.muli arg22 c8_i32
  let v32 : BitVec 32 := v31
  let v51 : Index := Scalar.indexCast v32
  let c0_41 : Index := 0#32
  ![v51.toNat, 0]
def k0_off31 (k0_t4 : Fin k0_t4_loop.trips) : Fin 2 → Nat :=
  let c0_i32_15 : BitVec 32 := 0#32
  let c1_i32_16 : BitVec 32 := 1#32
  let arg22 : BitVec 32 := Scf.iv c0_i32_15 c1_i32_16 k0_t4
  let c8_i32 : BitVec 32 := 8#32
  let v31 : BitVec 32 := Scalar.muli arg22 c8_i32
  let v32 : BitVec 32 := v31
  let v71 : Index := Scalar.indexCast v32
  let c128 : Index := 128#32
  ![v71.toNat, 128]
def k0_off32 (k0_t4 : Fin k0_t4_loop.trips) : Fin 2 → Nat :=
  let c0_i32_15 : BitVec 32 := 0#32
  let c1_i32_16 : BitVec 32 := 1#32
  let arg22 : BitVec 32 := Scf.iv c0_i32_15 c1_i32_16 k0_t4
  let c8_i32 : BitVec 32 := 8#32
  let v31 : BitVec 32 := Scalar.muli arg22 c8_i32
  let v32 : BitVec 32 := v31
  let v91 : Index := Scalar.indexCast v32
  let c256 : Index := 256#32
  ![v91.toNat, 256]
def k0_off33 (k0_t4 : Fin k0_t4_loop.trips) : Fin 2 → Nat :=
  let c0_i32_15 : BitVec 32 := 0#32
  let c1_i32_16 : BitVec 32 := 1#32
  let arg22 : BitVec 32 := Scf.iv c0_i32_15 c1_i32_16 k0_t4
  let c8_i32 : BitVec 32 := 8#32
  let v31 : BitVec 32 := Scalar.muli arg22 c8_i32
  let v32 : BitVec 32 := v31
  let v111 : Index := Scalar.indexCast v32
  let c384 : Index := 384#32
  ![v111.toNat, 384]
def k0_off34 (k0_t4 : Fin k0_t4_loop.trips) : Fin 2 → Nat :=
  let c0_i32_15 : BitVec 32 := 0#32
  let c1_i32_16 : BitVec 32 := 1#32
  let arg22 : BitVec 32 := Scf.iv c0_i32_15 c1_i32_16 k0_t4
  let c8_i32 : BitVec 32 := 8#32
  let v31 : BitVec 32 := Scalar.muli arg22 c8_i32
  let v32 : BitVec 32 := v31
  let v131 : Index := Scalar.indexCast v32
  let c512_63 : Index := 512#32
  ![v131.toNat, 512]
def k0_off35 (k0_t4 : Fin k0_t4_loop.trips) : Fin 2 → Nat :=
  let c0_i32_15 : BitVec 32 := 0#32
  let c1_i32_16 : BitVec 32 := 1#32
  let arg22 : BitVec 32 := Scf.iv c0_i32_15 c1_i32_16 k0_t4
  let c8_i32 : BitVec 32 := 8#32
  let v31 : BitVec 32 := Scalar.muli arg22 c8_i32
  let v32 : BitVec 32 := v31
  let v151 : Index := Scalar.indexCast v32
  let c640 : Index := 640#32
  ![v151.toNat, 640]
def k0_off36 (k0_t4 : Fin k0_t4_loop.trips) : Fin 2 → Nat :=
  let c0_i32_15 : BitVec 32 := 0#32
  let c1_i32_16 : BitVec 32 := 1#32
  let arg22 : BitVec 32 := Scf.iv c0_i32_15 c1_i32_16 k0_t4
  let c8_i32 : BitVec 32 := 8#32
  let v31 : BitVec 32 := Scalar.muli arg22 c8_i32
  let v32 : BitVec 32 := v31
  let v171 : Index := Scalar.indexCast v32
  let c768 : Index := 768#32
  ![v171.toNat, 768]
def k0_off37 (k0_t4 : Fin k0_t4_loop.trips) : Fin 2 → Nat :=
  let c0_i32_15 : BitVec 32 := 0#32
  let c1_i32_16 : BitVec 32 := 1#32
  let arg22 : BitVec 32 := Scf.iv c0_i32_15 c1_i32_16 k0_t4
  let c8_i32 : BitVec 32 := 8#32
  let v31 : BitVec 32 := Scalar.muli arg22 c8_i32
  let v32 : BitVec 32 := v31
  let v191 : Index := Scalar.indexCast v32
  let c896 : Index := 896#32
  ![v191.toNat, 896]
def k0_off38 (k0_t4 : Fin k0_t4_loop.trips) : Fin 2 → Nat :=
  let c0_i32_15 : BitVec 32 := 0#32
  let c1_i32_16 : BitVec 32 := 1#32
  let arg22 : BitVec 32 := Scf.iv c0_i32_15 c1_i32_16 k0_t4
  let c8_i32 : BitVec 32 := 8#32
  let v31 : BitVec 32 := Scalar.muli arg22 c8_i32
  let v32 : BitVec 32 := v31
  let v211 : Index := Scalar.indexCast v32
  let c1024_83 : Index := 1024#32
  ![v211.toNat, 1024]
def k0_off39 (k0_t4 : Fin k0_t4_loop.trips) : Fin 2 → Nat :=
  let c0_i32_15 : BitVec 32 := 0#32
  let c1_i32_16 : BitVec 32 := 1#32
  let arg22 : BitVec 32 := Scf.iv c0_i32_15 c1_i32_16 k0_t4
  let c8_i32 : BitVec 32 := 8#32
  let v31 : BitVec 32 := Scalar.muli arg22 c8_i32
  let v32 : BitVec 32 := v31
  let v231 : Index := Scalar.indexCast v32
  let c1152 : Index := 1152#32
  ![v231.toNat, 1152]
@[reducible] def k0_t5_loop : Scf.Loop 32 :=
  let c0_i32_24 : BitVec 32 := 0#32
  let c64_i32_25 : BitVec 32 := 64#32
  let v26 : BitVec 32 := Scalar.addi c0_i32_24 c64_i32_25
  let c1_i32_26 : BitVec 32 := 1#32
  ⟨c0_i32_24, v26, c1_i32_26⟩
def k0_mult6 (k0_t5 : Fin k0_t5_loop.trips) : BitVec 32 :=
  let c0_i32_24 : BitVec 32 := 0#32
  let c1_i32_26 : BitVec 32 := 1#32
  let arg22 : BitVec 32 := Scf.iv c0_i32_24 c1_i32_26 k0_t5
  let c8_i32 : BitVec 32 := 8#32
  let v31 : BitVec 32 := Scalar.muli arg22 c8_i32
  v31
def k0_mult7 (k0_t5 : Fin k0_t5_loop.trips) : BitVec 32 :=
  let c512_i32 : BitVec 32 := 512#32
  let c0_i32_24 : BitVec 32 := 0#32
  let c1_i32_26 : BitVec 32 := 1#32
  let arg22 : BitVec 32 := Scf.iv c0_i32_24 c1_i32_26 k0_t5
  let c8_i32_33 : BitVec 32 := 8#32
  let v33 : BitVec 32 := Scalar.muli arg22 c8_i32_33
  let v34 : BitVec 32 := Scalar.addi c512_i32 v33
  v34
def k0_off40 (k0_t5 : Fin k0_t5_loop.trips) : Fin 3 → Nat :=
  let c0_34 : Index := 0#32
  let c512_i32 : BitVec 32 := 512#32
  let c0_i32_24 : BitVec 32 := 0#32
  let c1_i32_26 : BitVec 32 := 1#32
  let arg22 : BitVec 32 := Scf.iv c0_i32_24 c1_i32_26 k0_t5
  let c8_i32_33 : BitVec 32 := 8#32
  let v33 : BitVec 32 := Scalar.muli arg22 c8_i32_33
  let v34 : BitVec 32 := Scalar.addi c512_i32 v33
  let v35 : BitVec 32 := v34
  let v36 : Index := Scalar.indexCast v35
  let c0_35 : Index := 0#32
  ![0, v36.toNat, 0]
def k0_off41 (k0_t5 : Fin k0_t5_loop.trips) : Fin 2 → Nat :=
  let c512_i32 : BitVec 32 := 512#32
  let c0_i32_24 : BitVec 32 := 0#32
  let c1_i32_26 : BitVec 32 := 1#32
  let arg22 : BitVec 32 := Scf.iv c0_i32_24 c1_i32_26 k0_t5
  let c8_i32_33 : BitVec 32 := 8#32
  let v33 : BitVec 32 := Scalar.muli arg22 c8_i32_33
  let v34 : BitVec 32 := Scalar.addi c512_i32 v33
  let v35 : BitVec 32 := v34
  let v41 : Index := Scalar.indexCast v35
  let c0_36 : Index := 0#32
  ![v41.toNat, 0]
def k0_off42 (k0_t5 : Fin k0_t5_loop.trips) : Fin 2 → Nat :=
  let c0_i32_24 : BitVec 32 := 0#32
  let c1_i32_26 : BitVec 32 := 1#32
  let arg22 : BitVec 32 := Scf.iv c0_i32_24 c1_i32_26 k0_t5
  let c8_i32 : BitVec 32 := 8#32
  let v31 : BitVec 32 := Scalar.muli arg22 c8_i32
  let v32 : BitVec 32 := v31
  let v51 : Index := Scalar.indexCast v32
  let c0_40 : Index := 0#32
  ![v51.toNat, 0]
def k0_off43 (k0_t5 : Fin k0_t5_loop.trips) : Fin 2 → Nat :=
  let c0_i32_24 : BitVec 32 := 0#32
  let c1_i32_26 : BitVec 32 := 1#32
  let arg22 : BitVec 32 := Scf.iv c0_i32_24 c1_i32_26 k0_t5
  let c8_i32 : BitVec 32 := 8#32
  let v31 : BitVec 32 := Scalar.muli arg22 c8_i32
  let v32 : BitVec 32 := v31
  let v71 : Index := Scalar.indexCast v32
  let c128 : Index := 128#32
  ![v71.toNat, 128]
def k0_off44 (k0_t5 : Fin k0_t5_loop.trips) : Fin 2 → Nat :=
  let c0_i32_24 : BitVec 32 := 0#32
  let c1_i32_26 : BitVec 32 := 1#32
  let arg22 : BitVec 32 := Scf.iv c0_i32_24 c1_i32_26 k0_t5
  let c8_i32 : BitVec 32 := 8#32
  let v31 : BitVec 32 := Scalar.muli arg22 c8_i32
  let v32 : BitVec 32 := v31
  let v91 : Index := Scalar.indexCast v32
  let c256 : Index := 256#32
  ![v91.toNat, 256]
def k0_off45 (k0_t5 : Fin k0_t5_loop.trips) : Fin 2 → Nat :=
  let c0_i32_24 : BitVec 32 := 0#32
  let c1_i32_26 : BitVec 32 := 1#32
  let arg22 : BitVec 32 := Scf.iv c0_i32_24 c1_i32_26 k0_t5
  let c8_i32 : BitVec 32 := 8#32
  let v31 : BitVec 32 := Scalar.muli arg22 c8_i32
  let v32 : BitVec 32 := v31
  let v111 : Index := Scalar.indexCast v32
  let c384 : Index := 384#32
  ![v111.toNat, 384]
def k0_off46 (k0_t5 : Fin k0_t5_loop.trips) : Fin 2 → Nat :=
  let c0_i32_24 : BitVec 32 := 0#32
  let c1_i32_26 : BitVec 32 := 1#32
  let arg22 : BitVec 32 := Scf.iv c0_i32_24 c1_i32_26 k0_t5
  let c8_i32 : BitVec 32 := 8#32
  let v31 : BitVec 32 := Scalar.muli arg22 c8_i32
  let v32 : BitVec 32 := v31
  let v131 : Index := Scalar.indexCast v32
  let c512_62 : Index := 512#32
  ![v131.toNat, 512]
def k0_off47 (k0_t5 : Fin k0_t5_loop.trips) : Fin 2 → Nat :=
  let c0_i32_24 : BitVec 32 := 0#32
  let c1_i32_26 : BitVec 32 := 1#32
  let arg22 : BitVec 32 := Scf.iv c0_i32_24 c1_i32_26 k0_t5
  let c8_i32 : BitVec 32 := 8#32
  let v31 : BitVec 32 := Scalar.muli arg22 c8_i32
  let v32 : BitVec 32 := v31
  let v151 : Index := Scalar.indexCast v32
  let c640 : Index := 640#32
  ![v151.toNat, 640]
def k0_off48 (k0_t5 : Fin k0_t5_loop.trips) : Fin 2 → Nat :=
  let c0_i32_24 : BitVec 32 := 0#32
  let c1_i32_26 : BitVec 32 := 1#32
  let arg22 : BitVec 32 := Scf.iv c0_i32_24 c1_i32_26 k0_t5
  let c8_i32 : BitVec 32 := 8#32
  let v31 : BitVec 32 := Scalar.muli arg22 c8_i32
  let v32 : BitVec 32 := v31
  let v171 : Index := Scalar.indexCast v32
  let c768 : Index := 768#32
  ![v171.toNat, 768]
def k0_off49 (k0_t5 : Fin k0_t5_loop.trips) : Fin 2 → Nat :=
  let c0_i32_24 : BitVec 32 := 0#32
  let c1_i32_26 : BitVec 32 := 1#32
  let arg22 : BitVec 32 := Scf.iv c0_i32_24 c1_i32_26 k0_t5
  let c8_i32 : BitVec 32 := 8#32
  let v31 : BitVec 32 := Scalar.muli arg22 c8_i32
  let v32 : BitVec 32 := v31
  let v191 : Index := Scalar.indexCast v32
  let c896 : Index := 896#32
  ![v191.toNat, 896]
def k0_off50 (k0_t5 : Fin k0_t5_loop.trips) : Fin 2 → Nat :=
  let c0_i32_24 : BitVec 32 := 0#32
  let c1_i32_26 : BitVec 32 := 1#32
  let arg22 : BitVec 32 := Scf.iv c0_i32_24 c1_i32_26 k0_t5
  let c8_i32 : BitVec 32 := 8#32
  let v31 : BitVec 32 := Scalar.muli arg22 c8_i32
  let v32 : BitVec 32 := v31
  let v211 : Index := Scalar.indexCast v32
  let c1024_82 : Index := 1024#32
  ![v211.toNat, 1024]
def k0_off51 (k0_t5 : Fin k0_t5_loop.trips) : Fin 2 → Nat :=
  let c0_i32_24 : BitVec 32 := 0#32
  let c1_i32_26 : BitVec 32 := 1#32
  let arg22 : BitVec 32 := Scf.iv c0_i32_24 c1_i32_26 k0_t5
  let c8_i32 : BitVec 32 := 8#32
  let v31 : BitVec 32 := Scalar.muli arg22 c8_i32
  let v32 : BitVec 32 := v31
  let v231 : Index := Scalar.indexCast v32
  let c1152 : Index := 1152#32
  ![v231.toNat, 1152]
@[reducible] def k0_t6_loop : Scf.Loop 32 :=
  let c0_i32_28 : BitVec 32 := 0#32
  let c64_i32_29 : BitVec 32 := 64#32
  let v27 : BitVec 32 := Scalar.addi c0_i32_28 c64_i32_29
  let c1_i32_30 : BitVec 32 := 1#32
  ⟨c0_i32_28, v27, c1_i32_30⟩
def k0_mult8 (k0_t6 : Fin k0_t6_loop.trips) : BitVec 32 :=
  let c0_i32_28 : BitVec 32 := 0#32
  let c1_i32_30 : BitVec 32 := 1#32
  let arg22 : BitVec 32 := Scf.iv c0_i32_28 c1_i32_30 k0_t6
  let c8_i32 : BitVec 32 := 8#32
  let v31 : BitVec 32 := Scalar.muli arg22 c8_i32
  v31
def k0_mult9 (k0_t6 : Fin k0_t6_loop.trips) : BitVec 32 :=
  let c1024_i32 : BitVec 32 := 1024#32
  let c0_i32_28 : BitVec 32 := 0#32
  let c1_i32_30 : BitVec 32 := 1#32
  let arg22 : BitVec 32 := Scf.iv c0_i32_28 c1_i32_30 k0_t6
  let c8_i32_33 : BitVec 32 := 8#32
  let v33 : BitVec 32 := Scalar.muli arg22 c8_i32_33
  let v34 : BitVec 32 := Scalar.addi c1024_i32 v33
  v34
def k0_off52 (k0_t6 : Fin k0_t6_loop.trips) : Fin 3 → Nat :=
  let c0_34 : Index := 0#32
  let c1024_i32 : BitVec 32 := 1024#32
  let c0_i32_28 : BitVec 32 := 0#32
  let c1_i32_30 : BitVec 32 := 1#32
  let arg22 : BitVec 32 := Scf.iv c0_i32_28 c1_i32_30 k0_t6
  let c8_i32_33 : BitVec 32 := 8#32
  let v33 : BitVec 32 := Scalar.muli arg22 c8_i32_33
  let v34 : BitVec 32 := Scalar.addi c1024_i32 v33
  let v35 : BitVec 32 := v34
  let v36 : Index := Scalar.indexCast v35
  let c0_35 : Index := 0#32
  ![0, v36.toNat, 0]
def k0_off53 (k0_t6 : Fin k0_t6_loop.trips) : Fin 2 → Nat :=
  let c1024_i32 : BitVec 32 := 1024#32
  let c0_i32_28 : BitVec 32 := 0#32
  let c1_i32_30 : BitVec 32 := 1#32
  let arg22 : BitVec 32 := Scf.iv c0_i32_28 c1_i32_30 k0_t6
  let c8_i32_33 : BitVec 32 := 8#32
  let v33 : BitVec 32 := Scalar.muli arg22 c8_i32_33
  let v34 : BitVec 32 := Scalar.addi c1024_i32 v33
  let v35 : BitVec 32 := v34
  let v41 : Index := Scalar.indexCast v35
  let c0_36 : Index := 0#32
  ![v41.toNat, 0]
def k0_off54 (k0_t6 : Fin k0_t6_loop.trips) : Fin 2 → Nat :=
  let c0_i32_28 : BitVec 32 := 0#32
  let c1_i32_30 : BitVec 32 := 1#32
  let arg22 : BitVec 32 := Scf.iv c0_i32_28 c1_i32_30 k0_t6
  let c8_i32 : BitVec 32 := 8#32
  let v31 : BitVec 32 := Scalar.muli arg22 c8_i32
  let v32 : BitVec 32 := v31
  let v51 : Index := Scalar.indexCast v32
  let c0_40 : Index := 0#32
  ![v51.toNat, 0]
def k0_off55 (k0_t6 : Fin k0_t6_loop.trips) : Fin 2 → Nat :=
  let c0_i32_28 : BitVec 32 := 0#32
  let c1_i32_30 : BitVec 32 := 1#32
  let arg22 : BitVec 32 := Scf.iv c0_i32_28 c1_i32_30 k0_t6
  let c8_i32 : BitVec 32 := 8#32
  let v31 : BitVec 32 := Scalar.muli arg22 c8_i32
  let v32 : BitVec 32 := v31
  let v71 : Index := Scalar.indexCast v32
  let c128 : Index := 128#32
  ![v71.toNat, 128]
def k0_off56 (k0_t6 : Fin k0_t6_loop.trips) : Fin 2 → Nat :=
  let c0_i32_28 : BitVec 32 := 0#32
  let c1_i32_30 : BitVec 32 := 1#32
  let arg22 : BitVec 32 := Scf.iv c0_i32_28 c1_i32_30 k0_t6
  let c8_i32 : BitVec 32 := 8#32
  let v31 : BitVec 32 := Scalar.muli arg22 c8_i32
  let v32 : BitVec 32 := v31
  let v91 : Index := Scalar.indexCast v32
  let c256 : Index := 256#32
  ![v91.toNat, 256]
def k0_off57 (k0_t6 : Fin k0_t6_loop.trips) : Fin 2 → Nat :=
  let c0_i32_28 : BitVec 32 := 0#32
  let c1_i32_30 : BitVec 32 := 1#32
  let arg22 : BitVec 32 := Scf.iv c0_i32_28 c1_i32_30 k0_t6
  let c8_i32 : BitVec 32 := 8#32
  let v31 : BitVec 32 := Scalar.muli arg22 c8_i32
  let v32 : BitVec 32 := v31
  let v111 : Index := Scalar.indexCast v32
  let c384 : Index := 384#32
  ![v111.toNat, 384]
def k0_off58 (k0_t6 : Fin k0_t6_loop.trips) : Fin 2 → Nat :=
  let c0_i32_28 : BitVec 32 := 0#32
  let c1_i32_30 : BitVec 32 := 1#32
  let arg22 : BitVec 32 := Scf.iv c0_i32_28 c1_i32_30 k0_t6
  let c8_i32 : BitVec 32 := 8#32
  let v31 : BitVec 32 := Scalar.muli arg22 c8_i32
  let v32 : BitVec 32 := v31
  let v131 : Index := Scalar.indexCast v32
  let c512_62 : Index := 512#32
  ![v131.toNat, 512]
def k0_off59 (k0_t6 : Fin k0_t6_loop.trips) : Fin 2 → Nat :=
  let c0_i32_28 : BitVec 32 := 0#32
  let c1_i32_30 : BitVec 32 := 1#32
  let arg22 : BitVec 32 := Scf.iv c0_i32_28 c1_i32_30 k0_t6
  let c8_i32 : BitVec 32 := 8#32
  let v31 : BitVec 32 := Scalar.muli arg22 c8_i32
  let v32 : BitVec 32 := v31
  let v151 : Index := Scalar.indexCast v32
  let c640 : Index := 640#32
  ![v151.toNat, 640]
def k0_off60 (k0_t6 : Fin k0_t6_loop.trips) : Fin 2 → Nat :=
  let c0_i32_28 : BitVec 32 := 0#32
  let c1_i32_30 : BitVec 32 := 1#32
  let arg22 : BitVec 32 := Scf.iv c0_i32_28 c1_i32_30 k0_t6
  let c8_i32 : BitVec 32 := 8#32
  let v31 : BitVec 32 := Scalar.muli arg22 c8_i32
  let v32 : BitVec 32 := v31
  let v171 : Index := Scalar.indexCast v32
  let c768 : Index := 768#32
  ![v171.toNat, 768]
def k0_off61 (k0_t6 : Fin k0_t6_loop.trips) : Fin 2 → Nat :=
  let c0_i32_28 : BitVec 32 := 0#32
  let c1_i32_30 : BitVec 32 := 1#32
  let arg22 : BitVec 32 := Scf.iv c0_i32_28 c1_i32_30 k0_t6
  let c8_i32 : BitVec 32 := 8#32
  let v31 : BitVec 32 := Scalar.muli arg22 c8_i32
  let v32 : BitVec 32 := v31
  let v191 : Index := Scalar.indexCast v32
  let c896 : Index := 896#32
  ![v191.toNat, 896]
def k0_off62 (k0_t6 : Fin k0_t6_loop.trips) : Fin 2 → Nat :=
  let c0_i32_28 : BitVec 32 := 0#32
  let c1_i32_30 : BitVec 32 := 1#32
  let arg22 : BitVec 32 := Scf.iv c0_i32_28 c1_i32_30 k0_t6
  let c8_i32 : BitVec 32 := 8#32
  let v31 : BitVec 32 := Scalar.muli arg22 c8_i32
  let v32 : BitVec 32 := v31
  let v211 : Index := Scalar.indexCast v32
  let c1024_82 : Index := 1024#32
  ![v211.toNat, 1024]
def k0_off63 (k0_t6 : Fin k0_t6_loop.trips) : Fin 2 → Nat :=
  let c0_i32_28 : BitVec 32 := 0#32
  let c1_i32_30 : BitVec 32 := 1#32
  let arg22 : BitVec 32 := Scf.iv c0_i32_28 c1_i32_30 k0_t6
  let c8_i32 : BitVec 32 := 8#32
  let v31 : BitVec 32 := Scalar.muli arg22 c8_i32
  let v32 : BitVec 32 := v31
  let v231 : Index := Scalar.indexCast v32
  let c1152 : Index := 1152#32
  ![v231.toNat, 1152]
def k0_cond2 (i : grid0.Coords) : BitVec 1 :=
  let arg0 : BitVec 32 := BitVec.ofNat 32 (i 0).val
  let c24_i32 : BitVec 32 := 24#32
  let v28 : BitVec 1 := Scalar.cmpi .eq arg0 c24_i32
  let v29 : BitVec 32 := Scalar.extui v28
  let c0_i32_32 : BitVec 32 := 0#32
  let v30 : BitVec 1 := Scalar.cmpi .ne v29 c0_i32_32
  v30

@[reducible] def k0_t7_loop : Scf.Loop 32 :=
  let c0_i32_33 : BitVec 32 := 0#32
  let c4_i32 : BitVec 32 := 4#32
  let v34 : BitVec 32 := Scalar.addi c0_i32_33 c4_i32
  let c1_i32_34 : BitVec 32 := 1#32
  ⟨c0_i32_33, v34, c1_i32_34⟩
def k0_mult10 (k0_t7 : Fin k0_t7_loop.trips) : BitVec 32 :=
  let c0_i32_33 : BitVec 32 := 0#32
  let c1_i32_34 : BitVec 32 := 1#32
  let arg22 : BitVec 32 := Scf.iv c0_i32_33 c1_i32_34 k0_t7
  let c384_i32 : BitVec 32 := 384#32
  let v35 : BitVec 32 := Scalar.muli arg22 c384_i32
  let c0_i32_36 : BitVec 32 := 0#32
  let v36 : BitVec 32 := Scalar.addi v35 c0_i32_36
  v36
def k0_off64 (k0_t7 : Fin k0_t7_loop.trips) (c0_i32_36 : BitVec 32) : Fin 2 → Nat :=
  let c0_i32_33 : BitVec 32 := 0#32
  let c1_i32_34 : BitVec 32 := 1#32
  let arg22 : BitVec 32 := Scf.iv c0_i32_33 c1_i32_34 k0_t7
  let c384_i32 : BitVec 32 := 384#32
  let v35 : BitVec 32 := Scalar.muli arg22 c384_i32
  let v36 : BitVec 32 := Scalar.addi v35 c0_i32_36
  let v37 : BitVec 32 := v36
  let v38 : Index := Scalar.indexCast v37
  let c0_37 : Index := 0#32
  ![v38.toNat, 0]
def k0_off65 (k0_t7 : Fin k0_t7_loop.trips) (c0_i32_36 : BitVec 32) : Fin 2 → Nat :=
  let c0_i32_33 : BitVec 32 := 0#32
  let c1_i32_34 : BitVec 32 := 1#32
  let arg22 : BitVec 32 := Scf.iv c0_i32_33 c1_i32_34 k0_t7
  let c384_i32 : BitVec 32 := 384#32
  let v35 : BitVec 32 := Scalar.muli arg22 c384_i32
  let v36 : BitVec 32 := Scalar.addi v35 c0_i32_36
  let v37 : BitVec 32 := v36
  let v78 : Index := Scalar.indexCast v37
  let c0_46 : Index := 0#32
  ![v78.toNat, 0]
def k0_off66 (k0_t7 : Fin k0_t7_loop.trips) : Fin 2 → Nat :=
  let c0_i32_33 : BitVec 32 := 0#32
  let c1_i32_34 : BitVec 32 := 1#32
  let arg22 : BitVec 32 := Scf.iv c0_i32_33 c1_i32_34 k0_t7
  let v182 : Index := Scalar.indexCast arg22
  let c0_79 : Index := 0#32
  ![v182.toNat, 0]
def k0_mult11 (k0_t7 : Fin k0_t7_loop.trips) : BitVec 32 :=
  let c0_i32_33 : BitVec 32 := 0#32
  let c1_i32_34 : BitVec 32 := 1#32
  let arg22 : BitVec 32 := Scf.iv c0_i32_33 c1_i32_34 k0_t7
  let c384_i32_82 : BitVec 32 := 384#32
  let v190 : BitVec 32 := Scalar.muli arg22 c384_i32_82
  let c128_i32 : BitVec 32 := 128#32
  let v191 : BitVec 32 := Scalar.addi v190 c128_i32
  v191
def k0_off67 (k0_t7 : Fin k0_t7_loop.trips) : Fin 2 → Nat :=
  let c0_i32_33 : BitVec 32 := 0#32
  let c1_i32_34 : BitVec 32 := 1#32
  let arg22 : BitVec 32 := Scf.iv c0_i32_33 c1_i32_34 k0_t7
  let v337 : Index := Scalar.indexCast arg22
  let c128 : Index := 128#32
  ![v337.toNat, 128]
def k0_mult12 (k0_t7 : Fin k0_t7_loop.trips) : BitVec 32 :=
  let c0_i32_33 : BitVec 32 := 0#32
  let c1_i32_34 : BitVec 32 := 1#32
  let arg22 : BitVec 32 := Scf.iv c0_i32_33 c1_i32_34 k0_t7
  let c384_i32_127 : BitVec 32 := 384#32
  let v345 : BitVec 32 := Scalar.muli arg22 c384_i32_127
  let c256_i32 : BitVec 32 := 256#32
  let v346 : BitVec 32 := Scalar.addi v345 c256_i32
  v346
def k0_off68 (k0_t7 : Fin k0_t7_loop.trips) : Fin 2 → Nat :=
  let c0_i32_33 : BitVec 32 := 0#32
  let c1_i32_34 : BitVec 32 := 1#32
  let arg22 : BitVec 32 := Scf.iv c0_i32_33 c1_i32_34 k0_t7
  let v492 : Index := Scalar.indexCast arg22
  let c256 : Index := 256#32
  ![v492.toNat, 256]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1280x1024 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1280x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1536x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1536x50 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1536x50 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1536x50 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1536x1024 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1536x8 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S4x384x1024 : Shape := ⟨3, ![4, 384, 1024]⟩
abbrev S32000x1024 : Shape := ⟨2, ![32000, 1024]⟩
abbrev S32000x8 : Shape := ⟨2, ![32000, 8]⟩
abbrev S9x1536x128 : Shape := ⟨3, ![9, 1536, 128]⟩
abbrev S4x384x50 : Shape := ⟨3, ![4, 384, 50]⟩
abbrev S1536x1024 : Shape := ⟨2, ![1536, 1024]⟩
abbrev S1536x50 : Shape := ⟨2, ![1536, 50]⟩
abbrev S4x384 : Shape := ⟨2, ![4, 384]⟩
abbrev S1536x8 : Shape := ⟨2, ![1536, 8]⟩
abbrev S1536x8x128 : Shape := ⟨3, ![1536, 8, 128]⟩
abbrev S1536x8x254 : Shape := ⟨3, ![1536, 8, 254]⟩
abbrev S1536x8x1 : Shape := ⟨3, ![1536, 8, 1]⟩
abbrev S32000x8x128 : Shape := ⟨3, ![32000, 8, 128]⟩
abbrev S32000x8x1 : Shape := ⟨3, ![32000, 8, 1]⟩
abbrev S1536x32000 : Shape := ⟨2, ![1536, 32000]⟩
abbrev S1536x50x1 : Shape := ⟨3, ![1536, 50, 1]⟩
abbrev S1536x50x32000 : Shape := ⟨3, ![1536, 50, 32000]⟩
abbrev S1536 : Shape := ⟨1, ![1536]⟩
abbrev S1536x1 : Shape := ⟨2, ![1536, 1]⟩
abbrev S1536x1x32000 : Shape := ⟨3, ![1536, 1, 32000]⟩

abbrev nBuf : Space → Nat
  | .hbm => 13
  | .vmem => 9
  | .smem => 0
  | _ => 0

abbrev bufTy : (tb : Table) → Fin (tcTables nBuf tb) → BufTy
  | .hbm, ⟨0, _⟩ => ⟨S4x384x1024, .bf16⟩
  | .hbm, ⟨1, _⟩ => ⟨S32000x1024, .fp8e4m3⟩
  | .hbm, ⟨2, _⟩ => ⟨S32000x8, .f32⟩
  | .hbm, ⟨3, _⟩ => ⟨S9x1536x128, .i32⟩
  | .hbm, ⟨4, _⟩ => ⟨S4x384x50, .i32⟩
  | .hbm, ⟨5, _⟩ => ⟨S4x384x50, .bf16⟩
  | .hbm, ⟨6, _⟩ => ⟨S1536x1024, .bf16⟩
  | .hbm, ⟨7, _⟩ => ⟨S1536x50, .i32⟩
  | .hbm, ⟨8, _⟩ => ⟨S4x384, .f32⟩
  | .hbm, ⟨9, _⟩ => ⟨S4x384, .f32⟩
  | .hbm, ⟨10, _⟩ => ⟨S1536x50, .f32⟩
  | .hbm, ⟨11, _⟩ => ⟨S1536x1024, .fp8e4m3⟩
  | .hbm, ⟨12, _⟩ => ⟨S1536x8, .f32⟩
  | .local _ .vmem, ⟨0, _⟩ => ⟨S1536x1024, .bf16⟩
  | .local _ .vmem, ⟨1, _⟩ => ⟨S32000x1024, .fp8e4m3⟩
  | .local _ .vmem, ⟨2, _⟩ => ⟨S32000x8, .f32⟩
  | .local _ .vmem, ⟨3, _⟩ => ⟨S1536x50, .i32⟩
  | .local _ .vmem, ⟨4, _⟩ => ⟨S4x384, .f32⟩
  | .local _ .vmem, ⟨5, _⟩ => ⟨S4x384, .f32⟩
  | .local _ .vmem, ⟨6, _⟩ => ⟨S1536x50, .f32⟩
  | .local _ .vmem, ⟨7, _⟩ => ⟨S1536x1024, .fp8e4m3⟩
  | .local _ .vmem, ⟨8, _⟩ => ⟨S1536x8, .f32⟩
  | _, _ => ⟨S4x384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v2_4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1536x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32000x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32000x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x50 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x50 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x1024 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.V.Kit.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

/-! What the runs of the kernel body share: the branch conditions over the grid, where the windows are idle, the names of the
staging and scratch buffers. -/

-- membership in a rectangle of production extents (`View.cover_of_tiled`): the elaborator's structural look
-- recurses once per coordinate of the long axes
set_option maxRecDepth 16384

noncomputable section

namespace Cert.KernelIdeal.V

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KernelIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [cond0_0, k0_cond1, e0]
    word_cmp
   : ∀ t : Fin grid0.N, cond0_0 (grid0.coords t) ↔ t.val % 25 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 25 = 24 :=
  (fun t => by
    have ht : t.val < 25 := Nat.lt_of_lt_of_eq t.isLt N_0
    have e0 : (grid0.coords t 0).val = t.val / 1 % 25 := Pipeline.Grid.coords_val t 0 (by decide) rfl
    simp only [cond0_1, k0_cond2, e0]
    word_cmp
   : ∀ t : Fin grid0.N, cond0_1 (grid0.coords t) ↔ t.val % 25 = 24)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- At the points of case A the printed configuration (`Cfg.idle`) calls output 6 idle: the case stores nothing into it. -/
theorem idleAt0_6_A : ∀ t : Fin cfg0.N, cond0_0 (grid0.coords t) → ¬cond0_1 (grid0.coords t) → cfg0.idle 6 (grid0.coords t) = true := by decide +kernel
/-- At the points of case A the pipeline does not write output 6's block back. -/
theorem noFlush0_6_A : ∀ t : Fin cfg0.N, cond0_0 (grid0.coords t) → ¬cond0_1 (grid0.coords t) → (cfg0.win 6).flush t = false := by decide +kernel
/-- At the points of case B the printed configuration (`Cfg.idle`) calls output 6 idle: the case stores nothing into it. -/
theorem idleAt0_6_B : ∀ t : Fin cfg0.N, ¬cond0_0 (grid0.coords t) → ¬cond0_1 (grid0.coords t) → cfg0.idle 6 (grid0.coords t) = true := by decide +kernel
/-- At the points of case B the pipeline does not write output 6's block back. -/
theorem noFlush0_6_B : ∀ t : Fin cfg0.N, ¬cond0_0 (grid0.coords t) → ¬cond0_1 (grid0.coords t) → (cfg0.win 6).flush t = false := by decide +kernel
/-- At the points of case C the printed configuration (`Cfg.idle`) calls output 6 live: the case stores into it. -/
theorem liveAt0_6_C : ∀ t : Fin cfg0.N, ¬cond0_0 (grid0.coords t) → cond0_1 (grid0.coords t) → cfg0.idle 6 (grid0.coords t) = false := by decide +kernel
/-- At the points of case A the printed configuration (`Cfg.idle`) calls output 7 idle: the case stores nothing into it. -/
theorem idleAt0_7_A : ∀ t : Fin cfg0.N, cond0_0 (grid0.coords t) → ¬cond0_1 (grid0.coords t) → cfg0.idle 7 (grid0.coords t) = true := by decide +kernel
/-- At the points of case A the pipeline does not write output 7's block back. -/
theorem noFlush0_7_A : ∀ t : Fin cfg0.N, cond0_0 (grid0.coords t) → ¬cond0_1 (grid0.coords t) → (cfg0.win 7).flush t = false := by decide +kernel
/-- At the points of case B the printed configuration (`Cfg.idle`) calls output 7 idle: the case stores nothing into it. -/
theorem idleAt0_7_B : ∀ t : Fin cfg0.N, ¬cond0_0 (grid0.coords t) → ¬cond0_1 (grid0.coords t) → cfg0.idle 7 (grid0.coords t) = true := by decide +kernel
/-- At the points of case B the pipeline does not write output 7's block back. -/
theorem noFlush0_7_B : ∀ t : Fin cfg0.N, ¬cond0_0 (grid0.coords t) → ¬cond0_1 (grid0.coords t) → (cfg0.win 7).flush t = false := by decide +kernel
/-- At the points of case C the printed configuration (`Cfg.idle`) calls output 7 live: the case stores into it. -/
theorem liveAt0_7_C : ∀ t : Fin cfg0.N, ¬cond0_0 (grid0.coords t) → cond0_1 (grid0.coords t) → cfg0.idle 7 (grid0.coords t) = false := by decide +kernel
/-- At the points of case A the printed configuration (`Cfg.idle`) calls output 8 idle: the case stores nothing into it. -/
theorem idleAt0_8_A : ∀ t : Fin cfg0.N, cond0_0 (grid0.coords t) → ¬cond0_1 (grid0.coords t) → cfg0.idle 8 (grid0.coords t) = true := by decide +kernel
/-- At the points of case A the pipeline does not write output 8's block back. -/
theorem noFlush0_8_A : ∀ t : Fin cfg0.N, cond0_0 (grid0.coords t) → ¬cond0_1 (grid0.coords t) → (cfg0.win 8).flush t = false := by decide +kernel
/-- At the points of case B the printed configuration (`Cfg.idle`) calls output 8 idle: the case stores nothing into it. -/
theorem idleAt0_8_B : ∀ t : Fin cfg0.N, ¬cond0_0 (grid0.coords t) → ¬cond0_1 (grid0.coords t) → cfg0.idle 8 (grid0.coords t) = true := by decide +kernel
/-- At the points of case B the pipeline does not write output 8's block back. -/
theorem noFlush0_8_B : ∀ t : Fin cfg0.N, ¬cond0_0 (grid0.coords t) → ¬cond0_1 (grid0.coords t) → (cfg0.win 8).flush t = false := by decide +kernel
/-- At the points of case C the printed configuration (`Cfg.idle`) calls output 8 live: the case stores into it. -/
theorem liveAt0_8_C : ∀ t : Fin cfg0.N, ¬cond0_0 (grid0.coords t) → cond0_1 (grid0.coords t) → cfg0.idle 8 (grid0.coords t) = false := by decide +kernel
/-- At the points of case A the printed configuration (`Cfg.idle`) calls output 9 idle: the case stores nothing into it. -/
theorem idleAt0_9_A : ∀ t : Fin cfg0.N, cond0_0 (grid0.coords t) → ¬cond0_1 (grid0.coords t) → cfg0.idle 9 (grid0.coords t) = true := by decide +kernel
/-- At the points of case A the pipeline does not write output 9's block back. -/
theorem noFlush0_9_A : ∀ t : Fin cfg0.N, cond0_0 (grid0.coords t) → ¬cond0_1 (grid0.coords t) → (cfg0.win 9).flush t = false := by decide +kernel
/-- At the points of case B the printed configuration (`Cfg.idle`) calls output 9 idle: the case stores nothing into it. -/
theorem idleAt0_9_B : ∀ t : Fin cfg0.N, ¬cond0_0 (grid0.coords t) → ¬cond0_1 (grid0.coords t) → cfg0.idle 9 (grid0.coords t) = true := by decide +kernel
/-- At the points of case B the pipeline does not write output 9's block back. -/
theorem noFlush0_9_B : ∀ t : Fin cfg0.N, ¬cond0_0 (grid0.coords t) → ¬cond0_1 (grid0.coords t) → (cfg0.win 9).flush t = false := by decide +kernel
/-- At the points of case C the printed configuration (`Cfg.idle`) calls output 9 live: the case stores into it. -/
theorem liveAt0_9_C : ∀ t : Fin cfg0.N, ¬cond0_0 (grid0.coords t) → cond0_1 (grid0.coords t) → cfg0.idle 9 (grid0.coords t) = false := by decide +kernel
/-- Whether output 10's buffer is FRESH at each position `1 ‥ N` — holds nothing the body stored since the region's entry or the
    last write-back (written back at the point before, or idle there and fresh before it) —, as a bitmask the classifier
    computed, bit `n` for position `n + 1`; position 0 is fresh. `freshTab0_10_step` checks it against the configuration's own
    step point by point and Lib/Pipeline/TableIdle.lean `Cfg.fresh_tab` makes it `Cfg.fresh` (`fresh0_10_eq`). -/
def freshTab0_10 : ℕ → Bool
  | 0 => true
  | n + 1 => (0x1000000 : ℕ).testBit n
theorem freshTab0_10_step : ∀ t : Fin cfg0.N,
    freshTab0_10 (t.val + 1) = ((cfg0.win 10).flush t || (cfg0.idle 10 (cfg0.grid.coords t) && freshTab0_10 t.val)) := by decide +kernel
theorem fresh0_10_eq (t : Fin cfg0.N) : cfg0.fresh 10 t.val = freshTab0_10 t.val :=
  Pipeline.Cfg.fresh_tab cfg0 10 freshTab0_10 rfl freshTab0_10_step t.val (Nat.le_of_lt t.isLt)
/-- At the points of case A the printed configuration (`Cfg.idle`) calls output 10 live: the case stores into it. -/
theorem liveAt0_10_A : ∀ t : Fin cfg0.N, cond0_0 (grid0.coords t) → ¬cond0_1 (grid0.coords t) → cfg0.idle 10 (grid0.coords t) = false := by decide +kernel
/-- At the points of case B the printed configuration (`Cfg.idle`) calls output 10 idle: the case stores nothing into it. -/
theorem idleAt0_10_B : ∀ t : Fin cfg0.N, ¬cond0_0 (grid0.coords t) → ¬cond0_1 (grid0.coords t) → cfg0.idle 10 (grid0.coords t) = true := by decide +kernel
/-- At the points of case B the pipeline does not write output 10's block back. -/
theorem noFlush0_10_B : ∀ t : Fin cfg0.N, ¬cond0_0 (grid0.coords t) → ¬cond0_1 (grid0.coords t) → (cfg0.win 10).flush t = false := by decide +kernel
/-- At the points of case C the printed configuration (`Cfg.idle`) calls output 10 idle: the case stores nothing into it. -/
theorem idleAt0_10_C : ∀ t : Fin cfg0.N, ¬cond0_0 (grid0.coords t) → cond0_1 (grid0.coords t) → cfg0.idle 10 (grid0.coords t) = true := by decide +kernel
/-- At the points of case C the pipeline writes output 10's block back. -/
theorem flushAt0_10_C : ∀ t : Fin cfg0.N, ¬cond0_0 (grid0.coords t) → cond0_1 (grid0.coords t) → (cfg0.win 10).flush t = true := by decide +kernel
/-- At the points of case C, which keeps output 10's prior contents (reads it before covering, or covers it in part), the
    window's buffer is not FRESH: something was stored into it since the region's entry or its last write-back, idle points
    between or not (Lib/Pipeline/TableIdle.lean `Cfg.fresh`, by the table `freshTab0_10`). -/
theorem notFresh0_10_C : ∀ t : Fin cfg0.N, ¬cond0_0 (grid0.coords t) → cond0_1 (grid0.coords t) → cfg0.fresh 10 t.val = false := by
  intro t; rw [fresh0_10_eq t]; revert t; decide +kernel
/-- Whether output 11's buffer is FRESH at each position `1 ‥ N` — holds nothing the body stored since the region's entry or the
    last write-back (written back at the point before, or idle there and fresh before it) —, as a bitmask the classifier
    computed, bit `n` for position `n + 1`; position 0 is fresh. `freshTab0_11_step` checks it against the configuration's own
    step point by point and Lib/Pipeline/TableIdle.lean `Cfg.fresh_tab` makes it `Cfg.fresh` (`fresh0_11_eq`). -/
def freshTab0_11 : ℕ → Bool
  | 0 => true
  | n + 1 => (0x1000000 : ℕ).testBit n
theorem freshTab0_11_step : ∀ t : Fin cfg0.N,
    freshTab0_11 (t.val + 1) = ((cfg0.win 11).flush t || (cfg0.idle 11 (cfg0.grid.coords t) && freshTab0_11 t.val)) := by decide +kernel
theorem fresh0_11_eq (t : Fin cfg0.N) : cfg0.fresh 11 t.val = freshTab0_11 t.val :=
  Pipeline.Cfg.fresh_tab cfg0 11 freshTab0_11 rfl freshTab0_11_step t.val (Nat.le_of_lt t.isLt)
/-- At the points of case A the printed configuration (`Cfg.idle`) calls output 11 live: the case stores into it. -/
theorem liveAt0_11_A : ∀ t : Fin cfg0.N, cond0_0 (grid0.coords t) → ¬cond0_1 (grid0.coords t) → cfg0.idle 11 (grid0.coords t) = false := by decide +kernel
/-- At the points of case B the printed configuration (`Cfg.idle`) calls output 11 idle: the case stores nothing into it. -/
theorem idleAt0_11_B : ∀ t : Fin cfg0.N, ¬cond0_0 (grid0.coords t) → ¬cond0_1 (grid0.coords t) → cfg0.idle 11 (grid0.coords t) = true := by decide +kernel
/-- At the points of case B the pipeline does not write output 11's block back. -/
theorem noFlush0_11_B : ∀ t : Fin cfg0.N, ¬cond0_0 (grid0.coords t) → ¬cond0_1 (grid0.coords t) → (cfg0.win 11).flush t = false := by decide +kernel
/-- At the points of case C the printed configuration (`Cfg.idle`) calls output 11 idle: the case stores nothing into it. -/
theorem idleAt0_11_C : ∀ t : Fin cfg0.N, ¬cond0_0 (grid0.coords t) → cond0_1 (grid0.coords t) → cfg0.idle 11 (grid0.coords t) = true := by decide +kernel
/-- At the points of case C the pipeline writes output 11's block back. -/
theorem flushAt0_11_C : ∀ t : Fin cfg0.N, ¬cond0_0 (grid0.coords t) → cond0_1 (grid0.coords t) → (cfg0.win 11).flush t = true := by decide +kernel
/-- At the points of case C, which keeps output 11's prior contents (reads it before covering, or covers it in part), the
    window's buffer is not FRESH: something was stored into it since the region's entry or its last write-back, idle points
    between or not (Lib/Pipeline/TableIdle.lean `Cfg.fresh`, by the table `freshTab0_11`). -/
theorem notFresh0_11_C : ∀ t : Fin cfg0.N, ¬cond0_0 (grid0.coords t) → cond0_1 (grid0.coords t) → cfg0.fresh 11 t.val = false := by
  intro t; rw [fresh0_11_eq t]; revert t; decide +kernel

/-! ## The kernel body on any staging memrefs: a subtype the run finds -/

/-- One staging buffer of output window 6, through which its contents are stated (`View.read_writes_of_cover`: the
    choice does not matter). -/
abbrev VO0_6 : View sig .tc .vmem S4x384 .f32 := (Memref.whole cc0_stg6_0 : Memref sig .tc .vmem S4x384 .f32).view
/-- One staging buffer of output window 7, through which its contents are stated (`View.read_writes_of_cover`: the
    choice does not matter). -/
abbrev VO0_7 : View sig .tc .vmem S4x384 .f32 := (Memref.whole cc0_stg7_0 : Memref sig .tc .vmem S4x384 .f32).view
/-- One staging buffer of output window 8, through which its contents are stated (`View.read_writes_of_cover`: the
    choice does not matter). -/
abbrev VO0_8 : View sig .tc .vmem S4x384 .f32 := (Memref.whole cc0_stg8_0 : Memref sig .tc .vmem S4x384 .f32).view
/-- One staging buffer of output window 9, through which its contents are stated (`View.read_writes_of_cover`: the
    choice does not matter). -/
abbrev VO0_9 : View sig .tc .vmem S1536x50 .f32 := (Memref.whole cc0_stg9_0 : Memref sig .tc .vmem S1536x50 .f32).view
/-- One staging buffer of output window 10, through which its contents are stated (`View.read_writes_of_cover`: the
    choice does not matter). -/
abbrev VO0_10 : View sig .tc .vmem S1536x1024 .fp8e4m3 := (Memref.whole cc0_stg10_0 : Memref sig .tc .vmem S1536x1024 .fp8e4m3).view
/-- One staging buffer of output window 11, through which its contents are stated (`View.read_writes_of_cover`: the
    choice does not matter). -/
abbrev VO0_11 : View sig .tc .vmem S1536x8 .f32 := (Memref.whole cc0_stg11_0 : Memref sig .tc .vmem S1536x8 .f32).view
/-- Each window's current staging memref at point `t`, spelled as the pipeline passes it (`bodyAt0`), and its wholeness. -/
abbrev ms0_0 (t : Fin cfg0.N) : Memref sig .tc .vmem S1536x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x1024 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1280x8 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1536x128 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x50 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x50 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S4x384 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S4x384 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S4x384 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1536x50 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1536x1024 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1536x8 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S1536x1024 .bf16 := Memref.whole cc0_scratch0
abbrev scM0_1 : Memref sig .tc .vmem S1280x1024 .bf16 := Memref.whole cc0_scratch1
abbrev scM0_2 : Memref sig .tc .vmem S512x1280 .f32 := Memref.whole cc0_scratch2
abbrev scM0_3 : Memref sig .tc .vmem S512x1280 .f32 := Memref.whole cc0_scratch3
abbrev scM0_4 : Memref sig .tc .vmem S1536x128 .f32 := Memref.whole cc0_scratch4
abbrev scM0_5 : Memref sig .tc .vmem S1536x128 .f32 := Memref.whole cc0_scratch5
abbrev scM0_6 : Memref sig .tc .vmem S1536x128 .f32 := Memref.whole cc0_scratch6
abbrev scM0_7 : Memref sig .tc .vmem S1536x128 .i32 := Memref.whole cc0_scratch7
abbrev scM0_8 : Memref sig .tc .vmem S1536x128 .i32 := Memref.whole cc0_scratch8
/-- The scratch `arg13` the kernel carries between points, as a view: what it holds is stated through it. -/
abbrev VS0_0 : View sig .tc .vmem S1536x1024 .bf16 := scM0_0.view
/-- The scratch `arg17` the kernel carries between points, as a view: what it holds is stated through it. -/
abbrev VS0_4 : View sig .tc .vmem S1536x128 .f32 := scM0_4.view
/-- The scratch `arg18` the kernel carries between points, as a view: what it holds is stated through it. -/
abbrev VS0_5 : View sig .tc .vmem S1536x128 .f32 := scM0_5.view
/-- The scratch `arg19` the kernel carries between points, as a view: what it holds is stated through it. -/
abbrev VS0_6 : View sig .tc .vmem S1536x128 .f32 := scM0_6.view
/-- The scratch `arg20` the kernel carries between points, as a view: what it holds is stated through it. -/
abbrev VS0_7 : View sig .tc .vmem S1536x128 .i32 := scM0_7.view
/-- The scratch `arg21` the kernel carries between points, as a view: what it holds is stated through it. -/
abbrev VS0_8 : View sig .tc .vmem S1536x128 .i32 := scM0_8.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d)) ∗ (∃ r, prngReg c r)) := by
  unfold Pipeline.ΦA; rw [scopedRest0_eq]; simp only [scM0_0, scM0_1, scM0_2, scM0_3, scM0_4, scM0_5, scM0_6, scM0_7, scM0_8, owns_whole]; try rfl

end Cert.KernelIdeal.V

end
-- ==== Proof.V.Cell.lean ====
module
public import proofs.«01_k».proof.Proof.Gen.KernelIdeal.Loops
public import Idealize.ShloMosaic.Lib.Pipeline.FrameBody
public import Idealize.ShloMosaic.Lib.WritesUnit
public import Idealize.ShloMosaic.Lib.Tactic
public import Idealize.ShloMosaic.Lib.Pipeline.Value
public import Idealize.ShloMosaic.Lib.ValueIdx
@[expose] public section
set_option maxRecDepth 16384
noncomputable section
namespace Cert.KernelIdeal.V
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
variable {F : FTy → Type} [FloatOps F]
local notation "𝕄" => MT nD τ sig Unit (Elt F) ℕ (UR sig nD τ) ℕ

/-- Tile `c`'s logits with the entries of the support masked to the bottom: bit `c` of the mask word decides. -/
def maskV (w : IVec S8x128 32) (b : BitVec 32) (z : FVec F S8x128 .f32) : FVec F S8x128 .f32 :=
  select (cmpi .ne (andi w (broadcast S8x128 b)) (broadcast S8x128 0#32)) (broadcast S8x128 (Scalar.ofBits .f32 0xFF800000#32)) z

/-- The logit at lane `lo` of the row. -/
def pickV (lo : IVec S8x128 32) (z : FVec F S8x128 .f32) : FVec F S8x128 .f32 :=
  dynamicGather 1 z (shapeCast S8x128 (shapeCast S8x128x1
    (select (cmpi .slt lo (broadcast S8x128 0#32)) (addi lo (broadcast S8x128 128#32)) lo) shapeCasts_S8x128_S8x128x1) shapeCasts_S8x128x1_S8x128)

/-- One step of the support's logits: where the column is the one searched, the picked logit, else the old one. -/
def supStepV (lo hi : IVec S8x128 32) (c : BitVec 32) (z sup : FVec F S8x128 .f32) : FVec F S8x128 .f32 :=
  select (cmpi .eq hi (broadcast S8x128 c)) (pickV lo z) sup

/-- The running maximum after the ten columns of the tile. -/
def maxV (w : IVec S8x128 32) (m : FVec F S8x128 .f32) (z : Fin 10 → FVec F S8x128 .f32) : FVec F S8x128 .f32 :=
  maximumf (maximumf (maximumf (maximumf (maximumf (maximumf (maximumf (maximumf (maximumf (maximumf m (maskV w 1#32 (z 0))) (maskV w 2#32 (z 1))) (maskV w 4#32 (z 2))) (maskV w 8#32 (z 3))) (maskV w 16#32 (z 4))) (maskV w 32#32 (z 5))) (maskV w 64#32 (z 6))) (maskV w 128#32 (z 7))) (maskV w 256#32 (z 8))) (maskV w 512#32 (z 9))

/-- The running sum of exponentials after the ten columns, over the new maximum. -/
def sumV (w : IVec S8x128 32) (m s : FVec F S8x128 .f32) (z : Fin 10 → FVec F S8x128 .f32) : FVec F S8x128 .f32 :=
  addf (addf (addf (addf (addf (addf (addf (addf (addf (addf (mulf s (exp (subf m (maxV w m z)))) (exp (subf (maskV w 1#32 (z 0)) (maxV w m z)))) (exp (subf (maskV w 2#32 (z 1)) (maxV w m z)))) (exp (subf (maskV w 4#32 (z 2)) (maxV w m z)))) (exp (subf (maskV w 8#32 (z 3)) (maxV w m z)))) (exp (subf (maskV w 16#32 (z 4)) (maxV w m z)))) (exp (subf (maskV w 32#32 (z 5)) (maxV w m z)))) (exp (subf (maskV w 64#32 (z 6)) (maxV w m z)))) (exp (subf (maskV w 128#32 (z 7)) (maxV w m z)))) (exp (subf (maskV w 256#32 (z 8)) (maxV w m z)))) (exp (subf (maskV w 512#32 (z 9)) (maxV w m z)))

/-- The support's logits after the ten columns of the tile. -/
def supV (lo hi : IVec S8x128 32) (z : Fin 10 → FVec F S8x128 .f32) (sup : FVec F S8x128 .f32) : FVec F S8x128 .f32 :=
  supStepV lo hi 9#32 (z 9) (supStepV lo hi 8#32 (z 8) (supStepV lo hi 7#32 (z 7) (supStepV lo hi 6#32 (z 6) (supStepV lo hi 5#32 (z 5) (supStepV lo hi 4#32 (z 4) (supStepV lo hi 3#32 (z 3) (supStepV lo hi 2#32 (z 2) (supStepV lo hi 1#32 (z 1) (supStepV lo hi 0#32 (z 0) sup)))))))))

/-! ### The update of one entry -/

/-- The logit with the support masked to the bottom, at one entry. -/
def maskC (w b : BitVec 32) (z : F .f32) : F .f32 :=
  Scalar.select (Scalar.cmpi .ne (w &&& b) 0#32) (Scalar.ofBits .f32 0xFF800000#32) z

/-- The lane a stored lane index names. -/
def laneC (lo : BitVec 32) : Fin 128 :=
  ⟨(Scalar.select (Scalar.cmpi .slt lo 0#32) (lo + 128#32) lo).toNat % 128, Nat.mod_lt _ (by decide)⟩

/-- The running maximum after the ten columns, at one entry. -/
def maxC (w : BitVec 32) (m : F .f32) (z : Fin 10 → F .f32) : F .f32 :=
  FloatOps.maximumf (FloatOps.maximumf (FloatOps.maximumf (FloatOps.maximumf (FloatOps.maximumf (FloatOps.maximumf (FloatOps.maximumf (FloatOps.maximumf (FloatOps.maximumf (FloatOps.maximumf m (maskC w 1#32 (z 0))) (maskC w 2#32 (z 1))) (maskC w 4#32 (z 2))) (maskC w 8#32 (z 3))) (maskC w 16#32 (z 4))) (maskC w 32#32 (z 5))) (maskC w 64#32 (z 6))) (maskC w 128#32 (z 7))) (maskC w 256#32 (z 8))) (maskC w 512#32 (z 9))

/-- The running sum of exponentials after the ten columns, at one entry. -/
def sumC (w : BitVec 32) (m s : F .f32) (z : Fin 10 → F .f32) : F .f32 :=
  FloatOps.addf (FloatOps.addf (FloatOps.addf (FloatOps.addf (FloatOps.addf (FloatOps.addf (FloatOps.addf (FloatOps.addf (FloatOps.addf (FloatOps.addf (FloatOps.mulf s (FloatOps.exp (FloatOps.subf m (maxC w m z)))) (FloatOps.exp (FloatOps.subf (maskC w 1#32 (z 0)) (maxC w m z)))) (FloatOps.exp (FloatOps.subf (maskC w 2#32 (z 1)) (maxC w m z)))) (FloatOps.exp (FloatOps.subf (maskC w 4#32 (z 2)) (maxC w m z)))) (FloatOps.exp (FloatOps.subf (maskC w 8#32 (z 3)) (maxC w m z)))) (FloatOps.exp (FloatOps.subf (maskC w 16#32 (z 4)) (maxC w m z)))) (FloatOps.exp (FloatOps.subf (maskC w 32#32 (z 5)) (maxC w m z)))) (FloatOps.exp (FloatOps.subf (maskC w 64#32 (z 6)) (maxC w m z)))) (FloatOps.exp (FloatOps.subf (maskC w 128#32 (z 7)) (maxC w m z)))) (FloatOps.exp (FloatOps.subf (maskC w 256#32 (z 8)) (maxC w m z)))) (FloatOps.exp (FloatOps.subf (maskC w 512#32 (z 9)) (maxC w m z)))

/-- The support's logit after the ten columns, at one entry: `z c` is column `c`'s logit at the searched lane. -/
def supC (hi : BitVec 32) (z : Fin 10 → F .f32) (sup : F .f32) : F .f32 :=
  Scalar.select (Scalar.cmpi .eq hi 9#32) (z 9) (Scalar.select (Scalar.cmpi .eq hi 8#32) (z 8) (Scalar.select (Scalar.cmpi .eq hi 7#32) (z 7) (Scalar.select (Scalar.cmpi .eq hi 6#32) (z 6) (Scalar.select (Scalar.cmpi .eq hi 5#32) (z 5) (Scalar.select (Scalar.cmpi .eq hi 4#32) (z 4) (Scalar.select (Scalar.cmpi .eq hi 3#32) (z 3) (Scalar.select (Scalar.cmpi .eq hi 2#32) (z 2) (Scalar.select (Scalar.cmpi .eq hi 1#32) (z 1) (Scalar.select (Scalar.cmpi .eq hi 0#32) (z 0) sup)))))))))

theorem maxV_apply (w : IVec S8x128 32) (m : FVec F S8x128 .f32) (z : Fin 10 → FVec F S8x128 .f32) (x : S8x128.Idx) :
    maxV w m z x = maxC (w x) (m x) (fun c => z c x) := rfl
theorem sumV_apply (w : IVec S8x128 32) (m s : FVec F S8x128 .f32) (z : Fin 10 → FVec F S8x128 .f32) (x : S8x128.Idx) :
    sumV w m s z x = sumC (w x) (m x) (s x) (fun c => z c x) := rfl
theorem pickV_apply (lo : IVec S8x128 32) (z : FVec F S8x128 .f32) (x : S8x128.Idx) :
    pickV lo z x = z (ix2 (x 0) (laneC (lo x))) := by
  unfold pickV
  rw [shapeCast_shapeCast]
  exact congrArg z (funext fun a => by match a with | ⟨0, _⟩ => rfl | ⟨1, _⟩ => rfl)
theorem supV_apply (lo hi : IVec S8x128 32) (z : Fin 10 → FVec F S8x128 .f32) (sup : FVec F S8x128 .f32) (x : S8x128.Idx) :
    supV lo hi z sup x = supC (hi x) (fun c => z c (ix2 (x 0) (laneC (lo x)))) (sup x) := by
  simp only [← pickV_apply]; rfl

/-! ### The update of all rows of a chunk -/

/-- The state of one entry: the running maximum, the running sum and the support's logit. -/
abbrev Cell (F : FTy → Type) : Type := F .f32 × F .f32 × F .f32

/-- One tile's update of an entry's state; `z` holds the tile's logits of the entry's row. -/
def upd (w lo hi : BitVec 32) (l : Fin 128) (z : Fin 10 → Fin 128 → F .f32) (q : Cell F) : Cell F :=
  (maxC w q.1 (fun c => z c l), sumC w q.1 q.2.1 (fun c => z c l), supC hi (fun c => z c (laneC lo)) q.2.2)

/-- Column `128 c + l` of a tile. -/
def col (c : Fin 10) (l : Fin 128) : Fin 1280 := ⟨128 * c.val + l.val, by omega⟩

/-- A loop that updates the eight rows from `o + 8 k` at trip `k` updates the rows from `o` to `o + 512`, each once. -/
theorem rows_ind {α : Type} (o : ℕ) (U : S1536x128.Idx → α → α) (r : ℕ → S1536x128.Idx → α)
    (hin : ∀ k < 64, ∀ y : S1536x128.Idx, o + 8 * k ≤ (y 0).val → (y 0).val < o + 8 * k + 8 → r (k + 1) y = U y (r k y))
    (hout : ∀ k < 64, ∀ y : S1536x128.Idx, ((y 0).val < o + 8 * k ∨ o + 8 * k + 8 ≤ (y 0).val) → r (k + 1) y = r k y) (y : S1536x128.Idx) :
    r 64 y = if o ≤ (y 0).val ∧ (y 0).val < o + 512 then U y (r 0 y) else r 0 y := by
  have H : ∀ n ≤ 64, r n y = if o ≤ (y 0).val ∧ (y 0).val < o + 8 * n then U y (r 0 y) else r 0 y := by
    intro n
    induction n with
    | zero => intro _; rw [if_neg (by omega)]
    | succ k ih =>
      intro hk
      by_cases h : o + 8 * k ≤ (y 0).val ∧ (y 0).val < o + 8 * k + 8
      · rw [hin k (by omega) y h.1 h.2, ih (by omega), if_neg (by omega), if_pos (by omega)]
      · rw [hout k (by omega) y (by omega), ih (by omega)]
        by_cases h' : o ≤ (y 0).val ∧ (y 0).val < o + 8 * k
        · rw [if_pos h', if_pos (by omega)]
        · rw [if_neg h', if_neg (by omega)]
  exact H 64 le_rfl

section Reads
variable {sig' : RefSig} {κ : Kind} {sp : Space} {e : EltTy} {Val : EltTy → Type}

/-- A load of whole rows and columns from `(o, c)`, at a local index, reads the view there. -/
theorem readAt_rows {d : Fin 2 → ℕ} (v : View sig' κ sp ⟨2, d⟩ e) (X : v.ty.Contents Val) {off size : Fin 2 → ℕ} {o c : ℕ}
    (inb : ∀ a : Fin 2, off a + size a ≤ d a) (hoff : off = ![o, c]) (x : (Rect.unit (s := ⟨2, d⟩) off size inb).shape.Idx) (y : (⟨2, d⟩ : Shape).Idx)
    (h0 : (y 0).val = o + (x (0 : Fin 2)).val) (h1 : (y 1).val = c + (x (1 : Fin 2)).val) :
    v.readAt Val (Rect.unit (s := ⟨2, d⟩) off size inb).toLoadRect X x = v.read Val X y := by
  subst hoff
  refine congrArg (v.read Val X) (funext fun a => Fin.ext ?_)
  show ![o, c] a + 1 * (x a).val = (y a).val
  match a with
  | ⟨0, _⟩ => show o + 1 * (x (0 : Fin 2)).val = (y 0).val; omega
  | ⟨1, _⟩ => show c + 1 * (x (1 : Fin 2)).val = (y 1).val; omega

/-- The same at rank three, the first axis a unit one. -/
theorem readAt_rows3 {d : Fin 3 → ℕ} (v : View sig' κ sp ⟨3, d⟩ e) (X : v.ty.Contents Val) {off size : Fin 3 → ℕ} {o : ℕ}
    (inb : ∀ a : Fin 3, off a + size a ≤ d a) (hoff : off = ![0, o, 0]) (x : (Rect.unit (s := ⟨3, d⟩) off size inb).shape.Idx) (y : (⟨3, d⟩ : Shape).Idx)
    (h0 : (y 0).val = (x (0 : Fin 3)).val) (h1 : (y 1).val = o + (x (1 : Fin 3)).val) (h2 : (y 2).val = (x (2 : Fin 3)).val) :
    v.readAt Val (Rect.unit (s := ⟨3, d⟩) off size inb).toLoadRect X x = v.read Val X y := by
  subst hoff
  refine congrArg (v.read Val X) (funext fun a => Fin.ext ?_)
  show ![0, o, 0] a + 1 * (x a).val = (y a).val
  match a with
  | ⟨0, _⟩ => show 0 + 1 * (x (0 : Fin 3)).val = (y 0).val; omega
  | ⟨1, _⟩ => show o + 1 * (x (1 : Fin 3)).val = (y 1).val; omega
  | ⟨2, _⟩ => show 0 + 1 * (x (2 : Fin 3)).val = (y 2).val; omega
end Reads

theorem word_apply {sig' : RefSig} {κ : Kind} {sp : Space} (v : View sig' κ sp S1x1536x128 .i32) (X : v.ty.Contents (Elt F)) {off : Fin 3 → ℕ} {o : ℕ}
    (inb : ∀ a : Fin 3, off a + S1x8x128.size a ≤ S1x1536x128.size a) (hoff : off = ![0, o, 0]) (x : S8x128.Idx) (y : S1536x128.Idx)
    (h0 : (y 0).val = o + (x 0).val) (h1 : (y 1).val = (x 1).val) (s : BitVec 32) :
    shrui (shapeCast S8x128 (v.readAt (Elt F) (Rect.unit (s := S1x1536x128) off S1x8x128.size inb).toLoadRect X : Vec F S1x8x128 .i32) shapeCasts_S1x8x128_S8x128) (broadcast S8x128 s) x
      = Scalar.shrui (v.read (Elt F) X (ix3 (0 : Fin 1) (y 0) (y 1))) s := by
  refine congrArg (fun u => Scalar.shrui u s) ?_
  refine (shapeCast_dropUnit_apply ![8, 128] _ shapeCasts_S1x8x128_S8x128 x).trans ?_
  exact readAt_rows3 v X inb hoff _ _ rfl h0 h1
/-! ### One loop over the rows of a chunk

The kernel has the loop three times, one for each chunk of 512 rows; the three differ in where they read and write. -/

section Chunk
variable (arg4 : Memref sig .tc .vmem S1x1536x128 .i32) (argz : Memref sig .tc .vmem S512x1280 .f32) (arg17 arg18 arg19 : Memref sig .tc .vmem S1536x128 .f32)
  (arg20 arg21 : Memref sig .tc .vmem S1536x128 .i32) (v5 v6 : BitVec 32)
  (X4 : BufTy.Contents (Elt F) arg4.view.ty) (Xz : BufTy.Contents (Elt F) argz.view.ty) (X20 : BufTy.Contents (Elt F) arg20.view.ty) (X21 : BufTy.Contents (Elt F) arg21.view.ty)

/-- The logits of eight rows, column by column: column `c` is read at `off c`. -/
def tileV {off : Fin 10 → Fin 2 → ℕ} (inb : ∀ c a, off c a + S8x128.size a ≤ S512x1280.size a) (c : Fin 10) : FVec F S8x128 .f32 :=
  View.readAt (Elt F) argz.view (Rect.unit (s := S512x1280) (off c) S8x128.size (inb c)).toLoadRect Xz

/-- Eight rows of an array of 128 columns, read at `off`. -/
def rows8 {e : EltTy} (arg : Memref sig .tc .vmem S1536x128 e) (X : BufTy.Contents (Elt F) arg.view.ty) {off : Fin 2 → ℕ} (inb : ∀ a, off a + S8x128.size a ≤ S1536x128.size a) :
    Vec F S8x128 e :=
  View.readAt (Elt F) arg.view (Rect.unit (s := S1536x128) off S8x128.size inb).toLoadRect X

/-- The mask words of eight rows, shifted to the tile's bits. -/
def word8 {off : Fin 3 → ℕ} (inb : ∀ a, off a + S1x8x128.size a ≤ S1x1536x128.size a) : IVec S8x128 32 :=
  shrui (shapeCast S8x128 (View.readAt (Elt F) arg4.view (Rect.unit (s := S1x1536x128) off S1x8x128.size inb).toLoadRect X4 : Vec F S1x8x128 .i32) shapeCasts_S1x8x128_S8x128) (broadcast S8x128 v5)

/-- What one trip of the loop stores: the maximum, the sum and the support's logits of eight rows. -/
def piecesV {offw : Fin 3 → ℕ} (inbw : ∀ a, offw a + S1x8x128.size a ≤ S1x1536x128.size a) {offr : Fin 2 → ℕ} (inbr : ∀ a, offr a + S8x128.size a ≤ S1536x128.size a)
    {offz : Fin 10 → Fin 2 → ℕ} (inbz : ∀ c a, offz c a + S8x128.size a ≤ S512x1280.size a)
    (f17 : BufTy.Contents (Elt F) arg17.view.ty) (f18 : BufTy.Contents (Elt F) arg18.view.ty) (f19 : BufTy.Contents (Elt F) arg19.view.ty) :
    List (View.Piece (Elt F) S1536x128 .f32) × List (View.Piece (Elt F) S1536x128 .f32) × List (View.Piece (Elt F) S1536x128 .f32) :=
  ([(⟨Rect.unit (s := S1536x128) offr S8x128.size inbr, shapeCast S8x128 (maxV (word8 arg4 v5 X4 inbw) (rows8 arg17 f17 inbr) (tileV argz Xz inbz)) shapeCasts_S8x128_S8x128⟩ : View.Piece (Elt F) S1536x128 .f32)],
    [(⟨Rect.unit (s := S1536x128) offr S8x128.size inbr, shapeCast S8x128 (sumV (word8 arg4 v5 X4 inbw) (rows8 arg17 f17 inbr) (rows8 arg18 f18 inbr) (tileV argz Xz inbz)) shapeCasts_S8x128_S8x128⟩ : View.Piece (Elt F) S1536x128 .f32)],
    [(⟨Rect.unit (s := S1536x128) offr S8x128.size inbr, shapeCast S8x128 (supV (rows8 arg20 X20 inbr) (subi (rows8 arg21 X21 inbr) (broadcast S8x128 v6)) (tileV argz Xz inbz) (rows8 arg19 f19 inbr)) shapeCasts_S8x128_S8x128⟩ : View.Piece (Elt F) S1536x128 .f32)])

/-- The entry's update in the chunk of rows from `o`: the words, the indices and the logits read at the entry. -/
def U (o : ℕ) (y : S1536x128.Idx) : Cell F → Cell F :=
  upd (Scalar.shrui (arg4.view.read (Elt F) X4 (ix3 (0 : Fin 1) (y 0) (y 1))) v5) (arg20.view.read (Elt F) X20 y) (arg21.view.read (Elt F) X21 y - v6) (y 1)
    (fun c l => argz.view.read (Elt F) Xz (ix2 ⟨((y 0).val - o) % 512, Nat.mod_lt _ (by decide)⟩ (col c l)))

/-- The state that the three arrays hold at an entry, after the writes of lists of pieces. -/
def stateV (G17 : BufTy.Contents (Elt F) arg17.view.ty) (G18 : BufTy.Contents (Elt F) arg18.view.ty) (G19 : BufTy.Contents (Elt F) arg19.view.ty)
    (p : List (View.Piece (Elt F) S1536x128 .f32) × List (View.Piece (Elt F) S1536x128 .f32) × List (View.Piece (Elt F) S1536x128 .f32)) (y : S1536x128.Idx) : Cell F :=
  (arg17.view.read (Elt F) (arg17.view.writes (Elt F) G17 p.1) y, arg18.view.read (Elt F) (arg18.view.writes (Elt F) G18 p.2.1) y,
    arg19.view.read (Elt F) (arg19.view.writes (Elt F) G19 p.2.2) y)

/-- A trip updates the entries of its eight rows. -/
theorem step_in (o k : ℕ) (hk : k < 64) {offw : Fin 3 → ℕ} (inbw : ∀ a, offw a + S1x8x128.size a ≤ S1x1536x128.size a) {offr : Fin 2 → ℕ} (inbr : ∀ a, offr a + S8x128.size a ≤ S1536x128.size a)
    {offz : Fin 10 → Fin 2 → ℕ} (inbz : ∀ c a, offz c a + S8x128.size a ≤ S512x1280.size a)
    (hw : offw = ![0, 8 * k + o, 0]) (hr : offr = ![8 * k + o, 0]) (hz : ∀ c : Fin 10, offz c = ![8 * k, 128 * c.val])
    (f17 g17 : BufTy.Contents (Elt F) arg17.view.ty) (f18 g18 : BufTy.Contents (Elt F) arg18.view.ty) (f19 g19 : BufTy.Contents (Elt F) arg19.view.ty)
    (p : List (View.Piece (Elt F) S1536x128 .f32) × List (View.Piece (Elt F) S1536x128 .f32) × List (View.Piece (Elt F) S1536x128 .f32))
    (y : S1536x128.Idx) (h0 : o + 8 * k ≤ (y 0).val) (h1 : (y 0).val < o + 8 * k + 8) :
    stateV arg17 arg18 arg19 g17 g18 g19
        ((piecesV arg4 argz arg17 arg18 arg19 arg20 arg21 v5 v6 X4 Xz X20 X21 inbw inbr inbz f17 f18 f19).1 ++ p.1,
          (piecesV arg4 argz arg17 arg18 arg19 arg20 arg21 v5 v6 X4 Xz X20 X21 inbw inbr inbz f17 f18 f19).2.1 ++ p.2.1,
          (piecesV arg4 argz arg17 arg18 arg19 arg20 arg21 v5 v6 X4 Xz X20 X21 inbw inbr inbz f17 f18 f19).2.2 ++ p.2.2) y
      = U arg4 argz arg20 arg21 v5 v6 X4 Xz X20 X21 o y (arg17.view.read (Elt F) f17 y, arg18.view.read (Elt F) f18 y, arg19.view.read (Elt F) f19 y) := by
  obtain ⟨x, hx0, hx1⟩ : ∃ x : S8x128.Idx, (y 0).val = (8 * k + o) + (x 0).val ∧ (y 1).val = (x 1).val :=
    ⟨ix2 ⟨(y 0).val - (8 * k + o), by omega⟩ ⟨(y 1).val, (y 1).isLt⟩, by show (y 0).val = (8 * k + o) + ((y 0).val - (8 * k + o)); omega, rfl⟩
  have hx1' : (y 1).val = 0 + (x 1).val := by omega
  have hx8 : (x 0).val < 8 := (x 0).isLt
  have hzr : ((y 0).val - o) % 512 = 8 * k + (x 0).val := by omega
  have hl : (x 1 : Fin 128) = y 1 := Fin.ext hx1.symm
  have hx : x = ix2 (x 0) (y 1) := (eq_ix2 x).trans (congrArg (fun l : Fin 128 => ix2 (x 0) l) hl)
  have hz : ∀ (c : Fin 10) (l : Fin 128), tileV argz Xz inbz c (ix2 (x 0) l)
      = argz.view.read (Elt F) Xz (ix2 ⟨((y 0).val - o) % 512, Nat.mod_lt _ (by decide)⟩ (col c l)) :=
    fun c l => readAt_rows argz.view Xz (inbz c) (hz c) _ _ hzr rfl
  have hw : word8 arg4 v5 X4 inbw x = _ := word_apply arg4.view X4 inbw hw x y hx0 hx1 v5
  have h17 : rows8 arg17 f17 inbr x = _ := readAt_rows arg17.view f17 inbr hr x y hx0 hx1'
  have h18 : rows8 arg18 f18 inbr x = _ := readAt_rows arg18.view f18 inbr hr x y hx0 hx1'
  have h19 : rows8 arg19 f19 inbr x = _ := readAt_rows arg19.view f19 inbr hr x y hx0 hx1'
  have h20 : rows8 arg20 X20 inbr x = _ := readAt_rows arg20.view X20 inbr hr x y hx0 hx1'
  have h21 : rows8 arg21 X21 inbr x = _ := readAt_rows arg21.view X21 inbr hr x y hx0 hx1'
  have hzy := funext fun c => (congrArg (tileV argz Xz inbz c) hx).trans (hz c (y 1))
  unfold U upd
  refine Prod.ext ?_ (Prod.ext ?_ ?_)
  · refine (View.read_writes_cons_rows_of_mem arg17.view _ inbr _ p.1 y x hr hx0 hx1).trans ?_
    rw [shapeCast_self]
    refine (maxV_apply _ _ _ x).trans ?_
    rw [hw, h17, hzy]
  · refine (View.read_writes_cons_rows_of_mem arg18.view _ inbr _ p.2.1 y x hr hx0 hx1).trans ?_
    rw [shapeCast_self]
    refine (sumV_apply _ _ _ _ x).trans ?_
    rw [hw, h17, h18, hzy]
  · refine (View.read_writes_cons_rows_of_mem arg19.view _ inbr _ p.2.2 y x hr hx0 hx1).trans ?_
    rw [shapeCast_self]
    refine (supV_apply _ _ _ _ x).trans ?_
    rw [h19, h20, funext fun c => hz c _]
    exact congrArg (fun u => supC (u - v6) _ _) h21

/-- A trip leaves the entries of the other rows. -/
theorem step_out (o k : ℕ) {offw : Fin 3 → ℕ} (inbw : ∀ a, offw a + S1x8x128.size a ≤ S1x1536x128.size a) {offr : Fin 2 → ℕ} (inbr : ∀ a, offr a + S8x128.size a ≤ S1536x128.size a)
    {offz : Fin 10 → Fin 2 → ℕ} (inbz : ∀ c a, offz c a + S8x128.size a ≤ S512x1280.size a) (hr : offr = ![8 * k + o, 0])
    (f17 g17 : BufTy.Contents (Elt F) arg17.view.ty) (f18 g18 : BufTy.Contents (Elt F) arg18.view.ty) (f19 g19 : BufTy.Contents (Elt F) arg19.view.ty)
    (p : List (View.Piece (Elt F) S1536x128 .f32) × List (View.Piece (Elt F) S1536x128 .f32) × List (View.Piece (Elt F) S1536x128 .f32))
    (y : S1536x128.Idx) (h : (y 0).val < o + 8 * k ∨ o + 8 * k + 8 ≤ (y 0).val) :
    stateV arg17 arg18 arg19 g17 g18 g19
        ((piecesV arg4 argz arg17 arg18 arg19 arg20 arg21 v5 v6 X4 Xz X20 X21 inbw inbr inbz f17 f18 f19).1 ++ p.1,
          (piecesV arg4 argz arg17 arg18 arg19 arg20 arg21 v5 v6 X4 Xz X20 X21 inbw inbr inbz f17 f18 f19).2.1 ++ p.2.1,
          (piecesV arg4 argz arg17 arg18 arg19 arg20 arg21 v5 v6 X4 Xz X20 X21 inbw inbr inbz f17 f18 f19).2.2 ++ p.2.2) y
      = stateV arg17 arg18 arg19 g17 g18 g19 p y := by
  have h' : (y 0).val < (8 * k + o) ∨ (8 * k + o) + 8 ≤ (y 0).val := by omega
  exact Prod.ext (View.read_writes_cons_rows_of_not_mem arg17.view _ inbr _ p.1 y hr rfl h')
    (Prod.ext (View.read_writes_cons_rows_of_not_mem arg18.view _ inbr _ p.2.1 y hr rfl h')
      (View.read_writes_cons_rows_of_not_mem arg19.view _ inbr _ p.2.2 y hr rfl h'))

/-- The pieces `p` of a loop's trips: at each trip those of eight rows of the chunk from `o` go before the earlier ones, taken at what the
earlier ones left. -/
def Trips (o : ℕ) (G17 : BufTy.Contents (Elt F) arg17.view.ty) (G18 : BufTy.Contents (Elt F) arg18.view.ty) (G19 : BufTy.Contents (Elt F) arg19.view.ty)
    (p : ℕ → List (View.Piece (Elt F) S1536x128 .f32) × List (View.Piece (Elt F) S1536x128 .f32) × List (View.Piece (Elt F) S1536x128 .f32)) : Prop :=
  ∀ k < 64, ∃ (offw : Fin 3 → ℕ) (inbw : ∀ a, offw a + S1x8x128.size a ≤ S1x1536x128.size a) (offr : Fin 2 → ℕ) (inbr : ∀ a, offr a + S8x128.size a ≤ S1536x128.size a)
    (offz : Fin 10 → Fin 2 → ℕ) (inbz : ∀ c a, offz c a + S8x128.size a ≤ S512x1280.size a),
    offw = ![0, 8 * k + o, 0] ∧ offr = ![8 * k + o, 0] ∧ (∀ c : Fin 10, offz c = ![8 * k, 128 * c.val]) ∧
    p (k + 1) =
      ((piecesV arg4 argz arg17 arg18 arg19 arg20 arg21 v5 v6 X4 Xz X20 X21 inbw inbr inbz
          (arg17.view.writes (Elt F) G17 (p k).1) (arg18.view.writes (Elt F) G18 (p k).2.1) (arg19.view.writes (Elt F) G19 (p k).2.2)).1 ++ (p k).1,
        (piecesV arg4 argz arg17 arg18 arg19 arg20 arg21 v5 v6 X4 Xz X20 X21 inbw inbr inbz
          (arg17.view.writes (Elt F) G17 (p k).1) (arg18.view.writes (Elt F) G18 (p k).2.1) (arg19.view.writes (Elt F) G19 (p k).2.2)).2.1 ++ (p k).2.1,
        (piecesV arg4 argz arg17 arg18 arg19 arg20 arg21 v5 v6 X4 Xz X20 X21 inbw inbr inbz
          (arg17.view.writes (Elt F) G17 (p k).1) (arg18.view.writes (Elt F) G18 (p k).2.1) (arg19.view.writes (Elt F) G19 (p k).2.2)).2.2 ++ (p k).2.2)

/-- THE LOOP: the rows from `o` to `o + 512` hold the update of what they held, the others what they held. -/
theorem loop_rows {o : ℕ} {G17 : BufTy.Contents (Elt F) arg17.view.ty} {G18 : BufTy.Contents (Elt F) arg18.view.ty} {G19 : BufTy.Contents (Elt F) arg19.view.ty}
    {p : ℕ → List (View.Piece (Elt F) S1536x128 .f32) × List (View.Piece (Elt F) S1536x128 .f32) × List (View.Piece (Elt F) S1536x128 .f32)}
    (hp : Trips arg4 argz arg17 arg18 arg19 arg20 arg21 v5 v6 X4 Xz X20 X21 o G17 G18 G19 p) (y : S1536x128.Idx) :
    stateV arg17 arg18 arg19 G17 G18 G19 (p 64) y = if o ≤ (y 0).val ∧ (y 0).val < o + 512 then
      U arg4 argz arg20 arg21 v5 v6 X4 Xz X20 X21 o y (stateV arg17 arg18 arg19 G17 G18 G19 (p 0) y) else stateV arg17 arg18 arg19 G17 G18 G19 (p 0) y := by
  refine rows_ind (α := Cell F) o (U arg4 argz arg20 arg21 v5 v6 X4 Xz X20 X21 o) (fun n => stateV arg17 arg18 arg19 G17 G18 G19 (p n)) ?_ ?_ y
  · intro k hk y h0 h1
    obtain ⟨_, iw, _, ir, _, iz, hw, hr, hz, e⟩ := hp k hk
    show stateV arg17 arg18 arg19 G17 G18 G19 (p (k + 1)) y = _
    rw [e]
    exact step_in arg4 argz arg17 arg18 arg19 arg20 arg21 v5 v6 X4 Xz X20 X21 o k hk iw ir iz hw hr hz _ _ _ _ _ _ _ y h0 h1
  · intro k hk y h
    obtain ⟨_, iw, _, ir, _, iz, hw, hr, hz, e⟩ := hp k hk
    show stateV arg17 arg18 arg19 G17 G18 G19 (p (k + 1)) y = _
    rw [e]
    exact step_out arg4 argz arg17 arg18 arg19 arg20 arg21 v5 v6 X4 Xz X20 X21 o k iw ir iz hr _ _ _ _ _ _ _ y h
end Chunk

section Loops
variable (𝒱 : Variants) (c : Dev nD) (bd : Option 𝒱.V) (i : grid0.Coords) (arg1 : Memref sig .tc .vmem S1536x1024 .bf16) (harg1 : arg1.IsWhole) (arg2 : Memref sig .tc .vmem S1280x1024 .fp8e4m3) (harg2 : arg2.IsWhole) (arg3 : Memref sig .tc .vmem S1280x8 .f32) (harg3 : arg3.IsWhole) (arg4 : Memref sig .tc .vmem S1x1536x128 .i32) (harg4 : arg4.IsWhole) (arg5 : Memref sig .tc .vmem S1536x50 .i32) (harg5 : arg5.IsWhole) (arg6 : Memref sig .tc .vmem S1536x50 .bf16) (harg6 : arg6.IsWhole) (arg7 : Memref sig .tc .vmem S4x384 .f32) (harg7 : arg7.IsWhole) (arg8 : Memref sig .tc .vmem S4x384 .f32) (harg8 : arg8.IsWhole) (arg9 : Memref sig .tc .vmem S4x384 .f32) (harg9 : arg9.IsWhole) (arg10 : Memref sig .tc .vmem S1536x50 .f32) (harg10 : arg10.IsWhole) (arg11 : Memref sig .tc .vmem S1536x1024 .fp8e4m3) (harg11 : arg11.IsWhole) (arg12 : Memref sig .tc .vmem S1536x8 .f32) (harg12 : arg12.IsWhole) (arg13 : Memref sig .tc .vmem S1536x1024 .bf16) (harg13 : arg13.IsWhole) (arg14 : Memref sig .tc .vmem S1280x1024 .bf16) (harg14 : arg14.IsWhole) (arg15 : Memref sig .tc .vmem S512x1280 .f32) (harg15 : arg15.IsWhole) (arg16 : Memref sig .tc .vmem S512x1280 .f32) (harg16 : arg16.IsWhole) (arg17 : Memref sig .tc .vmem S1536x128 .f32) (harg17 : arg17.IsWhole) (arg18 : Memref sig .tc .vmem S1536x128 .f32) (harg18 : arg18.IsWhole) (arg19 : Memref sig .tc .vmem S1536x128 .f32) (harg19 : arg19.IsWhole) (arg20 : Memref sig .tc .vmem S1536x128 .i32) (harg20 : arg20.IsWhole) (arg21 : Memref sig .tc .vmem S1536x128 .i32) (harg21 : arg21.IsWhole)
include 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21

/-- The loop over the rows from 0. -/
theorem loop4 (v5 : BitVec 32) (v6 : BitVec 32) (X_arg4 : BufTy.Contents (Elt F) arg4.view.ty) (X_arg15 : BufTy.Contents (Elt F) arg15.view.ty) (X_arg20 : BufTy.Contents (Elt F) arg20.view.ty) (X_arg21 : BufTy.Contents (Elt F) arg21.view.ty) (G_arg17 : BufTy.Contents (Elt F) arg17.view.ty) (G_arg18 : BufTy.Contents (Elt F) arg18.view.ty) (G_arg19 : BufTy.Contents (Elt F) arg19.view.ty) (y : S1536x128.Idx) :
    stateV arg17 arg18 arg19 G_arg17 G_arg18 G_arg19 (pb_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X_arg4 X_arg15 X_arg20 X_arg21 G_arg17 G_arg18 G_arg19 64) y
    = if 0 ≤ (y 0).val ∧ (y 0).val < 0 + 512 then
        U arg4 arg15 arg20 arg21 v5 v6 X_arg4 X_arg15 X_arg20 X_arg21 0 y (arg17.view.read (Elt F) G_arg17 y, arg18.view.read (Elt F) G_arg18 y, arg19.view.read (Elt F) G_arg19 y)
      else (arg17.view.read (Elt F) G_arg17 y, arg18.view.read (Elt F) G_arg18 y, arg19.view.read (Elt F) G_arg19 y) := by
  have ht : k0_t4_loop.trips = 64 := by decide +kernel
  refine loop_rows arg4 arg15 arg17 arg18 arg19 arg20 arg21 v5 v6 X_arg4 X_arg15 X_arg20 X_arg21 (p := pb_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X_arg4 X_arg15 X_arg20 X_arg21 G_arg17 G_arg18 G_arg19) ?_ y
  intro n hn
  obtain ⟨k, rfl⟩ : ∃ k : Fin k0_t4_loop.trips, k.val = n := ⟨⟨n, lt_of_lt_of_eq hn ht.symm⟩, rfl⟩
  refine ⟨_, k0_off28_inb k, _, k0_off29_inb k, ![k0_off30 k, k0_off31 k, k0_off32 k, k0_off33 k, k0_off34 k, k0_off35 k, k0_off36 k, k0_off37 k, k0_off38 k, k0_off39 k],
    fun c => match c with | ⟨0, _⟩ => k0_off30_inb k | ⟨1, _⟩ => k0_off31_inb k | ⟨2, _⟩ => k0_off32_inb k | ⟨3, _⟩ => k0_off33_inb k | ⟨4, _⟩ => k0_off34_inb k | ⟨5, _⟩ => k0_off35_inb k | ⟨6, _⟩ => k0_off36_inb k | ⟨7, _⟩ => k0_off37_inb k | ⟨8, _⟩ => k0_off38_inb k | ⟨9, _⟩ => k0_off39_inb k,
    k0_off28_eq k, k0_off29_eq k, fun c => match c with | ⟨0, _⟩ => k0_off30_eq k | ⟨1, _⟩ => k0_off31_eq k | ⟨2, _⟩ => k0_off32_eq k | ⟨3, _⟩ => k0_off33_eq k | ⟨4, _⟩ => k0_off34_eq k | ⟨5, _⟩ => k0_off35_eq k | ⟨6, _⟩ => k0_off36_eq k | ⟨7, _⟩ => k0_off37_eq k | ⟨8, _⟩ => k0_off38_eq k | ⟨9, _⟩ => k0_off39_eq k,
    (pb_k0_t4_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X_arg4 X_arg15 X_arg20 X_arg21 G_arg17 G_arg18 G_arg19 k).trans ?_⟩
  unfold tripL_k0_t4 trip_k0_t4
  rfl

/-- The loop over the rows from 512. -/
theorem loop5 (v5 : BitVec 32) (v6 : BitVec 32) (X_arg4 : BufTy.Contents (Elt F) arg4.view.ty) (X_arg16 : BufTy.Contents (Elt F) arg16.view.ty) (X_arg20 : BufTy.Contents (Elt F) arg20.view.ty) (X_arg21 : BufTy.Contents (Elt F) arg21.view.ty) (G_arg17 : BufTy.Contents (Elt F) arg17.view.ty) (G_arg18 : BufTy.Contents (Elt F) arg18.view.ty) (G_arg19 : BufTy.Contents (Elt F) arg19.view.ty) (y : S1536x128.Idx) :
    stateV arg17 arg18 arg19 G_arg17 G_arg18 G_arg19 (pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X_arg4 X_arg16 X_arg20 X_arg21 G_arg17 G_arg18 G_arg19 64) y
    = if 512 ≤ (y 0).val ∧ (y 0).val < 512 + 512 then
        U arg4 arg16 arg20 arg21 v5 v6 X_arg4 X_arg16 X_arg20 X_arg21 512 y (arg17.view.read (Elt F) G_arg17 y, arg18.view.read (Elt F) G_arg18 y, arg19.view.read (Elt F) G_arg19 y)
      else (arg17.view.read (Elt F) G_arg17 y, arg18.view.read (Elt F) G_arg18 y, arg19.view.read (Elt F) G_arg19 y) := by
  have ht : k0_t5_loop.trips = 64 := by decide +kernel
  refine loop_rows arg4 arg16 arg17 arg18 arg19 arg20 arg21 v5 v6 X_arg4 X_arg16 X_arg20 X_arg21 (p := pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X_arg4 X_arg16 X_arg20 X_arg21 G_arg17 G_arg18 G_arg19) ?_ y
  intro n hn
  obtain ⟨k, rfl⟩ : ∃ k : Fin k0_t5_loop.trips, k.val = n := ⟨⟨n, lt_of_lt_of_eq hn ht.symm⟩, rfl⟩
  refine ⟨_, k0_off40_inb k, _, k0_off41_inb k, ![k0_off42 k, k0_off43 k, k0_off44 k, k0_off45 k, k0_off46 k, k0_off47 k, k0_off48 k, k0_off49 k, k0_off50 k, k0_off51 k],
    fun c => match c with | ⟨0, _⟩ => k0_off42_inb k | ⟨1, _⟩ => k0_off43_inb k | ⟨2, _⟩ => k0_off44_inb k | ⟨3, _⟩ => k0_off45_inb k | ⟨4, _⟩ => k0_off46_inb k | ⟨5, _⟩ => k0_off47_inb k | ⟨6, _⟩ => k0_off48_inb k | ⟨7, _⟩ => k0_off49_inb k | ⟨8, _⟩ => k0_off50_inb k | ⟨9, _⟩ => k0_off51_inb k,
    k0_off40_eq k, k0_off41_eq k, fun c => match c with | ⟨0, _⟩ => k0_off42_eq k | ⟨1, _⟩ => k0_off43_eq k | ⟨2, _⟩ => k0_off44_eq k | ⟨3, _⟩ => k0_off45_eq k | ⟨4, _⟩ => k0_off46_eq k | ⟨5, _⟩ => k0_off47_eq k | ⟨6, _⟩ => k0_off48_eq k | ⟨7, _⟩ => k0_off49_eq k | ⟨8, _⟩ => k0_off50_eq k | ⟨9, _⟩ => k0_off51_eq k,
    (pb_k0_t5_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X_arg4 X_arg16 X_arg20 X_arg21 G_arg17 G_arg18 G_arg19 k).trans ?_⟩
  unfold tripL_k0_t5 trip_k0_t5
  rfl

/-- The loop over the rows from 1024. -/
theorem loop6 (v5 : BitVec 32) (v6 : BitVec 32) (X_arg4 : BufTy.Contents (Elt F) arg4.view.ty) (X_arg15 : BufTy.Contents (Elt F) arg15.view.ty) (X_arg20 : BufTy.Contents (Elt F) arg20.view.ty) (X_arg21 : BufTy.Contents (Elt F) arg21.view.ty) (G_arg17 : BufTy.Contents (Elt F) arg17.view.ty) (G_arg18 : BufTy.Contents (Elt F) arg18.view.ty) (G_arg19 : BufTy.Contents (Elt F) arg19.view.ty) (y : S1536x128.Idx) :
    stateV arg17 arg18 arg19 G_arg17 G_arg18 G_arg19 (pb_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X_arg4 X_arg15 X_arg20 X_arg21 G_arg17 G_arg18 G_arg19 64) y
    = if 1024 ≤ (y 0).val ∧ (y 0).val < 1024 + 512 then
        U arg4 arg15 arg20 arg21 v5 v6 X_arg4 X_arg15 X_arg20 X_arg21 1024 y (arg17.view.read (Elt F) G_arg17 y, arg18.view.read (Elt F) G_arg18 y, arg19.view.read (Elt F) G_arg19 y)
      else (arg17.view.read (Elt F) G_arg17 y, arg18.view.read (Elt F) G_arg18 y, arg19.view.read (Elt F) G_arg19 y) := by
  have ht : k0_t6_loop.trips = 64 := by decide +kernel
  refine loop_rows arg4 arg15 arg17 arg18 arg19 arg20 arg21 v5 v6 X_arg4 X_arg15 X_arg20 X_arg21 (p := pb_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X_arg4 X_arg15 X_arg20 X_arg21 G_arg17 G_arg18 G_arg19) ?_ y
  intro n hn
  obtain ⟨k, rfl⟩ : ∃ k : Fin k0_t6_loop.trips, k.val = n := ⟨⟨n, lt_of_lt_of_eq hn ht.symm⟩, rfl⟩
  refine ⟨_, k0_off52_inb k, _, k0_off53_inb k, ![k0_off54 k, k0_off55 k, k0_off56 k, k0_off57 k, k0_off58 k, k0_off59 k, k0_off60 k, k0_off61 k, k0_off62 k, k0_off63 k],
    fun c => match c with | ⟨0, _⟩ => k0_off54_inb k | ⟨1, _⟩ => k0_off55_inb k | ⟨2, _⟩ => k0_off56_inb k | ⟨3, _⟩ => k0_off57_inb k | ⟨4, _⟩ => k0_off58_inb k | ⟨5, _⟩ => k0_off59_inb k | ⟨6, _⟩ => k0_off60_inb k | ⟨7, _⟩ => k0_off61_inb k | ⟨8, _⟩ => k0_off62_inb k | ⟨9, _⟩ => k0_off63_inb k,
    k0_off52_eq k, k0_off53_eq k, fun c => match c with | ⟨0, _⟩ => k0_off54_eq k | ⟨1, _⟩ => k0_off55_eq k | ⟨2, _⟩ => k0_off56_eq k | ⟨3, _⟩ => k0_off57_eq k | ⟨4, _⟩ => k0_off58_eq k | ⟨5, _⟩ => k0_off59_eq k | ⟨6, _⟩ => k0_off60_eq k | ⟨7, _⟩ => k0_off61_eq k | ⟨8, _⟩ => k0_off62_eq k | ⟨9, _⟩ => k0_off63_eq k,
    (pb_k0_t6_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X_arg4 X_arg15 X_arg20 X_arg21 G_arg17 G_arg18 G_arg19 k).trans ?_⟩
  unfold tripL_k0_t6 trip_k0_t6
  rfl
end Loops

end Cert.KernelIdeal.V
end
end
-- ==== Proof.V.Wide.lean ====
module
public import proofs.«01_k».proof.Proof.Gen.KernelIdeal.Loops
public import Idealize.ShloMosaic.Lib.Pipeline.FrameBody
public import Idealize.ShloMosaic.Lib.WritesUnit
public import Idealize.ShloMosaic.Lib.Tactic
public import Idealize.ShloMosaic.Lib.Pipeline.ReadBack
public import proofs.«01_k».proof.Proof.V.Cell
@[expose] public section
set_option maxRecDepth 16384
noncomputable section
namespace Cert.KernelIdeal.V
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
variable {F : FTy → Type} [FloatOps F]
local notation "𝕄" => MT nD τ sig Unit (Elt F) ℕ (UR sig nD τ) ℕ

/-- One widened weight: the code times its block's scale, both in bf16. -/
def wideC (w : F .fp8e4m3) (s : F .f32) : F .bf16 := FloatOps.mulf (FloatOps.extf .bf16 bitsLt_fp8e4m3_bf16 w) (FloatOps.truncf .bf16 bitsLt_bf16_f32 s)

/-- The widened tile. -/
def wideV (x1 : Vec F S1280x1024 .fp8e4m3) (x2 : Vec F S1280x8 .f32) : Vec F S1280x1024 .bf16 :=
  fun y => wideC (x1 y) (x2 (ix2 (y 0 : Fin 1280) ⟨(y 1).val / 128, by have : (y 1).val < 1024 := (y 1).isLt; omega⟩))

theorem pay97_apply (s : Vec F S32x1 .f32) (w : Vec F S32x128 .fp8e4m3) (x : S32x128.Idx) :
    k0_pay97 s w x = wideC (w x) (s (ix2 (x 0 : Fin 32) (0 : Fin 1))) := by
  unfold k0_pay97
  try dsimp only
  rw [shapeCast_self, shapeCast_self]
  refine congrArg (fun u => wideC (w x) u) ?_
  refine broadcastTo_apply s broadcasts_S32x1_S32x128 x (ix2 (x 0 : Fin 32) (0 : Fin 1)) ?_
  intro a
  match a with
  | ⟨0, _⟩ => rfl
  | ⟨1, _⟩ => rfl

section Blocks
variable {sig' : RefSig} {κ κ' : Kind} {sp sp' : Space}

/-- A unit rectangle holds the indices between its corners. -/
theorem mem_unit {d : Fin 2 → ℕ} {off size : Fin 2 → ℕ} {o c : ℕ} (inb : ∀ a : Fin 2, off a + size a ≤ d a) (hoff : off = ![o, c]) (y : (⟨2, d⟩ : Shape).Idx)
    (h0 : o ≤ (y 0).val) (h1 : (y 0).val < o + size 0) (h2 : c ≤ (y 1).val) (h3 : (y 1).val < c + size 1) :
    y ∈ (Rect.unit (s := ⟨2, d⟩) off size inb).set := by
  subst hoff
  refine Rect.mem_set_unit.mpr fun a => ?_
  match a with
  | ⟨0, _⟩ => exact ⟨h0, h1⟩
  | ⟨1, _⟩ => exact ⟨h2, h3⟩

/-- It holds none of another row. -/
theorem nmem_unit {d : Fin 2 → ℕ} {off size : Fin 2 → ℕ} {o c : ℕ} (inb : ∀ a : Fin 2, off a + size a ≤ d a) (hoff : off = ![o, c]) (y : (⟨2, d⟩ : Shape).Idx)
    (h : (y 0).val < o ∨ o + size 0 ≤ (y 0).val) : y ∉ (Rect.unit (s := ⟨2, d⟩) off size inb).set := by
  subst hoff
  exact Rect.not_mem_set_of_axis _ y 0 o (size 0) rfl rfl rfl h

theorem blk3 (v : View sig' κ sp S1280x1024 .fp8e4m3) (X : v.ty.Contents (Elt F)) (v' : View sig' κ' sp' S1280x8 .f32) (X' : v'.ty.Contents (Elt F)) {off off' : Fin 2 → ℕ} {o b : ℕ}
    (inb : ∀ a : Fin 2, off a + S32x128.size a ≤ S1280x1024.size a) (inb' : ∀ a : Fin 2, off' a + S32x1.size a ≤ S1280x8.size a) {c : ℕ} (hoff : off = ![o, c]) (hoff' : off' = ![o, b])
    (hc : c = 128 * b := by rfl) (x : S32x128.Idx) :
    k0_pay97 (v'.readAt (Elt F) (Rect.unit (s := S1280x8) off' S32x1.size inb').toLoadRect X')
        (v.readAt (Elt F) (Rect.unit (s := S1280x1024) off S32x128.size inb).toLoadRect X) x
      = wideV (v.read (Elt F) X) (v'.read (Elt F) X') ((Rect.unit (s := S1280x1024) off S32x128.size inb).emb x) := by
  subst hc hoff
  have hx : (x 1).val < 128 := (x 1).isLt
  refine (pay97_apply _ _ x).trans ?_
  unfold wideV
  refine congrArg₂ wideC rfl ?_
  refine readAt_rows v' X' inb' hoff' _ _ ?_ ?_
  · show o + 1 * (x 0).val = o + (x 0).val; omega
  · show (128 * b + 1 * (x 1).val) / 128 = b + 0; omega
end Blocks

section Body
variable (𝒱 : Variants) (c : Dev nD) (bd : Option 𝒱.V) (i : grid0.Coords) (arg1 : Memref sig .tc .vmem S1536x1024 .bf16) (harg1 : arg1.IsWhole) (arg2 : Memref sig .tc .vmem S1280x1024 .fp8e4m3) (harg2 : arg2.IsWhole) (arg3 : Memref sig .tc .vmem S1280x8 .f32) (harg3 : arg3.IsWhole) (arg4 : Memref sig .tc .vmem S1x1536x128 .i32) (harg4 : arg4.IsWhole) (arg5 : Memref sig .tc .vmem S1536x50 .i32) (harg5 : arg5.IsWhole) (arg6 : Memref sig .tc .vmem S1536x50 .bf16) (harg6 : arg6.IsWhole) (arg7 : Memref sig .tc .vmem S4x384 .f32) (harg7 : arg7.IsWhole) (arg8 : Memref sig .tc .vmem S4x384 .f32) (harg8 : arg8.IsWhole) (arg9 : Memref sig .tc .vmem S4x384 .f32) (harg9 : arg9.IsWhole) (arg10 : Memref sig .tc .vmem S1536x50 .f32) (harg10 : arg10.IsWhole) (arg11 : Memref sig .tc .vmem S1536x1024 .fp8e4m3) (harg11 : arg11.IsWhole) (arg12 : Memref sig .tc .vmem S1536x8 .f32) (harg12 : arg12.IsWhole) (arg13 : Memref sig .tc .vmem S1536x1024 .bf16) (harg13 : arg13.IsWhole) (arg14 : Memref sig .tc .vmem S1280x1024 .bf16) (harg14 : arg14.IsWhole) (arg15 : Memref sig .tc .vmem S512x1280 .f32) (harg15 : arg15.IsWhole) (arg16 : Memref sig .tc .vmem S512x1280 .f32) (harg16 : arg16.IsWhole) (arg17 : Memref sig .tc .vmem S1536x128 .f32) (harg17 : arg17.IsWhole) (arg18 : Memref sig .tc .vmem S1536x128 .f32) (harg18 : arg18.IsWhole) (arg19 : Memref sig .tc .vmem S1536x128 .f32) (harg19 : arg19.IsWhole) (arg20 : Memref sig .tc .vmem S1536x128 .i32) (harg20 : arg20.IsWhole) (arg21 : Memref sig .tc .vmem S1536x128 .i32) (harg21 : arg21.IsWhole)
include 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21

theorem trip3 (X_arg2 : BufTy.Contents (Elt F) arg2.view.ty) (X_arg3 : BufTy.Contents (Elt F) arg3.view.ty) (k : Fin k0_t3_loop.trips) : tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 k =
    [⟨Rect.unit (s := S1280x1024) (k0_off27 k) S32x128.size (k0_off27_inb k), k0_pay97
        (View.readAt (Elt F) arg3.view (Rect.unit (s := S1280x8) (k0_off26 k) S32x1.size (k0_off26_inb k)).toLoadRect X_arg3)
        (View.readAt (Elt F) arg2.view (Rect.unit (s := S1280x1024) (k0_off27 k) S32x128.size (k0_off27_inb k)).toLoadRect X_arg2)⟩,
     ⟨Rect.unit (s := S1280x1024) (k0_off25 k) S32x128.size (k0_off25_inb k), k0_pay97
        (View.readAt (Elt F) arg3.view (Rect.unit (s := S1280x8) (k0_off24 k) S32x1.size (k0_off24_inb k)).toLoadRect X_arg3)
        (View.readAt (Elt F) arg2.view (Rect.unit (s := S1280x1024) (k0_off25 k) S32x128.size (k0_off25_inb k)).toLoadRect X_arg2)⟩,
     ⟨Rect.unit (s := S1280x1024) (k0_off23 k) S32x128.size (k0_off23_inb k), k0_pay97
        (View.readAt (Elt F) arg3.view (Rect.unit (s := S1280x8) (k0_off22 k) S32x1.size (k0_off22_inb k)).toLoadRect X_arg3)
        (View.readAt (Elt F) arg2.view (Rect.unit (s := S1280x1024) (k0_off23 k) S32x128.size (k0_off23_inb k)).toLoadRect X_arg2)⟩,
     ⟨Rect.unit (s := S1280x1024) (k0_off21 k) S32x128.size (k0_off21_inb k), k0_pay97
        (View.readAt (Elt F) arg3.view (Rect.unit (s := S1280x8) (k0_off20 k) S32x1.size (k0_off20_inb k)).toLoadRect X_arg3)
        (View.readAt (Elt F) arg2.view (Rect.unit (s := S1280x1024) (k0_off21 k) S32x128.size (k0_off21_inb k)).toLoadRect X_arg2)⟩,
     ⟨Rect.unit (s := S1280x1024) (k0_off19 k) S32x128.size (k0_off19_inb k), k0_pay97
        (View.readAt (Elt F) arg3.view (Rect.unit (s := S1280x8) (k0_off18 k) S32x1.size (k0_off18_inb k)).toLoadRect X_arg3)
        (View.readAt (Elt F) arg2.view (Rect.unit (s := S1280x1024) (k0_off19 k) S32x128.size (k0_off19_inb k)).toLoadRect X_arg2)⟩,
     ⟨Rect.unit (s := S1280x1024) (k0_off17 k) S32x128.size (k0_off17_inb k), k0_pay97
        (View.readAt (Elt F) arg3.view (Rect.unit (s := S1280x8) (k0_off16 k) S32x1.size (k0_off16_inb k)).toLoadRect X_arg3)
        (View.readAt (Elt F) arg2.view (Rect.unit (s := S1280x1024) (k0_off17 k) S32x128.size (k0_off17_inb k)).toLoadRect X_arg2)⟩,
     ⟨Rect.unit (s := S1280x1024) (k0_off15 k) S32x128.size (k0_off15_inb k), k0_pay97
        (View.readAt (Elt F) arg3.view (Rect.unit (s := S1280x8) (k0_off14 k) S32x1.size (k0_off14_inb k)).toLoadRect X_arg3)
        (View.readAt (Elt F) arg2.view (Rect.unit (s := S1280x1024) (k0_off15 k) S32x128.size (k0_off15_inb k)).toLoadRect X_arg2)⟩,
     ⟨Rect.unit (s := S1280x1024) (k0_off13 k) S32x128.size (k0_off13_inb k), k0_pay97
        (View.readAt (Elt F) arg3.view (Rect.unit (s := S1280x8) (k0_off12 k) S32x1.size (k0_off12_inb k)).toLoadRect X_arg3)
        (View.readAt (Elt F) arg2.view (Rect.unit (s := S1280x1024) (k0_off13 k) S32x128.size (k0_off13_inb k)).toLoadRect X_arg2)⟩] := by
  unfold tripL_k0_t3 trip_k0_t3; rfl

theorem step3_in (X_arg2 : BufTy.Contents (Elt F) arg2.view.ty) (X_arg3 : BufTy.Contents (Elt F) arg3.view.ty) (k : Fin k0_t3_loop.trips) (g : BufTy.Contents (Elt F) arg14.view.ty) (L : List (View.Piece (Elt F) S1280x1024 .bf16)) (y : S1280x1024.Idx) (h0 : 32 * k.val ≤ (y 0).val) (h1 : (y 0).val < 32 * k.val + 32) :
    arg14.view.read (Elt F) (arg14.view.writes (Elt F) g (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 k ++ L)) y
      = wideV (arg2.view.read (Elt F) X_arg2) (arg3.view.read (Elt F) X_arg3) y := by
  have hk : k.val < 40 := Nat.lt_of_lt_of_le k.isLt k0_t3_abs.2.1
  have hy1 : (y 1).val < 1024 := (y 1).isLt
  rw [trip3, View.writes_append]
  refine View.read_writes_apply_of_pieces arg14.view _ _ _ (View.PiecesOf.mem ?_) y ?_
  · exact ⟨blk3 arg2.view X_arg2 arg3.view X_arg3 (k0_off27_inb k) (k0_off26_inb k) (k0_off27_eq k) (k0_off26_eq k), blk3 arg2.view X_arg2 arg3.view X_arg3 (k0_off25_inb k) (k0_off24_inb k) (k0_off25_eq k) (k0_off24_eq k), blk3 arg2.view X_arg2 arg3.view X_arg3 (k0_off23_inb k) (k0_off22_inb k) (k0_off23_eq k) (k0_off22_eq k), blk3 arg2.view X_arg2 arg3.view X_arg3 (k0_off21_inb k) (k0_off20_inb k) (k0_off21_eq k) (k0_off20_eq k), blk3 arg2.view X_arg2 arg3.view X_arg3 (k0_off19_inb k) (k0_off18_inb k) (k0_off19_eq k) (k0_off18_eq k), blk3 arg2.view X_arg2 arg3.view X_arg3 (k0_off17_inb k) (k0_off16_inb k) (k0_off17_eq k) (k0_off16_eq k), blk3 arg2.view X_arg2 arg3.view X_arg3 (k0_off15_inb k) (k0_off14_inb k) (k0_off15_eq k) (k0_off14_eq k), blk3 arg2.view X_arg2 arg3.view X_arg3 (k0_off13_inb k) (k0_off12_inb k) (k0_off13_eq k) (k0_off12_eq k), trivial⟩
  · rcases (by omega : (0 ≤ (y 1).val ∧ (y 1).val < 128) ∨ (128 ≤ (y 1).val ∧ (y 1).val < 256) ∨ (256 ≤ (y 1).val ∧ (y 1).val < 384) ∨ (384 ≤ (y 1).val ∧ (y 1).val < 512) ∨ (512 ≤ (y 1).val ∧ (y 1).val < 640) ∨ (640 ≤ (y 1).val ∧ (y 1).val < 768) ∨ (768 ≤ (y 1).val ∧ (y 1).val < 896) ∨ (896 ≤ (y 1).val ∧ (y 1).val < 1024)) with h | h | h | h | h | h | h | h
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_unit (k0_off13_inb k) (k0_off13_eq k) y h0 h1 h.1 h.2⟩
    · exact ⟨_, List.mem_cons_of_mem _ (List.mem_cons_of_mem _ (List.mem_cons_of_mem _ (List.mem_cons_of_mem _ (List.mem_cons_of_mem _ (List.mem_cons_of_mem _ (List.mem_cons_self)))))), mem_unit (k0_off15_inb k) (k0_off15_eq k) y h0 h1 h.1 h.2⟩
    · exact ⟨_, List.mem_cons_of_mem _ (List.mem_cons_of_mem _ (List.mem_cons_of_mem _ (List.mem_cons_of_mem _ (List.mem_cons_of_mem _ (List.mem_cons_self))))), mem_unit (k0_off17_inb k) (k0_off17_eq k) y h0 h1 h.1 h.2⟩
    · exact ⟨_, List.mem_cons_of_mem _ (List.mem_cons_of_mem _ (List.mem_cons_of_mem _ (List.mem_cons_of_mem _ (List.mem_cons_self)))), mem_unit (k0_off19_inb k) (k0_off19_eq k) y h0 h1 h.1 h.2⟩
    · exact ⟨_, List.mem_cons_of_mem _ (List.mem_cons_of_mem _ (List.mem_cons_of_mem _ (List.mem_cons_self))), mem_unit (k0_off21_inb k) (k0_off21_eq k) y h0 h1 h.1 h.2⟩
    · exact ⟨_, List.mem_cons_of_mem _ (List.mem_cons_of_mem _ (List.mem_cons_self)), mem_unit (k0_off23_inb k) (k0_off23_eq k) y h0 h1 h.1 h.2⟩
    · exact ⟨_, List.mem_cons_of_mem _ (List.mem_cons_self), mem_unit (k0_off25_inb k) (k0_off25_eq k) y h0 h1 h.1 h.2⟩
    · exact ⟨_, List.mem_cons_self, mem_unit (k0_off27_inb k) (k0_off27_eq k) y h0 h1 h.1 h.2⟩

theorem step3_out (X_arg2 : BufTy.Contents (Elt F) arg2.view.ty) (X_arg3 : BufTy.Contents (Elt F) arg3.view.ty) (k : Fin k0_t3_loop.trips) (g : BufTy.Contents (Elt F) arg14.view.ty) (L : List (View.Piece (Elt F) S1280x1024 .bf16)) (y : S1280x1024.Idx) (h : (y 0).val < 32 * k.val ∨ 32 * k.val + 32 ≤ (y 0).val) :
    arg14.view.read (Elt F) (arg14.view.writes (Elt F) g (tripL_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 k ++ L)) y
      = arg14.view.read (Elt F) (arg14.view.writes (Elt F) g L) y := by
  rw [trip3, View.writes_append]
  refine View.read_writes_apply_of_forall_not_mem arg14.view _ y _ (List.forall_mem_cons.mpr ?_)
  exact ⟨nmem_unit (k0_off27_inb k) (k0_off27_eq k) y h, List.forall_mem_cons.mpr ⟨nmem_unit (k0_off25_inb k) (k0_off25_eq k) y h, List.forall_mem_cons.mpr ⟨nmem_unit (k0_off23_inb k) (k0_off23_eq k) y h, List.forall_mem_cons.mpr ⟨nmem_unit (k0_off21_inb k) (k0_off21_eq k) y h, List.forall_mem_cons.mpr ⟨nmem_unit (k0_off19_inb k) (k0_off19_eq k) y h, List.forall_mem_cons.mpr ⟨nmem_unit (k0_off17_inb k) (k0_off17_eq k) y h, List.forall_mem_cons.mpr ⟨nmem_unit (k0_off15_inb k) (k0_off15_eq k) y h, List.forall_mem_cons.mpr ⟨nmem_unit (k0_off13_inb k) (k0_off13_eq k) y h, (fun _ hm => absurd hm List.not_mem_nil)⟩⟩⟩⟩⟩⟩⟩⟩

/-- THE LOOP leaves the widened tile. -/
theorem loop3 (X_arg2 : BufTy.Contents (Elt F) arg2.view.ty) (X_arg3 : BufTy.Contents (Elt F) arg3.view.ty)  (g : BufTy.Contents (Elt F) arg14.view.ty) (y : S1280x1024.Idx) :
    arg14.view.read (Elt F) (arg14.view.writes (Elt F) g (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 40)) y
      = wideV (arg2.view.read (Elt F) X_arg2) (arg3.view.read (Elt F) X_arg3) y := by
  have ht : k0_t3_loop.trips = 40 := by decide +kernel
  have hy : (y 0).val < 1280 := (y 0).isLt
  have H : ∀ n ≤ 40, (y 0).val < 32 * n → arg14.view.read (Elt F) (arg14.view.writes (Elt F) g (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 n)) y
      = wideV (arg2.view.read (Elt F) X_arg2) (arg3.view.read (Elt F) X_arg3) y := by
    intro n
    induction n with
    | zero => intro _ h; omega
    | succ k ih =>
      intro hk hlt
      have hs := pb_k0_t3_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 ⟨k, lt_of_lt_of_eq (by omega) ht.symm⟩
      refine (congrArg (fun p => arg14.view.read (Elt F) (arg14.view.writes (Elt F) g p) y) hs).trans ?_
      by_cases h : (y 0).val < 32 * k
      · exact (step3_out (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 ⟨k, lt_of_lt_of_eq (by omega) ht.symm⟩ g _ y (Or.inl h)).trans (ih (by omega) h)
      · exact step3_in (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 ⟨k, lt_of_lt_of_eq (by omega) ht.symm⟩ g _ y (by show 32 * k ≤ _; omega) (by show _ < 32 * k + 32; omega)
  exact H 40 le_rfl (by omega)
end Body

end Cert.KernelIdeal.V
end
end
-- ==== Proof.V.Quant.lean ====
module
public import proofs.«01_k».proof.Proof.Gen.KernelIdeal.Loops
public import Idealize.ShloMosaic.Lib.Pipeline.FrameBody
public import Idealize.ShloMosaic.Lib.WritesUnit
public import Idealize.ShloMosaic.Lib.Tactic
public import Idealize.ShloMosaic.Lib.Pipeline.ReadBack
public import proofs.«01_k».proof.Proof.V.Wide
@[expose] public section
set_option maxRecDepth 16384
noncomputable section
namespace Cert.KernelIdeal.V
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
variable {F : FTy → Type} [FloatOps F]
local notation "𝕄" => MT nD τ sig Unit (Elt F) ℕ (UR sig nD τ) ℕ

/-- The codes of a 32-row, 128-column block. -/
def codeB (v : Vec F S32x128 .bf16) : FVec F S32x128 .fp8e4m3 := k0_pay21 (k0_pay14 v) (k0_pay20 (k0_pay15 v) (k0_pay16 v) k0_pay17)

/-- The scale of each of its rows, along every lane. -/
def scaleB (v : Vec F S32x128 .bf16) : FVec F S32x128 .f32 := k0_pay19 (k0_pay15 v) (k0_pay16 v) k0_pay17

/-- The block dequantised. -/
def xbfB (v : Vec F S32x128 .bf16) : FVec F S32x128 .bf16 := k0_pay22 (k0_pay14 v) (scaleB v) (k0_pay20 (k0_pay15 v) (k0_pay16 v) k0_pay17)

/-- Eight blocks' scales, one in each of the first eight lanes. -/
def packB (v31 : IVec S32x128 32) (s : Fin 8 → FVec F S32x128 .f32) : FVec F S32x8 .f32 :=
  extractStridedSlice S32x8 ![0, 0] (select (cmpi .eq (iota .tc S32x128 32 [1] iota_S32x128_d1_w32) (broadcast S32x128 7#32)) (s 7) (select (cmpi .eq v31 (broadcast S32x128 6#32)) (s 6) (select (cmpi .eq v31 (broadcast S32x128 5#32)) (s 5) (select (cmpi .eq v31 (broadcast S32x128 4#32)) (s 4) (select (cmpi .eq v31 (broadcast S32x128 3#32)) (s 3) (select (cmpi .eq v31 (broadcast S32x128 2#32)) (s 2) (select (cmpi .eq v31 (broadcast S32x128 1#32)) (s 1) (select (cmpi .eq v31 (broadcast S32x128 0#32)) (s 0) k0_pay13)))))))) slices_S32x128_o0_0_S32x8

/-- Block `b` of rows `32 r …` of the tokens. -/
def chunk (x0 : Vec F S1536x1024 .bf16) (r : Fin 48) (b : Fin 8) : Vec F S32x128 .bf16 :=
  fun x => x0 (ix2 ⟨32 * r.val + (x 0).val, by have : (x 0).val < 32 := (x 0).isLt; omega⟩ ⟨128 * b.val + (x 1).val, by have : (x 1).val < 128 := (x 1).isLt; omega⟩)

/-- All the codes. -/
def codesV (x0 : Vec F S1536x1024 .bf16) : Vec F S1536x1024 .fp8e4m3 := fun y =>
  codeB (chunk x0 ⟨(y 0).val / 32, by have : (y 0).val < 1536 := (y 0).isLt; omega⟩ ⟨(y 1).val / 128, by have : (y 1).val < 1024 := (y 1).isLt; omega⟩)
    (ix2 ⟨(y 0).val % 32, by omega⟩ ⟨(y 1).val % 128, by omega⟩)

/-- The tokens dequantised. -/
def xbfV (x0 : Vec F S1536x1024 .bf16) : Vec F S1536x1024 .bf16 := fun y =>
  xbfB (chunk x0 ⟨(y 0).val / 32, by have : (y 0).val < 1536 := (y 0).isLt; omega⟩ ⟨(y 1).val / 128, by have : (y 1).val < 1024 := (y 1).isLt; omega⟩)
    (ix2 ⟨(y 0).val % 32, by omega⟩ ⟨(y 1).val % 128, by omega⟩)

/-- All the scales. -/
def scalesV (x0 : Vec F S1536x1024 .bf16) : Vec F S1536x8 .f32 := fun y =>
  scaleB (chunk x0 ⟨(y 0).val / 32, by have : (y 0).val < 1536 := (y 0).isLt; omega⟩ (y 1 : Fin 8))
    (ix2 ⟨(y 0).val % 32, by omega⟩ ⟨(y 1).val, by have : (y 1).val < 8 := (y 1).isLt; omega⟩)

/-- The lane numbers. -/
def lanesV : IVec S32x128 32 := iota .tc S32x128 32 [1] iota_S32x128_d1_w32

theorem packB_apply (s : Fin 8 → FVec F S32x128 .f32) (x : S32x8.Idx) :
    packB lanesV s x = s (x 1 : Fin 8) (ix2 (x 0 : Fin 32) ⟨(x 1).val, by have : (x 1).val < 8 := (x 1).isLt; omega⟩) := by
  have h8 : (x 1).val < 8 := (x 1).isLt
  have key : ∀ (l : Fin 8) (r : Fin 32), (select (cmpi .eq (iota .tc S32x128 32 [1] iota_S32x128_d1_w32) (broadcast S32x128 7#32)) (s 7) (select (cmpi .eq lanesV (broadcast S32x128 6#32)) (s 6) (select (cmpi .eq lanesV (broadcast S32x128 5#32)) (s 5) (select (cmpi .eq lanesV (broadcast S32x128 4#32)) (s 4) (select (cmpi .eq lanesV (broadcast S32x128 3#32)) (s 3) (select (cmpi .eq lanesV (broadcast S32x128 2#32)) (s 2) (select (cmpi .eq lanesV (broadcast S32x128 1#32)) (s 1) (select (cmpi .eq lanesV (broadcast S32x128 0#32)) (s 0) k0_pay13)))))))) (ix2 r (⟨l.val, by omega⟩ : Fin 128)) = s l (ix2 r (⟨l.val, by omega⟩ : Fin 128)) := by
    intro l r
    fin_cases l <;> rfl
  refine Eq.trans ?_ (key (x 1 : Fin 8) (x 0 : Fin 32))
  unfold packB lanesV extractStridedSlice
  refine congrArg _ ?_
  funext a
  match a with
  | ⟨0, _⟩ => exact Fin.ext (Nat.zero_add _)
  | ⟨1, _⟩ => exact Fin.ext (Nat.zero_add _)

section Blocks
variable {sig' : RefSig} {κ' : Kind} {sp' : Space}

theorem chunk_read (v : View sig' κ' sp' S1536x1024 .bf16) (X : v.ty.Contents (Elt F)) {off : Fin 2 → ℕ} (inb : ∀ a : Fin 2, off a + S32x128.size a ≤ S1536x1024.size a)
    (r : Fin 48) (b : Fin 8) (hoff : off = ![32 * r.val, 128 * b.val]) :
    v.readAt (Elt F) (Rect.unit (s := S1536x1024) off S32x128.size inb).toLoadRect X = chunk (v.read (Elt F) X) r b := by
  funext x
  refine readAt_rows v X inb hoff _ _ ?_ ?_ <;> rfl

/-- A block's function, spread over the whole array. -/
theorem spread {α : Type} {β : EltTy} (f : Vec F S32x128 .bf16 → S32x128.Idx → α) (x0 : Vec F S1536x1024 .bf16) {off : Fin 2 → ℕ} (inb : ∀ a : Fin 2, off a + S32x128.size a ≤ S1536x1024.size a)
    (r : Fin 48) (b : Fin 8) (hoff : off = ![32 * r.val, 128 * b.val]) (x : S32x128.Idx) (y : S1536x1024.Idx) (hy : y = (Rect.unit (s := S1536x1024) off S32x128.size inb).emb x) :
    f (chunk x0 r b) x = f (chunk x0 ⟨(y 0).val / 32, by have : (y 0).val < 1536 := (y 0).isLt; omega⟩ ⟨(y 1).val / 128, by have : (y 1).val < 1024 := (y 1).isLt; omega⟩)
      (ix2 ⟨(y 0).val % 32, by omega⟩ ⟨(y 1).val % 128, by omega⟩) := by
  subst hy hoff
  have h0 : (x 0).val < 32 := (x 0).isLt
  have h1 : (x 1).val < 128 := (x 1).isLt
  have e0 : (((Rect.unit (s := S1536x1024) ![32 * r.val, 128 * b.val] S32x128.size inb).emb x) 0).val = 32 * r.val + (x 0).val := by show 32 * r.val + 1 * (x 0).val = _; omega
  have e1 : (((Rect.unit (s := S1536x1024) ![32 * r.val, 128 * b.val] S32x128.size inb).emb x) 1).val = 128 * b.val + (x 1).val := by show 128 * b.val + 1 * (x 1).val = _; omega
  have hr : r = ⟨(((Rect.unit (s := S1536x1024) ![32 * r.val, 128 * b.val] S32x128.size inb).emb x) 0).val / 32, by rw [e0]; omega⟩ := Fin.ext (by show r.val = _ / 32; rw [e0]; omega)
  have hb : b = ⟨(((Rect.unit (s := S1536x1024) ![32 * r.val, 128 * b.val] S32x128.size inb).emb x) 1).val / 128, by rw [e1]; omega⟩ := Fin.ext (by show b.val = _ / 128; rw [e1]; omega)
  refine congr (congrArg f (congrArg₂ (chunk x0) hr hb)) ?_
  funext a
  match a with
  | ⟨0, _⟩ => exact Fin.ext (by show (x 0).val = _ % 32; rw [e0]; omega)
  | ⟨1, _⟩ => exact Fin.ext (by show (x 1).val = _ % 128; rw [e1]; omega)

end Blocks

section Body
variable (𝒱 : Variants) (c : Dev nD) (bd : Option 𝒱.V) (i : grid0.Coords) (arg1 : Memref sig .tc .vmem S1536x1024 .bf16) (harg1 : arg1.IsWhole) (arg2 : Memref sig .tc .vmem S1280x1024 .fp8e4m3) (harg2 : arg2.IsWhole) (arg3 : Memref sig .tc .vmem S1280x8 .f32) (harg3 : arg3.IsWhole) (arg4 : Memref sig .tc .vmem S1x1536x128 .i32) (harg4 : arg4.IsWhole) (arg5 : Memref sig .tc .vmem S1536x50 .i32) (harg5 : arg5.IsWhole) (arg6 : Memref sig .tc .vmem S1536x50 .bf16) (harg6 : arg6.IsWhole) (arg7 : Memref sig .tc .vmem S4x384 .f32) (harg7 : arg7.IsWhole) (arg8 : Memref sig .tc .vmem S4x384 .f32) (harg8 : arg8.IsWhole) (arg9 : Memref sig .tc .vmem S4x384 .f32) (harg9 : arg9.IsWhole) (arg10 : Memref sig .tc .vmem S1536x50 .f32) (harg10 : arg10.IsWhole) (arg11 : Memref sig .tc .vmem S1536x1024 .fp8e4m3) (harg11 : arg11.IsWhole) (arg12 : Memref sig .tc .vmem S1536x8 .f32) (harg12 : arg12.IsWhole) (arg13 : Memref sig .tc .vmem S1536x1024 .bf16) (harg13 : arg13.IsWhole) (arg14 : Memref sig .tc .vmem S1280x1024 .bf16) (harg14 : arg14.IsWhole) (arg15 : Memref sig .tc .vmem S512x1280 .f32) (harg15 : arg15.IsWhole) (arg16 : Memref sig .tc .vmem S512x1280 .f32) (harg16 : arg16.IsWhole) (arg17 : Memref sig .tc .vmem S1536x128 .f32) (harg17 : arg17.IsWhole) (arg18 : Memref sig .tc .vmem S1536x128 .f32) (harg18 : arg18.IsWhole) (arg19 : Memref sig .tc .vmem S1536x128 .f32) (harg19 : arg19.IsWhole) (arg20 : Memref sig .tc .vmem S1536x128 .i32) (harg20 : arg20.IsWhole) (arg21 : Memref sig .tc .vmem S1536x128 .i32) (harg21 : arg21.IsWhole)
include 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21

theorem trip1 (k0_h1 : k0_cond1 i = 1#1) (v31 : IVec S32x128 32) (X_arg1 : BufTy.Contents (Elt F) arg1.view.ty) (k : Fin k0_t1_loop.trips) : tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v31 X_arg1 k = ([⟨Rect.unit (s := S1536x1024) (k0_off8 k) S32x128.size (k0_off8_inb i k k0_h1), codeB (View.readAt (Elt F) arg1.view (Rect.unit (s := S1536x1024) (k0_off8 k) S32x128.size (k0_off8_inb i k k0_h1)).toLoadRect X_arg1)⟩,
     ⟨Rect.unit (s := S1536x1024) (k0_off7 k) S32x128.size (k0_off7_inb i k k0_h1), codeB (View.readAt (Elt F) arg1.view (Rect.unit (s := S1536x1024) (k0_off7 k) S32x128.size (k0_off7_inb i k k0_h1)).toLoadRect X_arg1)⟩,
     ⟨Rect.unit (s := S1536x1024) (k0_off6 k) S32x128.size (k0_off6_inb i k k0_h1), codeB (View.readAt (Elt F) arg1.view (Rect.unit (s := S1536x1024) (k0_off6 k) S32x128.size (k0_off6_inb i k k0_h1)).toLoadRect X_arg1)⟩,
     ⟨Rect.unit (s := S1536x1024) (k0_off5 k) S32x128.size (k0_off5_inb i k k0_h1), codeB (View.readAt (Elt F) arg1.view (Rect.unit (s := S1536x1024) (k0_off5 k) S32x128.size (k0_off5_inb i k k0_h1)).toLoadRect X_arg1)⟩,
     ⟨Rect.unit (s := S1536x1024) (k0_off4 k) S32x128.size (k0_off4_inb i k k0_h1), codeB (View.readAt (Elt F) arg1.view (Rect.unit (s := S1536x1024) (k0_off4 k) S32x128.size (k0_off4_inb i k k0_h1)).toLoadRect X_arg1)⟩,
     ⟨Rect.unit (s := S1536x1024) (k0_off3 k) S32x128.size (k0_off3_inb i k k0_h1), codeB (View.readAt (Elt F) arg1.view (Rect.unit (s := S1536x1024) (k0_off3 k) S32x128.size (k0_off3_inb i k k0_h1)).toLoadRect X_arg1)⟩,
     ⟨Rect.unit (s := S1536x1024) (k0_off2 k) S32x128.size (k0_off2_inb i k k0_h1), codeB (View.readAt (Elt F) arg1.view (Rect.unit (s := S1536x1024) (k0_off2 k) S32x128.size (k0_off2_inb i k k0_h1)).toLoadRect X_arg1)⟩,
     ⟨Rect.unit (s := S1536x1024) (k0_off1 k) S32x128.size (k0_off1_inb i k k0_h1), codeB (View.readAt (Elt F) arg1.view (Rect.unit (s := S1536x1024) (k0_off1 k) S32x128.size (k0_off1_inb i k k0_h1)).toLoadRect X_arg1)⟩],
    [⟨Rect.unit (s := S1536x8) (k0_off9 k) S32x8.size (k0_off9_inb i k k0_h1), packB v31 (fun b => match b with | 0 => scaleB (View.readAt (Elt F) arg1.view (Rect.unit (s := S1536x1024) (k0_off1 k) S32x128.size (k0_off1_inb i k k0_h1)).toLoadRect X_arg1) | 1 => scaleB (View.readAt (Elt F) arg1.view (Rect.unit (s := S1536x1024) (k0_off2 k) S32x128.size (k0_off2_inb i k k0_h1)).toLoadRect X_arg1) | 2 => scaleB (View.readAt (Elt F) arg1.view (Rect.unit (s := S1536x1024) (k0_off3 k) S32x128.size (k0_off3_inb i k k0_h1)).toLoadRect X_arg1) | 3 => scaleB (View.readAt (Elt F) arg1.view (Rect.unit (s := S1536x1024) (k0_off4 k) S32x128.size (k0_off4_inb i k k0_h1)).toLoadRect X_arg1) | 4 => scaleB (View.readAt (Elt F) arg1.view (Rect.unit (s := S1536x1024) (k0_off5 k) S32x128.size (k0_off5_inb i k k0_h1)).toLoadRect X_arg1) | 5 => scaleB (View.readAt (Elt F) arg1.view (Rect.unit (s := S1536x1024) (k0_off6 k) S32x128.size (k0_off6_inb i k k0_h1)).toLoadRect X_arg1) | 6 => scaleB (View.readAt (Elt F) arg1.view (Rect.unit (s := S1536x1024) (k0_off7 k) S32x128.size (k0_off7_inb i k k0_h1)).toLoadRect X_arg1) | 7 => scaleB (View.readAt (Elt F) arg1.view (Rect.unit (s := S1536x1024) (k0_off8 k) S32x128.size (k0_off8_inb i k k0_h1)).toLoadRect X_arg1))⟩],
    [⟨Rect.unit (s := S1536x1024) (k0_off8 k) S32x128.size (k0_off8_inb i k k0_h1), xbfB (View.readAt (Elt F) arg1.view (Rect.unit (s := S1536x1024) (k0_off8 k) S32x128.size (k0_off8_inb i k k0_h1)).toLoadRect X_arg1)⟩,
     ⟨Rect.unit (s := S1536x1024) (k0_off7 k) S32x128.size (k0_off7_inb i k k0_h1), xbfB (View.readAt (Elt F) arg1.view (Rect.unit (s := S1536x1024) (k0_off7 k) S32x128.size (k0_off7_inb i k k0_h1)).toLoadRect X_arg1)⟩,
     ⟨Rect.unit (s := S1536x1024) (k0_off6 k) S32x128.size (k0_off6_inb i k k0_h1), xbfB (View.readAt (Elt F) arg1.view (Rect.unit (s := S1536x1024) (k0_off6 k) S32x128.size (k0_off6_inb i k k0_h1)).toLoadRect X_arg1)⟩,
     ⟨Rect.unit (s := S1536x1024) (k0_off5 k) S32x128.size (k0_off5_inb i k k0_h1), xbfB (View.readAt (Elt F) arg1.view (Rect.unit (s := S1536x1024) (k0_off5 k) S32x128.size (k0_off5_inb i k k0_h1)).toLoadRect X_arg1)⟩,
     ⟨Rect.unit (s := S1536x1024) (k0_off4 k) S32x128.size (k0_off4_inb i k k0_h1), xbfB (View.readAt (Elt F) arg1.view (Rect.unit (s := S1536x1024) (k0_off4 k) S32x128.size (k0_off4_inb i k k0_h1)).toLoadRect X_arg1)⟩,
     ⟨Rect.unit (s := S1536x1024) (k0_off3 k) S32x128.size (k0_off3_inb i k k0_h1), xbfB (View.readAt (Elt F) arg1.view (Rect.unit (s := S1536x1024) (k0_off3 k) S32x128.size (k0_off3_inb i k k0_h1)).toLoadRect X_arg1)⟩,
     ⟨Rect.unit (s := S1536x1024) (k0_off2 k) S32x128.size (k0_off2_inb i k k0_h1), xbfB (View.readAt (Elt F) arg1.view (Rect.unit (s := S1536x1024) (k0_off2 k) S32x128.size (k0_off2_inb i k k0_h1)).toLoadRect X_arg1)⟩,
     ⟨Rect.unit (s := S1536x1024) (k0_off1 k) S32x128.size (k0_off1_inb i k k0_h1), xbfB (View.readAt (Elt F) arg1.view (Rect.unit (s := S1536x1024) (k0_off1 k) S32x128.size (k0_off1_inb i k k0_h1)).toLoadRect X_arg1)⟩]) := by
  unfold tripL_k0_t1 trip_k0_t1; rfl
end Body

section Blocks
variable {sig' : RefSig} {κ' : Kind} {sp' : Space}
theorem pack_chunk (v : View sig' κ' sp' S1536x1024 .bf16) (X : v.ty.Contents (Elt F)) {o0 o1 o2 o3 o4 o5 o6 o7 o8 : Fin 2 → ℕ}
    (i0 : ∀ a : Fin 2, o0 a + S32x128.size a ≤ S1536x1024.size a) (i1 : ∀ a : Fin 2, o1 a + S32x128.size a ≤ S1536x1024.size a) (i2 : ∀ a : Fin 2, o2 a + S32x128.size a ≤ S1536x1024.size a) (i3 : ∀ a : Fin 2, o3 a + S32x128.size a ≤ S1536x1024.size a) (i4 : ∀ a : Fin 2, o4 a + S32x128.size a ≤ S1536x1024.size a) (i5 : ∀ a : Fin 2, o5 a + S32x128.size a ≤ S1536x1024.size a) (i6 : ∀ a : Fin 2, o6 a + S32x128.size a ≤ S1536x1024.size a) (i7 : ∀ a : Fin 2, o7 a + S32x128.size a ≤ S1536x1024.size a) (i8 : ∀ a : Fin 2, o8 a + S32x8.size a ≤ S1536x8.size a)
    (r : Fin 48) (h0 : o0 = ![32 * r.val, 0]) (h1 : o1 = ![32 * r.val, 128]) (h2 : o2 = ![32 * r.val, 256]) (h3 : o3 = ![32 * r.val, 384]) (h4 : o4 = ![32 * r.val, 512]) (h5 : o5 = ![32 * r.val, 640]) (h6 : o6 = ![32 * r.val, 768]) (h7 : o7 = ![32 * r.val, 896]) (h8 : o8 = ![32 * r.val, 0]) {v31 : IVec S32x128 32} (hv : v31 = lanesV) (x : S32x8.Idx) :
    packB v31 (fun b => match b with | 0 => scaleB (View.readAt (Elt F) v (Rect.unit (s := S1536x1024) o0 S32x128.size i0).toLoadRect X) | 1 => scaleB (View.readAt (Elt F) v (Rect.unit (s := S1536x1024) o1 S32x128.size i1).toLoadRect X) | 2 => scaleB (View.readAt (Elt F) v (Rect.unit (s := S1536x1024) o2 S32x128.size i2).toLoadRect X) | 3 => scaleB (View.readAt (Elt F) v (Rect.unit (s := S1536x1024) o3 S32x128.size i3).toLoadRect X) | 4 => scaleB (View.readAt (Elt F) v (Rect.unit (s := S1536x1024) o4 S32x128.size i4).toLoadRect X) | 5 => scaleB (View.readAt (Elt F) v (Rect.unit (s := S1536x1024) o5 S32x128.size i5).toLoadRect X) | 6 => scaleB (View.readAt (Elt F) v (Rect.unit (s := S1536x1024) o6 S32x128.size i6).toLoadRect X) | 7 => scaleB (View.readAt (Elt F) v (Rect.unit (s := S1536x1024) o7 S32x128.size i7).toLoadRect X)) x
      = scalesV (v.read (Elt F) X) ((Rect.unit (s := S1536x8) o8 S32x8.size i8).emb x) := by
  have hx0 : (x 0).val < 32 := (x 0).isLt
  have hx1 : (x 1).val < 8 := (x 1).isLt
  rw [hv, packB_apply]
  rw [chunk_read v X i0 r 0 h0]; rw [chunk_read v X i1 r 1 h1]; rw [chunk_read v X i2 r 2 h2]; rw [chunk_read v X i3 r 3 h3]; rw [chunk_read v X i4 r 4 h4]; rw [chunk_read v X i5 r 5 h5]; rw [chunk_read v X i6 r 6 h6]; rw [chunk_read v X i7 r 7 h7]
  subst h8
  have e0 : (((Rect.unit (s := S1536x8) ![32 * r.val, 0] S32x8.size i8).emb x) 0).val = 32 * r.val + (x 0).val := by show 32 * r.val + 1 * (x 0).val = _; omega
  have e1 : (((Rect.unit (s := S1536x8) ![32 * r.val, 0] S32x8.size i8).emb x) 1).val = (x 1).val := by show 0 + 1 * (x 1).val = _; omega
  have hg : ∀ b : Fin 8, (match b with | 0 => scaleB (chunk (v.read (Elt F) X) r 0) | 1 => scaleB (chunk (v.read (Elt F) X) r 1) | 2 => scaleB (chunk (v.read (Elt F) X) r 2) | 3 => scaleB (chunk (v.read (Elt F) X) r 3) | 4 => scaleB (chunk (v.read (Elt F) X) r 4) | 5 => scaleB (chunk (v.read (Elt F) X) r 5) | 6 => scaleB (chunk (v.read (Elt F) X) r 6) | 7 => scaleB (chunk (v.read (Elt F) X) r 7) : FVec F S32x128 .f32) = scaleB (chunk (v.read (Elt F) X) r b) := by
    intro b; fin_cases b <;> rfl
  refine (congrFun (hg _) _).trans ?_
  unfold scalesV
  refine congr (congrArg scaleB (congrArg₂ (chunk _) ?_ ?_)) ?_
  · exact Fin.ext (by show r.val = _ / 32; rw [e0]; omega)
  · exact Fin.ext e1.symm
  · funext a
    match a with
    | ⟨0, _⟩ => exact Fin.ext (by show (x 0).val = _ % 32; rw [e0]; omega)
    | ⟨1, _⟩ => exact Fin.ext e1.symm
end Blocks

section Body
variable (𝒱 : Variants) (c : Dev nD) (bd : Option 𝒱.V) (i : grid0.Coords) (arg1 : Memref sig .tc .vmem S1536x1024 .bf16) (harg1 : arg1.IsWhole) (arg2 : Memref sig .tc .vmem S1280x1024 .fp8e4m3) (harg2 : arg2.IsWhole) (arg3 : Memref sig .tc .vmem S1280x8 .f32) (harg3 : arg3.IsWhole) (arg4 : Memref sig .tc .vmem S1x1536x128 .i32) (harg4 : arg4.IsWhole) (arg5 : Memref sig .tc .vmem S1536x50 .i32) (harg5 : arg5.IsWhole) (arg6 : Memref sig .tc .vmem S1536x50 .bf16) (harg6 : arg6.IsWhole) (arg7 : Memref sig .tc .vmem S4x384 .f32) (harg7 : arg7.IsWhole) (arg8 : Memref sig .tc .vmem S4x384 .f32) (harg8 : arg8.IsWhole) (arg9 : Memref sig .tc .vmem S4x384 .f32) (harg9 : arg9.IsWhole) (arg10 : Memref sig .tc .vmem S1536x50 .f32) (harg10 : arg10.IsWhole) (arg11 : Memref sig .tc .vmem S1536x1024 .fp8e4m3) (harg11 : arg11.IsWhole) (arg12 : Memref sig .tc .vmem S1536x8 .f32) (harg12 : arg12.IsWhole) (arg13 : Memref sig .tc .vmem S1536x1024 .bf16) (harg13 : arg13.IsWhole) (arg14 : Memref sig .tc .vmem S1280x1024 .bf16) (harg14 : arg14.IsWhole) (arg15 : Memref sig .tc .vmem S512x1280 .f32) (harg15 : arg15.IsWhole) (arg16 : Memref sig .tc .vmem S512x1280 .f32) (harg16 : arg16.IsWhole) (arg17 : Memref sig .tc .vmem S1536x128 .f32) (harg17 : arg17.IsWhole) (arg18 : Memref sig .tc .vmem S1536x128 .f32) (harg18 : arg18.IsWhole) (arg19 : Memref sig .tc .vmem S1536x128 .f32) (harg19 : arg19.IsWhole) (arg20 : Memref sig .tc .vmem S1536x128 .i32) (harg20 : arg20.IsWhole) (arg21 : Memref sig .tc .vmem S1536x128 .i32) (harg21 : arg21.IsWhole)
include 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21

theorem step1codeB_in (k0_h1 : k0_cond1 i = 1#1) (v31 : IVec S32x128 32) (X_arg1 : BufTy.Contents (Elt F) arg1.view.ty) (k : Fin k0_t1_loop.trips) (g : BufTy.Contents (Elt F) arg11.view.ty) (L : List (View.Piece (Elt F) S1536x1024 .fp8e4m3)) (y : S1536x1024.Idx) (h0 : 32 * k.val ≤ (y 0).val) (h1 : (y 0).val < 32 * k.val + 32) :
    arg11.view.read (Elt F) (arg11.view.writes (Elt F) g ((tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v31 X_arg1 k).1 ++ L)) y = codesV (arg1.view.read (Elt F) X_arg1) y := by
  have hk : k.val < 48 := Nat.lt_of_lt_of_le k.isLt k0_t1_abs.2.1
  rw [trip1, View.writes_append]
  refine View.read_writes_apply_of_pieces arg11.view _ _ _ (View.PiecesOf.mem ?_) y ?_
  · exact ⟨fun x => (congrFun (congrArg codeB (chunk_read arg1.view X_arg1 (k0_off8_inb i k k0_h1) ⟨k.val, hk⟩ ⟨7, by decide⟩ (k0_off8_eq k))) x).trans (spread (β := .f32) codeB _ (k0_off8_inb i k k0_h1) ⟨k.val, hk⟩ ⟨7, by decide⟩ (k0_off8_eq k) x _ rfl), fun x => (congrFun (congrArg codeB (chunk_read arg1.view X_arg1 (k0_off7_inb i k k0_h1) ⟨k.val, hk⟩ ⟨6, by decide⟩ (k0_off7_eq k))) x).trans (spread (β := .f32) codeB _ (k0_off7_inb i k k0_h1) ⟨k.val, hk⟩ ⟨6, by decide⟩ (k0_off7_eq k) x _ rfl), fun x => (congrFun (congrArg codeB (chunk_read arg1.view X_arg1 (k0_off6_inb i k k0_h1) ⟨k.val, hk⟩ ⟨5, by decide⟩ (k0_off6_eq k))) x).trans (spread (β := .f32) codeB _ (k0_off6_inb i k k0_h1) ⟨k.val, hk⟩ ⟨5, by decide⟩ (k0_off6_eq k) x _ rfl), fun x => (congrFun (congrArg codeB (chunk_read arg1.view X_arg1 (k0_off5_inb i k k0_h1) ⟨k.val, hk⟩ ⟨4, by decide⟩ (k0_off5_eq k))) x).trans (spread (β := .f32) codeB _ (k0_off5_inb i k k0_h1) ⟨k.val, hk⟩ ⟨4, by decide⟩ (k0_off5_eq k) x _ rfl), fun x => (congrFun (congrArg codeB (chunk_read arg1.view X_arg1 (k0_off4_inb i k k0_h1) ⟨k.val, hk⟩ ⟨3, by decide⟩ (k0_off4_eq k))) x).trans (spread (β := .f32) codeB _ (k0_off4_inb i k k0_h1) ⟨k.val, hk⟩ ⟨3, by decide⟩ (k0_off4_eq k) x _ rfl), fun x => (congrFun (congrArg codeB (chunk_read arg1.view X_arg1 (k0_off3_inb i k k0_h1) ⟨k.val, hk⟩ ⟨2, by decide⟩ (k0_off3_eq k))) x).trans (spread (β := .f32) codeB _ (k0_off3_inb i k k0_h1) ⟨k.val, hk⟩ ⟨2, by decide⟩ (k0_off3_eq k) x _ rfl), fun x => (congrFun (congrArg codeB (chunk_read arg1.view X_arg1 (k0_off2_inb i k k0_h1) ⟨k.val, hk⟩ ⟨1, by decide⟩ (k0_off2_eq k))) x).trans (spread (β := .f32) codeB _ (k0_off2_inb i k k0_h1) ⟨k.val, hk⟩ ⟨1, by decide⟩ (k0_off2_eq k) x _ rfl), fun x => (congrFun (congrArg codeB (chunk_read arg1.view X_arg1 (k0_off1_inb i k k0_h1) ⟨k.val, hk⟩ ⟨0, by decide⟩ (k0_off1_eq k))) x).trans (spread (β := .f32) codeB _ (k0_off1_inb i k k0_h1) ⟨k.val, hk⟩ ⟨0, by decide⟩ (k0_off1_eq k) x _ rfl), trivial⟩
  · have hy1 : (y 1).val < 1024 := (y 1).isLt
    rcases (by omega : (0 ≤ (y 1).val ∧ (y 1).val < 128) ∨ (128 ≤ (y 1).val ∧ (y 1).val < 256) ∨ (256 ≤ (y 1).val ∧ (y 1).val < 384) ∨ (384 ≤ (y 1).val ∧ (y 1).val < 512) ∨ (512 ≤ (y 1).val ∧ (y 1).val < 640) ∨ (640 ≤ (y 1).val ∧ (y 1).val < 768) ∨ (768 ≤ (y 1).val ∧ (y 1).val < 896) ∨ (896 ≤ (y 1).val ∧ (y 1).val < 1024)) with h | h | h | h | h | h | h | h
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_unit (k0_off1_inb i k k0_h1) (k0_off1_eq k) y h0 h1 h.1 h.2⟩
    · exact ⟨_, List.mem_cons_of_mem _ (List.mem_cons_of_mem _ (List.mem_cons_of_mem _ (List.mem_cons_of_mem _ (List.mem_cons_of_mem _ (List.mem_cons_of_mem _ (List.mem_cons_self)))))), mem_unit (k0_off2_inb i k k0_h1) (k0_off2_eq k) y h0 h1 h.1 h.2⟩
    · exact ⟨_, List.mem_cons_of_mem _ (List.mem_cons_of_mem _ (List.mem_cons_of_mem _ (List.mem_cons_of_mem _ (List.mem_cons_of_mem _ (List.mem_cons_self))))), mem_unit (k0_off3_inb i k k0_h1) (k0_off3_eq k) y h0 h1 h.1 h.2⟩
    · exact ⟨_, List.mem_cons_of_mem _ (List.mem_cons_of_mem _ (List.mem_cons_of_mem _ (List.mem_cons_of_mem _ (List.mem_cons_self)))), mem_unit (k0_off4_inb i k k0_h1) (k0_off4_eq k) y h0 h1 h.1 h.2⟩
    · exact ⟨_, List.mem_cons_of_mem _ (List.mem_cons_of_mem _ (List.mem_cons_of_mem _ (List.mem_cons_self))), mem_unit (k0_off5_inb i k k0_h1) (k0_off5_eq k) y h0 h1 h.1 h.2⟩
    · exact ⟨_, List.mem_cons_of_mem _ (List.mem_cons_of_mem _ (List.mem_cons_self)), mem_unit (k0_off6_inb i k k0_h1) (k0_off6_eq k) y h0 h1 h.1 h.2⟩
    · exact ⟨_, List.mem_cons_of_mem _ (List.mem_cons_self), mem_unit (k0_off7_inb i k k0_h1) (k0_off7_eq k) y h0 h1 h.1 h.2⟩
    · exact ⟨_, List.mem_cons_self, mem_unit (k0_off8_inb i k k0_h1) (k0_off8_eq k) y h0 h1 h.1 h.2⟩

theorem step1codeB_out (k0_h1 : k0_cond1 i = 1#1) (v31 : IVec S32x128 32) (X_arg1 : BufTy.Contents (Elt F) arg1.view.ty) (k : Fin k0_t1_loop.trips) (g : BufTy.Contents (Elt F) arg11.view.ty) (L : List (View.Piece (Elt F) S1536x1024 .fp8e4m3)) (y : S1536x1024.Idx) (h : (y 0).val < 32 * k.val ∨ 32 * k.val + 32 ≤ (y 0).val) :
    arg11.view.read (Elt F) (arg11.view.writes (Elt F) g ((tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v31 X_arg1 k).1 ++ L)) y = arg11.view.read (Elt F) (arg11.view.writes (Elt F) g L) y := by
  rw [trip1, View.writes_append]
  refine View.read_writes_apply_of_forall_not_mem arg11.view _ y _ (List.forall_mem_cons.mpr ?_)
  exact ⟨nmem_unit (k0_off8_inb i k k0_h1) (k0_off8_eq k) y h, List.forall_mem_cons.mpr ⟨nmem_unit (k0_off7_inb i k k0_h1) (k0_off7_eq k) y h, List.forall_mem_cons.mpr ⟨nmem_unit (k0_off6_inb i k k0_h1) (k0_off6_eq k) y h, List.forall_mem_cons.mpr ⟨nmem_unit (k0_off5_inb i k k0_h1) (k0_off5_eq k) y h, List.forall_mem_cons.mpr ⟨nmem_unit (k0_off4_inb i k k0_h1) (k0_off4_eq k) y h, List.forall_mem_cons.mpr ⟨nmem_unit (k0_off3_inb i k k0_h1) (k0_off3_eq k) y h, List.forall_mem_cons.mpr ⟨nmem_unit (k0_off2_inb i k k0_h1) (k0_off2_eq k) y h, List.forall_mem_cons.mpr ⟨nmem_unit (k0_off1_inb i k k0_h1) (k0_off1_eq k) y h, (fun _ hm => absurd hm List.not_mem_nil)⟩⟩⟩⟩⟩⟩⟩⟩

theorem loop1codeB (k0_h1 : k0_cond1 i = 1#1) (v31 : IVec S32x128 32) (X_arg1 : BufTy.Contents (Elt F) arg1.view.ty)  (g : BufTy.Contents (Elt F) arg11.view.ty) (y : S1536x1024.Idx) :
    arg11.view.read (Elt F) (arg11.view.writes (Elt F) g (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v31 X_arg1 48).1) y = codesV (arg1.view.read (Elt F) X_arg1) y := by
  have ht : k0_t1_loop.trips = 48 := by decide +kernel
  have hy : (y 0).val < 1536 := (y 0).isLt
  have H : ∀ n ≤ 48, (y 0).val < 32 * n → arg11.view.read (Elt F) (arg11.view.writes (Elt F) g (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v31 X_arg1 n).1) y = codesV (arg1.view.read (Elt F) X_arg1) y := by
    intro n
    induction n with
    | zero => intro _ h; omega
    | succ k ih =>
      intro hk hlt
      have hs := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v31 X_arg1 ⟨k, lt_of_lt_of_eq (by omega) ht.symm⟩
      refine (congrArg (fun p => arg11.view.read (Elt F) (arg11.view.writes (Elt F) g (p.1)) y) hs).trans ?_
      by_cases h : (y 0).val < 32 * k
      · exact (step1codeB_out (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v31 X_arg1 ⟨k, lt_of_lt_of_eq (by omega) ht.symm⟩ g _ y (Or.inl h)).trans (ih (by omega) h)
      · exact step1codeB_in (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v31 X_arg1 ⟨k, lt_of_lt_of_eq (by omega) ht.symm⟩ g _ y (by show 32 * k ≤ _; omega) (by show _ < 32 * k + 32; omega)
  exact H 48 le_rfl (by omega)

theorem step1scaleB_in (k0_h1 : k0_cond1 i = 1#1) (v31 : IVec S32x128 32) (X_arg1 : BufTy.Contents (Elt F) arg1.view.ty) (k : Fin k0_t1_loop.trips) (hv : v31 = lanesV) (g : BufTy.Contents (Elt F) arg12.view.ty) (L : List (View.Piece (Elt F) S1536x8 .f32)) (y : S1536x8.Idx) (h0 : 32 * k.val ≤ (y 0).val) (h1 : (y 0).val < 32 * k.val + 32) :
    arg12.view.read (Elt F) (arg12.view.writes (Elt F) g ((tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v31 X_arg1 k).2.1 ++ L)) y = scalesV (arg1.view.read (Elt F) X_arg1) y := by
  have hk : k.val < 48 := Nat.lt_of_lt_of_le k.isLt k0_t1_abs.2.1
  rw [trip1, View.writes_append]
  refine View.read_writes_apply_of_pieces arg12.view _ _ _ (View.PiecesOf.mem ?_) y ?_
  · exact ⟨fun x => pack_chunk arg1.view X_arg1 (k0_off1_inb i k k0_h1) (k0_off2_inb i k k0_h1) (k0_off3_inb i k k0_h1) (k0_off4_inb i k k0_h1) (k0_off5_inb i k k0_h1) (k0_off6_inb i k k0_h1) (k0_off7_inb i k k0_h1) (k0_off8_inb i k k0_h1) (k0_off9_inb i k k0_h1) ⟨k.val, hk⟩ (k0_off1_eq k) (k0_off2_eq k) (k0_off3_eq k) (k0_off4_eq k) (k0_off5_eq k) (k0_off6_eq k) (k0_off7_eq k) (k0_off8_eq k) (k0_off9_eq k) hv x, trivial⟩
  · exact ⟨_, List.mem_cons_self, mem_unit (k0_off9_inb i k k0_h1) (k0_off9_eq k) y h0 h1 (Nat.zero_le _) (lt_of_lt_of_eq (y 1).isLt (Nat.zero_add _).symm)⟩

theorem step1scaleB_out (k0_h1 : k0_cond1 i = 1#1) (v31 : IVec S32x128 32) (X_arg1 : BufTy.Contents (Elt F) arg1.view.ty) (k : Fin k0_t1_loop.trips) (g : BufTy.Contents (Elt F) arg12.view.ty) (L : List (View.Piece (Elt F) S1536x8 .f32)) (y : S1536x8.Idx) (h : (y 0).val < 32 * k.val ∨ 32 * k.val + 32 ≤ (y 0).val) :
    arg12.view.read (Elt F) (arg12.view.writes (Elt F) g ((tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v31 X_arg1 k).2.1 ++ L)) y = arg12.view.read (Elt F) (arg12.view.writes (Elt F) g L) y := by
  rw [trip1, View.writes_append]
  refine View.read_writes_apply_of_forall_not_mem arg12.view _ y _ (List.forall_mem_cons.mpr ?_)
  exact ⟨nmem_unit (k0_off9_inb i k k0_h1) (k0_off9_eq k) y h, (fun _ hm => absurd hm List.not_mem_nil)⟩

theorem loop1scaleB (k0_h1 : k0_cond1 i = 1#1) (v31 : IVec S32x128 32) (X_arg1 : BufTy.Contents (Elt F) arg1.view.ty)  (hv : v31 = lanesV) (g : BufTy.Contents (Elt F) arg12.view.ty) (y : S1536x8.Idx) :
    arg12.view.read (Elt F) (arg12.view.writes (Elt F) g (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v31 X_arg1 48).2.1) y = scalesV (arg1.view.read (Elt F) X_arg1) y := by
  have ht : k0_t1_loop.trips = 48 := by decide +kernel
  have hy : (y 0).val < 1536 := (y 0).isLt
  have H : ∀ n ≤ 48, (y 0).val < 32 * n → arg12.view.read (Elt F) (arg12.view.writes (Elt F) g (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v31 X_arg1 n).2.1) y = scalesV (arg1.view.read (Elt F) X_arg1) y := by
    intro n
    induction n with
    | zero => intro _ h; omega
    | succ k ih =>
      intro hk hlt
      have hs := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v31 X_arg1 ⟨k, lt_of_lt_of_eq (by omega) ht.symm⟩
      refine (congrArg (fun p => arg12.view.read (Elt F) (arg12.view.writes (Elt F) g (p.2.1)) y) hs).trans ?_
      by_cases h : (y 0).val < 32 * k
      · exact (step1scaleB_out (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v31 X_arg1 ⟨k, lt_of_lt_of_eq (by omega) ht.symm⟩ g _ y (Or.inl h)).trans (ih (by omega) h)
      · exact step1scaleB_in (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v31 X_arg1 ⟨k, lt_of_lt_of_eq (by omega) ht.symm⟩ hv g _ y (by show 32 * k ≤ _; omega) (by show _ < 32 * k + 32; omega)
  exact H 48 le_rfl (by omega)

theorem step1xbfB_in (k0_h1 : k0_cond1 i = 1#1) (v31 : IVec S32x128 32) (X_arg1 : BufTy.Contents (Elt F) arg1.view.ty) (k : Fin k0_t1_loop.trips) (g : BufTy.Contents (Elt F) arg13.view.ty) (L : List (View.Piece (Elt F) S1536x1024 .bf16)) (y : S1536x1024.Idx) (h0 : 32 * k.val ≤ (y 0).val) (h1 : (y 0).val < 32 * k.val + 32) :
    arg13.view.read (Elt F) (arg13.view.writes (Elt F) g ((tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v31 X_arg1 k).2.2 ++ L)) y = xbfV (arg1.view.read (Elt F) X_arg1) y := by
  have hk : k.val < 48 := Nat.lt_of_lt_of_le k.isLt k0_t1_abs.2.1
  rw [trip1, View.writes_append]
  refine View.read_writes_apply_of_pieces arg13.view _ _ _ (View.PiecesOf.mem ?_) y ?_
  · exact ⟨fun x => (congrFun (congrArg xbfB (chunk_read arg1.view X_arg1 (k0_off8_inb i k k0_h1) ⟨k.val, hk⟩ ⟨7, by decide⟩ (k0_off8_eq k))) x).trans (spread (β := .f32) xbfB _ (k0_off8_inb i k k0_h1) ⟨k.val, hk⟩ ⟨7, by decide⟩ (k0_off8_eq k) x _ rfl), fun x => (congrFun (congrArg xbfB (chunk_read arg1.view X_arg1 (k0_off7_inb i k k0_h1) ⟨k.val, hk⟩ ⟨6, by decide⟩ (k0_off7_eq k))) x).trans (spread (β := .f32) xbfB _ (k0_off7_inb i k k0_h1) ⟨k.val, hk⟩ ⟨6, by decide⟩ (k0_off7_eq k) x _ rfl), fun x => (congrFun (congrArg xbfB (chunk_read arg1.view X_arg1 (k0_off6_inb i k k0_h1) ⟨k.val, hk⟩ ⟨5, by decide⟩ (k0_off6_eq k))) x).trans (spread (β := .f32) xbfB _ (k0_off6_inb i k k0_h1) ⟨k.val, hk⟩ ⟨5, by decide⟩ (k0_off6_eq k) x _ rfl), fun x => (congrFun (congrArg xbfB (chunk_read arg1.view X_arg1 (k0_off5_inb i k k0_h1) ⟨k.val, hk⟩ ⟨4, by decide⟩ (k0_off5_eq k))) x).trans (spread (β := .f32) xbfB _ (k0_off5_inb i k k0_h1) ⟨k.val, hk⟩ ⟨4, by decide⟩ (k0_off5_eq k) x _ rfl), fun x => (congrFun (congrArg xbfB (chunk_read arg1.view X_arg1 (k0_off4_inb i k k0_h1) ⟨k.val, hk⟩ ⟨3, by decide⟩ (k0_off4_eq k))) x).trans (spread (β := .f32) xbfB _ (k0_off4_inb i k k0_h1) ⟨k.val, hk⟩ ⟨3, by decide⟩ (k0_off4_eq k) x _ rfl), fun x => (congrFun (congrArg xbfB (chunk_read arg1.view X_arg1 (k0_off3_inb i k k0_h1) ⟨k.val, hk⟩ ⟨2, by decide⟩ (k0_off3_eq k))) x).trans (spread (β := .f32) xbfB _ (k0_off3_inb i k k0_h1) ⟨k.val, hk⟩ ⟨2, by decide⟩ (k0_off3_eq k) x _ rfl), fun x => (congrFun (congrArg xbfB (chunk_read arg1.view X_arg1 (k0_off2_inb i k k0_h1) ⟨k.val, hk⟩ ⟨1, by decide⟩ (k0_off2_eq k))) x).trans (spread (β := .f32) xbfB _ (k0_off2_inb i k k0_h1) ⟨k.val, hk⟩ ⟨1, by decide⟩ (k0_off2_eq k) x _ rfl), fun x => (congrFun (congrArg xbfB (chunk_read arg1.view X_arg1 (k0_off1_inb i k k0_h1) ⟨k.val, hk⟩ ⟨0, by decide⟩ (k0_off1_eq k))) x).trans (spread (β := .f32) xbfB _ (k0_off1_inb i k k0_h1) ⟨k.val, hk⟩ ⟨0, by decide⟩ (k0_off1_eq k) x _ rfl), trivial⟩
  · have hy1 : (y 1).val < 1024 := (y 1).isLt
    rcases (by omega : (0 ≤ (y 1).val ∧ (y 1).val < 128) ∨ (128 ≤ (y 1).val ∧ (y 1).val < 256) ∨ (256 ≤ (y 1).val ∧ (y 1).val < 384) ∨ (384 ≤ (y 1).val ∧ (y 1).val < 512) ∨ (512 ≤ (y 1).val ∧ (y 1).val < 640) ∨ (640 ≤ (y 1).val ∧ (y 1).val < 768) ∨ (768 ≤ (y 1).val ∧ (y 1).val < 896) ∨ (896 ≤ (y 1).val ∧ (y 1).val < 1024)) with h | h | h | h | h | h | h | h
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_unit (k0_off1_inb i k k0_h1) (k0_off1_eq k) y h0 h1 h.1 h.2⟩
    · exact ⟨_, List.mem_cons_of_mem _ (List.mem_cons_of_mem _ (List.mem_cons_of_mem _ (List.mem_cons_of_mem _ (List.mem_cons_of_mem _ (List.mem_cons_of_mem _ (List.mem_cons_self)))))), mem_unit (k0_off2_inb i k k0_h1) (k0_off2_eq k) y h0 h1 h.1 h.2⟩
    · exact ⟨_, List.mem_cons_of_mem _ (List.mem_cons_of_mem _ (List.mem_cons_of_mem _ (List.mem_cons_of_mem _ (List.mem_cons_of_mem _ (List.mem_cons_self))))), mem_unit (k0_off3_inb i k k0_h1) (k0_off3_eq k) y h0 h1 h.1 h.2⟩
    · exact ⟨_, List.mem_cons_of_mem _ (List.mem_cons_of_mem _ (List.mem_cons_of_mem _ (List.mem_cons_of_mem _ (List.mem_cons_self)))), mem_unit (k0_off4_inb i k k0_h1) (k0_off4_eq k) y h0 h1 h.1 h.2⟩
    · exact ⟨_, List.mem_cons_of_mem _ (List.mem_cons_of_mem _ (List.mem_cons_of_mem _ (List.mem_cons_self))), mem_unit (k0_off5_inb i k k0_h1) (k0_off5_eq k) y h0 h1 h.1 h.2⟩
    · exact ⟨_, List.mem_cons_of_mem _ (List.mem_cons_of_mem _ (List.mem_cons_self)), mem_unit (k0_off6_inb i k k0_h1) (k0_off6_eq k) y h0 h1 h.1 h.2⟩
    · exact ⟨_, List.mem_cons_of_mem _ (List.mem_cons_self), mem_unit (k0_off7_inb i k k0_h1) (k0_off7_eq k) y h0 h1 h.1 h.2⟩
    · exact ⟨_, List.mem_cons_self, mem_unit (k0_off8_inb i k k0_h1) (k0_off8_eq k) y h0 h1 h.1 h.2⟩

theorem step1xbfB_out (k0_h1 : k0_cond1 i = 1#1) (v31 : IVec S32x128 32) (X_arg1 : BufTy.Contents (Elt F) arg1.view.ty) (k : Fin k0_t1_loop.trips) (g : BufTy.Contents (Elt F) arg13.view.ty) (L : List (View.Piece (Elt F) S1536x1024 .bf16)) (y : S1536x1024.Idx) (h : (y 0).val < 32 * k.val ∨ 32 * k.val + 32 ≤ (y 0).val) :
    arg13.view.read (Elt F) (arg13.view.writes (Elt F) g ((tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v31 X_arg1 k).2.2 ++ L)) y = arg13.view.read (Elt F) (arg13.view.writes (Elt F) g L) y := by
  rw [trip1, View.writes_append]
  refine View.read_writes_apply_of_forall_not_mem arg13.view _ y _ (List.forall_mem_cons.mpr ?_)
  exact ⟨nmem_unit (k0_off8_inb i k k0_h1) (k0_off8_eq k) y h, List.forall_mem_cons.mpr ⟨nmem_unit (k0_off7_inb i k k0_h1) (k0_off7_eq k) y h, List.forall_mem_cons.mpr ⟨nmem_unit (k0_off6_inb i k k0_h1) (k0_off6_eq k) y h, List.forall_mem_cons.mpr ⟨nmem_unit (k0_off5_inb i k k0_h1) (k0_off5_eq k) y h, List.forall_mem_cons.mpr ⟨nmem_unit (k0_off4_inb i k k0_h1) (k0_off4_eq k) y h, List.forall_mem_cons.mpr ⟨nmem_unit (k0_off3_inb i k k0_h1) (k0_off3_eq k) y h, List.forall_mem_cons.mpr ⟨nmem_unit (k0_off2_inb i k k0_h1) (k0_off2_eq k) y h, List.forall_mem_cons.mpr ⟨nmem_unit (k0_off1_inb i k k0_h1) (k0_off1_eq k) y h, (fun _ hm => absurd hm List.not_mem_nil)⟩⟩⟩⟩⟩⟩⟩⟩

theorem loop1xbfB (k0_h1 : k0_cond1 i = 1#1) (v31 : IVec S32x128 32) (X_arg1 : BufTy.Contents (Elt F) arg1.view.ty)  (g : BufTy.Contents (Elt F) arg13.view.ty) (y : S1536x1024.Idx) :
    arg13.view.read (Elt F) (arg13.view.writes (Elt F) g (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v31 X_arg1 48).2.2) y = xbfV (arg1.view.read (Elt F) X_arg1) y := by
  have ht : k0_t1_loop.trips = 48 := by decide +kernel
  have hy : (y 0).val < 1536 := (y 0).isLt
  have H : ∀ n ≤ 48, (y 0).val < 32 * n → arg13.view.read (Elt F) (arg13.view.writes (Elt F) g (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v31 X_arg1 n).2.2) y = xbfV (arg1.view.read (Elt F) X_arg1) y := by
    intro n
    induction n with
    | zero => intro _ h; omega
    | succ k ih =>
      intro hk hlt
      have hs := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v31 X_arg1 ⟨k, lt_of_lt_of_eq (by omega) ht.symm⟩
      refine (congrArg (fun p => arg13.view.read (Elt F) (arg13.view.writes (Elt F) g (p.2.2)) y) hs).trans ?_
      by_cases h : (y 0).val < 32 * k
      · exact (step1xbfB_out (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v31 X_arg1 ⟨k, lt_of_lt_of_eq (by omega) ht.symm⟩ g _ y (Or.inl h)).trans (ih (by omega) h)
      · exact step1xbfB_in (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 v31 X_arg1 ⟨k, lt_of_lt_of_eq (by omega) ht.symm⟩ g _ y (by show 32 * k ≤ _; omega) (by show _ < 32 * k + 32; omega)
  exact H 48 le_rfl (by omega)
end Body

end Cert.KernelIdeal.V
end
end
-- ==== Proof.V.Ids.lean ====
module
public import proofs.«01_k».proof.Proof.Gen.KernelIdeal.Loops
public import Idealize.ShloMosaic.Lib.Pipeline.FrameBody
public import Idealize.ShloMosaic.Lib.WritesUnit
public import Idealize.ShloMosaic.Lib.Tactic
public import proofs.«01_k».proof.Proof.V.Wide
@[expose] public section
set_option maxRecDepth 16384
noncomputable section
namespace Cert.KernelIdeal.V
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
variable {F : FTy → Type} [FloatOps F]
local notation "𝕄" => MT nD τ sig Unit (Elt F) ℕ (UR sig nD τ) ℕ

/-- The lane and the column of a searched word. -/
def loC (v : BitVec 32) : BitVec 32 := IntOp.andi v 127#32
def hiC (v : BitVec 32) : BitVec 32 := IntOp.shrui .vector v 7#32

/-- The lanes of the support, zero past its fifty words. -/
def loV (x4 : Vec F S1536x50 .i32) : Vec F S1536x128 .i32 :=
  fun y => if h : (y 1).val < 50 then loC (x4 (ix2 (y 0 : Fin 1536) ⟨(y 1).val, h⟩)) else 0#32
/-- The columns of the support, minus one past its fifty words. -/
def hiV (x4 : Vec F S1536x50 .i32) : Vec F S1536x128 .i32 :=
  fun y => if h : (y 1).val < 50 then hiC (x4 (ix2 (y 0 : Fin 1536) ⟨(y 1).val, h⟩)) else 4294967295#32

theorem pay232_apply (v : Vec F S8x50 .i32) (x : S8x50.Idx) : k0_pay232 v x = loC (v x) := by
  unfold k0_pay232 k0_pay231
  dsimp only
  rw [shapeCast_self, shapeCast_self]
  rfl
theorem pay233_apply (v : Vec F S8x50 .i32) (x : S8x50.Idx) : k0_pay233 v x = hiC (v x) := by
  unfold k0_pay233 k0_pay231
  dsimp only
  rw [shapeCast_self, shapeCast_self]
  rfl

section Body
variable (𝒱 : Variants) (c : Dev nD) (bd : Option 𝒱.V) (i : grid0.Coords) (arg1 : Memref sig .tc .vmem S1536x1024 .bf16) (harg1 : arg1.IsWhole) (arg2 : Memref sig .tc .vmem S1280x1024 .fp8e4m3) (harg2 : arg2.IsWhole) (arg3 : Memref sig .tc .vmem S1280x8 .f32) (harg3 : arg3.IsWhole) (arg4 : Memref sig .tc .vmem S1x1536x128 .i32) (harg4 : arg4.IsWhole) (arg5 : Memref sig .tc .vmem S1536x50 .i32) (harg5 : arg5.IsWhole) (arg6 : Memref sig .tc .vmem S1536x50 .bf16) (harg6 : arg6.IsWhole) (arg7 : Memref sig .tc .vmem S4x384 .f32) (harg7 : arg7.IsWhole) (arg8 : Memref sig .tc .vmem S4x384 .f32) (harg8 : arg8.IsWhole) (arg9 : Memref sig .tc .vmem S4x384 .f32) (harg9 : arg9.IsWhole) (arg10 : Memref sig .tc .vmem S1536x50 .f32) (harg10 : arg10.IsWhole) (arg11 : Memref sig .tc .vmem S1536x1024 .fp8e4m3) (harg11 : arg11.IsWhole) (arg12 : Memref sig .tc .vmem S1536x8 .f32) (harg12 : arg12.IsWhole) (arg13 : Memref sig .tc .vmem S1536x1024 .bf16) (harg13 : arg13.IsWhole) (arg14 : Memref sig .tc .vmem S1280x1024 .bf16) (harg14 : arg14.IsWhole) (arg15 : Memref sig .tc .vmem S512x1280 .f32) (harg15 : arg15.IsWhole) (arg16 : Memref sig .tc .vmem S512x1280 .f32) (harg16 : arg16.IsWhole) (arg17 : Memref sig .tc .vmem S1536x128 .f32) (harg17 : arg17.IsWhole) (arg18 : Memref sig .tc .vmem S1536x128 .f32) (harg18 : arg18.IsWhole) (arg19 : Memref sig .tc .vmem S1536x128 .f32) (harg19 : arg19.IsWhole) (arg20 : Memref sig .tc .vmem S1536x128 .i32) (harg20 : arg20.IsWhole) (arg21 : Memref sig .tc .vmem S1536x128 .i32) (harg21 : arg21.IsWhole)
include 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21

theorem trip2 (k0_h1 : k0_cond1 i = 1#1) (X_arg5 : BufTy.Contents (Elt F) arg5.view.ty) (k : Fin k0_t2_loop.trips) : tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X_arg5 k =
    ([⟨Rect.unit (s := S1536x128) (k0_off11 k) S8x50.size (k0_off11_inb i k k0_h1), k0_pay232 (View.readAt (Elt F) arg5.view (Rect.unit (s := S1536x50) (k0_off10 k) S8x50.size (k0_off10_inb i k k0_h1)).toLoadRect X_arg5)⟩],
     [⟨Rect.unit (s := S1536x128) (k0_off11 k) S8x50.size (k0_off11_inb i k k0_h1), k0_pay233 (View.readAt (Elt F) arg5.view (Rect.unit (s := S1536x50) (k0_off10 k) S8x50.size (k0_off10_inb i k k0_h1)).toLoadRect X_arg5)⟩]) := by
  unfold tripL_k0_t2 trip_k0_t2; rfl

theorem step2lo_in (k0_h1 : k0_cond1 i = 1#1) (X_arg5 : BufTy.Contents (Elt F) arg5.view.ty) (k : Fin k0_t2_loop.trips) (g : BufTy.Contents (Elt F) arg20.view.ty) (L : List (View.Piece (Elt F) S1536x128 .i32)) (y : S1536x128.Idx) (h0 : 8 * k.val ≤ (y 0).val) (h1 : (y 0).val < 8 * k.val + 8)
    (h2 : (y 1).val < 50) :
    arg20.view.read (Elt F) (arg20.view.writes (Elt F) g ((tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X_arg5 k).1 ++ L)) y
      = loC (arg5.view.read (Elt F) X_arg5 (ix2 (y 0 : Fin 1536) ⟨(y 1).val, h2⟩)) := by
  rw [trip2]
  refine (View.read_writes_cons_rows_of_mem arg20.view _ (k0_off11_inb i k k0_h1) _ L y (ix2 (⟨(y 0).val - 8 * k.val, by omega⟩ : Fin 8) (⟨(y 1).val, h2⟩ : Fin 50)) (k0_off11_eq k) (by show _ = 8 * k.val + ((y 0).val - 8 * k.val); omega) rfl).trans ?_
  refine (pay232_apply _ _).trans (congrArg loC ?_)
  exact readAt_rows arg5.view X_arg5 (k0_off10_inb i k k0_h1) (k0_off10_eq k) _ _ (by show (y 0).val = 8 * k.val + ((y 0).val - 8 * k.val); omega) (by show (y 1).val = 0 + (y 1).val; omega)

theorem step2lo_out (k0_h1 : k0_cond1 i = 1#1) (X_arg5 : BufTy.Contents (Elt F) arg5.view.ty) (k : Fin k0_t2_loop.trips) (g : BufTy.Contents (Elt F) arg20.view.ty) (L : List (View.Piece (Elt F) S1536x128 .i32)) (y : S1536x128.Idx)
    (h : ((y 0).val < 8 * k.val ∨ 8 * k.val + 8 ≤ (y 0).val) ∨ 50 ≤ (y 1).val) :
    arg20.view.read (Elt F) (arg20.view.writes (Elt F) g ((tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X_arg5 k).1 ++ L)) y
      = arg20.view.read (Elt F) (arg20.view.writes (Elt F) g L) y := by
  rw [trip2]
  rcases h with h | h
  · exact View.read_writes_cons_unit_of_not_mem arg20.view _ (k0_off11_inb i k k0_h1) _ L y (k0_off11_eq k) (0 : Fin 2) h
  · exact View.read_writes_cons_unit_of_not_mem arg20.view _ (k0_off11_inb i k k0_h1) _ L y (k0_off11_eq k) (1 : Fin 2) (Or.inr (by show 0 + 50 ≤ (y 1).val; omega))

/-- THE LOOP's words, over what the buffer held. -/
theorem loop2lo (k0_h1 : k0_cond1 i = 1#1) (X_arg5 : BufTy.Contents (Elt F) arg5.view.ty)  (g : BufTy.Contents (Elt F) arg20.view.ty) (y : S1536x128.Idx) :
    arg20.view.read (Elt F) (arg20.view.writes (Elt F) g (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X_arg5 192).1) y
      = if h : (y 1).val < 50 then loC (arg5.view.read (Elt F) X_arg5 (ix2 (y 0 : Fin 1536) ⟨(y 1).val, h⟩)) else arg20.view.read (Elt F) g y := by
  have ht : k0_t2_loop.trips = 192 := by decide +kernel
  have hy : (y 0).val < 1536 := (y 0).isLt
  have hs : ∀ k (hk : k < 192), _ := fun k hk => congrArg (fun p => arg20.view.read (Elt F) (arg20.view.writes (Elt F) g p.1) y) (pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X_arg5 ⟨k, lt_of_lt_of_eq hk ht.symm⟩)
  split
  · rename_i h2
    have H : ∀ n ≤ 192, (y 0).val < 8 * n → arg20.view.read (Elt F) (arg20.view.writes (Elt F) g (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X_arg5 n).1) y
        = loC (arg5.view.read (Elt F) X_arg5 (ix2 (y 0 : Fin 1536) ⟨(y 1).val, h2⟩)) := by
      intro n
      induction n with
      | zero => intro _ h; omega
      | succ k ih =>
        intro hk hlt
        refine (hs k (by omega)).trans ?_
        by_cases h : (y 0).val < 8 * k
        · exact (step2lo_out (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X_arg5 ⟨k, lt_of_lt_of_eq (by omega) ht.symm⟩ g _ y (Or.inl (Or.inl h))).trans (ih (by omega) h)
        · exact step2lo_in (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X_arg5 ⟨k, lt_of_lt_of_eq (by omega) ht.symm⟩ g _ y (by show 8 * k ≤ _; omega) (by show _ < 8 * k + 8; omega) h2
    exact H 192 le_rfl (by omega)
  · rename_i h2
    have H : ∀ n ≤ 192, arg20.view.read (Elt F) (arg20.view.writes (Elt F) g (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X_arg5 n).1) y = arg20.view.read (Elt F) g y := by
      intro n
      induction n with
      | zero => intro _; rfl
      | succ k ih =>
        intro hk
        refine (hs k (by omega)).trans ?_
        exact (step2lo_out (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X_arg5 ⟨k, lt_of_lt_of_eq (by omega) ht.symm⟩ g _ y (Or.inr (by omega))).trans (ih (by omega))
    exact H 192 le_rfl

theorem step2hi_in (k0_h1 : k0_cond1 i = 1#1) (X_arg5 : BufTy.Contents (Elt F) arg5.view.ty) (k : Fin k0_t2_loop.trips) (g : BufTy.Contents (Elt F) arg21.view.ty) (L : List (View.Piece (Elt F) S1536x128 .i32)) (y : S1536x128.Idx) (h0 : 8 * k.val ≤ (y 0).val) (h1 : (y 0).val < 8 * k.val + 8)
    (h2 : (y 1).val < 50) :
    arg21.view.read (Elt F) (arg21.view.writes (Elt F) g ((tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X_arg5 k).2 ++ L)) y
      = hiC (arg5.view.read (Elt F) X_arg5 (ix2 (y 0 : Fin 1536) ⟨(y 1).val, h2⟩)) := by
  rw [trip2]
  refine (View.read_writes_cons_rows_of_mem arg21.view _ (k0_off11_inb i k k0_h1) _ L y (ix2 (⟨(y 0).val - 8 * k.val, by omega⟩ : Fin 8) (⟨(y 1).val, h2⟩ : Fin 50)) (k0_off11_eq k) (by show _ = 8 * k.val + ((y 0).val - 8 * k.val); omega) rfl).trans ?_
  refine (pay233_apply _ _).trans (congrArg hiC ?_)
  exact readAt_rows arg5.view X_arg5 (k0_off10_inb i k k0_h1) (k0_off10_eq k) _ _ (by show (y 0).val = 8 * k.val + ((y 0).val - 8 * k.val); omega) (by show (y 1).val = 0 + (y 1).val; omega)

theorem step2hi_out (k0_h1 : k0_cond1 i = 1#1) (X_arg5 : BufTy.Contents (Elt F) arg5.view.ty) (k : Fin k0_t2_loop.trips) (g : BufTy.Contents (Elt F) arg21.view.ty) (L : List (View.Piece (Elt F) S1536x128 .i32)) (y : S1536x128.Idx)
    (h : ((y 0).val < 8 * k.val ∨ 8 * k.val + 8 ≤ (y 0).val) ∨ 50 ≤ (y 1).val) :
    arg21.view.read (Elt F) (arg21.view.writes (Elt F) g ((tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X_arg5 k).2 ++ L)) y
      = arg21.view.read (Elt F) (arg21.view.writes (Elt F) g L) y := by
  rw [trip2]
  rcases h with h | h
  · exact View.read_writes_cons_unit_of_not_mem arg21.view _ (k0_off11_inb i k k0_h1) _ L y (k0_off11_eq k) (0 : Fin 2) h
  · exact View.read_writes_cons_unit_of_not_mem arg21.view _ (k0_off11_inb i k k0_h1) _ L y (k0_off11_eq k) (1 : Fin 2) (Or.inr (by show 0 + 50 ≤ (y 1).val; omega))

/-- THE LOOP's words, over what the buffer held. -/
theorem loop2hi (k0_h1 : k0_cond1 i = 1#1) (X_arg5 : BufTy.Contents (Elt F) arg5.view.ty)  (g : BufTy.Contents (Elt F) arg21.view.ty) (y : S1536x128.Idx) :
    arg21.view.read (Elt F) (arg21.view.writes (Elt F) g (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X_arg5 192).2) y
      = if h : (y 1).val < 50 then hiC (arg5.view.read (Elt F) X_arg5 (ix2 (y 0 : Fin 1536) ⟨(y 1).val, h⟩)) else arg21.view.read (Elt F) g y := by
  have ht : k0_t2_loop.trips = 192 := by decide +kernel
  have hy : (y 0).val < 1536 := (y 0).isLt
  have hs : ∀ k (hk : k < 192), _ := fun k hk => congrArg (fun p => arg21.view.read (Elt F) (arg21.view.writes (Elt F) g p.2) y) (pb_k0_t2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X_arg5 ⟨k, lt_of_lt_of_eq hk ht.symm⟩)
  split
  · rename_i h2
    have H : ∀ n ≤ 192, (y 0).val < 8 * n → arg21.view.read (Elt F) (arg21.view.writes (Elt F) g (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X_arg5 n).2) y
        = hiC (arg5.view.read (Elt F) X_arg5 (ix2 (y 0 : Fin 1536) ⟨(y 1).val, h2⟩)) := by
      intro n
      induction n with
      | zero => intro _ h; omega
      | succ k ih =>
        intro hk hlt
        refine (hs k (by omega)).trans ?_
        by_cases h : (y 0).val < 8 * k
        · exact (step2hi_out (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X_arg5 ⟨k, lt_of_lt_of_eq (by omega) ht.symm⟩ g _ y (Or.inl (Or.inl h))).trans (ih (by omega) h)
        · exact step2hi_in (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X_arg5 ⟨k, lt_of_lt_of_eq (by omega) ht.symm⟩ g _ y (by show 8 * k ≤ _; omega) (by show _ < 8 * k + 8; omega) h2
    exact H 192 le_rfl (by omega)
  · rename_i h2
    have H : ∀ n ≤ 192, arg21.view.read (Elt F) (arg21.view.writes (Elt F) g (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X_arg5 n).2) y = arg21.view.read (Elt F) g y := by
      intro n
      induction n with
      | zero => intro _; rfl
      | succ k ih =>
        intro hk
        refine (hs k (by omega)).trans ?_
        exact (step2hi_out (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h1 X_arg5 ⟨k, lt_of_lt_of_eq (by omega) ht.symm⟩ g _ y (Or.inr (by omega))).trans (ih (by omega))
    exact H 192 le_rfl
end Body

end Cert.KernelIdeal.V
end
end
-- ==== Proof.V.Finish.lean ====
module
public import proofs.«01_k».proof.Proof.Gen.KernelIdeal.Loops
public import Idealize.ShloMosaic.Lib.Pipeline.FrameBody
public import Idealize.ShloMosaic.Lib.WritesUnit
public import Idealize.ShloMosaic.Lib.Tactic
public import Idealize.ShloMosaic.Lib.Pipeline.ReadBack
public import proofs.«01_k».proof.Proof.V.Wide
@[expose] public section
set_option maxRecDepth 16384
noncomputable section
namespace Cert.KernelIdeal.V
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
variable {F : FTy → Type} [FloatOps F]
local notation "𝕄" => MT nD τ sig Unit (Elt F) ℕ (UR sig nD τ) ℕ

/-- The divergence of 128 rows, laid along the lanes. -/
def klB (v31 : IVec S128x128 32) (M S U : Vec F S128x128 .f32) (P : Vec F S128x50 .bf16) : FVec F S1x128 .f32 := k0_pay197 v31 (k0_pay187 M S) (k0_pay188 k0_pay8 M S U)
    (k0_pay194 k0_pay8 (k0_pay187 M S) U (k0_pay188 k0_pay8 M S U) (k0_pay190 (k0_pay189 P)) (k0_pay191 k0_pay8 (k0_pay189 P)) (k0_pay192 k0_pay8 (k0_pay189 P)) k0_pay193)

/-- Their log normaliser. -/
def lseB (v31 : IVec S128x128 32) (M S U : Vec F S128x128 .f32) (P : Vec F S128x50 .bf16) : FVec F S1x128 .f32 := k0_pay198 v31 (k0_pay187 M S) (k0_pay188 k0_pay8 M S U)
    (k0_pay194 k0_pay8 (k0_pay187 M S) U (k0_pay188 k0_pay8 M S U) (k0_pay190 (k0_pay189 P)) (k0_pay191 k0_pay8 (k0_pay189 P)) (k0_pay192 k0_pay8 (k0_pay189 P)) k0_pay193)

/-- Their log normaliser without the teacher's columns. -/
def restB (v31 : IVec S128x128 32) (M S U : Vec F S128x128 .f32) (P : Vec F S128x50 .bf16) : FVec F S1x128 .f32 := k0_pay199 v31 (k0_pay187 M S) (k0_pay188 k0_pay8 M S U)
    (k0_pay194 k0_pay8 (k0_pay187 M S) U (k0_pay188 k0_pay8 M S U) (k0_pay190 (k0_pay189 P)) (k0_pay191 k0_pay8 (k0_pay189 P)) (k0_pay192 k0_pay8 (k0_pay189 P)) k0_pay193)

/-- Their logits at the teacher's columns. -/
def zsB (U : Vec F S128x128 .f32) : FVec F S128x50 .f32 := k0_pay195 U

/-- The lane numbers of 128 rows. -/
def lanesW : IVec S128x128 32 := iota .tc S128x128 32 [1] iota_S128x128_d1_w32

/-- Rows `384 k + 128 r …` of an array of rows. -/
def rowsB {α : Type} {w : ℕ} (x : (⟨2, ![1536, w]⟩ : Shape).Idx → α) (k : Fin 4) (r : Fin 3) : (⟨2, ![128, w]⟩ : Shape).Idx → α :=
  fun j => x (ix2 ⟨384 * k.val + 128 * r.val + (j 0).val, by have : (j 0).val < 128 := (j 0).isLt; omega⟩ (j 1 : Fin w))

/-- A rowwise result, spread over the sentences. -/
def outV (f : IVec S128x128 32 → Vec F S128x128 .f32 → Vec F S128x128 .f32 → Vec F S128x128 .f32 → Vec F S128x50 .bf16 → FVec F S1x128 .f32)
    (m s u : Vec F S1536x128 .f32) (p : Vec F S1536x50 .bf16) : Vec F S4x384 .f32 := fun y =>
  let k : Fin 4 := y 0
  let r : Fin 3 := ⟨(y 1).val / 128, by have : (y 1).val < 384 := (y 1).isLt; omega⟩
  f lanesW (rowsB m k r) (rowsB s k r) (rowsB u k r) (rowsB p k r) (ix2 (0 : Fin 1) ⟨(y 1).val % 128, by omega⟩)

/-- The logits at the teacher's columns. -/
def zsV (u : Vec F S1536x128 .f32) : Vec F S1536x50 .f32 := fun y =>
  zsB (rowsB u ⟨(y 0).val / 384, by have : (y 0).val < 1536 := (y 0).isLt; omega⟩ ⟨(y 0).val % 384 / 128, by omega⟩) (ix2 ⟨(y 0).val % 128, by omega⟩ (y 1 : Fin 50))

section Blocks
variable {sig' : RefSig} {κ' : Kind} {sp' : Space}

theorem rows_read {w : ℕ} {β : EltTy} (v : View sig' κ' sp' ⟨2, ![1536, w]⟩ β) (X : v.ty.Contents (Elt F)) {off : Fin 2 → ℕ} (inb : ∀ a : Fin 2, off a + (⟨2, ![128, w]⟩ : Shape).size a ≤ (⟨2, ![1536, w]⟩ : Shape).size a)
    (k : Fin 4) (r : Fin 3) (hoff : off = ![384 * k.val + 128 * r.val, 0]) :
    v.readAt (Elt F) (Rect.unit (s := ⟨2, ![1536, w]⟩) off (⟨2, ![128, w]⟩ : Shape).size inb).toLoadRect X = rowsB (v.read (Elt F) X) k r := by
  funext x
  refine readAt_rows v X inb hoff _ _ ?_ ?_
  · rfl
  · exact (Nat.zero_add _).symm

theorem out_spread (f : IVec S128x128 32 → Vec F S128x128 .f32 → Vec F S128x128 .f32 → Vec F S128x128 .f32 → Vec F S128x50 .bf16 → FVec F S1x128 .f32)
    (m s u : Vec F S1536x128 .f32) (p : Vec F S1536x50 .bf16) {off : Fin 2 → ℕ} (inb : ∀ a : Fin 2, off a + S1x128.size a ≤ S4x384.size a)
    (k : Fin 4) (r : Fin 3) (hoff : off = ![k.val, 128 * r.val]) (x : S1x128.Idx) :
    f lanesW (rowsB m k r) (rowsB s k r) (rowsB u k r) (rowsB p k r) x = outV f m s u p ((Rect.unit (s := S4x384) off S1x128.size inb).emb x) := by
  subst hoff
  have h0 : (x 0).val < 1 := (x 0).isLt
  have h1 : (x 1).val < 128 := (x 1).isLt
  have e0 : k = (((Rect.unit (s := S4x384) ![k.val, 128 * r.val] S1x128.size inb).emb x) 0 : Fin 4) := Fin.ext (by show k.val = k.val + 1 * (x 0).val; omega)
  have e1 : (((Rect.unit (s := S4x384) ![k.val, 128 * r.val] S1x128.size inb).emb x) 1).val = 128 * r.val + (x 1).val := by show 128 * r.val + 1 * (x 1).val = _; omega
  have er : r = ⟨(((Rect.unit (s := S4x384) ![k.val, 128 * r.val] S1x128.size inb).emb x) 1).val / 128, by rw [e1]; omega⟩ := Fin.ext (by show r.val = _ / 128; rw [e1]; omega)
  have ex : x = ix2 (0 : Fin 1) ⟨(((Rect.unit (s := S4x384) ![k.val, 128 * r.val] S1x128.size inb).emb x) 1).val % 128, by omega⟩ := by
    funext a
    match a with
    | ⟨0, _⟩ => exact Fin.ext (by show (x 0).val = 0; omega)
    | ⟨1, _⟩ => exact Fin.ext (by show (x 1).val = _ % 128; rw [e1]; omega)
  have key : ∀ (k' : Fin 4) (r' : Fin 3) (x' : S1x128.Idx), k = k' → r = r' → x = x' →
      f lanesW (rowsB m k r) (rowsB s k r) (rowsB u k r) (rowsB p k r) x = f lanesW (rowsB m k' r') (rowsB s k' r') (rowsB u k' r') (rowsB p k' r') x' := by
    rintro _ _ _ rfl rfl rfl; rfl
  exact key _ _ _ e0 er ex

theorem zs_spread (u : Vec F S1536x128 .f32) {off : Fin 2 → ℕ} (inb : ∀ a : Fin 2, off a + S128x50.size a ≤ S1536x50.size a)
    (k : Fin 4) (r : Fin 3) (hoff : off = ![384 * k.val + 128 * r.val, 0]) (x : S128x50.Idx) :
    zsB (rowsB u k r) x = zsV u ((Rect.unit (s := S1536x50) off S128x50.size inb).emb x) := by
  subst hoff
  have h0 : (x 0).val < 128 := (x 0).isLt
  have e0 : (((Rect.unit (s := S1536x50) ![384 * k.val + 128 * r.val, 0] S128x50.size inb).emb x) 0).val = 384 * k.val + 128 * r.val + (x 0).val := by show 384 * k.val + 128 * r.val + 1 * (x 0).val = _; omega
  have e1 : (((Rect.unit (s := S1536x50) ![384 * k.val + 128 * r.val, 0] S128x50.size inb).emb x) 1).val = (x 1).val := by show 0 + 1 * (x 1).val = _; omega
  have key : ∀ (k' : Fin 4) (r' : Fin 3) (x' : S128x50.Idx), k = k' → r = r' → x = x' → zsB (rowsB u k r) x = zsB (rowsB u k' r') x' := by
    rintro _ _ _ rfl rfl rfl; rfl
  refine key _ _ _ (Fin.ext ?_) (Fin.ext ?_) ?_
  · show k.val = _ / 384; rw [e0]; omega
  · show r.val = _ % 384 / 128; rw [e0]; omega
  · funext a
    match a with
    | ⟨0, _⟩ => exact Fin.ext (by show (x 0).val = _ % 128; rw [e0]; omega)
    | ⟨1, _⟩ => exact Fin.ext e1.symm
end Blocks

section Body
variable (𝒱 : Variants) (c : Dev nD) (bd : Option 𝒱.V) (i : grid0.Coords) (arg1 : Memref sig .tc .vmem S1536x1024 .bf16) (harg1 : arg1.IsWhole) (arg2 : Memref sig .tc .vmem S1280x1024 .fp8e4m3) (harg2 : arg2.IsWhole) (arg3 : Memref sig .tc .vmem S1280x8 .f32) (harg3 : arg3.IsWhole) (arg4 : Memref sig .tc .vmem S1x1536x128 .i32) (harg4 : arg4.IsWhole) (arg5 : Memref sig .tc .vmem S1536x50 .i32) (harg5 : arg5.IsWhole) (arg6 : Memref sig .tc .vmem S1536x50 .bf16) (harg6 : arg6.IsWhole) (arg7 : Memref sig .tc .vmem S4x384 .f32) (harg7 : arg7.IsWhole) (arg8 : Memref sig .tc .vmem S4x384 .f32) (harg8 : arg8.IsWhole) (arg9 : Memref sig .tc .vmem S4x384 .f32) (harg9 : arg9.IsWhole) (arg10 : Memref sig .tc .vmem S1536x50 .f32) (harg10 : arg10.IsWhole) (arg11 : Memref sig .tc .vmem S1536x1024 .fp8e4m3) (harg11 : arg11.IsWhole) (arg12 : Memref sig .tc .vmem S1536x8 .f32) (harg12 : arg12.IsWhole) (arg13 : Memref sig .tc .vmem S1536x1024 .bf16) (harg13 : arg13.IsWhole) (arg14 : Memref sig .tc .vmem S1280x1024 .bf16) (harg14 : arg14.IsWhole) (arg15 : Memref sig .tc .vmem S512x1280 .f32) (harg15 : arg15.IsWhole) (arg16 : Memref sig .tc .vmem S512x1280 .f32) (harg16 : arg16.IsWhole) (arg17 : Memref sig .tc .vmem S1536x128 .f32) (harg17 : arg17.IsWhole) (arg18 : Memref sig .tc .vmem S1536x128 .f32) (harg18 : arg18.IsWhole) (arg19 : Memref sig .tc .vmem S1536x128 .f32) (harg19 : arg19.IsWhole) (arg20 : Memref sig .tc .vmem S1536x128 .i32) (harg20 : arg20.IsWhole) (arg21 : Memref sig .tc .vmem S1536x128 .i32) (harg21 : arg21.IsWhole)
include 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21

theorem trip7 (k0_h2 : k0_cond2 i = 1#1) (v31 : IVec S128x128 32) (X_arg6 : BufTy.Contents (Elt F) arg6.view.ty) (X_arg17 : BufTy.Contents (Elt F) arg17.view.ty) (X_arg18 : BufTy.Contents (Elt F) arg18.view.ty) (X_arg19 : BufTy.Contents (Elt F) arg19.view.ty) (k : Fin k0_t7_loop.trips) (hv : v31 = lanesW) : tripL_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v31 X_arg6 X_arg17 X_arg18 X_arg19 k = ([⟨Rect.unit (s := S4x384) (k0_off68 k) S1x128.size (k0_off68_inb i k k0_h2), klB lanesW (View.readAt (Elt F) arg17.view (Rect.unit (s := S1536x128) (k0_off64 k 256#32) S128x128.size (k0_off64_inb i k k0_h2 2)).toLoadRect X_arg17) (View.readAt (Elt F) arg18.view (Rect.unit (s := S1536x128) (k0_off64 k 256#32) S128x128.size (k0_off64_inb i k k0_h2 2)).toLoadRect X_arg18) (View.readAt (Elt F) arg19.view (Rect.unit (s := S1536x128) (k0_off64 k 256#32) S128x128.size (k0_off64_inb i k k0_h2 2)).toLoadRect X_arg19) (View.readAt (Elt F) arg6.view (Rect.unit (s := S1536x50) (k0_off65 k 256#32) S128x50.size (k0_off65_inb i k k0_h2 2)).toLoadRect X_arg6)⟩,
     ⟨Rect.unit (s := S4x384) (k0_off67 k) S1x128.size (k0_off67_inb i k k0_h2), klB lanesW (View.readAt (Elt F) arg17.view (Rect.unit (s := S1536x128) (k0_off64 k 128#32) S128x128.size (k0_off64_inb i k k0_h2 1)).toLoadRect X_arg17) (View.readAt (Elt F) arg18.view (Rect.unit (s := S1536x128) (k0_off64 k 128#32) S128x128.size (k0_off64_inb i k k0_h2 1)).toLoadRect X_arg18) (View.readAt (Elt F) arg19.view (Rect.unit (s := S1536x128) (k0_off64 k 128#32) S128x128.size (k0_off64_inb i k k0_h2 1)).toLoadRect X_arg19) (View.readAt (Elt F) arg6.view (Rect.unit (s := S1536x50) (k0_off65 k 128#32) S128x50.size (k0_off65_inb i k k0_h2 1)).toLoadRect X_arg6)⟩,
     ⟨Rect.unit (s := S4x384) (k0_off66 k) S1x128.size (k0_off66_inb i k k0_h2), klB lanesW (View.readAt (Elt F) arg17.view (Rect.unit (s := S1536x128) (k0_off64 k 0#32) S128x128.size (k0_off64_inb i k k0_h2 0)).toLoadRect X_arg17) (View.readAt (Elt F) arg18.view (Rect.unit (s := S1536x128) (k0_off64 k 0#32) S128x128.size (k0_off64_inb i k k0_h2 0)).toLoadRect X_arg18) (View.readAt (Elt F) arg19.view (Rect.unit (s := S1536x128) (k0_off64 k 0#32) S128x128.size (k0_off64_inb i k k0_h2 0)).toLoadRect X_arg19) (View.readAt (Elt F) arg6.view (Rect.unit (s := S1536x50) (k0_off65 k 0#32) S128x50.size (k0_off65_inb i k k0_h2 0)).toLoadRect X_arg6)⟩],
    [⟨Rect.unit (s := S4x384) (k0_off68 k) S1x128.size (k0_off68_inb i k k0_h2), lseB lanesW (View.readAt (Elt F) arg17.view (Rect.unit (s := S1536x128) (k0_off64 k 256#32) S128x128.size (k0_off64_inb i k k0_h2 2)).toLoadRect X_arg17) (View.readAt (Elt F) arg18.view (Rect.unit (s := S1536x128) (k0_off64 k 256#32) S128x128.size (k0_off64_inb i k k0_h2 2)).toLoadRect X_arg18) (View.readAt (Elt F) arg19.view (Rect.unit (s := S1536x128) (k0_off64 k 256#32) S128x128.size (k0_off64_inb i k k0_h2 2)).toLoadRect X_arg19) (View.readAt (Elt F) arg6.view (Rect.unit (s := S1536x50) (k0_off65 k 256#32) S128x50.size (k0_off65_inb i k k0_h2 2)).toLoadRect X_arg6)⟩,
     ⟨Rect.unit (s := S4x384) (k0_off67 k) S1x128.size (k0_off67_inb i k k0_h2), lseB lanesW (View.readAt (Elt F) arg17.view (Rect.unit (s := S1536x128) (k0_off64 k 128#32) S128x128.size (k0_off64_inb i k k0_h2 1)).toLoadRect X_arg17) (View.readAt (Elt F) arg18.view (Rect.unit (s := S1536x128) (k0_off64 k 128#32) S128x128.size (k0_off64_inb i k k0_h2 1)).toLoadRect X_arg18) (View.readAt (Elt F) arg19.view (Rect.unit (s := S1536x128) (k0_off64 k 128#32) S128x128.size (k0_off64_inb i k k0_h2 1)).toLoadRect X_arg19) (View.readAt (Elt F) arg6.view (Rect.unit (s := S1536x50) (k0_off65 k 128#32) S128x50.size (k0_off65_inb i k k0_h2 1)).toLoadRect X_arg6)⟩,
     ⟨Rect.unit (s := S4x384) (k0_off66 k) S1x128.size (k0_off66_inb i k k0_h2), lseB lanesW (View.readAt (Elt F) arg17.view (Rect.unit (s := S1536x128) (k0_off64 k 0#32) S128x128.size (k0_off64_inb i k k0_h2 0)).toLoadRect X_arg17) (View.readAt (Elt F) arg18.view (Rect.unit (s := S1536x128) (k0_off64 k 0#32) S128x128.size (k0_off64_inb i k k0_h2 0)).toLoadRect X_arg18) (View.readAt (Elt F) arg19.view (Rect.unit (s := S1536x128) (k0_off64 k 0#32) S128x128.size (k0_off64_inb i k k0_h2 0)).toLoadRect X_arg19) (View.readAt (Elt F) arg6.view (Rect.unit (s := S1536x50) (k0_off65 k 0#32) S128x50.size (k0_off65_inb i k k0_h2 0)).toLoadRect X_arg6)⟩],
    [⟨Rect.unit (s := S4x384) (k0_off68 k) S1x128.size (k0_off68_inb i k k0_h2), restB lanesW (View.readAt (Elt F) arg17.view (Rect.unit (s := S1536x128) (k0_off64 k 256#32) S128x128.size (k0_off64_inb i k k0_h2 2)).toLoadRect X_arg17) (View.readAt (Elt F) arg18.view (Rect.unit (s := S1536x128) (k0_off64 k 256#32) S128x128.size (k0_off64_inb i k k0_h2 2)).toLoadRect X_arg18) (View.readAt (Elt F) arg19.view (Rect.unit (s := S1536x128) (k0_off64 k 256#32) S128x128.size (k0_off64_inb i k k0_h2 2)).toLoadRect X_arg19) (View.readAt (Elt F) arg6.view (Rect.unit (s := S1536x50) (k0_off65 k 256#32) S128x50.size (k0_off65_inb i k k0_h2 2)).toLoadRect X_arg6)⟩,
     ⟨Rect.unit (s := S4x384) (k0_off67 k) S1x128.size (k0_off67_inb i k k0_h2), restB lanesW (View.readAt (Elt F) arg17.view (Rect.unit (s := S1536x128) (k0_off64 k 128#32) S128x128.size (k0_off64_inb i k k0_h2 1)).toLoadRect X_arg17) (View.readAt (Elt F) arg18.view (Rect.unit (s := S1536x128) (k0_off64 k 128#32) S128x128.size (k0_off64_inb i k k0_h2 1)).toLoadRect X_arg18) (View.readAt (Elt F) arg19.view (Rect.unit (s := S1536x128) (k0_off64 k 128#32) S128x128.size (k0_off64_inb i k k0_h2 1)).toLoadRect X_arg19) (View.readAt (Elt F) arg6.view (Rect.unit (s := S1536x50) (k0_off65 k 128#32) S128x50.size (k0_off65_inb i k k0_h2 1)).toLoadRect X_arg6)⟩,
     ⟨Rect.unit (s := S4x384) (k0_off66 k) S1x128.size (k0_off66_inb i k k0_h2), restB lanesW (View.readAt (Elt F) arg17.view (Rect.unit (s := S1536x128) (k0_off64 k 0#32) S128x128.size (k0_off64_inb i k k0_h2 0)).toLoadRect X_arg17) (View.readAt (Elt F) arg18.view (Rect.unit (s := S1536x128) (k0_off64 k 0#32) S128x128.size (k0_off64_inb i k k0_h2 0)).toLoadRect X_arg18) (View.readAt (Elt F) arg19.view (Rect.unit (s := S1536x128) (k0_off64 k 0#32) S128x128.size (k0_off64_inb i k k0_h2 0)).toLoadRect X_arg19) (View.readAt (Elt F) arg6.view (Rect.unit (s := S1536x50) (k0_off65 k 0#32) S128x50.size (k0_off65_inb i k k0_h2 0)).toLoadRect X_arg6)⟩],
    [⟨Rect.unit (s := S1536x50) (k0_off65 k 256#32) S128x50.size (k0_off65_inb i k k0_h2 2), zsB (View.readAt (Elt F) arg19.view (Rect.unit (s := S1536x128) (k0_off64 k 256#32) S128x128.size (k0_off64_inb i k k0_h2 2)).toLoadRect X_arg19)⟩,
     ⟨Rect.unit (s := S1536x50) (k0_off65 k 128#32) S128x50.size (k0_off65_inb i k k0_h2 1), zsB (View.readAt (Elt F) arg19.view (Rect.unit (s := S1536x128) (k0_off64 k 128#32) S128x128.size (k0_off64_inb i k k0_h2 1)).toLoadRect X_arg19)⟩,
     ⟨Rect.unit (s := S1536x50) (k0_off65 k 0#32) S128x50.size (k0_off65_inb i k k0_h2 0), zsB (View.readAt (Elt F) arg19.view (Rect.unit (s := S1536x128) (k0_off64 k 0#32) S128x128.size (k0_off64_inb i k k0_h2 0)).toLoadRect X_arg19)⟩]) := by
  subst hv; unfold tripL_k0_t7 trip_k0_t7; rfl

theorem step7klB_in (k0_h2 : k0_cond2 i = 1#1) (v31 : IVec S128x128 32) (X_arg6 : BufTy.Contents (Elt F) arg6.view.ty) (X_arg17 : BufTy.Contents (Elt F) arg17.view.ty) (X_arg18 : BufTy.Contents (Elt F) arg18.view.ty) (X_arg19 : BufTy.Contents (Elt F) arg19.view.ty) (k : Fin k0_t7_loop.trips) (hv : v31 = lanesW) (g : BufTy.Contents (Elt F) arg7.view.ty) (L : List (View.Piece (Elt F) S4x384 .f32)) (y : S4x384.Idx) (h0 : 1 * k.val ≤ (y 0).val) (h1 : (y 0).val < 1 * k.val + 1) :
    arg7.view.read (Elt F) (arg7.view.writes (Elt F) g ((tripL_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v31 X_arg6 X_arg17 X_arg18 X_arg19 k).1 ++ L)) y = outV klB (arg17.view.read (Elt F) X_arg17) (arg18.view.read (Elt F) X_arg18) (arg19.view.read (Elt F) X_arg19) (arg6.view.read (Elt F) X_arg6) y := by
  have hk : k.val < 4 := Nat.lt_of_lt_of_le k.isLt k0_t7_abs.2.1
  rw [trip7 (hv := hv), View.writes_append]
  refine View.read_writes_apply_of_pieces arg7.view _ _ _ (View.PiecesOf.mem ?_) y ?_
  · exact ⟨fun x => (congrFun (congr (congr (congr (congrArg (klB lanesW) (rows_read arg17.view X_arg17 (k0_off64_inb i k k0_h2 2) ⟨k.val, hk⟩ 2 (k0_off64_eq k 2))) (rows_read arg18.view X_arg18 (k0_off64_inb i k k0_h2 2) ⟨k.val, hk⟩ 2 (k0_off64_eq k 2))) (rows_read arg19.view X_arg19 (k0_off64_inb i k k0_h2 2) ⟨k.val, hk⟩ 2 (k0_off64_eq k 2))) (rows_read arg6.view X_arg6 (k0_off65_inb i k k0_h2 2) ⟨k.val, hk⟩ 2 (k0_off65_eq k 2))) x).trans (out_spread klB _ _ _ _ (k0_off68_inb i k k0_h2) ⟨k.val, hk⟩ 2 (k0_off68_eq k) x), fun x => (congrFun (congr (congr (congr (congrArg (klB lanesW) (rows_read arg17.view X_arg17 (k0_off64_inb i k k0_h2 1) ⟨k.val, hk⟩ 1 (k0_off64_eq k 1))) (rows_read arg18.view X_arg18 (k0_off64_inb i k k0_h2 1) ⟨k.val, hk⟩ 1 (k0_off64_eq k 1))) (rows_read arg19.view X_arg19 (k0_off64_inb i k k0_h2 1) ⟨k.val, hk⟩ 1 (k0_off64_eq k 1))) (rows_read arg6.view X_arg6 (k0_off65_inb i k k0_h2 1) ⟨k.val, hk⟩ 1 (k0_off65_eq k 1))) x).trans (out_spread klB _ _ _ _ (k0_off67_inb i k k0_h2) ⟨k.val, hk⟩ 1 (k0_off67_eq k) x), fun x => (congrFun (congr (congr (congr (congrArg (klB lanesW) (rows_read arg17.view X_arg17 (k0_off64_inb i k k0_h2 0) ⟨k.val, hk⟩ 0 (k0_off64_eq k 0))) (rows_read arg18.view X_arg18 (k0_off64_inb i k k0_h2 0) ⟨k.val, hk⟩ 0 (k0_off64_eq k 0))) (rows_read arg19.view X_arg19 (k0_off64_inb i k k0_h2 0) ⟨k.val, hk⟩ 0 (k0_off64_eq k 0))) (rows_read arg6.view X_arg6 (k0_off65_inb i k k0_h2 0) ⟨k.val, hk⟩ 0 (k0_off65_eq k 0))) x).trans (out_spread klB _ _ _ _ (k0_off66_inb i k k0_h2) ⟨k.val, hk⟩ 0 (k0_off66_eq k) x), trivial⟩
  · have hy1 : (y 1).val < 384 := (y 1).isLt
    rcases (by omega : (0 ≤ (y 1).val ∧ (y 1).val < 128) ∨ (128 ≤ (y 1).val ∧ (y 1).val < 256) ∨ (256 ≤ (y 1).val ∧ (y 1).val < 384)) with h | h | h
    · exact ⟨_, List.mem_cons_of_mem _ (List.mem_cons_of_mem _ (List.mem_cons_self)), mem_unit (k0_off66_inb i k k0_h2) (k0_off66_eq k) y (by omega) (by show _ < k.val + 1; omega) h.1 h.2⟩
    · exact ⟨_, List.mem_cons_of_mem _ (List.mem_cons_self), mem_unit (k0_off67_inb i k k0_h2) (k0_off67_eq k) y (by omega) (by show _ < k.val + 1; omega) h.1 h.2⟩
    · exact ⟨_, List.mem_cons_self, mem_unit (k0_off68_inb i k k0_h2) (k0_off68_eq k) y (by omega) (by show _ < k.val + 1; omega) h.1 h.2⟩

theorem step7klB_out (k0_h2 : k0_cond2 i = 1#1) (v31 : IVec S128x128 32) (X_arg6 : BufTy.Contents (Elt F) arg6.view.ty) (X_arg17 : BufTy.Contents (Elt F) arg17.view.ty) (X_arg18 : BufTy.Contents (Elt F) arg18.view.ty) (X_arg19 : BufTy.Contents (Elt F) arg19.view.ty) (k : Fin k0_t7_loop.trips) (hv : v31 = lanesW) (g : BufTy.Contents (Elt F) arg7.view.ty) (L : List (View.Piece (Elt F) S4x384 .f32)) (y : S4x384.Idx) (h : (y 0).val < 1 * k.val ∨ 1 * k.val + 1 ≤ (y 0).val) :
    arg7.view.read (Elt F) (arg7.view.writes (Elt F) g ((tripL_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v31 X_arg6 X_arg17 X_arg18 X_arg19 k).1 ++ L)) y = arg7.view.read (Elt F) (arg7.view.writes (Elt F) g L) y := by
  rw [trip7 (hv := hv), View.writes_append]
  refine View.read_writes_apply_of_forall_not_mem arg7.view _ y _ (List.forall_mem_cons.mpr ?_)
  exact ⟨nmem_unit (k0_off68_inb i k k0_h2) (k0_off68_eq k) y (by show _ < k.val ∨ k.val + 1 ≤ _; omega), List.forall_mem_cons.mpr ⟨nmem_unit (k0_off67_inb i k k0_h2) (k0_off67_eq k) y (by show _ < k.val ∨ k.val + 1 ≤ _; omega), List.forall_mem_cons.mpr ⟨nmem_unit (k0_off66_inb i k k0_h2) (k0_off66_eq k) y (by show _ < k.val ∨ k.val + 1 ≤ _; omega), (fun _ hm => absurd hm List.not_mem_nil)⟩⟩⟩

theorem loop7klB (k0_h2 : k0_cond2 i = 1#1) (v31 : IVec S128x128 32) (X_arg6 : BufTy.Contents (Elt F) arg6.view.ty) (X_arg17 : BufTy.Contents (Elt F) arg17.view.ty) (X_arg18 : BufTy.Contents (Elt F) arg18.view.ty) (X_arg19 : BufTy.Contents (Elt F) arg19.view.ty)  (hv : v31 = lanesW) (g : BufTy.Contents (Elt F) arg7.view.ty) (y : S4x384.Idx) :
    arg7.view.read (Elt F) (arg7.view.writes (Elt F) g (pb_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v31 X_arg6 X_arg17 X_arg18 X_arg19 4).1) y = outV klB (arg17.view.read (Elt F) X_arg17) (arg18.view.read (Elt F) X_arg18) (arg19.view.read (Elt F) X_arg19) (arg6.view.read (Elt F) X_arg6) y := by
  have ht : k0_t7_loop.trips = 4 := by decide +kernel
  have hy : (y 0).val < 4 := (y 0).isLt
  have H : ∀ n ≤ 4, (y 0).val < 1 * n → arg7.view.read (Elt F) (arg7.view.writes (Elt F) g (pb_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v31 X_arg6 X_arg17 X_arg18 X_arg19 n).1) y = outV klB (arg17.view.read (Elt F) X_arg17) (arg18.view.read (Elt F) X_arg18) (arg19.view.read (Elt F) X_arg19) (arg6.view.read (Elt F) X_arg6) y := by
    intro n
    induction n with
    | zero => intro _ h; omega
    | succ k ih =>
      intro hk hlt
      have hs := pb_k0_t7_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v31 X_arg6 X_arg17 X_arg18 X_arg19 ⟨k, lt_of_lt_of_eq (by omega) ht.symm⟩
      refine (congrArg (fun p => arg7.view.read (Elt F) (arg7.view.writes (Elt F) g (p.1)) y) hs).trans ?_
      by_cases h : (y 0).val < 1 * k
      · exact (step7klB_out (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v31 X_arg6 X_arg17 X_arg18 X_arg19 ⟨k, lt_of_lt_of_eq (by omega) ht.symm⟩ hv g _ y (Or.inl h)).trans (ih (by omega) h)
      · exact step7klB_in (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v31 X_arg6 X_arg17 X_arg18 X_arg19 ⟨k, lt_of_lt_of_eq (by omega) ht.symm⟩ hv g _ y (by show 1 * k ≤ _; omega) (by show _ < 1 * k + 1; omega)
  exact H 4 le_rfl (by omega)

theorem step7lseB_in (k0_h2 : k0_cond2 i = 1#1) (v31 : IVec S128x128 32) (X_arg6 : BufTy.Contents (Elt F) arg6.view.ty) (X_arg17 : BufTy.Contents (Elt F) arg17.view.ty) (X_arg18 : BufTy.Contents (Elt F) arg18.view.ty) (X_arg19 : BufTy.Contents (Elt F) arg19.view.ty) (k : Fin k0_t7_loop.trips) (hv : v31 = lanesW) (g : BufTy.Contents (Elt F) arg8.view.ty) (L : List (View.Piece (Elt F) S4x384 .f32)) (y : S4x384.Idx) (h0 : 1 * k.val ≤ (y 0).val) (h1 : (y 0).val < 1 * k.val + 1) :
    arg8.view.read (Elt F) (arg8.view.writes (Elt F) g ((tripL_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v31 X_arg6 X_arg17 X_arg18 X_arg19 k).2.1 ++ L)) y = outV lseB (arg17.view.read (Elt F) X_arg17) (arg18.view.read (Elt F) X_arg18) (arg19.view.read (Elt F) X_arg19) (arg6.view.read (Elt F) X_arg6) y := by
  have hk : k.val < 4 := Nat.lt_of_lt_of_le k.isLt k0_t7_abs.2.1
  rw [trip7 (hv := hv), View.writes_append]
  refine View.read_writes_apply_of_pieces arg8.view _ _ _ (View.PiecesOf.mem ?_) y ?_
  · exact ⟨fun x => (congrFun (congr (congr (congr (congrArg (lseB lanesW) (rows_read arg17.view X_arg17 (k0_off64_inb i k k0_h2 2) ⟨k.val, hk⟩ 2 (k0_off64_eq k 2))) (rows_read arg18.view X_arg18 (k0_off64_inb i k k0_h2 2) ⟨k.val, hk⟩ 2 (k0_off64_eq k 2))) (rows_read arg19.view X_arg19 (k0_off64_inb i k k0_h2 2) ⟨k.val, hk⟩ 2 (k0_off64_eq k 2))) (rows_read arg6.view X_arg6 (k0_off65_inb i k k0_h2 2) ⟨k.val, hk⟩ 2 (k0_off65_eq k 2))) x).trans (out_spread lseB _ _ _ _ (k0_off68_inb i k k0_h2) ⟨k.val, hk⟩ 2 (k0_off68_eq k) x), fun x => (congrFun (congr (congr (congr (congrArg (lseB lanesW) (rows_read arg17.view X_arg17 (k0_off64_inb i k k0_h2 1) ⟨k.val, hk⟩ 1 (k0_off64_eq k 1))) (rows_read arg18.view X_arg18 (k0_off64_inb i k k0_h2 1) ⟨k.val, hk⟩ 1 (k0_off64_eq k 1))) (rows_read arg19.view X_arg19 (k0_off64_inb i k k0_h2 1) ⟨k.val, hk⟩ 1 (k0_off64_eq k 1))) (rows_read arg6.view X_arg6 (k0_off65_inb i k k0_h2 1) ⟨k.val, hk⟩ 1 (k0_off65_eq k 1))) x).trans (out_spread lseB _ _ _ _ (k0_off67_inb i k k0_h2) ⟨k.val, hk⟩ 1 (k0_off67_eq k) x), fun x => (congrFun (congr (congr (congr (congrArg (lseB lanesW) (rows_read arg17.view X_arg17 (k0_off64_inb i k k0_h2 0) ⟨k.val, hk⟩ 0 (k0_off64_eq k 0))) (rows_read arg18.view X_arg18 (k0_off64_inb i k k0_h2 0) ⟨k.val, hk⟩ 0 (k0_off64_eq k 0))) (rows_read arg19.view X_arg19 (k0_off64_inb i k k0_h2 0) ⟨k.val, hk⟩ 0 (k0_off64_eq k 0))) (rows_read arg6.view X_arg6 (k0_off65_inb i k k0_h2 0) ⟨k.val, hk⟩ 0 (k0_off65_eq k 0))) x).trans (out_spread lseB _ _ _ _ (k0_off66_inb i k k0_h2) ⟨k.val, hk⟩ 0 (k0_off66_eq k) x), trivial⟩
  · have hy1 : (y 1).val < 384 := (y 1).isLt
    rcases (by omega : (0 ≤ (y 1).val ∧ (y 1).val < 128) ∨ (128 ≤ (y 1).val ∧ (y 1).val < 256) ∨ (256 ≤ (y 1).val ∧ (y 1).val < 384)) with h | h | h
    · exact ⟨_, List.mem_cons_of_mem _ (List.mem_cons_of_mem _ (List.mem_cons_self)), mem_unit (k0_off66_inb i k k0_h2) (k0_off66_eq k) y (by omega) (by show _ < k.val + 1; omega) h.1 h.2⟩
    · exact ⟨_, List.mem_cons_of_mem _ (List.mem_cons_self), mem_unit (k0_off67_inb i k k0_h2) (k0_off67_eq k) y (by omega) (by show _ < k.val + 1; omega) h.1 h.2⟩
    · exact ⟨_, List.mem_cons_self, mem_unit (k0_off68_inb i k k0_h2) (k0_off68_eq k) y (by omega) (by show _ < k.val + 1; omega) h.1 h.2⟩

theorem step7lseB_out (k0_h2 : k0_cond2 i = 1#1) (v31 : IVec S128x128 32) (X_arg6 : BufTy.Contents (Elt F) arg6.view.ty) (X_arg17 : BufTy.Contents (Elt F) arg17.view.ty) (X_arg18 : BufTy.Contents (Elt F) arg18.view.ty) (X_arg19 : BufTy.Contents (Elt F) arg19.view.ty) (k : Fin k0_t7_loop.trips) (hv : v31 = lanesW) (g : BufTy.Contents (Elt F) arg8.view.ty) (L : List (View.Piece (Elt F) S4x384 .f32)) (y : S4x384.Idx) (h : (y 0).val < 1 * k.val ∨ 1 * k.val + 1 ≤ (y 0).val) :
    arg8.view.read (Elt F) (arg8.view.writes (Elt F) g ((tripL_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v31 X_arg6 X_arg17 X_arg18 X_arg19 k).2.1 ++ L)) y = arg8.view.read (Elt F) (arg8.view.writes (Elt F) g L) y := by
  rw [trip7 (hv := hv), View.writes_append]
  refine View.read_writes_apply_of_forall_not_mem arg8.view _ y _ (List.forall_mem_cons.mpr ?_)
  exact ⟨nmem_unit (k0_off68_inb i k k0_h2) (k0_off68_eq k) y (by show _ < k.val ∨ k.val + 1 ≤ _; omega), List.forall_mem_cons.mpr ⟨nmem_unit (k0_off67_inb i k k0_h2) (k0_off67_eq k) y (by show _ < k.val ∨ k.val + 1 ≤ _; omega), List.forall_mem_cons.mpr ⟨nmem_unit (k0_off66_inb i k k0_h2) (k0_off66_eq k) y (by show _ < k.val ∨ k.val + 1 ≤ _; omega), (fun _ hm => absurd hm List.not_mem_nil)⟩⟩⟩

theorem loop7lseB (k0_h2 : k0_cond2 i = 1#1) (v31 : IVec S128x128 32) (X_arg6 : BufTy.Contents (Elt F) arg6.view.ty) (X_arg17 : BufTy.Contents (Elt F) arg17.view.ty) (X_arg18 : BufTy.Contents (Elt F) arg18.view.ty) (X_arg19 : BufTy.Contents (Elt F) arg19.view.ty)  (hv : v31 = lanesW) (g : BufTy.Contents (Elt F) arg8.view.ty) (y : S4x384.Idx) :
    arg8.view.read (Elt F) (arg8.view.writes (Elt F) g (pb_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v31 X_arg6 X_arg17 X_arg18 X_arg19 4).2.1) y = outV lseB (arg17.view.read (Elt F) X_arg17) (arg18.view.read (Elt F) X_arg18) (arg19.view.read (Elt F) X_arg19) (arg6.view.read (Elt F) X_arg6) y := by
  have ht : k0_t7_loop.trips = 4 := by decide +kernel
  have hy : (y 0).val < 4 := (y 0).isLt
  have H : ∀ n ≤ 4, (y 0).val < 1 * n → arg8.view.read (Elt F) (arg8.view.writes (Elt F) g (pb_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v31 X_arg6 X_arg17 X_arg18 X_arg19 n).2.1) y = outV lseB (arg17.view.read (Elt F) X_arg17) (arg18.view.read (Elt F) X_arg18) (arg19.view.read (Elt F) X_arg19) (arg6.view.read (Elt F) X_arg6) y := by
    intro n
    induction n with
    | zero => intro _ h; omega
    | succ k ih =>
      intro hk hlt
      have hs := pb_k0_t7_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v31 X_arg6 X_arg17 X_arg18 X_arg19 ⟨k, lt_of_lt_of_eq (by omega) ht.symm⟩
      refine (congrArg (fun p => arg8.view.read (Elt F) (arg8.view.writes (Elt F) g (p.2.1)) y) hs).trans ?_
      by_cases h : (y 0).val < 1 * k
      · exact (step7lseB_out (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v31 X_arg6 X_arg17 X_arg18 X_arg19 ⟨k, lt_of_lt_of_eq (by omega) ht.symm⟩ hv g _ y (Or.inl h)).trans (ih (by omega) h)
      · exact step7lseB_in (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v31 X_arg6 X_arg17 X_arg18 X_arg19 ⟨k, lt_of_lt_of_eq (by omega) ht.symm⟩ hv g _ y (by show 1 * k ≤ _; omega) (by show _ < 1 * k + 1; omega)
  exact H 4 le_rfl (by omega)

theorem step7restB_in (k0_h2 : k0_cond2 i = 1#1) (v31 : IVec S128x128 32) (X_arg6 : BufTy.Contents (Elt F) arg6.view.ty) (X_arg17 : BufTy.Contents (Elt F) arg17.view.ty) (X_arg18 : BufTy.Contents (Elt F) arg18.view.ty) (X_arg19 : BufTy.Contents (Elt F) arg19.view.ty) (k : Fin k0_t7_loop.trips) (hv : v31 = lanesW) (g : BufTy.Contents (Elt F) arg9.view.ty) (L : List (View.Piece (Elt F) S4x384 .f32)) (y : S4x384.Idx) (h0 : 1 * k.val ≤ (y 0).val) (h1 : (y 0).val < 1 * k.val + 1) :
    arg9.view.read (Elt F) (arg9.view.writes (Elt F) g ((tripL_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v31 X_arg6 X_arg17 X_arg18 X_arg19 k).2.2.1 ++ L)) y = outV restB (arg17.view.read (Elt F) X_arg17) (arg18.view.read (Elt F) X_arg18) (arg19.view.read (Elt F) X_arg19) (arg6.view.read (Elt F) X_arg6) y := by
  have hk : k.val < 4 := Nat.lt_of_lt_of_le k.isLt k0_t7_abs.2.1
  rw [trip7 (hv := hv), View.writes_append]
  refine View.read_writes_apply_of_pieces arg9.view _ _ _ (View.PiecesOf.mem ?_) y ?_
  · exact ⟨fun x => (congrFun (congr (congr (congr (congrArg (restB lanesW) (rows_read arg17.view X_arg17 (k0_off64_inb i k k0_h2 2) ⟨k.val, hk⟩ 2 (k0_off64_eq k 2))) (rows_read arg18.view X_arg18 (k0_off64_inb i k k0_h2 2) ⟨k.val, hk⟩ 2 (k0_off64_eq k 2))) (rows_read arg19.view X_arg19 (k0_off64_inb i k k0_h2 2) ⟨k.val, hk⟩ 2 (k0_off64_eq k 2))) (rows_read arg6.view X_arg6 (k0_off65_inb i k k0_h2 2) ⟨k.val, hk⟩ 2 (k0_off65_eq k 2))) x).trans (out_spread restB _ _ _ _ (k0_off68_inb i k k0_h2) ⟨k.val, hk⟩ 2 (k0_off68_eq k) x), fun x => (congrFun (congr (congr (congr (congrArg (restB lanesW) (rows_read arg17.view X_arg17 (k0_off64_inb i k k0_h2 1) ⟨k.val, hk⟩ 1 (k0_off64_eq k 1))) (rows_read arg18.view X_arg18 (k0_off64_inb i k k0_h2 1) ⟨k.val, hk⟩ 1 (k0_off64_eq k 1))) (rows_read arg19.view X_arg19 (k0_off64_inb i k k0_h2 1) ⟨k.val, hk⟩ 1 (k0_off64_eq k 1))) (rows_read arg6.view X_arg6 (k0_off65_inb i k k0_h2 1) ⟨k.val, hk⟩ 1 (k0_off65_eq k 1))) x).trans (out_spread restB _ _ _ _ (k0_off67_inb i k k0_h2) ⟨k.val, hk⟩ 1 (k0_off67_eq k) x), fun x => (congrFun (congr (congr (congr (congrArg (restB lanesW) (rows_read arg17.view X_arg17 (k0_off64_inb i k k0_h2 0) ⟨k.val, hk⟩ 0 (k0_off64_eq k 0))) (rows_read arg18.view X_arg18 (k0_off64_inb i k k0_h2 0) ⟨k.val, hk⟩ 0 (k0_off64_eq k 0))) (rows_read arg19.view X_arg19 (k0_off64_inb i k k0_h2 0) ⟨k.val, hk⟩ 0 (k0_off64_eq k 0))) (rows_read arg6.view X_arg6 (k0_off65_inb i k k0_h2 0) ⟨k.val, hk⟩ 0 (k0_off65_eq k 0))) x).trans (out_spread restB _ _ _ _ (k0_off66_inb i k k0_h2) ⟨k.val, hk⟩ 0 (k0_off66_eq k) x), trivial⟩
  · have hy1 : (y 1).val < 384 := (y 1).isLt
    rcases (by omega : (0 ≤ (y 1).val ∧ (y 1).val < 128) ∨ (128 ≤ (y 1).val ∧ (y 1).val < 256) ∨ (256 ≤ (y 1).val ∧ (y 1).val < 384)) with h | h | h
    · exact ⟨_, List.mem_cons_of_mem _ (List.mem_cons_of_mem _ (List.mem_cons_self)), mem_unit (k0_off66_inb i k k0_h2) (k0_off66_eq k) y (by omega) (by show _ < k.val + 1; omega) h.1 h.2⟩
    · exact ⟨_, List.mem_cons_of_mem _ (List.mem_cons_self), mem_unit (k0_off67_inb i k k0_h2) (k0_off67_eq k) y (by omega) (by show _ < k.val + 1; omega) h.1 h.2⟩
    · exact ⟨_, List.mem_cons_self, mem_unit (k0_off68_inb i k k0_h2) (k0_off68_eq k) y (by omega) (by show _ < k.val + 1; omega) h.1 h.2⟩

theorem step7restB_out (k0_h2 : k0_cond2 i = 1#1) (v31 : IVec S128x128 32) (X_arg6 : BufTy.Contents (Elt F) arg6.view.ty) (X_arg17 : BufTy.Contents (Elt F) arg17.view.ty) (X_arg18 : BufTy.Contents (Elt F) arg18.view.ty) (X_arg19 : BufTy.Contents (Elt F) arg19.view.ty) (k : Fin k0_t7_loop.trips) (hv : v31 = lanesW) (g : BufTy.Contents (Elt F) arg9.view.ty) (L : List (View.Piece (Elt F) S4x384 .f32)) (y : S4x384.Idx) (h : (y 0).val < 1 * k.val ∨ 1 * k.val + 1 ≤ (y 0).val) :
    arg9.view.read (Elt F) (arg9.view.writes (Elt F) g ((tripL_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v31 X_arg6 X_arg17 X_arg18 X_arg19 k).2.2.1 ++ L)) y = arg9.view.read (Elt F) (arg9.view.writes (Elt F) g L) y := by
  rw [trip7 (hv := hv), View.writes_append]
  refine View.read_writes_apply_of_forall_not_mem arg9.view _ y _ (List.forall_mem_cons.mpr ?_)
  exact ⟨nmem_unit (k0_off68_inb i k k0_h2) (k0_off68_eq k) y (by show _ < k.val ∨ k.val + 1 ≤ _; omega), List.forall_mem_cons.mpr ⟨nmem_unit (k0_off67_inb i k k0_h2) (k0_off67_eq k) y (by show _ < k.val ∨ k.val + 1 ≤ _; omega), List.forall_mem_cons.mpr ⟨nmem_unit (k0_off66_inb i k k0_h2) (k0_off66_eq k) y (by show _ < k.val ∨ k.val + 1 ≤ _; omega), (fun _ hm => absurd hm List.not_mem_nil)⟩⟩⟩

theorem loop7restB (k0_h2 : k0_cond2 i = 1#1) (v31 : IVec S128x128 32) (X_arg6 : BufTy.Contents (Elt F) arg6.view.ty) (X_arg17 : BufTy.Contents (Elt F) arg17.view.ty) (X_arg18 : BufTy.Contents (Elt F) arg18.view.ty) (X_arg19 : BufTy.Contents (Elt F) arg19.view.ty)  (hv : v31 = lanesW) (g : BufTy.Contents (Elt F) arg9.view.ty) (y : S4x384.Idx) :
    arg9.view.read (Elt F) (arg9.view.writes (Elt F) g (pb_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v31 X_arg6 X_arg17 X_arg18 X_arg19 4).2.2.1) y = outV restB (arg17.view.read (Elt F) X_arg17) (arg18.view.read (Elt F) X_arg18) (arg19.view.read (Elt F) X_arg19) (arg6.view.read (Elt F) X_arg6) y := by
  have ht : k0_t7_loop.trips = 4 := by decide +kernel
  have hy : (y 0).val < 4 := (y 0).isLt
  have H : ∀ n ≤ 4, (y 0).val < 1 * n → arg9.view.read (Elt F) (arg9.view.writes (Elt F) g (pb_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v31 X_arg6 X_arg17 X_arg18 X_arg19 n).2.2.1) y = outV restB (arg17.view.read (Elt F) X_arg17) (arg18.view.read (Elt F) X_arg18) (arg19.view.read (Elt F) X_arg19) (arg6.view.read (Elt F) X_arg6) y := by
    intro n
    induction n with
    | zero => intro _ h; omega
    | succ k ih =>
      intro hk hlt
      have hs := pb_k0_t7_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v31 X_arg6 X_arg17 X_arg18 X_arg19 ⟨k, lt_of_lt_of_eq (by omega) ht.symm⟩
      refine (congrArg (fun p => arg9.view.read (Elt F) (arg9.view.writes (Elt F) g (p.2.2.1)) y) hs).trans ?_
      by_cases h : (y 0).val < 1 * k
      · exact (step7restB_out (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v31 X_arg6 X_arg17 X_arg18 X_arg19 ⟨k, lt_of_lt_of_eq (by omega) ht.symm⟩ hv g _ y (Or.inl h)).trans (ih (by omega) h)
      · exact step7restB_in (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v31 X_arg6 X_arg17 X_arg18 X_arg19 ⟨k, lt_of_lt_of_eq (by omega) ht.symm⟩ hv g _ y (by show 1 * k ≤ _; omega) (by show _ < 1 * k + 1; omega)
  exact H 4 le_rfl (by omega)

theorem step7zsB_in (k0_h2 : k0_cond2 i = 1#1) (v31 : IVec S128x128 32) (X_arg6 : BufTy.Contents (Elt F) arg6.view.ty) (X_arg17 : BufTy.Contents (Elt F) arg17.view.ty) (X_arg18 : BufTy.Contents (Elt F) arg18.view.ty) (X_arg19 : BufTy.Contents (Elt F) arg19.view.ty) (k : Fin k0_t7_loop.trips) (hv : v31 = lanesW) (g : BufTy.Contents (Elt F) arg10.view.ty) (L : List (View.Piece (Elt F) S1536x50 .f32)) (y : S1536x50.Idx) (h0 : 384 * k.val ≤ (y 0).val) (h1 : (y 0).val < 384 * k.val + 384) :
    arg10.view.read (Elt F) (arg10.view.writes (Elt F) g ((tripL_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v31 X_arg6 X_arg17 X_arg18 X_arg19 k).2.2.2 ++ L)) y = zsV (arg19.view.read (Elt F) X_arg19) y := by
  have hk : k.val < 4 := Nat.lt_of_lt_of_le k.isLt k0_t7_abs.2.1
  rw [trip7 (hv := hv), View.writes_append]
  refine View.read_writes_apply_of_pieces arg10.view _ _ _ (View.PiecesOf.mem ?_) y ?_
  · exact ⟨fun x => (congrFun (congrArg zsB (rows_read arg19.view X_arg19 (k0_off64_inb i k k0_h2 2) ⟨k.val, hk⟩ 2 (k0_off64_eq k 2))) x).trans (zs_spread _ (k0_off65_inb i k k0_h2 2) ⟨k.val, hk⟩ 2 (k0_off65_eq k 2) x), fun x => (congrFun (congrArg zsB (rows_read arg19.view X_arg19 (k0_off64_inb i k k0_h2 1) ⟨k.val, hk⟩ 1 (k0_off64_eq k 1))) x).trans (zs_spread _ (k0_off65_inb i k k0_h2 1) ⟨k.val, hk⟩ 1 (k0_off65_eq k 1) x), fun x => (congrFun (congrArg zsB (rows_read arg19.view X_arg19 (k0_off64_inb i k k0_h2 0) ⟨k.val, hk⟩ 0 (k0_off64_eq k 0))) x).trans (zs_spread _ (k0_off65_inb i k k0_h2 0) ⟨k.val, hk⟩ 0 (k0_off65_eq k 0) x), trivial⟩
  · rcases (by omega : (384 * k.val + 128 * 0 ≤ (y 0).val ∧ (y 0).val < 384 * k.val + 128 * 0 + 128) ∨ (384 * k.val + 128 * 1 ≤ (y 0).val ∧ (y 0).val < 384 * k.val + 128 * 1 + 128) ∨ (384 * k.val + 128 * 2 ≤ (y 0).val ∧ (y 0).val < 384 * k.val + 128 * 2 + 128)) with h | h | h
    · exact ⟨_, List.mem_cons_of_mem _ (List.mem_cons_of_mem _ (List.mem_cons_self)), mem_unit (k0_off65_inb i k k0_h2 0) (k0_off65_eq k 0) y h.1 h.2 (Nat.zero_le _) (lt_of_lt_of_eq (y 1).isLt (Nat.zero_add _).symm)⟩
    · exact ⟨_, List.mem_cons_of_mem _ (List.mem_cons_self), mem_unit (k0_off65_inb i k k0_h2 1) (k0_off65_eq k 1) y h.1 h.2 (Nat.zero_le _) (lt_of_lt_of_eq (y 1).isLt (Nat.zero_add _).symm)⟩
    · exact ⟨_, List.mem_cons_self, mem_unit (k0_off65_inb i k k0_h2 2) (k0_off65_eq k 2) y h.1 h.2 (Nat.zero_le _) (lt_of_lt_of_eq (y 1).isLt (Nat.zero_add _).symm)⟩

theorem step7zsB_out (k0_h2 : k0_cond2 i = 1#1) (v31 : IVec S128x128 32) (X_arg6 : BufTy.Contents (Elt F) arg6.view.ty) (X_arg17 : BufTy.Contents (Elt F) arg17.view.ty) (X_arg18 : BufTy.Contents (Elt F) arg18.view.ty) (X_arg19 : BufTy.Contents (Elt F) arg19.view.ty) (k : Fin k0_t7_loop.trips) (hv : v31 = lanesW) (g : BufTy.Contents (Elt F) arg10.view.ty) (L : List (View.Piece (Elt F) S1536x50 .f32)) (y : S1536x50.Idx) (h : (y 0).val < 384 * k.val ∨ 384 * k.val + 384 ≤ (y 0).val) :
    arg10.view.read (Elt F) (arg10.view.writes (Elt F) g ((tripL_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v31 X_arg6 X_arg17 X_arg18 X_arg19 k).2.2.2 ++ L)) y = arg10.view.read (Elt F) (arg10.view.writes (Elt F) g L) y := by
  rw [trip7 (hv := hv), View.writes_append]
  refine View.read_writes_apply_of_forall_not_mem arg10.view _ y _ (List.forall_mem_cons.mpr ?_)
  exact ⟨nmem_unit (k0_off65_inb i k k0_h2 2) (k0_off65_eq k 2) y (by show _ < 384 * k.val + 128 * 2 ∨ 384 * k.val + 128 * 2 + 128 ≤ _; omega), List.forall_mem_cons.mpr ⟨nmem_unit (k0_off65_inb i k k0_h2 1) (k0_off65_eq k 1) y (by show _ < 384 * k.val + 128 * 1 ∨ 384 * k.val + 128 * 1 + 128 ≤ _; omega), List.forall_mem_cons.mpr ⟨nmem_unit (k0_off65_inb i k k0_h2 0) (k0_off65_eq k 0) y (by show _ < 384 * k.val + 128 * 0 ∨ 384 * k.val + 128 * 0 + 128 ≤ _; omega), (fun _ hm => absurd hm List.not_mem_nil)⟩⟩⟩

theorem loop7zsB (k0_h2 : k0_cond2 i = 1#1) (v31 : IVec S128x128 32) (X_arg6 : BufTy.Contents (Elt F) arg6.view.ty) (X_arg17 : BufTy.Contents (Elt F) arg17.view.ty) (X_arg18 : BufTy.Contents (Elt F) arg18.view.ty) (X_arg19 : BufTy.Contents (Elt F) arg19.view.ty)  (hv : v31 = lanesW) (g : BufTy.Contents (Elt F) arg10.view.ty) (y : S1536x50.Idx) :
    arg10.view.read (Elt F) (arg10.view.writes (Elt F) g (pb_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v31 X_arg6 X_arg17 X_arg18 X_arg19 4).2.2.2) y = zsV (arg19.view.read (Elt F) X_arg19) y := by
  have ht : k0_t7_loop.trips = 4 := by decide +kernel
  have hy : (y 0).val < 1536 := (y 0).isLt
  have H : ∀ n ≤ 4, (y 0).val < 384 * n → arg10.view.read (Elt F) (arg10.view.writes (Elt F) g (pb_k0_t7 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v31 X_arg6 X_arg17 X_arg18 X_arg19 n).2.2.2) y = zsV (arg19.view.read (Elt F) X_arg19) y := by
    intro n
    induction n with
    | zero => intro _ h; omega
    | succ k ih =>
      intro hk hlt
      have hs := pb_k0_t7_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v31 X_arg6 X_arg17 X_arg18 X_arg19 ⟨k, lt_of_lt_of_eq (by omega) ht.symm⟩
      refine (congrArg (fun p => arg10.view.read (Elt F) (arg10.view.writes (Elt F) g (p.2.2.2)) y) hs).trans ?_
      by_cases h : (y 0).val < 384 * k
      · exact (step7zsB_out (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v31 X_arg6 X_arg17 X_arg18 X_arg19 ⟨k, lt_of_lt_of_eq (by omega) ht.symm⟩ hv g _ y (Or.inl h)).trans (ih (by omega) h)
      · exact step7zsB_in (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_h2 v31 X_arg6 X_arg17 X_arg18 X_arg19 ⟨k, lt_of_lt_of_eq (by omega) ht.symm⟩ hv g _ y (by show 384 * k ≤ _; omega) (by show _ < 384 * k + 384; omega)
  exact H 4 le_rfl (by omega)
end Body

end Cert.KernelIdeal.V
end
end
-- ==== Proof.V.Spec.lean ====
module
public import proofs.«01_k».proof.Proof.Gen.KernelIdeal.Loops
public import Idealize.ShloMosaic.Lib.Pipeline.FrameBody
public import Idealize.ShloMosaic.Lib.WritesUnit
public import Idealize.ShloMosaic.Lib.Tactic
public import Idealize.ShloMosaic.Lib.Pipeline.ReadBack
public import Idealize.ShloMosaic.Lib.VecWindow
public import proofs.«01_k».proof.Proof.V.Quant
public import proofs.«01_k».proof.Proof.V.Ids
public import proofs.«01_k».proof.Proof.V.Finish
@[expose] public section
set_option maxRecDepth 16384
noncomputable section
namespace Cert.KernelIdeal.V
open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
variable {F : FTy → Type} [FloatOps F]
local notation "𝕄" => MT nD τ sig Unit (Elt F) ℕ (UR sig nD τ) ℕ

/-- A chunk of logits. -/
def zB (a : Vec F S512x1024 .bf16) (b : Vec F S1280x1024 .bf16) : FVec F S512x1280 .f32 := k0_pay239 a b

/-- Rows `512 j …` of the tokens. -/
def rowsZ (xb : Vec F S1536x1024 .bf16) (j : Fin 3) : Vec F S512x1024 .bf16 :=
  fun x => xb (ix2 ⟨512 * j.val + (x 0).val, by have : (x 0).val < 512 := (x 0).isLt; omega⟩ (x 1 : Fin 1024))

/-- The logits of a tile. -/
def zV (xb : Vec F S1536x1024 .bf16) (wb : Vec F S1280x1024 .bf16) (R : Fin 1536) (v : Fin 1280) : F .f32 :=
  zB (rowsZ xb ⟨R.val / 512, by omega⟩) wb (ix2 ⟨R.val % 512, by omega⟩ v)

/-- The first bit of a tile in the mask words. -/
def shC (i : grid0.Coords) : BitVec 32 := Scalar.muli (Scalar.remsi (BitVec.ofNat 32 (i 0).val) 3#32) 10#32

/-- The first block of columns of a tile. -/
def fcC (i : grid0.Coords) : BitVec 32 := Scalar.muli (BitVec.ofNat 32 (i 0).val) 10#32

/-- The running statistics after a tile. -/
def stepV (i : grid0.Coords) (xb : Vec F S1536x1024 .bf16) (wb : Vec F S1280x1024 .bf16) (x3 : Vec F S1x1536x128 .i32) (lo hi : Vec F S1536x128 .i32)
    (q : S1536x128.Idx → Cell F) (y : S1536x128.Idx) : Cell F :=
  upd (Scalar.shrui (x3 (ix3 (0 : Fin 1) (y 0) (y 1))) (shC i)) (lo y) (hi y - fcC i) (y 1) (fun c l => zV xb wb (y 0) (col c l)) (q y)

/-- The statistics before the first tile. -/
def q0 : S1536x128.Idx → Cell F := fun y => (k0_pay234 y, k0_pay235 y, k0_pay236 y)

section Small
variable {sig' : RefSig} {κ' : Kind} {sp' : Space}
theorem rowsZ_read (v : View sig' κ' sp' S1536x1024 .bf16) (X : v.ty.Contents (Elt F)) {off : Fin 2 → ℕ} (inb : ∀ a : Fin 2, off a + S512x1024.size a ≤ S1536x1024.size a)
    (j : Fin 3) (hoff : off = ![512 * j.val, 0]) :
    v.readAt (Elt F) (Rect.unit (s := S1536x1024) off S512x1024.size inb).toLoadRect X = rowsZ (v.read (Elt F) X) j := by
  funext x
  refine readAt_rows v X inb hoff _ _ ?_ ?_
  · rfl
  · exact (Nat.zero_add _).symm

theorem whole_read {w h : ℕ} {β : EltTy} (v : View sig' κ' sp' ⟨2, ![h, w]⟩ β) (X : v.ty.Contents (Elt F)) (inb : ∀ a : Fin 2, (![0, 0] : Fin 2 → ℕ) a + (⟨2, ![h, w]⟩ : Shape).size a ≤ (⟨2, ![h, w]⟩ : Shape).size a) :
    v.readAt (Elt F) (Rect.unit (s := ⟨2, ![h, w]⟩) ![0, 0] (⟨2, ![h, w]⟩ : Shape).size inb).toLoadRect X = v.read (Elt F) X := by
  funext x
  refine (readAt_rows v X inb rfl x x ?_ ?_)
  · exact (Nat.zero_add _).symm
  · exact (Nat.zero_add _).symm
end Small

section Body
variable (𝒱 : Variants) (c : Dev nD) (bd : Option 𝒱.V) (i : grid0.Coords) (arg1 : Memref sig .tc .vmem S1536x1024 .bf16) (harg1 : arg1.IsWhole) (arg2 : Memref sig .tc .vmem S1280x1024 .fp8e4m3) (harg2 : arg2.IsWhole) (arg3 : Memref sig .tc .vmem S1280x8 .f32) (harg3 : arg3.IsWhole) (arg4 : Memref sig .tc .vmem S1x1536x128 .i32) (harg4 : arg4.IsWhole) (arg5 : Memref sig .tc .vmem S1536x50 .i32) (harg5 : arg5.IsWhole) (arg6 : Memref sig .tc .vmem S1536x50 .bf16) (harg6 : arg6.IsWhole) (arg7 : Memref sig .tc .vmem S4x384 .f32) (harg7 : arg7.IsWhole) (arg8 : Memref sig .tc .vmem S4x384 .f32) (harg8 : arg8.IsWhole) (arg9 : Memref sig .tc .vmem S4x384 .f32) (harg9 : arg9.IsWhole) (arg10 : Memref sig .tc .vmem S1536x50 .f32) (harg10 : arg10.IsWhole) (arg11 : Memref sig .tc .vmem S1536x1024 .fp8e4m3) (harg11 : arg11.IsWhole) (arg12 : Memref sig .tc .vmem S1536x8 .f32) (harg12 : arg12.IsWhole) (arg13 : Memref sig .tc .vmem S1536x1024 .bf16) (harg13 : arg13.IsWhole) (arg14 : Memref sig .tc .vmem S1280x1024 .bf16) (harg14 : arg14.IsWhole) (arg15 : Memref sig .tc .vmem S512x1280 .f32) (harg15 : arg15.IsWhole) (arg16 : Memref sig .tc .vmem S512x1280 .f32) (harg16 : arg16.IsWhole) (arg17 : Memref sig .tc .vmem S1536x128 .f32) (harg17 : arg17.IsWhole) (arg18 : Memref sig .tc .vmem S1536x128 .f32) (harg18 : arg18.IsWhole) (arg19 : Memref sig .tc .vmem S1536x128 .f32) (harg19 : arg19.IsWhole) (arg20 : Memref sig .tc .vmem S1536x128 .i32) (harg20 : arg20.IsWhole) (arg21 : Memref sig .tc .vmem S1536x128 .i32) (harg21 : arg21.IsWhole)
include 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21

/-- The three chunks of rows, one after the other. -/
theorem sweep  (i' : grid0.Coords) (v5 v6 : BitVec 32) (h5 : v5 = shC i') (h6 : v6 = fcC i') (X4 : BufTy.Contents (Elt F) arg4.view.ty) (Xa : BufTy.Contents (Elt F) arg15.view.ty) (Xb : BufTy.Contents (Elt F) arg16.view.ty) (Xc : BufTy.Contents (Elt F) arg15.view.ty) (X20 : BufTy.Contents (Elt F) arg20.view.ty) (X21 : BufTy.Contents (Elt F) arg21.view.ty)
    (G17 g17 : BufTy.Contents (Elt F) arg17.view.ty) (P17 : List (View.Piece (Elt F) S1536x128 .f32)) (G18 g18 : BufTy.Contents (Elt F) arg18.view.ty) (P18 : List (View.Piece (Elt F) S1536x128 .f32)) (G19 g19 : BufTy.Contents (Elt F) arg19.view.ty) (P19 : List (View.Piece (Elt F) S1536x128 .f32))
    (xb : Vec F S1536x1024 .bf16) (wb : Vec F S1280x1024 .bf16) (x3 : Vec F S1x1536x128 .i32) (lo hi : Vec F S1536x128 .i32) (q : S1536x128.Idx → Cell F)
    (hx3 : arg4.view.read (Elt F) X4 = x3) (hlo : arg20.view.read (Elt F) X20 = lo) (hhi : arg21.view.read (Elt F) X21 = hi)
    (ha : arg15.view.read (Elt F) Xa = zB (rowsZ xb 0) wb) (hb : arg16.view.read (Elt F) Xb = zB (rowsZ xb 1) wb) (hc : arg15.view.read (Elt F) Xc = zB (rowsZ xb 2) wb)
    (h17 : arg17.view.writes (Elt F) g17 P17 = arg17.view.writes (Elt F) G17 (pb_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xa X20 X21 G17 G18 G19 64).1)
    (h18 : arg18.view.writes (Elt F) g18 P18 = arg18.view.writes (Elt F) G18 (pb_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xa X20 X21 G17 G18 G19 64).2.1)
    (h19 : arg19.view.writes (Elt F) g19 P19 = arg19.view.writes (Elt F) G19 (pb_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xa X20 X21 G17 G18 G19 64).2.2)
    (y : S1536x128.Idx) (hq : (arg17.view.read (Elt F) G17 y, arg18.view.read (Elt F) G18 y, arg19.view.read (Elt F) G19 y) = q y) :
    ((arg17.view.read (Elt F) (arg17.view.writes (Elt F) g17 ((pb_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xc X20 X21 (arg17.view.writes (Elt F) g17 ((pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xb X20 X21 (arg17.view.writes (Elt F) g17 P17) (arg18.view.writes (Elt F) g18 P18) (arg19.view.writes (Elt F) g19 P19) 64).1 ++ P17)) (arg18.view.writes (Elt F) g18 ((pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xb X20 X21 (arg17.view.writes (Elt F) g17 P17) (arg18.view.writes (Elt F) g18 P18) (arg19.view.writes (Elt F) g19 P19) 64).2.1 ++ P18)) (arg19.view.writes (Elt F) g19 ((pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xb X20 X21 (arg17.view.writes (Elt F) g17 P17) (arg18.view.writes (Elt F) g18 P18) (arg19.view.writes (Elt F) g19 P19) 64).2.2 ++ P19)) 64).1 ++ ((pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xb X20 X21 (arg17.view.writes (Elt F) g17 P17) (arg18.view.writes (Elt F) g18 P18) (arg19.view.writes (Elt F) g19 P19) 64).1 ++ P17))) y,
      arg18.view.read (Elt F) (arg18.view.writes (Elt F) g18 ((pb_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xc X20 X21 (arg17.view.writes (Elt F) g17 ((pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xb X20 X21 (arg17.view.writes (Elt F) g17 P17) (arg18.view.writes (Elt F) g18 P18) (arg19.view.writes (Elt F) g19 P19) 64).1 ++ P17)) (arg18.view.writes (Elt F) g18 ((pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xb X20 X21 (arg17.view.writes (Elt F) g17 P17) (arg18.view.writes (Elt F) g18 P18) (arg19.view.writes (Elt F) g19 P19) 64).2.1 ++ P18)) (arg19.view.writes (Elt F) g19 ((pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xb X20 X21 (arg17.view.writes (Elt F) g17 P17) (arg18.view.writes (Elt F) g18 P18) (arg19.view.writes (Elt F) g19 P19) 64).2.2 ++ P19)) 64).2.1 ++ ((pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xb X20 X21 (arg17.view.writes (Elt F) g17 P17) (arg18.view.writes (Elt F) g18 P18) (arg19.view.writes (Elt F) g19 P19) 64).2.1 ++ P18))) y,
      arg19.view.read (Elt F) (arg19.view.writes (Elt F) g19 ((pb_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xc X20 X21 (arg17.view.writes (Elt F) g17 ((pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xb X20 X21 (arg17.view.writes (Elt F) g17 P17) (arg18.view.writes (Elt F) g18 P18) (arg19.view.writes (Elt F) g19 P19) 64).1 ++ P17)) (arg18.view.writes (Elt F) g18 ((pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xb X20 X21 (arg17.view.writes (Elt F) g17 P17) (arg18.view.writes (Elt F) g18 P18) (arg19.view.writes (Elt F) g19 P19) 64).2.1 ++ P18)) (arg19.view.writes (Elt F) g19 ((pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xb X20 X21 (arg17.view.writes (Elt F) g17 P17) (arg18.view.writes (Elt F) g18 P18) (arg19.view.writes (Elt F) g19 P19) 64).2.2 ++ P19)) 64).2.2 ++ ((pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xb X20 X21 (arg17.view.writes (Elt F) g17 P17) (arg18.view.writes (Elt F) g18 P18) (arg19.view.writes (Elt F) g19 P19) 64).2.2 ++ P19))) y) : Cell F) = stepV i' xb wb x3 lo hi q y := by
  have hy : (y 0).val < 1536 := (y 0).isLt
  have e4 := loop4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xa X20 X21 G17 G18 G19 y
  have e5 := loop5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xb X20 X21 (arg17.view.writes (Elt F) g17 P17) (arg18.view.writes (Elt F) g18 P18) (arg19.view.writes (Elt F) g19 P19) y
  have e6 := loop6 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xc X20 X21 (arg17.view.writes (Elt F) g17 ((pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xb X20 X21 (arg17.view.writes (Elt F) g17 P17) (arg18.view.writes (Elt F) g18 P18) (arg19.view.writes (Elt F) g19 P19) 64).1 ++ P17)) (arg18.view.writes (Elt F) g18 ((pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xb X20 X21 (arg17.view.writes (Elt F) g17 P17) (arg18.view.writes (Elt F) g18 P18) (arg19.view.writes (Elt F) g19 P19) 64).2.1 ++ P18)) (arg19.view.writes (Elt F) g19 ((pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xb X20 X21 (arg17.view.writes (Elt F) g17 P17) (arg18.view.writes (Elt F) g18 P18) (arg19.view.writes (Elt F) g19 P19) 64).2.2 ++ P19)) y
  unfold stateV at e4 e5 e6
  rw [← View.writes_append, ← View.writes_append, ← View.writes_append] at e5 e6
  rw [← h17, ← h18, ← h19] at e4
  refine e6.trans ?_
  rw [e5, e4, hq]
  have k : ∀ (u : Vec F S512x1280 .f32) (j : Fin 3) (n : ℕ) (hn : n = 512 * j.val) (hu : u = zB (rowsZ xb j) wb) (h0 : n ≤ (y 0).val) (h1 : (y 0).val < n + 512) (c : Fin 10) (l : Fin 128),
      u (ix2 ⟨((y 0).val - n) % 512, Nat.mod_lt _ (by decide)⟩ (col c l)) = zV xb wb (y 0) (col c l) := by
    intro u j n hn hu h0 h1 c l
    subst hn hu
    have ej : j = ⟨(y 0).val / 512, by omega⟩ := Fin.ext (by show j.val = _ / 512; omega)
    have key : ∀ (j' : Fin 3) (x' : Fin 512), j = j' → (⟨((y 0).val - 512 * j.val) % 512, Nat.mod_lt _ (by decide)⟩ : Fin 512) = x' →
        zB (rowsZ xb j) wb (ix2 ⟨((y 0).val - 512 * j.val) % 512, Nat.mod_lt _ (by decide)⟩ (col c l)) = zB (rowsZ xb j') wb (ix2 x' (col c l)) := by
      rintro _ _ rfl rfl; rfl
    exact key _ _ ej (Fin.ext (by show (_ - 512 * j.val) % 512 = _ % 512; omega))
  unfold stepV
  rcases (by omega : (y 0).val < 512 ∨ (512 ≤ (y 0).val ∧ (y 0).val < 1024) ∨ 1024 ≤ (y 0).val) with h | h | h
  · rw [if_neg (by omega), if_neg (by omega), if_pos (by omega)]
    unfold U
    rw [hx3, hlo, hhi, h5, h6]
    refine congrFun (congrArg (upd _ _ _ _) (funext fun c => funext fun l => ?_)) _
    exact k _ 0 0 rfl ha (by omega) (by omega) c l
  · rw [if_neg (by omega), if_pos (by omega), if_neg (by omega)]
    unfold U
    rw [hx3, hlo, hhi, h5, h6]
    refine congrFun (congrArg (upd _ _ _ _) (funext fun c => funext fun l => ?_)) _
    exact k _ 1 512 rfl hb (by omega) (by omega) c l
  · rw [if_pos (by omega), if_neg (by omega), if_neg (by omega)]
    unfold U
    rw [hx3, hlo, hhi, h5, h6]
    refine congrFun (congrArg (upd _ _ _ _) (funext fun c => funext fun l => ?_)) _
    exact k _ 2 1024 rfl hc (by omega) (by omega) c l

theorem sweep17  (i' : grid0.Coords) {n4 n5 n6 : ℕ} (t4 : n4 = 64) (t5 : n5 = 64) (t6 : n6 = 64) (v5 v6 : BitVec 32) (h5 : v5 = shC i') (h6 : v6 = fcC i') (X4 : BufTy.Contents (Elt F) arg4.view.ty) (Xa : BufTy.Contents (Elt F) arg15.view.ty) (Xb : BufTy.Contents (Elt F) arg16.view.ty) (Xc : BufTy.Contents (Elt F) arg15.view.ty) (X20 : BufTy.Contents (Elt F) arg20.view.ty) (X21 : BufTy.Contents (Elt F) arg21.view.ty)
    (G17 g17 : BufTy.Contents (Elt F) arg17.view.ty) (P17 : List (View.Piece (Elt F) S1536x128 .f32)) (G18 g18 : BufTy.Contents (Elt F) arg18.view.ty) (P18 : List (View.Piece (Elt F) S1536x128 .f32)) (G19 g19 : BufTy.Contents (Elt F) arg19.view.ty) (P19 : List (View.Piece (Elt F) S1536x128 .f32))
    (xb : Vec F S1536x1024 .bf16) (wb : Vec F S1280x1024 .bf16) (x3 : Vec F S1x1536x128 .i32) (lo hi : Vec F S1536x128 .i32) (q : S1536x128.Idx → Cell F)
    (hx3 : arg4.view.read (Elt F) X4 = x3) (hlo : arg20.view.read (Elt F) X20 = lo) (hhi : arg21.view.read (Elt F) X21 = hi)
    (ha : arg15.view.read (Elt F) Xa = zB (rowsZ xb 0) wb) (hb : arg16.view.read (Elt F) Xb = zB (rowsZ xb 1) wb) (hc : arg15.view.read (Elt F) Xc = zB (rowsZ xb 2) wb)
    (h17 : arg17.view.writes (Elt F) g17 P17 = arg17.view.writes (Elt F) G17 (pb_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xa X20 X21 G17 G18 G19 n4).1)
    (h18 : arg18.view.writes (Elt F) g18 P18 = arg18.view.writes (Elt F) G18 (pb_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xa X20 X21 G17 G18 G19 n4).2.1)
    (h19 : arg19.view.writes (Elt F) g19 P19 = arg19.view.writes (Elt F) G19 (pb_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xa X20 X21 G17 G18 G19 n4).2.2)
    (y : S1536x128.Idx) (hq : (arg17.view.read (Elt F) G17 y, arg18.view.read (Elt F) G18 y, arg19.view.read (Elt F) G19 y) = q y) :
    arg17.view.read (Elt F) (arg17.view.writes (Elt F) g17 ((pb_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xc X20 X21 (arg17.view.writes (Elt F) g17 ((pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xb X20 X21 (arg17.view.writes (Elt F) g17 P17) (arg18.view.writes (Elt F) g18 P18) (arg19.view.writes (Elt F) g19 P19) n5).1 ++ P17)) (arg18.view.writes (Elt F) g18 ((pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xb X20 X21 (arg17.view.writes (Elt F) g17 P17) (arg18.view.writes (Elt F) g18 P18) (arg19.view.writes (Elt F) g19 P19) n5).2.1 ++ P18)) (arg19.view.writes (Elt F) g19 ((pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xb X20 X21 (arg17.view.writes (Elt F) g17 P17) (arg18.view.writes (Elt F) g18 P18) (arg19.view.writes (Elt F) g19 P19) n5).2.2 ++ P19)) n6).1 ++ ((pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xb X20 X21 (arg17.view.writes (Elt F) g17 P17) (arg18.view.writes (Elt F) g18 P18) (arg19.view.writes (Elt F) g19 P19) n5).1 ++ P17))) y = (stepV i' xb wb x3 lo hi q y).1 := by
  subst t4 t5 t6
  exact congrArg (fun p : Cell F => p.1) (sweep (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 i' v5 v6 h5 h6 X4 Xa Xb Xc X20 X21 G17 g17 P17 G18 g18 P18 G19 g19 P19 xb wb x3 lo hi q hx3 hlo hhi ha hb hc h17 h18 h19 y hq)

theorem sweep18  (i' : grid0.Coords) {n4 n5 n6 : ℕ} (t4 : n4 = 64) (t5 : n5 = 64) (t6 : n6 = 64) (v5 v6 : BitVec 32) (h5 : v5 = shC i') (h6 : v6 = fcC i') (X4 : BufTy.Contents (Elt F) arg4.view.ty) (Xa : BufTy.Contents (Elt F) arg15.view.ty) (Xb : BufTy.Contents (Elt F) arg16.view.ty) (Xc : BufTy.Contents (Elt F) arg15.view.ty) (X20 : BufTy.Contents (Elt F) arg20.view.ty) (X21 : BufTy.Contents (Elt F) arg21.view.ty)
    (G17 g17 : BufTy.Contents (Elt F) arg17.view.ty) (P17 : List (View.Piece (Elt F) S1536x128 .f32)) (G18 g18 : BufTy.Contents (Elt F) arg18.view.ty) (P18 : List (View.Piece (Elt F) S1536x128 .f32)) (G19 g19 : BufTy.Contents (Elt F) arg19.view.ty) (P19 : List (View.Piece (Elt F) S1536x128 .f32))
    (xb : Vec F S1536x1024 .bf16) (wb : Vec F S1280x1024 .bf16) (x3 : Vec F S1x1536x128 .i32) (lo hi : Vec F S1536x128 .i32) (q : S1536x128.Idx → Cell F)
    (hx3 : arg4.view.read (Elt F) X4 = x3) (hlo : arg20.view.read (Elt F) X20 = lo) (hhi : arg21.view.read (Elt F) X21 = hi)
    (ha : arg15.view.read (Elt F) Xa = zB (rowsZ xb 0) wb) (hb : arg16.view.read (Elt F) Xb = zB (rowsZ xb 1) wb) (hc : arg15.view.read (Elt F) Xc = zB (rowsZ xb 2) wb)
    (h17 : arg17.view.writes (Elt F) g17 P17 = arg17.view.writes (Elt F) G17 (pb_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xa X20 X21 G17 G18 G19 n4).1)
    (h18 : arg18.view.writes (Elt F) g18 P18 = arg18.view.writes (Elt F) G18 (pb_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xa X20 X21 G17 G18 G19 n4).2.1)
    (h19 : arg19.view.writes (Elt F) g19 P19 = arg19.view.writes (Elt F) G19 (pb_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xa X20 X21 G17 G18 G19 n4).2.2)
    (y : S1536x128.Idx) (hq : (arg17.view.read (Elt F) G17 y, arg18.view.read (Elt F) G18 y, arg19.view.read (Elt F) G19 y) = q y) :
    arg18.view.read (Elt F) (arg18.view.writes (Elt F) g18 ((pb_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xc X20 X21 (arg17.view.writes (Elt F) g17 ((pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xb X20 X21 (arg17.view.writes (Elt F) g17 P17) (arg18.view.writes (Elt F) g18 P18) (arg19.view.writes (Elt F) g19 P19) n5).1 ++ P17)) (arg18.view.writes (Elt F) g18 ((pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xb X20 X21 (arg17.view.writes (Elt F) g17 P17) (arg18.view.writes (Elt F) g18 P18) (arg19.view.writes (Elt F) g19 P19) n5).2.1 ++ P18)) (arg19.view.writes (Elt F) g19 ((pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xb X20 X21 (arg17.view.writes (Elt F) g17 P17) (arg18.view.writes (Elt F) g18 P18) (arg19.view.writes (Elt F) g19 P19) n5).2.2 ++ P19)) n6).2.1 ++ ((pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xb X20 X21 (arg17.view.writes (Elt F) g17 P17) (arg18.view.writes (Elt F) g18 P18) (arg19.view.writes (Elt F) g19 P19) n5).2.1 ++ P18))) y = (stepV i' xb wb x3 lo hi q y).2.1 := by
  subst t4 t5 t6
  exact congrArg (fun p : Cell F => p.2.1) (sweep (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 i' v5 v6 h5 h6 X4 Xa Xb Xc X20 X21 G17 g17 P17 G18 g18 P18 G19 g19 P19 xb wb x3 lo hi q hx3 hlo hhi ha hb hc h17 h18 h19 y hq)

theorem sweep19  (i' : grid0.Coords) {n4 n5 n6 : ℕ} (t4 : n4 = 64) (t5 : n5 = 64) (t6 : n6 = 64) (v5 v6 : BitVec 32) (h5 : v5 = shC i') (h6 : v6 = fcC i') (X4 : BufTy.Contents (Elt F) arg4.view.ty) (Xa : BufTy.Contents (Elt F) arg15.view.ty) (Xb : BufTy.Contents (Elt F) arg16.view.ty) (Xc : BufTy.Contents (Elt F) arg15.view.ty) (X20 : BufTy.Contents (Elt F) arg20.view.ty) (X21 : BufTy.Contents (Elt F) arg21.view.ty)
    (G17 g17 : BufTy.Contents (Elt F) arg17.view.ty) (P17 : List (View.Piece (Elt F) S1536x128 .f32)) (G18 g18 : BufTy.Contents (Elt F) arg18.view.ty) (P18 : List (View.Piece (Elt F) S1536x128 .f32)) (G19 g19 : BufTy.Contents (Elt F) arg19.view.ty) (P19 : List (View.Piece (Elt F) S1536x128 .f32))
    (xb : Vec F S1536x1024 .bf16) (wb : Vec F S1280x1024 .bf16) (x3 : Vec F S1x1536x128 .i32) (lo hi : Vec F S1536x128 .i32) (q : S1536x128.Idx → Cell F)
    (hx3 : arg4.view.read (Elt F) X4 = x3) (hlo : arg20.view.read (Elt F) X20 = lo) (hhi : arg21.view.read (Elt F) X21 = hi)
    (ha : arg15.view.read (Elt F) Xa = zB (rowsZ xb 0) wb) (hb : arg16.view.read (Elt F) Xb = zB (rowsZ xb 1) wb) (hc : arg15.view.read (Elt F) Xc = zB (rowsZ xb 2) wb)
    (h17 : arg17.view.writes (Elt F) g17 P17 = arg17.view.writes (Elt F) G17 (pb_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xa X20 X21 G17 G18 G19 n4).1)
    (h18 : arg18.view.writes (Elt F) g18 P18 = arg18.view.writes (Elt F) G18 (pb_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xa X20 X21 G17 G18 G19 n4).2.1)
    (h19 : arg19.view.writes (Elt F) g19 P19 = arg19.view.writes (Elt F) G19 (pb_k0_t4 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xa X20 X21 G17 G18 G19 n4).2.2)
    (y : S1536x128.Idx) (hq : (arg17.view.read (Elt F) G17 y, arg18.view.read (Elt F) G18 y, arg19.view.read (Elt F) G19 y) = q y) :
    arg19.view.read (Elt F) (arg19.view.writes (Elt F) g19 ((pb_k0_t6 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xc X20 X21 (arg17.view.writes (Elt F) g17 ((pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xb X20 X21 (arg17.view.writes (Elt F) g17 P17) (arg18.view.writes (Elt F) g18 P18) (arg19.view.writes (Elt F) g19 P19) n5).1 ++ P17)) (arg18.view.writes (Elt F) g18 ((pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xb X20 X21 (arg17.view.writes (Elt F) g17 P17) (arg18.view.writes (Elt F) g18 P18) (arg19.view.writes (Elt F) g19 P19) n5).2.1 ++ P18)) (arg19.view.writes (Elt F) g19 ((pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xb X20 X21 (arg17.view.writes (Elt F) g17 P17) (arg18.view.writes (Elt F) g18 P18) (arg19.view.writes (Elt F) g19 P19) n5).2.2 ++ P19)) n6).2.2 ++ ((pb_k0_t5 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v5 v6 X4 Xb X20 X21 (arg17.view.writes (Elt F) g17 P17) (arg18.view.writes (Elt F) g18 P18) (arg19.view.writes (Elt F) g19 P19) n5).2.2 ++ P19))) y = (stepV i' xb wb x3 lo hi q y).2.2 := by
  subst t4 t5 t6
  exact congrArg (fun p : Cell F => p.2.2) (sweep (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 i' v5 v6 h5 h6 X4 Xa Xb Xc X20 X21 G17 g17 P17 G18 g18 P18 G19 g19 P19 xb wb x3 lo hi q hx3 hlo hhi ha hb hc h17 h18 h19 y hq)

theorem wide_read (X_arg2 : BufTy.Contents (Elt F) arg2.view.ty) (X_arg3 : BufTy.Contents (Elt F) arg3.view.ty)  {n : ℕ} (hn : n = 40) (g : BufTy.Contents (Elt F) arg14.view.ty) (inb : ∀ a : Fin 2, (![0, 0] : Fin 2 → ℕ) a + S1280x1024.size a ≤ S1280x1024.size a) :
    arg14.view.readAt (Elt F) (Rect.unit (s := S1280x1024) ![0, 0] S1280x1024.size inb).toLoadRect (arg14.view.writes (Elt F) g (pb_k0_t3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 n))
      = wideV (arg2.view.read (Elt F) X_arg2) (arg3.view.read (Elt F) X_arg3) := by
  subst hn
  exact (whole_read arg14.view _ inb).trans (funext fun y => loop3 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 X_arg2 X_arg3 g y)
end Body

end Cert.KernelIdeal.V
end
end
-- ==== Proof.V.RunA.lean ====
module

public import proofs.«01_k».proof.Proof.V.Kit
public import proofs.«01_k».proof.Proof.V.Spec

@[expose] public section

-- membership in a rectangle of production extents (`View.cover_of_tiled`): the elaborator's structural look
-- recurses once per coordinate of the long axes
set_option maxRecDepth 16384

noncomputable section

set_option maxHeartbeats 8000000

namespace Cert.KernelIdeal.V

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE BODY, run from whole blocks to whole blocks. -/
theorem run_A (c : Dev nD) (i : grid0.Coords) (arg1 : Memref sig .tc .vmem S1536x1024 .bf16) (harg1 : arg1.IsWhole) (arg2 : Memref sig .tc .vmem S1280x1024 .fp8e4m3) (harg2 : arg2.IsWhole) (arg3 : Memref sig .tc .vmem S1280x8 .f32) (harg3 : arg3.IsWhole) (arg4 : Memref sig .tc .vmem S1x1536x128 .i32) (harg4 : arg4.IsWhole) (arg5 : Memref sig .tc .vmem S1536x50 .i32) (harg5 : arg5.IsWhole) (arg6 : Memref sig .tc .vmem S1536x50 .bf16) (harg6 : arg6.IsWhole) (arg7 : Memref sig .tc .vmem S4x384 .f32) (harg7 : arg7.IsWhole) (arg8 : Memref sig .tc .vmem S4x384 .f32) (harg8 : arg8.IsWhole) (arg9 : Memref sig .tc .vmem S4x384 .f32) (harg9 : arg9.IsWhole) (arg10 : Memref sig .tc .vmem S1536x50 .f32) (harg10 : arg10.IsWhole) (arg11 : Memref sig .tc .vmem S1536x1024 .fp8e4m3) (harg11 : arg11.IsWhole) (arg12 : Memref sig .tc .vmem S1536x8 .f32) (harg12 : arg12.IsWhole) (arg13 : Memref sig .tc .vmem S1536x1024 .bf16) (harg13 : arg13.IsWhole) (arg14 : Memref sig .tc .vmem S1280x1024 .bf16) (harg14 : arg14.IsWhole) (arg15 : Memref sig .tc .vmem S512x1280 .f32) (harg15 : arg15.IsWhole) (arg16 : Memref sig .tc .vmem S512x1280 .f32) (harg16 : arg16.IsWhole) (arg17 : Memref sig .tc .vmem S1536x128 .f32) (harg17 : arg17.IsWhole) (arg18 : Memref sig .tc .vmem S1536x128 .f32) (harg18 : arg18.IsWhole) (arg19 : Memref sig .tc .vmem S1536x128 .f32) (harg19 : arg19.IsWhole) (arg20 : Memref sig .tc .vmem S1536x128 .i32) (harg20 : arg20.IsWhole) (arg21 : Memref sig .tc .vmem S1536x128 .i32) (harg21 : arg21.IsWhole) (hc0 : cond0_0 i) (hc1 : ¬cond0_1 i)
    (x0 : Vec F S1536x1024 .bf16) (x1 : Vec F S1280x1024 .fp8e4m3) (x2 : Vec F S1280x8 .f32) (x3 : Vec F S1x1536x128 .i32) (x4 : Vec F S1536x50 .i32) (x5 : Vec F S1536x50 .bf16) :
      ∀ (xi6 : Vec F S4x384 .f32) (xi7 : Vec F S4x384 .f32) (xi8 : Vec F S4x384 .f32) (xi9 : Vec F S1536x50 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ owns (c : Thread nD τ) arg9 fullShare xi8 ∗ owns (c : Thread nD τ) arg10 fullShare xi9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ owns (c : Thread nD τ) arg9 fullShare xi8 ∗ owns (c : Thread nD τ) arg10 fullShare xi9 ∗ owns (c : Thread nD τ) arg11 fullShare (codesV x0) ∗ owns (c : Thread nD τ) arg12 fullShare (scalesV x0) ∗ owns (c : Thread nD τ) arg13 fullShare (xbfV x0) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare (fun y => (stepV i (xbfV x0) (wideV x1 x2) x3 (loV x4) (hiV x4) q0 y).1) ∗ owns (c : Thread nD τ) arg18 fullShare (fun y => (stepV i (xbfV x0) (wideV x1 x2) x3 (loV x4) (hiV x4) q0 y).2.1) ∗ owns (c : Thread nD τ) arg19 fullShare (fun y => (stepV i (xbfV x0) (wideV x1 x2) x3 (loV x4) (hiV x4) q0 y).2.2) ∗ owns (c : Thread nD τ) arg20 fullShare (loV x4) ∗ owns (c : Thread nD τ) arg21 fullShare (hiV x4)) -∗ K ⟨⟩))
          ⊢ wp frame (wpE (defs₀ (F := F)) Variants.none c none) E (cc0_kd_head i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  intro xi6 xi7 xi8 xi9 E K
  simp only [cc0_kd_head_eq_skeleton]; unfold cc0_kd_head_skel
  simp only [k0_part47_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec (disch := first | sl_exact hc0 | sl_exact hc1)
  sl_step
  have n1 : Scf.trips k0_t1_loop.lb k0_t1_loop.ub k0_t1_loop.st = 48 := by decide +kernel
  have n2 : Scf.trips k0_t2_loop.lb k0_t2_loop.ub k0_t2_loop.st = 192 := by decide +kernel
  have loop1c : ∀ (y : S1536x1024.Idx) {g : BufTy.Contents (Elt F) arg11.view.ty}, arg11.view.read (Elt F) (arg11.view.writes (Elt F) g (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 lanesV (harg1.unread x0) (Scf.trips k0_t1_loop.lb k0_t1_loop.ub k0_t1_loop.st)).1) y = codesV x0 y := by
    intro y g
    rw [n1]
    exact (loop1codeB (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 lanesV (harg1.unread x0) g y).trans (congrFun (congrArg codesV (harg1.read_unread x0)) y)
  have loop1s : ∀ (y : S1536x8.Idx) {g : BufTy.Contents (Elt F) arg12.view.ty}, arg12.view.read (Elt F) (arg12.view.writes (Elt F) g (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 lanesV (harg1.unread x0) (Scf.trips k0_t1_loop.lb k0_t1_loop.ub k0_t1_loop.st)).2.1) y = scalesV x0 y := by
    intro y g
    rw [n1]
    exact (loop1scaleB (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 lanesV (harg1.unread x0) rfl g y).trans (congrFun (congrArg scalesV (harg1.read_unread x0)) y)
  have loop1x : ∀ (y : S1536x1024.Idx) {g : BufTy.Contents (Elt F) arg13.view.ty}, arg13.view.read (Elt F) (arg13.view.writes (Elt F) g (pb_k0_t1 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 lanesV (harg1.unread x0) (Scf.trips k0_t1_loop.lb k0_t1_loop.ub k0_t1_loop.st)).2.2) y = xbfV x0 y := by
    intro y g
    rw [n1]
    exact (loop1xbfB (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 lanesV (harg1.unread x0) g y).trans (congrFun (congrArg xbfV (harg1.read_unread x0)) y)
  have loop2lo' : ∀ (y : S1536x128.Idx) (g : BufTy.Contents (Elt F) arg20.view.ty) (L : List (View.Piece (Elt F) S1536x128 .i32)), (arg20.view.read (Elt F) (arg20.view.writes (Elt F) g L) = k0_pay229) → arg20.view.read (Elt F) (arg20.view.writes (Elt F) g ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 (harg5.unread x4) (Scf.trips k0_t2_loop.lb k0_t2_loop.ub k0_t2_loop.st)).1 ++ L)) y = loV x4 y := by
    intro y g L hL
    rw [n2, View.writes_append]
    refine (loop2lo (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 (harg5.unread x4) _ y).trans ?_
    rw [harg5.read_unread, hL]
    rfl
  have loop2hi' : ∀ (y : S1536x128.Idx) (g : BufTy.Contents (Elt F) arg21.view.ty) (L : List (View.Piece (Elt F) S1536x128 .i32)), (arg21.view.read (Elt F) (arg21.view.writes (Elt F) g L) = k0_pay230) → arg21.view.read (Elt F) (arg21.view.writes (Elt F) g ((pb_k0_t2 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 (harg5.unread x4) (Scf.trips k0_t2_loop.lb k0_t2_loop.ub k0_t2_loop.st)).2 ++ L)) y = hiV x4 y := by
    intro y g L hL
    rw [n2, View.writes_append]
    refine (loop2hi (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 (harg5.unread x4) _ y).trans ?_
    rw [harg5.read_unread, hL]
    rfl
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; swap; · iexact H10
    ipureintro; funext y
    exact loop1c y
  isplitl [H11]
  · iexists _; isplitr; swap; · iexact H11
    ipureintro; funext y
    exact loop1s y
  isplitl [HS0]
  · iexists _; isplitr; swap; · iexact HS0
    ipureintro; funext y
    exact loop1x y
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _; isplitr; swap; · iexact HS4
    ipureintro; funext y
    exact sweep17 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 i (by decide +kernel) (by decide +kernel) (by decide +kernel) _ _ rfl rfl _ _ _ _ _ _ _ _ _ _ _ _ _ _ _ (xbfV x0) (wideV x1 x2) x3 (loV x4) (hiV x4) q0 (harg4.read_unread x3) (funext fun y => loop2lo' y _ _ (View.read_writes_full arg20.view _ _ _ _)) (funext fun y => loop2hi' y _ _ (View.read_writes_full arg21.view _ _ _ _))
        ((View.read_writes_full arg15.view _ _ _ _).trans (congrArg₂ zB ((rowsZ_read arg13.view _ _ 0 rfl).trans (congrArg (fun u => rowsZ u 0) (funext fun y => loop1x y))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg16.view _ _ _ _).trans (congrArg₂ zB ((rowsZ_read arg13.view _ _ 1 rfl).trans (congrArg (fun u => rowsZ u 1) (funext fun y => loop1x y))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg15.view _ _ _ _).trans (congrArg₂ zB ((rowsZ_read arg13.view _ _ 2 rfl).trans (congrArg (fun u => rowsZ u 2) (funext fun y => loop1x y))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        (View.writes_append _ _ _ _) (View.writes_append _ _ _ _) (View.writes_append _ _ _ _) y (congr (congrArg Prod.mk (congrFun (View.read_writes_full arg17.view _ _ _ _) y)) (congr (congrArg Prod.mk (congrFun (View.read_writes_full arg18.view _ _ _ _) y)) (congrFun (View.read_writes_full arg19.view _ _ _ _) y)))
  isplitl [HS5]
  · iexists _; isplitr; swap; · iexact HS5
    ipureintro; funext y
    exact sweep18 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 i (by decide +kernel) (by decide +kernel) (by decide +kernel) _ _ rfl rfl _ _ _ _ _ _ _ _ _ _ _ _ _ _ _ (xbfV x0) (wideV x1 x2) x3 (loV x4) (hiV x4) q0 (harg4.read_unread x3) (funext fun y => loop2lo' y _ _ (View.read_writes_full arg20.view _ _ _ _)) (funext fun y => loop2hi' y _ _ (View.read_writes_full arg21.view _ _ _ _))
        ((View.read_writes_full arg15.view _ _ _ _).trans (congrArg₂ zB ((rowsZ_read arg13.view _ _ 0 rfl).trans (congrArg (fun u => rowsZ u 0) (funext fun y => loop1x y))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg16.view _ _ _ _).trans (congrArg₂ zB ((rowsZ_read arg13.view _ _ 1 rfl).trans (congrArg (fun u => rowsZ u 1) (funext fun y => loop1x y))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg15.view _ _ _ _).trans (congrArg₂ zB ((rowsZ_read arg13.view _ _ 2 rfl).trans (congrArg (fun u => rowsZ u 2) (funext fun y => loop1x y))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        (View.writes_append _ _ _ _) (View.writes_append _ _ _ _) (View.writes_append _ _ _ _) y (congr (congrArg Prod.mk (congrFun (View.read_writes_full arg17.view _ _ _ _) y)) (congr (congrArg Prod.mk (congrFun (View.read_writes_full arg18.view _ _ _ _) y)) (congrFun (View.read_writes_full arg19.view _ _ _ _) y)))
  isplitl [HS6]
  · iexists _; isplitr; swap; · iexact HS6
    ipureintro; funext y
    exact sweep19 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 i (by decide +kernel) (by decide +kernel) (by decide +kernel) _ _ rfl rfl _ _ _ _ _ _ _ _ _ _ _ _ _ _ _ (xbfV x0) (wideV x1 x2) x3 (loV x4) (hiV x4) q0 (harg4.read_unread x3) (funext fun y => loop2lo' y _ _ (View.read_writes_full arg20.view _ _ _ _)) (funext fun y => loop2hi' y _ _ (View.read_writes_full arg21.view _ _ _ _))
        ((View.read_writes_full arg15.view _ _ _ _).trans (congrArg₂ zB ((rowsZ_read arg13.view _ _ 0 rfl).trans (congrArg (fun u => rowsZ u 0) (funext fun y => loop1x y))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg16.view _ _ _ _).trans (congrArg₂ zB ((rowsZ_read arg13.view _ _ 1 rfl).trans (congrArg (fun u => rowsZ u 1) (funext fun y => loop1x y))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg15.view _ _ _ _).trans (congrArg₂ zB ((rowsZ_read arg13.view _ _ 2 rfl).trans (congrArg (fun u => rowsZ u 2) (funext fun y => loop1x y))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        (View.writes_append _ _ _ _) (View.writes_append _ _ _ _) (View.writes_append _ _ _ _) y (congr (congrArg Prod.mk (congrFun (View.read_writes_full arg17.view _ _ _ _) y)) (congr (congrArg Prod.mk (congrFun (View.read_writes_full arg18.view _ _ _ _) y)) (congrFun (View.read_writes_full arg19.view _ _ _ _) y)))
  isplitl [HS7]
  · iexists _; isplitr; swap; · iexact HS7
    ipureintro; funext y
    exact loop2lo' y _ _ (View.read_writes_full arg20.view _ _ _ _)
  iexists _; isplitr; swap; · iexact HS8
  ipureintro; funext y
  exact loop2hi' y _ _ (View.read_writes_full arg21.view _ _ _ _)

end Cert.KernelIdeal.V
end
-- ==== Proof.V.RunB.lean ====
module

public import proofs.«01_k».proof.Proof.V.Kit
public import proofs.«01_k».proof.Proof.V.Spec

@[expose] public section

-- membership in a rectangle of production extents (`View.cover_of_tiled`): the elaborator's structural look
-- recurses once per coordinate of the long axes
set_option maxRecDepth 16384

noncomputable section

set_option maxHeartbeats 8000000

namespace Cert.KernelIdeal.V

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE BODY, run from whole blocks to whole blocks. -/
theorem run_B (c : Dev nD) (i : grid0.Coords) (arg1 : Memref sig .tc .vmem S1536x1024 .bf16) (harg1 : arg1.IsWhole) (arg2 : Memref sig .tc .vmem S1280x1024 .fp8e4m3) (harg2 : arg2.IsWhole) (arg3 : Memref sig .tc .vmem S1280x8 .f32) (harg3 : arg3.IsWhole) (arg4 : Memref sig .tc .vmem S1x1536x128 .i32) (harg4 : arg4.IsWhole) (arg5 : Memref sig .tc .vmem S1536x50 .i32) (harg5 : arg5.IsWhole) (arg6 : Memref sig .tc .vmem S1536x50 .bf16) (harg6 : arg6.IsWhole) (arg7 : Memref sig .tc .vmem S4x384 .f32) (harg7 : arg7.IsWhole) (arg8 : Memref sig .tc .vmem S4x384 .f32) (harg8 : arg8.IsWhole) (arg9 : Memref sig .tc .vmem S4x384 .f32) (harg9 : arg9.IsWhole) (arg10 : Memref sig .tc .vmem S1536x50 .f32) (harg10 : arg10.IsWhole) (arg11 : Memref sig .tc .vmem S1536x1024 .fp8e4m3) (harg11 : arg11.IsWhole) (arg12 : Memref sig .tc .vmem S1536x8 .f32) (harg12 : arg12.IsWhole) (arg13 : Memref sig .tc .vmem S1536x1024 .bf16) (harg13 : arg13.IsWhole) (arg14 : Memref sig .tc .vmem S1280x1024 .bf16) (harg14 : arg14.IsWhole) (arg15 : Memref sig .tc .vmem S512x1280 .f32) (harg15 : arg15.IsWhole) (arg16 : Memref sig .tc .vmem S512x1280 .f32) (harg16 : arg16.IsWhole) (arg17 : Memref sig .tc .vmem S1536x128 .f32) (harg17 : arg17.IsWhole) (arg18 : Memref sig .tc .vmem S1536x128 .f32) (harg18 : arg18.IsWhole) (arg19 : Memref sig .tc .vmem S1536x128 .f32) (harg19 : arg19.IsWhole) (arg20 : Memref sig .tc .vmem S1536x128 .i32) (harg20 : arg20.IsWhole) (arg21 : Memref sig .tc .vmem S1536x128 .i32) (harg21 : arg21.IsWhole) (hc0 : ¬cond0_0 i) (hc1 : ¬cond0_1 i)
    (x0 : Vec F S1536x1024 .bf16) (x1 : Vec F S1280x1024 .fp8e4m3) (x2 : Vec F S1280x8 .f32) (x3 : Vec F S1x1536x128 .i32) (x4 : Vec F S1536x50 .i32) (x5 : Vec F S1536x50 .bf16) (xs0 : Vec F S1536x1024 .bf16) (xs4 : Vec F S1536x128 .f32) (xs5 : Vec F S1536x128 .f32) (xs6 : Vec F S1536x128 .f32) (xs7 : Vec F S1536x128 .i32) (xs8 : Vec F S1536x128 .i32) :
      ∀ (xi6 : Vec F S4x384 .f32) (xi7 : Vec F S4x384 .f32) (xi8 : Vec F S4x384 .f32) (xi9 : Vec F S1536x50 .f32) (xi10 : Vec F S1536x1024 .fp8e4m3) (xi11 : Vec F S1536x8 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ owns (c : Thread nD τ) arg9 fullShare xi8 ∗ owns (c : Thread nD τ) arg10 fullShare xi9 ∗ owns (c : Thread nD τ) arg11 fullShare xi10 ∗ owns (c : Thread nD τ) arg12 fullShare xi11 ∗ owns (c : Thread nD τ) arg13 fullShare xs0 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs4 ∗ owns (c : Thread nD τ) arg18 fullShare xs5 ∗ owns (c : Thread nD τ) arg19 fullShare xs6 ∗ owns (c : Thread nD τ) arg20 fullShare xs7 ∗ owns (c : Thread nD τ) arg21 fullShare xs8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xi6 ∗ owns (c : Thread nD τ) arg8 fullShare xi7 ∗ owns (c : Thread nD τ) arg9 fullShare xi8 ∗ owns (c : Thread nD τ) arg10 fullShare xi9 ∗ owns (c : Thread nD τ) arg11 fullShare xi10 ∗ owns (c : Thread nD τ) arg12 fullShare xi11 ∗ owns (c : Thread nD τ) arg13 fullShare xs0 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare (fun y => (stepV i xs0 (wideV x1 x2) x3 xs7 xs8 (fun y => (xs4 y, xs5 y, xs6 y)) y).1) ∗ owns (c : Thread nD τ) arg18 fullShare (fun y => (stepV i xs0 (wideV x1 x2) x3 xs7 xs8 (fun y => (xs4 y, xs5 y, xs6 y)) y).2.1) ∗ owns (c : Thread nD τ) arg19 fullShare (fun y => (stepV i xs0 (wideV x1 x2) x3 xs7 xs8 (fun y => (xs4 y, xs5 y, xs6 y)) y).2.2) ∗ owns (c : Thread nD τ) arg20 fullShare xs7 ∗ owns (c : Thread nD τ) arg21 fullShare xs8) -∗ K ⟨⟩))
          ⊢ wp frame (wpE (defs₀ (F := F)) Variants.none c none) E (cc0_kd_head i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  intro xi6 xi7 xi8 xi9 xi10 xi11 E K
  simp only [cc0_kd_head_eq_skeleton]; unfold cc0_kd_head_skel
  simp only [k0_part47_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%ds1, %fs1, -, HS1⟩, ⟨%ds2, %fs2, -, HS2⟩, ⟨%ds3, %fs3, -, HS3⟩, ⟨%fs4, %hfs4, HS4⟩, ⟨%fs5, %hfs5, HS5⟩, ⟨%fs6, %hfs6, HS6⟩, ⟨%fs7, %hfs7, HS7⟩, ⟨%fs8, %hfs8, HS8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hfs0; obtain rfl := harg17.eq_unread hfs4; obtain rfl := harg18.eq_unread hfs5; obtain rfl := harg19.eq_unread hfs6; obtain rfl := harg20.eq_unread hfs7; obtain rfl := harg21.eq_unread hfs8
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [H11]
  · iexists _; isplitr; · ipureintro; exact harg12.read_unread _
    iexact H11
  isplitl [HS0]
  · iexists _; isplitr; · ipureintro; exact harg13.read_unread _
    iexact HS0
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _; isplitr; swap; · iexact HS4
    ipureintro; funext y
    exact sweep17 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 i (by decide +kernel) (by decide +kernel) (by decide +kernel) _ _ rfl rfl _ _ _ _ _ _ _ _ _ _ _ _ _ _ _ xs0 (wideV x1 x2) x3 xs7 xs8 (fun y => (xs4 y, xs5 y, xs6 y)) (harg4.read_unread x3) (harg20.read_unread xs7) (harg21.read_unread xs8)
        ((View.read_writes_full arg15.view _ _ _ _).trans (congrArg₂ zB ((rowsZ_read arg13.view _ _ 0 rfl).trans (congrArg (fun u => rowsZ u 0) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg16.view _ _ _ _).trans (congrArg₂ zB ((rowsZ_read arg13.view _ _ 1 rfl).trans (congrArg (fun u => rowsZ u 1) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg15.view _ _ _ _).trans (congrArg₂ zB ((rowsZ_read arg13.view _ _ 2 rfl).trans (congrArg (fun u => rowsZ u 2) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        rfl rfl rfl y (by rw [harg17.read_unread, harg18.read_unread, harg19.read_unread])
  isplitl [HS5]
  · iexists _; isplitr; swap; · iexact HS5
    ipureintro; funext y
    exact sweep18 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 i (by decide +kernel) (by decide +kernel) (by decide +kernel) _ _ rfl rfl _ _ _ _ _ _ _ _ _ _ _ _ _ _ _ xs0 (wideV x1 x2) x3 xs7 xs8 (fun y => (xs4 y, xs5 y, xs6 y)) (harg4.read_unread x3) (harg20.read_unread xs7) (harg21.read_unread xs8)
        ((View.read_writes_full arg15.view _ _ _ _).trans (congrArg₂ zB ((rowsZ_read arg13.view _ _ 0 rfl).trans (congrArg (fun u => rowsZ u 0) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg16.view _ _ _ _).trans (congrArg₂ zB ((rowsZ_read arg13.view _ _ 1 rfl).trans (congrArg (fun u => rowsZ u 1) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg15.view _ _ _ _).trans (congrArg₂ zB ((rowsZ_read arg13.view _ _ 2 rfl).trans (congrArg (fun u => rowsZ u 2) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        rfl rfl rfl y (by rw [harg17.read_unread, harg18.read_unread, harg19.read_unread])
  isplitl [HS6]
  · iexists _; isplitr; swap; · iexact HS6
    ipureintro; funext y
    exact sweep19 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 i (by decide +kernel) (by decide +kernel) (by decide +kernel) _ _ rfl rfl _ _ _ _ _ _ _ _ _ _ _ _ _ _ _ xs0 (wideV x1 x2) x3 xs7 xs8 (fun y => (xs4 y, xs5 y, xs6 y)) (harg4.read_unread x3) (harg20.read_unread xs7) (harg21.read_unread xs8)
        ((View.read_writes_full arg15.view _ _ _ _).trans (congrArg₂ zB ((rowsZ_read arg13.view _ _ 0 rfl).trans (congrArg (fun u => rowsZ u 0) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg16.view _ _ _ _).trans (congrArg₂ zB ((rowsZ_read arg13.view _ _ 1 rfl).trans (congrArg (fun u => rowsZ u 1) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg15.view _ _ _ _).trans (congrArg₂ zB ((rowsZ_read arg13.view _ _ 2 rfl).trans (congrArg (fun u => rowsZ u 2) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        rfl rfl rfl y (by rw [harg17.read_unread, harg18.read_unread, harg19.read_unread])
  isplitl [HS7]
  · iexists _; isplitr; · ipureintro; exact harg20.read_unread _
    iexact HS7
  iexists _; isplitr; · ipureintro; exact harg21.read_unread _
  iexact HS8

end Cert.KernelIdeal.V
end
-- ==== Proof.V.RunC.lean ====
module

public import proofs.«01_k».proof.Proof.V.Kit
public import proofs.«01_k».proof.Proof.V.Spec

@[expose] public section

-- membership in a rectangle of production extents (`View.cover_of_tiled`): the elaborator's structural look
-- recurses once per coordinate of the long axes
set_option maxRecDepth 16384

noncomputable section

set_option maxHeartbeats 8000000

namespace Cert.KernelIdeal.V

open Idealize.ShloMosaic Idealize.ShloMosaic.TcCoe Idealize.ShloMosaic.Tactic
open Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE BODY, run from whole blocks to whole blocks. -/
theorem run_C (c : Dev nD) (i : grid0.Coords) (arg1 : Memref sig .tc .vmem S1536x1024 .bf16) (harg1 : arg1.IsWhole) (arg2 : Memref sig .tc .vmem S1280x1024 .fp8e4m3) (harg2 : arg2.IsWhole) (arg3 : Memref sig .tc .vmem S1280x8 .f32) (harg3 : arg3.IsWhole) (arg4 : Memref sig .tc .vmem S1x1536x128 .i32) (harg4 : arg4.IsWhole) (arg5 : Memref sig .tc .vmem S1536x50 .i32) (harg5 : arg5.IsWhole) (arg6 : Memref sig .tc .vmem S1536x50 .bf16) (harg6 : arg6.IsWhole) (arg7 : Memref sig .tc .vmem S4x384 .f32) (harg7 : arg7.IsWhole) (arg8 : Memref sig .tc .vmem S4x384 .f32) (harg8 : arg8.IsWhole) (arg9 : Memref sig .tc .vmem S4x384 .f32) (harg9 : arg9.IsWhole) (arg10 : Memref sig .tc .vmem S1536x50 .f32) (harg10 : arg10.IsWhole) (arg11 : Memref sig .tc .vmem S1536x1024 .fp8e4m3) (harg11 : arg11.IsWhole) (arg12 : Memref sig .tc .vmem S1536x8 .f32) (harg12 : arg12.IsWhole) (arg13 : Memref sig .tc .vmem S1536x1024 .bf16) (harg13 : arg13.IsWhole) (arg14 : Memref sig .tc .vmem S1280x1024 .bf16) (harg14 : arg14.IsWhole) (arg15 : Memref sig .tc .vmem S512x1280 .f32) (harg15 : arg15.IsWhole) (arg16 : Memref sig .tc .vmem S512x1280 .f32) (harg16 : arg16.IsWhole) (arg17 : Memref sig .tc .vmem S1536x128 .f32) (harg17 : arg17.IsWhole) (arg18 : Memref sig .tc .vmem S1536x128 .f32) (harg18 : arg18.IsWhole) (arg19 : Memref sig .tc .vmem S1536x128 .f32) (harg19 : arg19.IsWhole) (arg20 : Memref sig .tc .vmem S1536x128 .i32) (harg20 : arg20.IsWhole) (arg21 : Memref sig .tc .vmem S1536x128 .i32) (harg21 : arg21.IsWhole) (hc0 : ¬cond0_0 i) (hc1 : cond0_1 i)
    (x0 : Vec F S1536x1024 .bf16) (x1 : Vec F S1280x1024 .fp8e4m3) (x2 : Vec F S1280x8 .f32) (x3 : Vec F S1x1536x128 .i32) (x4 : Vec F S1536x50 .i32) (x5 : Vec F S1536x50 .bf16) (xo10 : Vec F S1536x1024 .fp8e4m3) (xo11 : Vec F S1536x8 .f32) (xs0 : Vec F S1536x1024 .bf16) (xs4 : Vec F S1536x128 .f32) (xs5 : Vec F S1536x128 .f32) (xs6 : Vec F S1536x128 .f32) (xs7 : Vec F S1536x128 .i32) (xs8 : Vec F S1536x128 .i32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xo10 ∗ owns (c : Thread nD τ) arg12 fullShare xo11 ∗ owns (c : Thread nD τ) arg13 fullShare xs0 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs4 ∗ owns (c : Thread nD τ) arg18 fullShare xs5 ∗ owns (c : Thread nD τ) arg19 fullShare xs6 ∗ owns (c : Thread nD τ) arg20 fullShare xs7 ∗ owns (c : Thread nD τ) arg21 fullShare xs8
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (outV klB (fun y => (stepV i xs0 (wideV x1 x2) x3 xs7 xs8 (fun y => (xs4 y, xs5 y, xs6 y)) y).1) (fun y => (stepV i xs0 (wideV x1 x2) x3 xs7 xs8 (fun y => (xs4 y, xs5 y, xs6 y)) y).2.1) (fun y => (stepV i xs0 (wideV x1 x2) x3 xs7 xs8 (fun y => (xs4 y, xs5 y, xs6 y)) y).2.2) x5) ∗ owns (c : Thread nD τ) arg8 fullShare (outV lseB (fun y => (stepV i xs0 (wideV x1 x2) x3 xs7 xs8 (fun y => (xs4 y, xs5 y, xs6 y)) y).1) (fun y => (stepV i xs0 (wideV x1 x2) x3 xs7 xs8 (fun y => (xs4 y, xs5 y, xs6 y)) y).2.1) (fun y => (stepV i xs0 (wideV x1 x2) x3 xs7 xs8 (fun y => (xs4 y, xs5 y, xs6 y)) y).2.2) x5) ∗ owns (c : Thread nD τ) arg9 fullShare (outV restB (fun y => (stepV i xs0 (wideV x1 x2) x3 xs7 xs8 (fun y => (xs4 y, xs5 y, xs6 y)) y).1) (fun y => (stepV i xs0 (wideV x1 x2) x3 xs7 xs8 (fun y => (xs4 y, xs5 y, xs6 y)) y).2.1) (fun y => (stepV i xs0 (wideV x1 x2) x3 xs7 xs8 (fun y => (xs4 y, xs5 y, xs6 y)) y).2.2) x5) ∗ owns (c : Thread nD τ) arg10 fullShare (zsV (fun y => (stepV i xs0 (wideV x1 x2) x3 xs7 xs8 (fun y => (xs4 y, xs5 y, xs6 y)) y).2.2)) ∗ owns (c : Thread nD τ) arg11 fullShare xo10 ∗ owns (c : Thread nD τ) arg12 fullShare xo11 ∗ owns (c : Thread nD τ) arg13 fullShare xs0 ∗ (∃ d, owns (c : Thread nD τ) arg14 fullShare d) ∗ (∃ d, owns (c : Thread nD τ) arg15 fullShare d) ∗ (∃ d, owns (c : Thread nD τ) arg16 fullShare d) ∗ owns (c : Thread nD τ) arg17 fullShare (fun y => (stepV i xs0 (wideV x1 x2) x3 xs7 xs8 (fun y => (xs4 y, xs5 y, xs6 y)) y).1) ∗ owns (c : Thread nD τ) arg18 fullShare (fun y => (stepV i xs0 (wideV x1 x2) x3 xs7 xs8 (fun y => (xs4 y, xs5 y, xs6 y)) y).2.1) ∗ owns (c : Thread nD τ) arg19 fullShare (fun y => (stepV i xs0 (wideV x1 x2) x3 xs7 xs8 (fun y => (xs4 y, xs5 y, xs6 y)) y).2.2) ∗ owns (c : Thread nD τ) arg20 fullShare xs7 ∗ owns (c : Thread nD τ) arg21 fullShare xs8) -∗ K ⟨⟩))
          ⊢ wp frame (wpE (defs₀ (F := F)) Variants.none c none) E (cc0_kd_head i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  intro E K
  simp only [cc0_kd_head_eq_skeleton]; unfold cc0_kd_head_skel
  simp only [k0_part47_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%f10, %hf10, H10⟩, ⟨%f11, %hf11, H11⟩, ⟨%fs0, %hfs0, HS0⟩, ⟨%ds1, %fs1, -, HS1⟩, ⟨%ds2, %fs2, -, HS2⟩, ⟨%ds3, %fs3, -, HS3⟩, ⟨%fs4, %hfs4, HS4⟩, ⟨%fs5, %hfs5, HS5⟩, ⟨%fs6, %hfs6, HS6⟩, ⟨%fs7, %hfs7, HS7⟩, ⟨%fs8, %hfs8, HS8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg11.eq_unread hf10; obtain rfl := harg12.eq_unread hf11; obtain rfl := harg13.eq_unread hfs0; obtain rfl := harg17.eq_unread hfs4; obtain rfl := harg18.eq_unread hfs5; obtain rfl := harg19.eq_unread hfs6; obtain rfl := harg20.eq_unread hfs7; obtain rfl := harg21.eq_unread hfs8
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro; funext y
    rw [(by decide +kernel : Scf.trips k0_t7_loop.lb k0_t7_loop.ub k0_t7_loop.st = 4)]
    exact (loop7klB (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ rfl _ y).trans (congrFun (congr (congr (congr (congrArg (outV klB) (funext fun y => sweep17 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 i (by decide +kernel) (by decide +kernel) (by decide +kernel) _ _ rfl rfl _ _ _ _ _ _ _ _ _ _ _ _ _ _ _ xs0 (wideV x1 x2) x3 xs7 xs8 (fun y => (xs4 y, xs5 y, xs6 y)) (harg4.read_unread x3) (harg20.read_unread xs7) (harg21.read_unread xs8)
        ((View.read_writes_full arg15.view _ _ _ _).trans (congrArg₂ zB ((rowsZ_read arg13.view _ _ 0 rfl).trans (congrArg (fun u => rowsZ u 0) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg16.view _ _ _ _).trans (congrArg₂ zB ((rowsZ_read arg13.view _ _ 1 rfl).trans (congrArg (fun u => rowsZ u 1) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg15.view _ _ _ _).trans (congrArg₂ zB ((rowsZ_read arg13.view _ _ 2 rfl).trans (congrArg (fun u => rowsZ u 2) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        rfl rfl rfl y (by rw [harg17.read_unread, harg18.read_unread, harg19.read_unread]))) (funext fun y => sweep18 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 i (by decide +kernel) (by decide +kernel) (by decide +kernel) _ _ rfl rfl _ _ _ _ _ _ _ _ _ _ _ _ _ _ _ xs0 (wideV x1 x2) x3 xs7 xs8 (fun y => (xs4 y, xs5 y, xs6 y)) (harg4.read_unread x3) (harg20.read_unread xs7) (harg21.read_unread xs8)
        ((View.read_writes_full arg15.view _ _ _ _).trans (congrArg₂ zB ((rowsZ_read arg13.view _ _ 0 rfl).trans (congrArg (fun u => rowsZ u 0) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg16.view _ _ _ _).trans (congrArg₂ zB ((rowsZ_read arg13.view _ _ 1 rfl).trans (congrArg (fun u => rowsZ u 1) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg15.view _ _ _ _).trans (congrArg₂ zB ((rowsZ_read arg13.view _ _ 2 rfl).trans (congrArg (fun u => rowsZ u 2) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        rfl rfl rfl y (by rw [harg17.read_unread, harg18.read_unread, harg19.read_unread]))) (funext fun y => sweep19 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 i (by decide +kernel) (by decide +kernel) (by decide +kernel) _ _ rfl rfl _ _ _ _ _ _ _ _ _ _ _ _ _ _ _ xs0 (wideV x1 x2) x3 xs7 xs8 (fun y => (xs4 y, xs5 y, xs6 y)) (harg4.read_unread x3) (harg20.read_unread xs7) (harg21.read_unread xs8)
        ((View.read_writes_full arg15.view _ _ _ _).trans (congrArg₂ zB ((rowsZ_read arg13.view _ _ 0 rfl).trans (congrArg (fun u => rowsZ u 0) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg16.view _ _ _ _).trans (congrArg₂ zB ((rowsZ_read arg13.view _ _ 1 rfl).trans (congrArg (fun u => rowsZ u 1) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg15.view _ _ _ _).trans (congrArg₂ zB ((rowsZ_read arg13.view _ _ 2 rfl).trans (congrArg (fun u => rowsZ u 2) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        rfl rfl rfl y (by rw [harg17.read_unread, harg18.read_unread, harg19.read_unread]))) (harg6.read_unread x5)) y)
  isplitl [H7]
  · iexists _; isplitr; swap; · iexact H7
    ipureintro; funext y
    rw [(by decide +kernel : Scf.trips k0_t7_loop.lb k0_t7_loop.ub k0_t7_loop.st = 4)]
    exact (loop7lseB (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ rfl _ y).trans (congrFun (congr (congr (congr (congrArg (outV lseB) (funext fun y => sweep17 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 i (by decide +kernel) (by decide +kernel) (by decide +kernel) _ _ rfl rfl _ _ _ _ _ _ _ _ _ _ _ _ _ _ _ xs0 (wideV x1 x2) x3 xs7 xs8 (fun y => (xs4 y, xs5 y, xs6 y)) (harg4.read_unread x3) (harg20.read_unread xs7) (harg21.read_unread xs8)
        ((View.read_writes_full arg15.view _ _ _ _).trans (congrArg₂ zB ((rowsZ_read arg13.view _ _ 0 rfl).trans (congrArg (fun u => rowsZ u 0) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg16.view _ _ _ _).trans (congrArg₂ zB ((rowsZ_read arg13.view _ _ 1 rfl).trans (congrArg (fun u => rowsZ u 1) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg15.view _ _ _ _).trans (congrArg₂ zB ((rowsZ_read arg13.view _ _ 2 rfl).trans (congrArg (fun u => rowsZ u 2) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        rfl rfl rfl y (by rw [harg17.read_unread, harg18.read_unread, harg19.read_unread]))) (funext fun y => sweep18 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 i (by decide +kernel) (by decide +kernel) (by decide +kernel) _ _ rfl rfl _ _ _ _ _ _ _ _ _ _ _ _ _ _ _ xs0 (wideV x1 x2) x3 xs7 xs8 (fun y => (xs4 y, xs5 y, xs6 y)) (harg4.read_unread x3) (harg20.read_unread xs7) (harg21.read_unread xs8)
        ((View.read_writes_full arg15.view _ _ _ _).trans (congrArg₂ zB ((rowsZ_read arg13.view _ _ 0 rfl).trans (congrArg (fun u => rowsZ u 0) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg16.view _ _ _ _).trans (congrArg₂ zB ((rowsZ_read arg13.view _ _ 1 rfl).trans (congrArg (fun u => rowsZ u 1) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg15.view _ _ _ _).trans (congrArg₂ zB ((rowsZ_read arg13.view _ _ 2 rfl).trans (congrArg (fun u => rowsZ u 2) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        rfl rfl rfl y (by rw [harg17.read_unread, harg18.read_unread, harg19.read_unread]))) (funext fun y => sweep19 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 i (by decide +kernel) (by decide +kernel) (by decide +kernel) _ _ rfl rfl _ _ _ _ _ _ _ _ _ _ _ _ _ _ _ xs0 (wideV x1 x2) x3 xs7 xs8 (fun y => (xs4 y, xs5 y, xs6 y)) (harg4.read_unread x3) (harg20.read_unread xs7) (harg21.read_unread xs8)
        ((View.read_writes_full arg15.view _ _ _ _).trans (congrArg₂ zB ((rowsZ_read arg13.view _ _ 0 rfl).trans (congrArg (fun u => rowsZ u 0) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg16.view _ _ _ _).trans (congrArg₂ zB ((rowsZ_read arg13.view _ _ 1 rfl).trans (congrArg (fun u => rowsZ u 1) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg15.view _ _ _ _).trans (congrArg₂ zB ((rowsZ_read arg13.view _ _ 2 rfl).trans (congrArg (fun u => rowsZ u 2) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        rfl rfl rfl y (by rw [harg17.read_unread, harg18.read_unread, harg19.read_unread]))) (harg6.read_unread x5)) y)
  isplitl [H8]
  · iexists _; isplitr; swap; · iexact H8
    ipureintro; funext y
    rw [(by decide +kernel : Scf.trips k0_t7_loop.lb k0_t7_loop.ub k0_t7_loop.st = 4)]
    exact (loop7restB (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ rfl _ y).trans (congrFun (congr (congr (congr (congrArg (outV restB) (funext fun y => sweep17 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 i (by decide +kernel) (by decide +kernel) (by decide +kernel) _ _ rfl rfl _ _ _ _ _ _ _ _ _ _ _ _ _ _ _ xs0 (wideV x1 x2) x3 xs7 xs8 (fun y => (xs4 y, xs5 y, xs6 y)) (harg4.read_unread x3) (harg20.read_unread xs7) (harg21.read_unread xs8)
        ((View.read_writes_full arg15.view _ _ _ _).trans (congrArg₂ zB ((rowsZ_read arg13.view _ _ 0 rfl).trans (congrArg (fun u => rowsZ u 0) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg16.view _ _ _ _).trans (congrArg₂ zB ((rowsZ_read arg13.view _ _ 1 rfl).trans (congrArg (fun u => rowsZ u 1) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg15.view _ _ _ _).trans (congrArg₂ zB ((rowsZ_read arg13.view _ _ 2 rfl).trans (congrArg (fun u => rowsZ u 2) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        rfl rfl rfl y (by rw [harg17.read_unread, harg18.read_unread, harg19.read_unread]))) (funext fun y => sweep18 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 i (by decide +kernel) (by decide +kernel) (by decide +kernel) _ _ rfl rfl _ _ _ _ _ _ _ _ _ _ _ _ _ _ _ xs0 (wideV x1 x2) x3 xs7 xs8 (fun y => (xs4 y, xs5 y, xs6 y)) (harg4.read_unread x3) (harg20.read_unread xs7) (harg21.read_unread xs8)
        ((View.read_writes_full arg15.view _ _ _ _).trans (congrArg₂ zB ((rowsZ_read arg13.view _ _ 0 rfl).trans (congrArg (fun u => rowsZ u 0) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg16.view _ _ _ _).trans (congrArg₂ zB ((rowsZ_read arg13.view _ _ 1 rfl).trans (congrArg (fun u => rowsZ u 1) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg15.view _ _ _ _).trans (congrArg₂ zB ((rowsZ_read arg13.view _ _ 2 rfl).trans (congrArg (fun u => rowsZ u 2) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        rfl rfl rfl y (by rw [harg17.read_unread, harg18.read_unread, harg19.read_unread]))) (funext fun y => sweep19 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 i (by decide +kernel) (by decide +kernel) (by decide +kernel) _ _ rfl rfl _ _ _ _ _ _ _ _ _ _ _ _ _ _ _ xs0 (wideV x1 x2) x3 xs7 xs8 (fun y => (xs4 y, xs5 y, xs6 y)) (harg4.read_unread x3) (harg20.read_unread xs7) (harg21.read_unread xs8)
        ((View.read_writes_full arg15.view _ _ _ _).trans (congrArg₂ zB ((rowsZ_read arg13.view _ _ 0 rfl).trans (congrArg (fun u => rowsZ u 0) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg16.view _ _ _ _).trans (congrArg₂ zB ((rowsZ_read arg13.view _ _ 1 rfl).trans (congrArg (fun u => rowsZ u 1) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg15.view _ _ _ _).trans (congrArg₂ zB ((rowsZ_read arg13.view _ _ 2 rfl).trans (congrArg (fun u => rowsZ u 2) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        rfl rfl rfl y (by rw [harg17.read_unread, harg18.read_unread, harg19.read_unread]))) (harg6.read_unread x5)) y)
  isplitl [H9]
  · iexists _; isplitr; swap; · iexact H9
    ipureintro; funext y
    rw [(by decide +kernel : Scf.trips k0_t7_loop.lb k0_t7_loop.ub k0_t7_loop.st = 4)]
    exact (loop7zsB (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ _ rfl _ y).trans (congrFun (congrArg zsV (funext fun y => sweep19 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 i (by decide +kernel) (by decide +kernel) (by decide +kernel) _ _ rfl rfl _ _ _ _ _ _ _ _ _ _ _ _ _ _ _ xs0 (wideV x1 x2) x3 xs7 xs8 (fun y => (xs4 y, xs5 y, xs6 y)) (harg4.read_unread x3) (harg20.read_unread xs7) (harg21.read_unread xs8)
        ((View.read_writes_full arg15.view _ _ _ _).trans (congrArg₂ zB ((rowsZ_read arg13.view _ _ 0 rfl).trans (congrArg (fun u => rowsZ u 0) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg16.view _ _ _ _).trans (congrArg₂ zB ((rowsZ_read arg13.view _ _ 1 rfl).trans (congrArg (fun u => rowsZ u 1) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg15.view _ _ _ _).trans (congrArg₂ zB ((rowsZ_read arg13.view _ _ 2 rfl).trans (congrArg (fun u => rowsZ u 2) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        rfl rfl rfl y (by rw [harg17.read_unread, harg18.read_unread, harg19.read_unread]))) y)
  isplitl [H10]
  · iexists _; isplitr; · ipureintro; exact harg11.read_unread _
    iexact H10
  isplitl [H11]
  · iexists _; isplitr; · ipureintro; exact harg12.read_unread _
    iexact H11
  isplitl [HS0]
  · iexists _; isplitr; · ipureintro; exact harg13.read_unread _
    iexact HS0
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _; isplitr; swap; · iexact HS4
    ipureintro; funext y
    exact sweep17 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 i (by decide +kernel) (by decide +kernel) (by decide +kernel) _ _ rfl rfl _ _ _ _ _ _ _ _ _ _ _ _ _ _ _ xs0 (wideV x1 x2) x3 xs7 xs8 (fun y => (xs4 y, xs5 y, xs6 y)) (harg4.read_unread x3) (harg20.read_unread xs7) (harg21.read_unread xs8)
        ((View.read_writes_full arg15.view _ _ _ _).trans (congrArg₂ zB ((rowsZ_read arg13.view _ _ 0 rfl).trans (congrArg (fun u => rowsZ u 0) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg16.view _ _ _ _).trans (congrArg₂ zB ((rowsZ_read arg13.view _ _ 1 rfl).trans (congrArg (fun u => rowsZ u 1) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg15.view _ _ _ _).trans (congrArg₂ zB ((rowsZ_read arg13.view _ _ 2 rfl).trans (congrArg (fun u => rowsZ u 2) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        rfl rfl rfl y (by rw [harg17.read_unread, harg18.read_unread, harg19.read_unread])
  isplitl [HS5]
  · iexists _; isplitr; swap; · iexact HS5
    ipureintro; funext y
    exact sweep18 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 i (by decide +kernel) (by decide +kernel) (by decide +kernel) _ _ rfl rfl _ _ _ _ _ _ _ _ _ _ _ _ _ _ _ xs0 (wideV x1 x2) x3 xs7 xs8 (fun y => (xs4 y, xs5 y, xs6 y)) (harg4.read_unread x3) (harg20.read_unread xs7) (harg21.read_unread xs8)
        ((View.read_writes_full arg15.view _ _ _ _).trans (congrArg₂ zB ((rowsZ_read arg13.view _ _ 0 rfl).trans (congrArg (fun u => rowsZ u 0) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg16.view _ _ _ _).trans (congrArg₂ zB ((rowsZ_read arg13.view _ _ 1 rfl).trans (congrArg (fun u => rowsZ u 1) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg15.view _ _ _ _).trans (congrArg₂ zB ((rowsZ_read arg13.view _ _ 2 rfl).trans (congrArg (fun u => rowsZ u 2) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        rfl rfl rfl y (by rw [harg17.read_unread, harg18.read_unread, harg19.read_unread])
  isplitl [HS6]
  · iexists _; isplitr; swap; · iexact HS6
    ipureintro; funext y
    exact sweep19 (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 i (by decide +kernel) (by decide +kernel) (by decide +kernel) _ _ rfl rfl _ _ _ _ _ _ _ _ _ _ _ _ _ _ _ xs0 (wideV x1 x2) x3 xs7 xs8 (fun y => (xs4 y, xs5 y, xs6 y)) (harg4.read_unread x3) (harg20.read_unread xs7) (harg21.read_unread xs8)
        ((View.read_writes_full arg15.view _ _ _ _).trans (congrArg₂ zB ((rowsZ_read arg13.view _ _ 0 rfl).trans (congrArg (fun u => rowsZ u 0) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg16.view _ _ _ _).trans (congrArg₂ zB ((rowsZ_read arg13.view _ _ 1 rfl).trans (congrArg (fun u => rowsZ u 1) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        ((View.read_writes_full arg15.view _ _ _ _).trans (congrArg₂ zB ((rowsZ_read arg13.view _ _ 2 rfl).trans (congrArg (fun u => rowsZ u 2) (harg13.read_unread xs0))) ((wide_read (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (by decide +kernel) _ _).trans (congrArg₂ wideV (harg2.read_unread x1) (harg3.read_unread x2)))))
        rfl rfl rfl y (by rw [harg17.read_unread, harg18.read_unread, harg19.read_unread])
  isplitl [HS7]
  · iexists _; isplitr; · ipureintro; exact harg20.read_unread _
    iexact HS7
  iexists _; isplitr; · ipureintro; exact harg21.read_unread _
  iexact HS8

end Cert.KernelIdeal.V
end
-- ==== Proof.V.Frame.lean ====
module

public import proofs.«01_k».proof.Proof.V.RunA
public import proofs.«01_k».proof.Proof.V.RunB
public import proofs.«01_k».proof.Proof.V.RunC
public import Idealize.ShloMosaic.Lib.Claim

@[expose] public section

/-! The kernel's buffers point by point, the obligation the pipeline rule asks of the body at each point, the run of the
whole program and the frame claim. -/

set_option maxHeartbeats 8000000
-- membership in a rectangle of production extents (`View.cover_of_tiled`): the elaborator's structural look
-- recurses once per coordinate of the long axes
set_option maxRecDepth 16384

noncomputable section

namespace Cert.KernelIdeal.V

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- What is carried from point to point: the outputs' buffers and the scratch buffers that are kept. -/
structure St (F : FTy → Type) [FloatOps F] where
  kl : Vec F S4x384 .f32
  lse : Vec F S4x384 .f32
  rest : Vec F S4x384 .f32
  zsup : Vec F S1536x50 .f32
  codes : Vec F S1536x1024 .fp8e4m3
  scales : Vec F S1536x8 .f32
  xbf : Vec F S1536x1024 .bf16
  m : Vec F S1536x128 .f32
  s : Vec F S1536x128 .f32
  sup : Vec F S1536x128 .f32
  lo : Vec F S1536x128 .i32
  hi : Vec F S1536x128 .i32

/-- One point's sweep over its block of the vocabulary. -/
def sweepSt (i : grid0.Coords) (x1 : Vec F S1280x1024 .fp8e4m3) (x2 : Vec F S1280x8 .f32) (x3 : Vec F S1x1536x128 .i32) (p : St F) : St F :=
  { p with
    m := fun y => (stepV i p.xbf (wideV x1 x2) x3 p.lo p.hi (fun y => (p.m y, p.s y, p.sup y)) y).1
    s := fun y => (stepV i p.xbf (wideV x1 x2) x3 p.lo p.hi (fun y => (p.m y, p.s y, p.sup y)) y).2.1
    sup := fun y => (stepV i p.xbf (wideV x1 x2) x3 p.lo p.hi (fun y => (p.m y, p.s y, p.sup y)) y).2.2 }

/-- What the first point starts its sweep from: the quantised activations, the empty statistics, the split ids. The four
    outputs written at the last point hold anything here. -/
def initSt (x0 : Vec F S1536x1024 .bf16) (x4 : Vec F S1536x50 .i32) : St F where
  kl := fun _ => FloatOps.ofBits .f32 0
  lse := fun _ => FloatOps.ofBits .f32 0
  rest := fun _ => FloatOps.ofBits .f32 0
  zsup := fun _ => FloatOps.ofBits .f32 0
  codes := codesV x0
  scales := scalesV x0
  xbf := xbfV x0
  m := fun y => (q0 (F := F) y).1
  s := fun y => (q0 (F := F) y).2.1
  sup := fun y => (q0 (F := F) y).2.2
  lo := loV x4
  hi := hiV x4

/-- The last point's outputs from the statistics. -/
def finSt (x5 : Vec F S1536x50 .bf16) (p : St F) : St F :=
  { p with
    kl := outV klB p.m p.s p.sup x5
    lse := outV lseB p.m p.s p.sup x5
    rest := outV restB p.m p.s p.sup x5
    zsup := zsV p.sup }

/-- What the buffers hold after the body at position `n`. -/
def outsAt0 (c : Dev nD) : (n : ℕ) → n < cfg0.N → St F
  | 0, hn => sweepSt (grid0.coords ⟨0, hn⟩) (iblk m c 1 ⟨0, hn⟩) (iblk m c 2 ⟨0, hn⟩) (iblk m c 3 ⟨0, hn⟩) (initSt (iblk m c 0 ⟨0, hn⟩) (iblk m c 4 ⟨0, hn⟩))
  | n + 1, hn =>
    if (n + 1) % 25 = 24 then
      finSt (iblk m c 5 ⟨n + 1, hn⟩) (sweepSt (grid0.coords ⟨n + 1, hn⟩) (iblk m c 1 ⟨n + 1, hn⟩) (iblk m c 2 ⟨n + 1, hn⟩) (iblk m c 3 ⟨n + 1, hn⟩) (outsAt0 c n (Nat.lt_of_succ_lt hn)))
    else sweepSt (grid0.coords ⟨n + 1, hn⟩) (iblk m c 1 ⟨n + 1, hn⟩) (iblk m c 2 ⟨n + 1, hn⟩) (iblk m c 3 ⟨n + 1, hn⟩) (outsAt0 c n (Nat.lt_of_succ_lt hn))

theorem outsAt0_A (c : Dev nD) (t : Fin cfg0.N) (h0 : t.val % 25 = 0) :
    outsAt0 m c t.val t.isLt = sweepSt (grid0.coords t) (iblk m c 1 t) (iblk m c 2 t) (iblk m c 3 t) (initSt (iblk m c 0 t) (iblk m c 4 t)) := by
  obtain ⟨n, hn⟩ := t
  cases n with
  | zero => rfl
  | succ n =>
    have hN : n + 1 < 25 := lt_of_lt_of_eq hn (show cfg0.N = 25 from N_0)
    exact absurd h0 (by dsimp only; omega)

theorem outsAt0_B (c : Dev nD) (t : Fin cfg0.N) (h0 : ¬t.val % 25 = 0) (h1 : ¬t.val % 25 = 24) :
    outsAt0 m c t.val t.isLt = sweepSt (grid0.coords t) (iblk m c 1 t) (iblk m c 2 t) (iblk m c 3 t) (outsAt0 m c (t.val - 1) (Nat.lt_of_le_of_lt (Nat.sub_le _ _) t.isLt)) := by
  obtain ⟨n, hn⟩ := t
  cases n with
  | zero => exact absurd (Nat.zero_mod _) h0
  | succ n => exact if_neg h1

theorem outsAt0_C (c : Dev nD) (t : Fin cfg0.N) (h0 : ¬t.val % 25 = 0) (h1 : t.val % 25 = 24) :
    outsAt0 m c t.val t.isLt = finSt (iblk m c 5 t) (sweepSt (grid0.coords t) (iblk m c 1 t) (iblk m c 2 t) (iblk m c 3 t) (outsAt0 m c (t.val - 1) (Nat.lt_of_le_of_lt (Nat.sub_le _ _) t.isLt))) := by
  obtain ⟨n, hn⟩ := t
  cases n with
  | zero => exact absurd (Nat.zero_mod _) h0
  | succ n => exact if_pos h1

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).xbf) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m c n hn).m) ∗ owns (c : Thread nD τ) scM0_5 fullShare ((outsAt0 m c n hn).s) ∗ owns (c : Thread nD τ) scM0_6 fullShare ((outsAt0 m c n hn).sup) ∗ owns (c : Thread nD τ) scM0_7 fullShare ((outsAt0 m c n hn).lo) ∗ owns (c : Thread nD τ) scM0_8 fullShare ((outsAt0 m c n hn).hi)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).xbf) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m c n hn).m) ∗ owns (c : Thread nD τ) scM0_5 fullShare ((outsAt0 m c n hn).s) ∗ owns (c : Thread nD τ) scM0_6 fullShare ((outsAt0 m c n hn).sup) ∗ owns (c : Thread nD τ) scM0_7 fullShare ((outsAt0 m c n hn).lo) ∗ owns (c : Thread nD τ) scM0_8 fullShare ((outsAt0 m c n hn).hi)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).xbf) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m c (n - 1) (by omega)).m) ∗ owns (c : Thread nD τ) scM0_5 fullShare ((outsAt0 m c (n - 1) (by omega)).s) ∗ owns (c : Thread nD τ) scM0_6 fullShare ((outsAt0 m c (n - 1) (by omega)).sup) ∗ owns (c : Thread nD τ) scM0_7 fullShare ((outsAt0 m c (n - 1) (by omega)).lo) ∗ owns (c : Thread nD τ) scM0_8 fullShare ((outsAt0 m c (n - 1) (by omega)).hi)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t.val t.isLt).kl
    | ⟨7, _⟩ => (outsAt0 m c t.val t.isLt).lse
    | ⟨8, _⟩ => (outsAt0 m c t.val t.isLt).rest
    | ⟨9, _⟩ => (outsAt0 m c t.val t.isLt).zsup
    | ⟨10, _⟩ => (outsAt0 m c t.val t.isLt).codes
    | ⟨11, _⟩ => (outsAt0 m c t.val t.isLt).scales
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t.val t.isLt).kl := by dsimp only [dats]
theorem after0_7 (c : Dev nD) (t : Fin cfg0.N) : (dats m 0 c).after 7 t = (outsAt0 m c t.val t.isLt).lse := by dsimp only [dats]
theorem after0_8 (c : Dev nD) (t : Fin cfg0.N) : (dats m 0 c).after 8 t = (outsAt0 m c t.val t.isLt).rest := by dsimp only [dats]
theorem after0_9 (c : Dev nD) (t : Fin cfg0.N) : (dats m 0 c).after 9 t = (outsAt0 m c t.val t.isLt).zsup := by dsimp only [dats]
theorem after0_10 (c : Dev nD) (t : Fin cfg0.N) : (dats m 0 c).after 10 t = (outsAt0 m c t.val t.isLt).codes := by dsimp only [dats]
theorem after0_11 (c : Dev nD) (t : Fin cfg0.N) : (dats m 0 c).after 11 t = (outsAt0 m c t.val t.isLt).scales := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Output 10's contents CARRY through the points that leave it idle: at such a point, its buffer not fresh, the proof data's
    `after` is the point before's (the case there stores nothing into the window and its term says so; a case that stores
    into it is not idle there by `liveAt0_10_κ`) — the hypothesis of Lib/Pipeline/TableIdle.lean `Dat.before_out_traj`. -/
theorem hcarry0_10 (c : Dev nD) : ∀ (t : Fin cfg0.N) (_ : t.val ≠ 0), cfg0.idle 10 (grid0.coords t) = true → cfg0.fresh 10 t.val = false →
    (dats m 0 c).after 10 t = (dats m 0 c).after 10 ⟨t.val - 1, by omega⟩ := by
  intro t _ hi _
  have hN : t.val < 25 := lt_of_lt_of_eq t.isLt (show cfg0.N = 25 from N_0)
  rw [after0_10, after0_10]
  by_cases h0 : t.val % 25 = 0
  · by_cases h1 : t.val % 25 = 24
    · exfalso; omega
    · rw [liveAt0_10_A t ((hcond0_0 t).mpr h0) (fun h => h1 ((hcond0_1 t).mp h))] at hi
      exact absurd hi Bool.false_ne_true
  · by_cases h1 : t.val % 25 = 24
    · rw [outsAt0_C m c t h0 h1]
      rfl
    · rw [outsAt0_B m c t h0 h1]
      rfl

/-- Output 11's contents CARRY through the points that leave it idle: at such a point, its buffer not fresh, the proof data's
    `after` is the point before's (the case there stores nothing into the window and its term says so; a case that stores
    into it is not idle there by `liveAt0_11_κ`) — the hypothesis of Lib/Pipeline/TableIdle.lean `Dat.before_out_traj`. -/
theorem hcarry0_11 (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t _ hi _
  have hN : t.val < 25 := lt_of_lt_of_eq t.isLt (show cfg0.N = 25 from N_0)
  rw [after0_11, after0_11]
  by_cases h0 : t.val % 25 = 0
  · by_cases h1 : t.val % 25 = 24
    · exfalso; omega
    · rw [liveAt0_11_A t ((hcond0_0 t).mpr h0) (fun h => h1 ((hcond0_1 t).mp h))] at hi
      exact absurd hi Bool.false_ne_true
  · by_cases h1 : t.val % 25 = 24
    · rw [outsAt0_C m c t h0 h1]
      rfl
    · rw [outsAt0_B m c t h0 h1]
      rfl
/-- At a point of case C output 10's current staging buffer holds what the point before left: the buffer is not fresh
    there (`notFresh0_10_C`: stored into since the region's entry or the last write-back, carried through the points that
    leave it idle by `hcarry0_10`; Lib/Pipeline/TableIdle.lean `Dat.before_out_traj`). -/
theorem before0_10_C (c : Dev nD) (t : Fin cfg0.N) (h0 : ¬t.val % 25 = 0) (h1 : t.val % 25 = 24) (d) :
    (dats m 0 c).before 10 t d = (outsAt0 m c (t.val - 1) (Nat.lt_of_le_of_lt (Nat.sub_le _ _) t.isLt)).codes := by
  rw [Dat.before_out_traj _ 10 rfl (fun _ _ => rfl) (hcarry0_10 m c) t.val t rfl d,
    if_neg (by rw [notFresh0_10_C t (fun h => h0 ((hcond0_0 t).mp h)) ((hcond0_1 t).mpr h1)]; exact Bool.false_ne_true)]
  dsimp only [dats]
/-- At a point of case C output 11's current staging buffer holds what the point before left: the buffer is not fresh
    there (`notFresh0_11_C`: stored into since the region's entry or the last write-back, carried through the points that
    leave it idle by `hcarry0_11`; Lib/Pipeline/TableIdle.lean `Dat.before_out_traj`). -/
theorem before0_11_C (c : Dev nD) (t : Fin cfg0.N) (h0 : ¬t.val % 25 = 0) (h1 : t.val % 25 = 24) (d) :
    (dats m 0 c).before 11 t d = (outsAt0 m c (t.val - 1) (Nat.lt_of_le_of_lt (Nat.sub_le _ _) t.isLt)).scales := by
  rw [Dat.before_out_traj _ 11 rfl (fun _ _ => rfl) (hcarry0_11 m c) t.val t rfl d,
    if_neg (by rw [notFresh0_11_C t (fun h => h0 ((hcond0_0 t).mp h)) ((hcond0_1 t).mpr h1)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 24000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  have hN : t.val < 25 := lt_of_lt_of_eq t.isLt (show cfg0.N = 25 from N_0)
  by_cases h0 : t.val % 25 = 0
  · by_cases h1 : t.val % 25 = 24
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_A t ((hcond0_0 t).mpr h0) (fun h => h1 ((hcond0_1 t).mp h))) (noFlush0_6_A t ((hcond0_0 t).mpr h0) (fun h => h1 ((hcond0_1 t).mp h)))]
      rw [Dat.leavesExact_idle (dats m 0 c) 7 t (idleAt0_7_A t ((hcond0_0 t).mpr h0) (fun h => h1 ((hcond0_1 t).mp h))) (noFlush0_7_A t ((hcond0_0 t).mpr h0) (fun h => h1 ((hcond0_1 t).mp h)))]
      rw [Dat.leavesExact_idle (dats m 0 c) 8 t (idleAt0_8_A t ((hcond0_0 t).mpr h0) (fun h => h1 ((hcond0_1 t).mp h))) (noFlush0_8_A t ((hcond0_0 t).mpr h0) (fun h => h1 ((hcond0_1 t).mp h)))]
      rw [Dat.leavesExact_idle (dats m 0 c) 9 t (idleAt0_9_A t ((hcond0_0 t).mpr h0) (fun h => h1 ((hcond0_1 t).mp h))) (noFlush0_9_A t ((hcond0_0 t).mpr h0) (fun h => h1 ((hcond0_1 t).mp h)))]
      rw [show (dats m 0 c).leavesExact 10 t = owns (c : Thread nD τ) (ms0_10 t) fullShare ((dats m 0 c).after 10 t) from by
      unfold Dat.leavesExact; rw [liveAt0_10_A t ((hcond0_0 t).mpr h0) (fun h => h1 ((hcond0_1 t).mp h))], after0_10]
      rw [show (dats m 0 c).leavesExact 11 t = owns (c : Thread nD τ) (ms0_11 t) fullShare ((dats m 0 c).after 11 t) from by
      unfold Dat.leavesExact; rw [liveAt0_11_A t ((hcond0_0 t).mpr h0) (fun h => h1 ((hcond0_1 t).mp h))], after0_11]
      by_cases hz : t.val = 0
      · rw [PhiS_castSucc m c t, PhiS_zero m c _ _ hz, PhiA0_eq]
        rw [outsAt0_A m c t h0]
        dsimp only [sweepSt, initSt]
        iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply (run_A c (grid0.coords t) _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iintro ⟨H0, H1, H2, H3, H4, H5, H6, H7, H8, H9, H10, H11, HS0, HS1, HS2, HS3, HS4, HS5, HS6, HS7, HS8⟩
        isplitl [HS0 HS1 HS2 HS3 HS4 HS5 HS6 HS7 HS8 Hg]
        · isplitl [HS0 HS1 HS2 HS3 HS4 HS5 HS6 HS7 HS8]
          · isplitl [HS0]
            · iexact HS0
            isplitl [HS1]
            · iexact HS1
            isplitl [HS2]
            · iexact HS2
            isplitl [HS3]
            · iexact HS3
            isplitl [HS4]
            · iexact HS4
            isplitl [HS5]
            · iexact HS5
            isplitl [HS6]
            · iexact HS6
            isplitl [HS7]
            · iexact HS7
            iexact HS8
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [H10]
        · iexact H10
        iexact H11
      · exfalso; have hN : t.val < 25 := lt_of_lt_of_eq t.isLt (show cfg0.N = 25 from N_0); omega
  · by_cases h1 : t.val % 25 = 24
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6_C t (fun h => h0 ((hcond0_0 t).mp h)) ((hcond0_1 t).mpr h1)], after0_6]
      rw [show (dats m 0 c).leavesExact 7 t = owns (c : Thread nD τ) (ms0_7 t) fullShare ((dats m 0 c).after 7 t) from by
      unfold Dat.leavesExact; rw [liveAt0_7_C t (fun h => h0 ((hcond0_0 t).mp h)) ((hcond0_1 t).mpr h1)], after0_7]
      rw [show (dats m 0 c).leavesExact 8 t = owns (c : Thread nD τ) (ms0_8 t) fullShare ((dats m 0 c).after 8 t) from by
      unfold Dat.leavesExact; rw [liveAt0_8_C t (fun h => h0 ((hcond0_0 t).mp h)) ((hcond0_1 t).mpr h1)], after0_8]
      rw [show (dats m 0 c).leavesExact 9 t = owns (c : Thread nD τ) (ms0_9 t) fullShare ((dats m 0 c).after 9 t) from by
      unfold Dat.leavesExact; rw [liveAt0_9_C t (fun h => h0 ((hcond0_0 t).mp h)) ((hcond0_1 t).mpr h1)], after0_9]
      rw [show (dats m 0 c).leavesExact 10 t = owns (c : Thread nD τ) (ms0_10 t) fullShare ((dats m 0 c).after 10 t) from by
      unfold Dat.leavesExact; rw [idleAt0_10_C t (fun h => h0 ((hcond0_0 t).mp h)) ((hcond0_1 t).mpr h1), flushAt0_10_C t (fun h => h0 ((hcond0_0 t).mp h)) ((hcond0_1 t).mpr h1)], after0_10]
      rw [show (dats m 0 c).leavesExact 11 t = owns (c : Thread nD τ) (ms0_11 t) fullShare ((dats m 0 c).after 11 t) from by
      unfold Dat.leavesExact; rw [idleAt0_11_C t (fun h => h0 ((hcond0_0 t).mp h)) ((hcond0_1 t).mpr h1), flushAt0_11_C t (fun h => h0 ((hcond0_0 t).mp h)) ((hcond0_1 t).mpr h1)], after0_11]
      by_cases hz : t.val = 0
      · exfalso; have hN : t.val < 25 := lt_of_lt_of_eq t.isLt (show cfg0.N = 25 from N_0); omega
      · rw [PhiS_castSucc m c t, PhiS_pos m c _ _ hz]
        rw [outsAt0_C m c t h0 h1]
        simp only [before0_10_C m c t h0 h1, before0_11_C m c t h0 h1]
        dsimp only [finSt, sweepSt]
        iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply (run_C c (grid0.coords t) _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) _ _ _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [H10]; · iexact H10
        isplitl [H11]; · iexact H11
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iintro ⟨H0, H1, H2, H3, H4, H5, H6, H7, H8, H9, H10, H11, HS0, HS1, HS2, HS3, HS4, HS5, HS6, HS7, HS8⟩
        isplitl [HS0 HS1 HS2 HS3 HS4 HS5 HS6 HS7 HS8 Hg]
        · isplitl [HS0 HS1 HS2 HS3 HS4 HS5 HS6 HS7 HS8]
          · isplitl [HS0]
            · iexact HS0
            isplitl [HS1]
            · iexact HS1
            isplitl [HS2]
            · iexact HS2
            isplitl [HS3]
            · iexact HS3
            isplitl [HS4]
            · iexact HS4
            isplitl [HS5]
            · iexact HS5
            isplitl [HS6]
            · iexact HS6
            isplitl [HS7]
            · iexact HS7
            iexact HS8
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · iexact H6
        isplitl [H7]
        · iexact H7
        isplitl [H8]
        · iexact H8
        isplitl [H9]
        · iexact H9
        isplitl [H10]; · iexact H10
        iexact H11
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [Dat.leavesExact_idle (dats m 0 c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [Dat.leavesExact_idle (dats m 0 c) 8 t (idleAt0_8_B t (fun h => h0 ((hcond0_0 t).mp h)) (fun h => h1 ((hcond0_1 t).mp h))) (noFlush0_8_B t (fun h => h0 ((hcond0_0 t).mp h)) (fun h => h1 ((hcond0_1 t).mp h)))]
      rw [Dat.leavesExact_idle (dats m 0 c) 9 t (idleAt0_9_B t (fun h => h0 ((hcond0_0 t).mp h)) (fun h => h1 ((hcond0_1 t).mp h))) (noFlush0_9_B t (fun h => h0 ((hcond0_0 t).mp h)) (fun h => h1 ((hcond0_1 t).mp h)))]
      rw [Dat.leavesExact_idle (dats m 0 c) 10 t (idleAt0_10_B t (fun h => h0 ((hcond0_0 t).mp h)) (fun h => h1 ((hcond0_1 t).mp h))) (noFlush0_10_B t (fun h => h0 ((hcond0_0 t).mp h)) (fun h => h1 ((hcond0_1 t).mp h)))]
      rw [Dat.leavesExact_idle (dats m 0 c) 11 t (idleAt0_11_B t (fun h => h0 ((hcond0_0 t).mp h)) (fun h => h1 ((hcond0_1 t).mp h))) (noFlush0_11_B t (fun h => h0 ((hcond0_0 t).mp h)) (fun h => h1 ((hcond0_1 t).mp h)))]
      by_cases hz : t.val = 0
      · exfalso; have hN : t.val < 25 := lt_of_lt_of_eq t.isLt (show cfg0.N = 25 from N_0); omega
      · rw [PhiS_castSucc m c t, PhiS_pos m c _ _ hz]
        rw [outsAt0_B m c t h0 h1]
        dsimp only [sweepSt]
        iintro ⟨⟨⟨HS0, HS1, HS2, HS3, HS4, HS5, HS6, HS7, HS8⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
        iapply (run_B c (grid0.coords t) _ _ _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) _ _ _ _ _ _ _ _ _ _ _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        isplitl [HS7]; · iexact HS7
        isplitl [HS8]; · iexact HS8
        iintro ⟨H0, H1, H2, H3, H4, H5, H6, H7, H8, H9, H10, H11, HS0, HS1, HS2, HS3, HS4, HS5, HS6, HS7, HS8⟩
        isplitl [HS0 HS1 HS2 HS3 HS4 HS5 HS6 HS7 HS8 Hg]
        · isplitl [HS0 HS1 HS2 HS3 HS4 HS5 HS6 HS7 HS8]
          · isplitl [HS0]
            · iexact HS0
            isplitl [HS1]
            · iexact HS1
            isplitl [HS2]
            · iexact HS2
            isplitl [HS3]
            · iexact HS3
            isplitl [HS4]
            · iexact HS4
            isplitl [HS5]
            · iexact HS5
            isplitl [HS6]
            · iexact HS6
            isplitl [HS7]
            · iexact HS7
            iexact HS8
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [H8]; · iexists _; iexact H8
        isplitl [H9]; · iexists _; iexact H9
        isplitl [H10]; · iexists _; iexact H10
        iexists _; iexact H11

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6, HS7, HS8⟩, Hg⟩
  isplitl [HS0 HS1 HS2 HS3 HS4 HS5 HS6 HS7 HS8]
  · isplitl [HS0]
    · iexists _; iexact HS0
    isplitl [HS1]
    · iexact HS1
    isplitl [HS2]
    · iexact HS2
    isplitl [HS3]
    · iexact HS3
    isplitl [HS4]
    · iexists _; iexact HS4
    isplitl [HS5]
    · iexists _; iexact HS5
    isplitl [HS6]
    · iexists _; iexact HS6
    isplitl [HS7]
    · iexists _; iexact HS7
    iexists _; iexact HS8
  iexact Hg

/-- The same after the last point. -/
theorem hout (c : Dev nD) : (dats m 0 c).Φ (Fin.last cfg0.N) ⊢ Pipeline.ΦA spec0 c :=
  Phi_out m c _ (by rw [Fin.val_last]; have : cfg0.N = 25 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.V

end
-- ==== Proof.V.Eq.lean ====
module

public import proofs.«01_k».proof.Kernel
public import proofs.«01_k».proof.Proof.Gen.Kernel
public import proofs.«01_k».proof.Proof.V.Frame

@[expose] public section

/-! The kernel and its idealization are printed from one text and no rewrite was applied, so the frame proved for the second,
at any reading of the floats, is the frame of the first. -/

set_option maxRecDepth 16384

namespace Cert.KernelIdeal.V

open Idealize.ShloMosaic Idealize.SL.Sem

variable {F : FTy → Type} [FloatOps F]

/-- The two body tables agree. -/
theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => exact rfl

theorem defs_eq : Cert.Kernel.defs (F := F) = Cert.KernelIdeal.defs (F := F) := by
  unfold Cert.Kernel.defs Cert.KernelIdeal.defs
  exact congrArg (Pipeline.defs _) defs₀_eq

/-- The frame of the kernel. -/
theorem frame_kernel (m : (ℓ : Loc Cert.Kernel.nD Cert.Kernel.τ Cert.Kernel.sig) → Buf (Elt F) ℓ) (ρ : Dev Cert.Kernel.nD → PrngReg) :
    θ_run Cert.Kernel.defs (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0) := by
  rw [defs_eq]
  exact frame m ρ

end Cert.KernelIdeal.V
-- ==== Proof.V.RefValue.lean ====
module

public import proofs.«01_k».proof.Proof.Gen.ReferenceIdeal.Frame
public import Idealize.ShloMosaic.Lib.Pipeline.Value

@[expose] public section

/-! The arrays the reference leaves, each as the value it computes from the arguments. -/

set_option maxHeartbeats 2000000
set_option maxRecDepth 16384

noncomputable section

namespace Cert.ReferenceIdeal.V

open Cert.ReferenceIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

abbrev t0 : Fin cfg0.N := ⟨0, lt_of_lt_of_eq (by decide) (show grid0.N = 1 from by decide).symm⟩

theorem eq_t0 (t : Fin cfg0.N) : t = t0 := by
  have hN : cfg0.N = 1 := (by decide : grid0.N = 1)
  have := t.isLt
  exact Fin.ext (by show t.val = 0; omega)

theorem hz2 : (![0, 0] : Fin 2 → Nat) = fun _ => 0 := funext fun a => by fin_cases a <;> rfl

/-- `x`, its rows in one axis. -/
def xs (c : Dev nD) : Vec F S1536x1024 .bf16 := shapeCast S1536x1024 (m ((c : Thread nD τ).loc main_arg0)) shapeCasts_S4x384x1024_S1536x1024
/-- The weights' codes. -/
def ws (c : Dev nD) : Vec F S32000x1024 .fp8e4m3 := m ((c : Thread nD τ).loc main_arg1)
/-- The weights' scales. -/
def ss (c : Dev nD) : Vec F S32000x8 .f32 := m ((c : Thread nD τ).loc main_arg2)
/-- The ids, their rows in one axis. -/
def is (c : Dev nD) : Vec F S1536x50 .i32 := shapeCast S1536x50 (m ((c : Thread nD τ).loc main_arg4)) shapeCasts_S4x384x50_S1536x50

theorem V_main_v0 (c : Dev nD) : Gen.V m c main_v0 = xs m c := by
  show StableHlo.after hostOps0 _ (Proc.devRef .tc main_v0) = _
  after_results
  rfl

theorem V_main_v1 (c : Dev nD) : Gen.V m c main_v1 = is m c := by
  show StableHlo.after hostOps0 _ (Proc.devRef .tc main_v1) = _
  after_results
  rfl

theorem iblk0_eq (c : Dev nD) (t : Fin cfg0.N) : (iblk m c 0 t : Vec F S1536x1024 .bf16) = xs m c := by
  have hz' : (fun a => win0_0.index t a * main_v0.ty.shape.size a) = fun _ => 0 := funext fun a => by fin_cases a <;> exact Nat.zero_mul _
  exact (Memref.read_access_unit_zero (Elt F) main_v0 hz' (fun a => by rw [congrFun hz' a]; simp) (Gen.V m c main_v0)).trans (V_main_v0 m c)

theorem iblk1_eq (c : Dev nD) (t : Fin cfg0.N) : (iblk m c 1 t : Vec F S32000x1024 .fp8e4m3) = ws m c := by
  have hz' : (fun a => win0_1.index t a * main_arg1.ty.shape.size a) = fun _ => 0 := funext fun a => by fin_cases a <;> exact Nat.zero_mul _
  exact (Memref.read_access_unit_zero (Elt F) main_arg1 hz' (fun a => by rw [congrFun hz' a]; simp) (Gen.V m c main_arg1)).trans (V_main_arg1 m c)

theorem iblk2_eq (c : Dev nD) (t : Fin cfg0.N) : (iblk m c 2 t : Vec F S32000x8 .f32) = ss m c := by
  have hz' : (fun a => win0_2.index t a * main_arg2.ty.shape.size a) = fun _ => 0 := funext fun a => by fin_cases a <;> exact Nat.zero_mul _
  exact (Memref.read_access_unit_zero (Elt F) main_arg2 hz' (fun a => by rw [congrFun hz' a]; simp) (Gen.V m c main_arg2)).trans (V_main_arg2 m c)

theorem iblk3_eq (c : Dev nD) (t : Fin cfg0.N) : (iblk m c 3 t : Vec F S1536x50 .i32) = is m c := by
  have hz' : (fun a => win0_3.index t a * main_v1.ty.shape.size a) = fun _ => 0 := funext fun a => by fin_cases a <;> exact Nat.zero_mul _
  exact (Memref.read_access_unit_zero (Elt F) main_v1 hz' (fun a => by rw [congrFun hz' a]; simp) (Gen.V m c main_v1)).trans (V_main_v1 m c)

/-- What the body leaves in window 4's buffer. -/
theorem out0_4_eq (x : Vec F S1536x1024 .bf16) (w : Vec F S32000x1024 .fp8e4m3) (s : Vec F S32000x8 .f32) (i : Vec F S1536x50 .i32) :
    out0_4 x w s i = k0_pay11 (k0_pay6 x) (k0_pay7 w) (k0_pay8 s) := by
  unfold out0_4
  try unfold k0_pay14 k0_pay15 k0_pay16
  rw [View.canon_unit_zero hz2]
  have e0 : View.ld x r0_0 = x := View.ld_unit_zero hz2 _ x
  have e1 : View.ld w r0_1 = w := View.ld_unit_zero hz2 _ w
  have e2 : View.ld s r0_2 = s := View.ld_unit_zero hz2 _ s
  have e3 : View.ld i r0_3 = i := View.ld_unit_zero hz2 _ i
  simp only [e0, e1, e2, e3]

theorem flushed4_eq (c : Dev nD) (t : Fin cfg0.N) :
    (dats m 0 c).flushed 4 t = ((cfg0.win 4).blk t).view.read (Elt F) ((out0_4 (xs m c) (ws m c) (ss m c) (is m c)) : Buf (Elt F) ((c : Thread nD τ).loc main_v2_0)) := by
  obtain rfl := eq_t0 t
  show (cfg0.win 4).cut (grid0.coords t0) ((dats m 0 c).after 4 t0) = _
  rw [after0_4, iblk0_eq, iblk1_eq, iblk2_eq, iblk3_eq]
  have hz' : (fun a => win0_4.index t0 a * main_v2_0.ty.shape.size a) = fun _ => 0 := funext fun a => by fin_cases a <;> exact Nat.zero_mul _
  exact (Memref.read_access_unit_zero (Elt F) main_v2_0 hz' (fun a => by rw [congrFun hz' a]; simp) (out0_4 (xs m c) (ws m c) (ss m c) (is m c))).symm

theorem final4 (c : Dev nD) : (dats m 0 c).arrAt 4 cfg0.N = ((out0_4 (xs m c) (ws m c) (ss m c) (is m c)) : Buf (Elt F) ((c : Thread nD τ).loc main_v2_0)) :=
  (dats m 0 c).arrAt_eq_of_cover 4 _ (fun t _ => flushed4_eq m c t) fun i =>
    ⟨t0, flush0_4 t0, by
      show i ∈ ((View.whole main_v2_0).slice (win0_4.rect t0)).set
      rw [View.set_slice_whole, Rect.mem_set_unit]
      intro a
      have h0 : (i 0 : Nat) < 4 := (i 0).isLt
      have h1 : (i 1 : Nat) < 384 := (i 1).isLt
      match a with
      | ⟨0, _⟩ => show win0_4.index t0 0 * win0_4.size 0 ≤ (i 0 : Nat) ∧ (i 0 : Nat) < win0_4.index t0 0 * win0_4.size 0 + 4
                  rw [show win0_4.index t0 0 * win0_4.size 0 = 0 from Nat.zero_mul _]; omega
      | ⟨1, _⟩ => show win0_4.index t0 1 * win0_4.size 1 ≤ (i 1 : Nat) ∧ (i 1 : Nat) < win0_4.index t0 1 * win0_4.size 1 + 384
                  rw [show win0_4.index t0 1 * win0_4.size 1 = 0 from Nat.zero_mul _]; omega⟩

/-- What the body leaves in window 5's buffer. -/
theorem out0_5_eq (x : Vec F S1536x1024 .bf16) (w : Vec F S32000x1024 .fp8e4m3) (s : Vec F S32000x8 .f32) (i : Vec F S1536x50 .i32) :
    out0_5 x w s i = k0_pay12 (k0_pay6 x) (k0_pay7 w) (k0_pay8 s) i := by
  unfold out0_5
  try unfold k0_pay14 k0_pay15 k0_pay16
  rw [View.canon_unit_zero hz2]
  have e0 : View.ld x r0_0 = x := View.ld_unit_zero hz2 _ x
  have e1 : View.ld w r0_1 = w := View.ld_unit_zero hz2 _ w
  have e2 : View.ld s r0_2 = s := View.ld_unit_zero hz2 _ s
  have e3 : View.ld i r0_3 = i := View.ld_unit_zero hz2 _ i
  simp only [e0, e1, e2, e3]

theorem flushed5_eq (c : Dev nD) (t : Fin cfg0.N) :
    (dats m 0 c).flushed 5 t = ((cfg0.win 5).blk t).view.read (Elt F) ((out0_5 (xs m c) (ws m c) (ss m c) (is m c)) : Buf (Elt F) ((c : Thread nD τ).loc main_v2_1)) := by
  obtain rfl := eq_t0 t
  show (cfg0.win 5).cut (grid0.coords t0) ((dats m 0 c).after 5 t0) = _
  rw [after0_5, iblk0_eq, iblk1_eq, iblk2_eq, iblk3_eq]
  have hz' : (fun a => win0_5.index t0 a * main_v2_1.ty.shape.size a) = fun _ => 0 := funext fun a => by fin_cases a <;> exact Nat.zero_mul _
  exact (Memref.read_access_unit_zero (Elt F) main_v2_1 hz' (fun a => by rw [congrFun hz' a]; simp) (out0_5 (xs m c) (ws m c) (ss m c) (is m c))).symm

theorem final5 (c : Dev nD) : (dats m 0 c).arrAt 5 cfg0.N = ((out0_5 (xs m c) (ws m c) (ss m c) (is m c)) : Buf (Elt F) ((c : Thread nD τ).loc main_v2_1)) :=
  (dats m 0 c).arrAt_eq_of_cover 5 _ (fun t _ => flushed5_eq m c t) fun i =>
    ⟨t0, flush0_5 t0, by
      show i ∈ ((View.whole main_v2_1).slice (win0_5.rect t0)).set
      rw [View.set_slice_whole, Rect.mem_set_unit]
      intro a
      have h0 : (i 0 : Nat) < 4 := (i 0).isLt
      have h1 : (i 1 : Nat) < 384 := (i 1).isLt
      match a with
      | ⟨0, _⟩ => show win0_5.index t0 0 * win0_5.size 0 ≤ (i 0 : Nat) ∧ (i 0 : Nat) < win0_5.index t0 0 * win0_5.size 0 + 4
                  rw [show win0_5.index t0 0 * win0_5.size 0 = 0 from Nat.zero_mul _]; omega
      | ⟨1, _⟩ => show win0_5.index t0 1 * win0_5.size 1 ≤ (i 1 : Nat) ∧ (i 1 : Nat) < win0_5.index t0 1 * win0_5.size 1 + 384
                  rw [show win0_5.index t0 1 * win0_5.size 1 = 0 from Nat.zero_mul _]; omega⟩

/-- What the body leaves in window 6's buffer. -/
theorem out0_6_eq (x : Vec F S1536x1024 .bf16) (w : Vec F S32000x1024 .fp8e4m3) (s : Vec F S32000x8 .f32) (i : Vec F S1536x50 .i32) :
    out0_6 x w s i = k0_pay1 (k0_pay10 i) (k0_pay13 (k0_pay6 x) (k0_pay7 w) (k0_pay8 s)) := by
  unfold out0_6
  try unfold k0_pay14 k0_pay15 k0_pay16
  rw [View.canon_unit_zero hz2]
  have e0 : View.ld x r0_0 = x := View.ld_unit_zero hz2 _ x
  have e1 : View.ld w r0_1 = w := View.ld_unit_zero hz2 _ w
  have e2 : View.ld s r0_2 = s := View.ld_unit_zero hz2 _ s
  have e3 : View.ld i r0_3 = i := View.ld_unit_zero hz2 _ i
  simp only [e0, e1, e2, e3]

theorem flushed6_eq (c : Dev nD) (t : Fin cfg0.N) :
    (dats m 0 c).flushed 6 t = ((cfg0.win 6).blk t).view.read (Elt F) ((out0_6 (xs m c) (ws m c) (ss m c) (is m c)) : Buf (Elt F) ((c : Thread nD τ).loc main_v2_2)) := by
  obtain rfl := eq_t0 t
  show (cfg0.win 6).cut (grid0.coords t0) ((dats m 0 c).after 6 t0) = _
  rw [after0_6, iblk0_eq, iblk1_eq, iblk2_eq, iblk3_eq]
  have hz' : (fun a => win0_6.index t0 a * main_v2_2.ty.shape.size a) = fun _ => 0 := funext fun a => by fin_cases a <;> exact Nat.zero_mul _
  exact (Memref.read_access_unit_zero (Elt F) main_v2_2 hz' (fun a => by rw [congrFun hz' a]; simp) (out0_6 (xs m c) (ws m c) (ss m c) (is m c))).symm

theorem final6 (c : Dev nD) : (dats m 0 c).arrAt 6 cfg0.N = ((out0_6 (xs m c) (ws m c) (ss m c) (is m c)) : Buf (Elt F) ((c : Thread nD τ).loc main_v2_2)) :=
  (dats m 0 c).arrAt_eq_of_cover 6 _ (fun t _ => flushed6_eq m c t) fun i =>
    ⟨t0, flush0_6 t0, by
      show i ∈ ((View.whole main_v2_2).slice (win0_6.rect t0)).set
      rw [View.set_slice_whole, Rect.mem_set_unit]
      intro a
      have h0 : (i 0 : Nat) < 1536 := (i 0).isLt
      have h1 : (i 1 : Nat) < 50 := (i 1).isLt
      match a with
      | ⟨0, _⟩ => show win0_6.index t0 0 * win0_6.size 0 ≤ (i 0 : Nat) ∧ (i 0 : Nat) < win0_6.index t0 0 * win0_6.size 0 + 1536
                  rw [show win0_6.index t0 0 * win0_6.size 0 = 0 from Nat.zero_mul _]; omega
      | ⟨1, _⟩ => show win0_6.index t0 1 * win0_6.size 1 ≤ (i 1 : Nat) ∧ (i 1 : Nat) < win0_6.index t0 1 * win0_6.size 1 + 50
                  rw [show win0_6.index t0 1 * win0_6.size 1 = 0 from Nat.zero_mul _]; omega⟩

/-- What the body leaves in window 7's buffer. -/
theorem out0_7_eq (x : Vec F S1536x1024 .bf16) (w : Vec F S32000x1024 .fp8e4m3) (s : Vec F S32000x8 .f32) (i : Vec F S1536x50 .i32) :
    out0_7 x w s i = k0_pay2 (k0_pay5 x) := by
  unfold out0_7
  try unfold k0_pay14 k0_pay15 k0_pay16
  rw [View.canon_unit_zero hz2]
  have e0 : View.ld x r0_0 = x := View.ld_unit_zero hz2 _ x
  have e1 : View.ld w r0_1 = w := View.ld_unit_zero hz2 _ w
  have e2 : View.ld s r0_2 = s := View.ld_unit_zero hz2 _ s
  have e3 : View.ld i r0_3 = i := View.ld_unit_zero hz2 _ i
  simp only [e0, e1, e2, e3]

theorem flushed7_eq (c : Dev nD) (t : Fin cfg0.N) :
    (dats m 0 c).flushed 7 t = ((cfg0.win 7).blk t).view.read (Elt F) ((out0_7 (xs m c) (ws m c) (ss m c) (is m c)) : Buf (Elt F) ((c : Thread nD τ).loc main_v2_3)) := by
  obtain rfl := eq_t0 t
  show (cfg0.win 7).cut (grid0.coords t0) ((dats m 0 c).after 7 t0) = _
  rw [after0_7, iblk0_eq, iblk1_eq, iblk2_eq, iblk3_eq]
  have hz' : (fun a => win0_7.index t0 a * main_v2_3.ty.shape.size a) = fun _ => 0 := funext fun a => by fin_cases a <;> exact Nat.zero_mul _
  exact (Memref.read_access_unit_zero (Elt F) main_v2_3 hz' (fun a => by rw [congrFun hz' a]; simp) (out0_7 (xs m c) (ws m c) (ss m c) (is m c))).symm

theorem final7 (c : Dev nD) : (dats m 0 c).arrAt 7 cfg0.N = ((out0_7 (xs m c) (ws m c) (ss m c) (is m c)) : Buf (Elt F) ((c : Thread nD τ).loc main_v2_3)) :=
  (dats m 0 c).arrAt_eq_of_cover 7 _ (fun t _ => flushed7_eq m c t) fun i =>
    ⟨t0, flush0_7 t0, by
      show i ∈ ((View.whole main_v2_3).slice (win0_7.rect t0)).set
      rw [View.set_slice_whole, Rect.mem_set_unit]
      intro a
      have h0 : (i 0 : Nat) < 1536 := (i 0).isLt
      have h1 : (i 1 : Nat) < 1024 := (i 1).isLt
      match a with
      | ⟨0, _⟩ => show win0_7.index t0 0 * win0_7.size 0 ≤ (i 0 : Nat) ∧ (i 0 : Nat) < win0_7.index t0 0 * win0_7.size 0 + 1536
                  rw [show win0_7.index t0 0 * win0_7.size 0 = 0 from Nat.zero_mul _]; omega
      | ⟨1, _⟩ => show win0_7.index t0 1 * win0_7.size 1 ≤ (i 1 : Nat) ∧ (i 1 : Nat) < win0_7.index t0 1 * win0_7.size 1 + 1024
                  rw [show win0_7.index t0 1 * win0_7.size 1 = 0 from Nat.zero_mul _]; omega⟩

/-- What the body leaves in window 8's buffer. -/
theorem out0_8_eq (x : Vec F S1536x1024 .bf16) (w : Vec F S32000x1024 .fp8e4m3) (s : Vec F S32000x8 .f32) (i : Vec F S1536x50 .i32) :
    out0_8 x w s i = k0_pay4 x := by
  unfold out0_8
  try unfold k0_pay14 k0_pay15 k0_pay16
  rw [View.canon_unit_zero hz2]
  have e0 : View.ld x r0_0 = x := View.ld_unit_zero hz2 _ x
  have e1 : View.ld w r0_1 = w := View.ld_unit_zero hz2 _ w
  have e2 : View.ld s r0_2 = s := View.ld_unit_zero hz2 _ s
  have e3 : View.ld i r0_3 = i := View.ld_unit_zero hz2 _ i
  simp only [e0, e1, e2, e3]

theorem flushed8_eq (c : Dev nD) (t : Fin cfg0.N) :
    (dats m 0 c).flushed 8 t = ((cfg0.win 8).blk t).view.read (Elt F) ((out0_8 (xs m c) (ws m c) (ss m c) (is m c)) : Buf (Elt F) ((c : Thread nD τ).loc main_v2_4)) := by
  obtain rfl := eq_t0 t
  show (cfg0.win 8).cut (grid0.coords t0) ((dats m 0 c).after 8 t0) = _
  rw [after0_8, iblk0_eq, iblk1_eq, iblk2_eq, iblk3_eq]
  have hz' : (fun a => win0_8.index t0 a * main_v2_4.ty.shape.size a) = fun _ => 0 := funext fun a => by fin_cases a <;> exact Nat.zero_mul _
  exact (Memref.read_access_unit_zero (Elt F) main_v2_4 hz' (fun a => by rw [congrFun hz' a]; simp) (out0_8 (xs m c) (ws m c) (ss m c) (is m c))).symm

theorem final8 (c : Dev nD) : (dats m 0 c).arrAt 8 cfg0.N = ((out0_8 (xs m c) (ws m c) (ss m c) (is m c)) : Buf (Elt F) ((c : Thread nD τ).loc main_v2_4)) :=
  (dats m 0 c).arrAt_eq_of_cover 8 _ (fun t _ => flushed8_eq m c t) fun i =>
    ⟨t0, flush0_8 t0, by
      show i ∈ ((View.whole main_v2_4).slice (win0_8.rect t0)).set
      rw [View.set_slice_whole, Rect.mem_set_unit]
      intro a
      have h0 : (i 0 : Nat) < 1536 := (i 0).isLt
      have h1 : (i 1 : Nat) < 8 := (i 1).isLt
      match a with
      | ⟨0, _⟩ => show win0_8.index t0 0 * win0_8.size 0 ≤ (i 0 : Nat) ∧ (i 0 : Nat) < win0_8.index t0 0 * win0_8.size 0 + 1536
                  rw [show win0_8.index t0 0 * win0_8.size 0 = 0 from Nat.zero_mul _]; omega
      | ⟨1, _⟩ => show win0_8.index t0 1 * win0_8.size 1 ≤ (i 1 : Nat) ∧ (i 1 : Nat) < win0_8.index t0 1 * win0_8.size 1 + 8
                  rw [show win0_8.index t0 1 * win0_8.size 1 = 0 from Nat.zero_mul _]; omega⟩

/-- The run, read. -/
theorem run : θ_run defs (onTc (τ := τ) (main (F := F))) ⟨m, fun _ => 0, ρ⟩ fun r => ∀ c : Dev nD,
      r.2.mem ((c : Thread nD τ).loc main_v2_0) = k0_pay11 (k0_pay6 (xs m c)) (k0_pay7 (ws m c)) (k0_pay8 (ss m c))
      ∧ r.2.mem ((c : Thread nD τ).loc main_v2_1) = k0_pay12 (k0_pay6 (xs m c)) (k0_pay7 (ws m c)) (k0_pay8 (ss m c)) (is m c)
      ∧ r.2.mem ((c : Thread nD τ).loc main_v2_2) = k0_pay1 (k0_pay10 (is m c)) (k0_pay13 (k0_pay6 (xs m c)) (k0_pay7 (ws m c)) (k0_pay8 (ss m c)))
      ∧ r.2.mem ((c : Thread nD τ).loc main_v2_3) = k0_pay2 (k0_pay5 (xs m c))
      ∧ r.2.mem ((c : Thread nD τ).loc main_v2_4) = k0_pay4 (xs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 4).trans ((final4 m c).trans (out0_4_eq _ _ _ _)),
      ((h c).1 5).trans ((final5 m c).trans (out0_5_eq _ _ _ _)),
      ((h c).1 6).trans ((final6 m c).trans (out0_6_eq _ _ _ _)),
      ((h c).1 7).trans ((final7 m c).trans (out0_7_eq _ _ _ _)),
      ((h c).1 8).trans ((final8 m c).trans (out0_8_eq _ _ _ _)),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.ReferenceIdeal.V

end
-- ==== Proof.V.Admit.lean ====
module

public import proofs.«01_k».proof.Pre_admissible
public import Idealize.ShloMosaic.Lib.Pointwise
public import Idealize.ShloMosaic.PureOps.Ideal

@[expose] public section

/-! What the precondition says of the arguments, entry by entry. -/

set_option maxHeartbeats 400000

noncomputable section

namespace Cert.Pre_admissible

open Idealize.ShloMosaic

instance facts : Facts where
  shapeCasts_S4x384x50_S1536x50 := by decide
  bitsLt_bf16_f32 := by decide
  bcast_S_S4x384x1024 := by decide
  bcast_S_S1536x50 := by decide
  bcast_S1536x50_S1536x50x1_0_1 := by decide
  bcast_S1536x50_S1536x1x50_0_2 := by decide
  bcast_S1536x50x1_S1536x50x50_0_1_2 := by decide
  bcast_S1536x1x50_S1536x50x50_0_1_2 := by decide
  bcast_S_S9x1536x30x128 := by decide
  bcast_S9x1536x128_S9x1536x30x128_0_1_3 := by decide
  bcast_S9x1536x30x128_S9x1536x30x128x1_0_1_2_3 := by decide
  bcast_S1536x50_S1x1536x1x1x50_1_4 := by decide
  bcast_S9x1536x30x128x1_S9x1536x30x128x50_0_1_2_3_4 := by decide
  bcast_S1x1536x1x1x50_S9x1536x30x128x50_0_1_2_3_4 := by decide
  reducesTo_S9x1536x30x128x50_S9x1536x30x128_d4 := by decide
  h_S_ := by decide

open Facts

section Any
variable {F : FTy → Type} [FloatOps F]
variable (a0 : FVec F S4x384x1024 .bf16) (a1 : FVec F S32000x1024 .fp8e4m3) (a2 : FVec F S32000x8 .f32) (a3 : IVec S9x1536x128 32) (a4 : IVec S4x384x50 32) (a5 : FVec F S4x384x50 .bf16)

theorem x_at (i : S4x384x1024.Idx) : (fn a0 a1 a2 a3 a4 a5).1 i
    = FloatOps.cmpf .ole (Host.absf (extf .f32 a0 bitsLt_bf16_f32) i) (FloatOps.ofBits .f32 0x7F7F0000#32) := rfl

theorem ids_at (i : S1536x50.Idx) : (fn a0 a1 a2 a3 a4 a5).2.1 i
    = IntOp.andi (IntOp.cmpi .sge (shapeCast S1536x50 a4 shapeCasts_S4x384x50_S1536x50 i) 0#32) (IntOp.cmpi .slt (shapeCast S1536x50 a4 shapeCasts_S4x384x50_S1536x50 i) 32000#32) := rfl

def sameV (ids : IVec S1536x50 32) : IVec S1536x50x50 1 :=
  cmpi .ne (broadcastInDim S1536x50x50 ![0, 1, 2] bcast_S1536x50x1_S1536x50x50_0_1_2 (broadcastInDim S1536x50x1 ![0, 1] bcast_S1536x50_S1536x50x1_0_1 ids))
    (broadcastInDim S1536x50x50 ![0, 1, 2] bcast_S1536x1x50_S1536x50x50_0_1_2 (broadcastInDim S1536x1x50 ![0, 2] bcast_S1536x50_S1536x1x50_0_2 ids))

theorem dist_eq : (fn a0 a1 a2 a3 a4 a5).2.2.1 = ori (sameV (shapeCast S1536x50 a4 shapeCasts_S4x384x50_S1536x50)) (cmpi .eq (iotaInDim S1536x50x50 32 1) (iotaInDim S1536x50x50 32 2)) := rfl

def colV : IVec S9x1536x30x128 32 :=
  addi (addi (muli (iotaInDim S9x1536x30x128 32 0) (broadcastInDim S9x1536x30x128 ![] bcast_S_S9x1536x30x128 (constantI S_ 32 3840#32)))
    (muli (iotaInDim S9x1536x30x128 32 2) (broadcastInDim S9x1536x30x128 ![] bcast_S_S9x1536x30x128 (constantI S_ 32 128#32)))) (iotaInDim S9x1536x30x128 32 3)

def markV (w : IVec S9x1536x128 32) : IVec S9x1536x30x128 1 :=
  cmpi .ne (andi (Host.shrui (broadcastInDim S9x1536x30x128 ![0, 1, 3] bcast_S9x1536x128_S9x1536x30x128_0_1_3 w) (iotaInDim S9x1536x30x128 32 2))
    (broadcastInDim S9x1536x30x128 ![] bcast_S_S9x1536x30x128 (constantI S_ 32 1#32))) (broadcastInDim S9x1536x30x128 ![] bcast_S_S9x1536x30x128 (constantI S_ 32 0#32))

def hitsV (v : IVec S9x1536x30x128 32) (ids : IVec S1536x50 32) : IVec S9x1536x30x128x50 1 :=
  cmpi .eq (broadcastInDim S9x1536x30x128x50 ![0, 1, 2, 3, 4] bcast_S9x1536x30x128x1_S9x1536x30x128x50_0_1_2_3_4 (broadcastInDim S9x1536x30x128x1 ![0, 1, 2, 3] bcast_S9x1536x30x128_S9x1536x30x128x1_0_1_2_3 v))
    (broadcastInDim S9x1536x30x128x50 ![0, 1, 2, 3, 4] bcast_S1x1536x1x1x50_S9x1536x30x128x50_0_1_2_3_4 (broadcastInDim S1x1536x1x1x50 ![1, 4] bcast_S1536x50_S1x1536x1x1x50_1_4 ids))

def anyV (h : IVec S9x1536x30x128x50 1) : IVec S9x1536x30x128 1 := Host.reduce IntOp.ori h (constantI S_ 1 0#1) reducesTo_S9x1536x30x128x50_S9x1536x30x128_d4 h_S_

theorem words_eq : (fn a0 a1 a2 a3 a4 a5).2.2.2
    = ori (cmpi .eq (markV a3) (anyV (hitsV colV (shapeCast S1536x50 a4 shapeCasts_S4x384x50_S1536x50)))) (cmpi .sge colV (broadcastInDim S9x1536x30x128 ![] bcast_S_S9x1536x30x128 (constantI S_ 32 32000#32))) := rfl

end Any

theorem sameV_at (ids : IVec S1536x50 32) (r : Fin 1536) (j k : Fin 50) : sameV ids (ix3 r j k) = IntOp.cmpi .ne (ids (ix2 r j)) (ids (ix2 r k)) := by
  unfold sameV
  pointwise []

theorem colV_at (w : Fin 9) (r : Fin 1536) (b : Fin 30) (l : Fin 128) : colV (ix4 w r b l) = BitVec.ofNat 32 (w.val * 3840 + b.val * 128 + l.val) := by
  unfold colV
  pointwise []
  show BitVec.ofNat 32 w.val * BitVec.ofNat 32 3840 + BitVec.ofNat 32 b.val * BitVec.ofNat 32 128 + BitVec.ofNat 32 l.val = _
  rw [← BitVec.ofNat_mul, ← BitVec.ofNat_mul, ← BitVec.ofNat_add, ← BitVec.ofNat_add]

theorem markV_at (x : IVec S9x1536x128 32) (w : Fin 9) (r : Fin 1536) (b : Fin 30) (l : Fin 128) :
    markV x (ix4 w r b l) = IntOp.cmpi .ne (IntOp.andi (IntOp.shrui .host (x (ix3 w r l)) (BitVec.ofNat 32 b.val)) 1#32) 0#32 := by
  unfold markV
  pointwise []

theorem hitsV_at (v : IVec S9x1536x30x128 32) (ids : IVec S1536x50 32) (w : Fin 9) (r : Fin 1536) (b : Fin 30) (l : Fin 128) (j : Fin 50) :
    hitsV v ids (ix5 w r b l j) = IntOp.cmpi .eq (v (ix4 w r b l)) (ids (ix2 r j)) := by
  unfold hitsV
  pointwise []

theorem foldl_ori {α : Type} (f : α → BitVec 1) : ∀ (xs : List α) (a : BitVec 1), xs.foldl (fun r n => IntOp.ori r (f n)) a = 1#1 ↔ a = 1#1 ∨ ∃ n ∈ xs, f n = 1#1
  | [], a => by simp
  | x :: xs, a => by
    rw [List.foldl_cons, foldl_ori f xs]
    have : ∀ a b : BitVec 1, IntOp.ori a b = 1#1 ↔ a = 1#1 ∨ b = 1#1 := by decide
    rw [this]
    simp only [List.mem_cons, exists_eq_or_imp, or_assoc]

theorem drop_ix (H : S9x1536x30x128x50.ReducesTo [4] S9x1536x30x128) (i : S9x1536x30x128x50.Idx) :
    H.drop i = ix4 (i 0 : Fin 9) (i 1 : Fin 1536) (i 2 : Fin 30) (i 3 : Fin 128) := by
  funext a
  fin_cases a <;> rfl

theorem anyV_at (h : IVec S9x1536x30x128x50 1) (w : Fin 9) (r : Fin 1536) (b : Fin 30) (l : Fin 128) :
    anyV h (ix4 w r b l) = 1#1 ↔ ∃ j : Fin 50, h (ix5 w r b l j) = 1#1 := by
  unfold anyV Host.reduce
  rw [foldl_ori (fun n => h (Shape.rowMajor _ |>.symm n))]
  constructor
  · rintro (h0 | ⟨n, hn, e⟩)
    · exact absurd h0 (by show ¬ (0#1 = 1#1); decide)
    · rw [List.mem_filter] at hn
      have hd := of_decide_eq_true hn.2
      revert e hd
      generalize (S9x1536x30x128x50.rowMajor.symm n) = i
      intro e hd
      rw [drop_ix] at hd
      refine ⟨(i 4 : Fin 50), ?_⟩
      rw [← e]
      congr 1
      funext a
      fin_cases a
      · exact (congrFun hd 0).symm
      · exact (congrFun hd 1).symm
      · exact (congrFun hd 2).symm
      · exact (congrFun hd 3).symm
      · rfl
  · rintro ⟨j, e⟩
    right
    refine ⟨S9x1536x30x128x50.rowMajor (ix5 w r b l j), ?_, ?_⟩
    · rw [List.mem_filter]
      refine ⟨List.mem_finRange _, decide_eq_true ?_⟩
      rw [Equiv.symm_apply_apply, drop_ix]
      rfl
    · show h _ = 1#1
      rw [Equiv.symm_apply_apply]; exact e

theorem ori_one : ∀ a b : BitVec 1, IntOp.ori a b = 1#1 ↔ a = 1#1 ∨ b = 1#1 := by decide
theorem andi_one : ∀ a b : BitVec 1, IntOp.andi a b = 1#1 ↔ a = 1#1 ∧ b = 1#1 := by decide
theorem eq_one (a b : BitVec 1) : IntOp.cmpi .eq a b = 1#1 ↔ (a = 1#1 ↔ b = 1#1) := by revert a b; decide

theorem cmpi_eq_one {n : ℕ} (a b : BitVec n) : IntOp.cmpi .eq a b = 1#1 ↔ a = b := by
  show BitVec.ofBool (a == b) = 1#1 ↔ _
  by_cases h : a = b
  · simp [h]
  · rw [beq_eq_false_iff_ne.2 h]
    exact ⟨fun h2 => absurd h2 (by decide), fun h2 => absurd h2 h⟩

theorem cmpi_ne_one {n : ℕ} (a b : BitVec n) : IntOp.cmpi .ne a b = 1#1 ↔ a ≠ b := by
  show BitVec.ofBool (a != b) = 1#1 ↔ _
  by_cases h : a = b
  · subst h; simp
  · rw [bne_iff_ne.2 h]; simp [h]

/-- What the precondition says. -/
structure Ok (x : Vec Ideal S4x384x1024 .bf16) (words : IVec S9x1536x128 32) (ids : IVec S1536x50 32) : Prop where
  x : ∀ i, FloatOps.absf (F := Ideal) (φ := .f32) (x i) ≤ Ideal.ofBits .f32 0x7F7F0000#32
  range : ∀ (r : Fin 1536) (j : Fin 50), ∃ n : Fin 32000, ids (ix2 r j) = BitVec.ofNat 32 n.val
  distinct : ∀ (r : Fin 1536) (j k : Fin 50), ids (ix2 r j) = ids (ix2 r k) → j = k
  words : ∀ (w : Fin 9) (r : Fin 1536) (b : Fin 30) (l : Fin 128), w.val * 3840 + b.val * 128 + l.val < 32000 →
    (IntOp.andi (IntOp.shrui .host (words (ix3 w r l)) (BitVec.ofNat 32 b.val)) 1#32 ≠ 0#32 ↔ ∃ j : Fin 50, ids (ix2 r j) = BitVec.ofNat 32 (w.val * 3840 + b.val * 128 + l.val))

theorem ok_of (a0 : FVec Ideal S4x384x1024 .bf16) (a1 : FVec Ideal S32000x1024 .fp8e4m3) (a2 : FVec Ideal S32000x8 .f32) (a3 : IVec S9x1536x128 32) (a4 : IVec S4x384x50 32) (a5 : FVec Ideal S4x384x50 .bf16)
    (h1 : (fn a0 a1 a2 a3 a4 a5).1 = fun _ => 1#1) (h2 : (fn a0 a1 a2 a3 a4 a5).2.1 = fun _ => 1#1)
    (h3 : (fn a0 a1 a2 a3 a4 a5).2.2.1 = fun _ => 1#1) (h4 : (fn a0 a1 a2 a3 a4 a5).2.2.2 = fun _ => 1#1) :
    Ok a0 a3 (shapeCast S1536x50 a4 shapeCasts_S4x384x50_S1536x50) where
  x i := by
    have h := congrFun h1 i
    rw [x_at] at h
    have h' : Ideal.cmp .ole (FloatOps.absf (F := Ideal) (φ := .f32) (a0 i)) (Ideal.ofBits .f32 0x7F7F0000#32) = 1#1 := h
    unfold Ideal.cmp at h'
    by_contra hc
    simp [hc] at h'
  range r j := by
    have h := congrFun h2 (ix2 r j)
    rw [ids_at, andi_one] at h
    generalize shapeCast S1536x50 a4 shapeCasts_S4x384x50_S1536x50 (ix2 r j) = v at h
    have e1 : v.toNat < 32000 := by
      obtain ⟨ha, hb⟩ := h
      have ha' : (0#32).sle v = true := by
        by_contra hc
        have : IntOp.cmpi .sge v 0#32 = BitVec.ofBool ((0#32).sle v) := rfl
        rw [this, Bool.eq_false_iff.2 hc] at ha
        exact absurd ha (by decide)
      have hb' : v.slt 32000#32 = true := by
        by_contra hc
        have : IntOp.cmpi .slt v 32000#32 = BitVec.ofBool (v.slt 32000#32) := rfl
        rw [this, Bool.eq_false_iff.2 hc] at hb
        exact absurd hb (by decide)
      rw [BitVec.sle_iff_toInt_le] at ha'
      rw [BitVec.slt_iff_toInt_lt] at hb'
      simp only [BitVec.toInt_eq_toNat_cond, BitVec.toNat_ofNat] at ha' hb'
      have := v.isLt
      split at ha' <;> omega
    exact ⟨⟨v.toNat, e1⟩, by apply BitVec.eq_of_toNat_eq; rw [BitVec.toNat_ofNat, Nat.mod_eq_of_lt v.isLt]⟩
  distinct r j k e := by
    have h := congrFun h3 (ix3 r j k)
    rw [dist_eq] at h
    have h' : IntOp.ori (sameV (shapeCast S1536x50 a4 shapeCasts_S4x384x50_S1536x50) (ix3 r j k)) (IntOp.cmpi .eq (BitVec.ofNat 32 j.val) (BitVec.ofNat 32 k.val)) = 1#1 := h
    rw [ori_one, sameV_at, cmpi_ne_one, cmpi_eq_one] at h'
    rcases h' with h' | h'
    · exact absurd e h'
    · have := congrArg BitVec.toNat h'
      rw [BitVec.toNat_ofNat, BitVec.toNat_ofNat, Nat.mod_eq_of_lt (by omega), Nat.mod_eq_of_lt (by omega)] at this
      exact Fin.ext this
  words w r b l hv := by
    have h := congrFun h4 (ix4 w r b l)
    rw [words_eq] at h
    have h' : IntOp.ori (IntOp.cmpi .eq (markV a3 (ix4 w r b l)) (anyV (hitsV colV (shapeCast S1536x50 a4 shapeCasts_S4x384x50_S1536x50)) (ix4 w r b l)))
      (IntOp.cmpi .sge (colV (ix4 w r b l)) 32000#32) = 1#1 := h
    rw [ori_one, eq_one, anyV_at, colV_at, markV_at, cmpi_ne_one] at h'
    rcases h' with h' | h'
    · rw [h']
      simp only [hitsV_at, colV_at, cmpi_eq_one]
      exact exists_congr fun j => eq_comm
    · exfalso
      have e : IntOp.cmpi .sge (BitVec.ofNat 32 (w.val * 3840 + b.val * 128 + l.val)) 32000#32 = BitVec.ofBool ((32000#32).sle (BitVec.ofNat 32 (w.val * 3840 + b.val * 128 + l.val))) := rfl
      have hc : (32000#32).sle (BitVec.ofNat 32 (w.val * 3840 + b.val * 128 + l.val)) = false := by
        rw [Bool.eq_false_iff, Ne, BitVec.sle_iff_toInt_le]
        simp only [BitVec.toInt_eq_toNat_cond, BitVec.toNat_ofNat]
        rw [Nat.mod_eq_of_lt (by omega)]
        split <;> omega
      rw [e, hc] at h'
      exact absurd h' (by decide)

end Cert.Pre_admissible

end
-- ==== Proof.V.Scale.lean ====
module

public import proofs.«01_k».proof.Proof.Gen.KernelIdeal.Skeleton
public import Idealize.ShloMosaic.Lib.Pointwise
public import Idealize.ShloMosaic.PureOps.Ideal

@[expose] public section

/-! The scale of one block of 128 tokens: the binary search over exponent fields finds the smallest power of two above
the block's largest magnitude over 448. -/

set_option maxHeartbeats 1000000

noncomputable section

namespace Cert.KernelIdeal.V

open Idealize.ShloMosaic

/-- The number whose exponent field is `n` and whose fraction is zero. -/
def pw (n : ℕ) : EReal := Ideal.ofBits .f32 (BitVec.ofNat 32 n <<< 23)

theorem pw_bits : ∀ n : Fin 256, ((BitVec.ofNat 32 n.val <<< 23).extractLsb' 31 1 == 1#1) = false
    ∧ ((BitVec.ofNat 32 n.val <<< 23).extractLsb' 23 8).toNat = n.val ∧ ((BitVec.ofNat 32 n.val <<< 23).extractLsb' 0 23).toNat = 0 := by
  decide +kernel

theorem pw_eq (n : ℕ) (h1 : 1 ≤ n) (h2 : n ≤ 254) : pw n = (((2 : ℝ) ^ ((n : ℤ) - 127) : ℝ) : EReal) := by
  obtain ⟨a, b, c⟩ := pw_bits ⟨n, by omega⟩
  unfold pw
  show Ideal.ieee 8 23 (BitVec.ofNat 32 n <<< 23) = _
  unfold Ideal.ieee
  simp only [show (8 + 23 : ℕ) = 31 from rfl, a, b, c]
  rw [if_neg (by omega), if_neg (by omega)]
  rw [EReal.coe_eq_coe_iff, if_neg (by decide)]
  push_cast
  norm_num
  rw [show ((n : ℤ) - 127 - 23) = ((n : ℤ) - 127) + (-23) by ring, zpow_add₀ (by norm_num)]
  norm_num
  rw [mul_comm, mul_assoc]; norm_num

theorem pw_lt {a b : ℕ} (h1 : 1 ≤ a) (h : a < b) (h2 : b ≤ 254) : pw a < pw b := by
  rw [pw_eq a h1 (by omega), pw_eq b (by omega) h2, EReal.coe_lt_coe_iff]
  exact zpow_lt_zpow_right₀ (by norm_num) (by omega)

theorem pw_le {a b : ℕ} (h1 : 1 ≤ a) (h : a ≤ b) (h2 : b ≤ 254) : pw a ≤ pw b := by
  rw [pw_eq a h1 (by omega), pw_eq b (by omega) h2, EReal.coe_le_coe_iff]
  exact zpow_le_zpow_right₀ (by norm_num) (by omega)

theorem pw_127 : pw 127 = 1 := by
  rw [pw_eq 127 (by omega) (by omega)]; norm_num

/-- The reciprocal. -/
theorem div_pw (n : ℕ) (h1 : 1 ≤ n) (h2 : n ≤ 253) : Ideal.div 1 (pw n) = pw (254 - n) := by
  rw [pw_eq n h1 (by omega), pw_eq (254 - n) (by omega) (by omega)]
  unfold Ideal.div
  rw [if_neg (by rw [← EReal.coe_zero, EReal.coe_eq_coe_iff]; positivity), one_mul, ← EReal.coe_inv]
  congr 1
  rw [← zpow_neg]; congr 1; omega

/-- One step of the search. -/
def stp {F : FTy → Type} [FloatOps F] (y : F .f32) (b f : BitVec 32) : BitVec 32 :=
  Scalar.select (FloatOps.cmpf .oge y (FloatOps.ofBits .f32 (IntOp.shli .vector (IntOp.addi f b) 23#32))) (IntOp.addi f b) f

theorem shl_ofNat (n : ℕ) : IntOp.shli .vector (BitVec.ofNat 32 n) 23#32 = BitVec.ofNat 32 n <<< 23 := rfl

theorem addi_ofNat (n k : ℕ) : IntOp.addi (BitVec.ofNat 32 n) (BitVec.ofNat 32 k) = BitVec.ofNat 32 (n + k) := by
  show BitVec.ofNat 32 n + BitVec.ofNat 32 k = _
  rw [BitVec.ofNat_add]

theorem stp_ofNat (y : EReal) (b f : ℕ) :
    stp (F := Ideal) y (BitVec.ofNat 32 b) (BitVec.ofNat 32 f) = BitVec.ofNat 32 (if pw (f + b) ≤ y then f + b else f) := by
  unfold stp
  rw [addi_ofNat, shl_ofNat]
  show Scalar.select (Ideal.cmp .oge y (pw (f + b))) _ _ = _
  unfold Ideal.cmp
  by_cases h : pw (f + b) ≤ y
  · simp [h, Scalar.select]
  · simp [h, Scalar.select]

/-- What the search keeps: the field found so far is at most `y`'s, and below it by less than twice the step to come. -/
def Found (y : EReal) (b f : ℕ) : Prop := (f = 0 ∨ pw f ≤ y) ∧ (f + 2 * b = 256 ∨ y < pw (f + 2 * b)) ∧ f + 2 * b ≤ 256

theorem found_step (y : EReal) (b b' f : ℕ) (hb : b = 2 * b') (h : Found y b f) :
    Found y b' (if pw (f + b) ≤ y then f + b else f) := by
  obtain ⟨h1, h2, h3⟩ := h
  by_cases hc : pw (f + b) ≤ y
  · rw [if_pos hc]
    exact ⟨Or.inr hc, by rw [show f + b + 2 * b' = f + 2 * b by omega]; exact h2, by omega⟩
  · rw [if_neg hc]
    exact ⟨h1, Or.inr (by rw [← hb]; exact lt_of_not_ge hc), by omega⟩

theorem stp_found (y : EReal) (b b' f : ℕ) (hb : b = 2 * b') (h : Found y b f) :
    ∃ g, stp (F := Ideal) y (BitVec.ofNat 32 b) (BitVec.ofNat 32 f) = BitVec.ofNat 32 g ∧ Found y b' g :=
  ⟨_, stp_ofNat y b f, found_step y b b' f hb h⟩

/-- The search. -/
def fieldE {F : FTy → Type} [FloatOps F] (y : F .f32) : BitVec 32 :=
  stp y 1#32 (stp y 2#32 (stp y 4#32 (stp y 8#32 (stp y 16#32 (stp y 32#32 (stp y 64#32 (stp y 128#32 0#32)))))))

theorem fieldE_spec (y : EReal) : ∃ f : ℕ, fieldE (F := Ideal) y = BitVec.ofNat 32 f ∧ f ≤ 255 ∧ (f = 0 ∨ pw f ≤ y) ∧ (f = 255 ∨ y < pw (f + 1)) := by
  have h0 : Found y 128 0 := ⟨Or.inl rfl, Or.inl rfl, le_refl _⟩
  obtain ⟨f1, e1, h1⟩ := stp_found y 128 64 0 rfl h0
  obtain ⟨f2, e2, h2⟩ := stp_found y 64 32 f1 rfl h1
  obtain ⟨f3, e3, h3⟩ := stp_found y 32 16 f2 rfl h2
  obtain ⟨f4, e4, h4⟩ := stp_found y 16 8 f3 rfl h3
  obtain ⟨f5, e5, h5⟩ := stp_found y 8 4 f4 rfl h4
  obtain ⟨f6, e6, h6⟩ := stp_found y 4 2 f5 rfl h5
  obtain ⟨f7, e7, a1, a2, a3⟩ := stp_found y 2 1 f6 rfl h6
  have e : fieldE (F := Ideal) y = BitVec.ofNat 32 (if pw (f7 + 1) ≤ y then f7 + 1 else f7) := by
    unfold fieldE
    rw [show (0#32) = BitVec.ofNat 32 0 from rfl, e1, e2, e3, e4, e5, e6, e7, stp_ofNat]
  refine ⟨_, e, ?_, ?_, ?_⟩
  · split <;> omega
  · split
    · right; assumption
    · exact a1
  · split
    · rcases a2 with h | h
      · left; omega
      · right; rw [show f7 + 1 + 1 = f7 + 2 * 1 by omega]; exact h
    · right; rw [← not_le]; assumption

/-- The exponent. -/
def expE {F : FTy → Type} [FloatOps F] (y : F .f32) : BitVec 32 :=
  Scalar.select (IntOp.ori (IntOp.cmpi .eq (fieldE y) 0#32) (IntOp.cmpi .eq (fieldE y) 255#32)) 0#32 (IntOp.subi (fieldE y) 126#32)

/-- The scale and its reciprocal. -/
def scaleE {F : FTy → Type} [FloatOps F] (y : F .f32) : F .f32 := FloatOps.ofBits .f32 (IntOp.shli .vector (IntOp.addi (expE y) 127#32) 23#32)
def invE {F : FTy → Type} [FloatOps F] (y : F .f32) : F .f32 := FloatOps.ofBits .f32 (IntOp.shli .vector (IntOp.subi 127#32 (expE y)) 23#32)

theorem bits_of_field : ∀ f : Fin 247, IntOp.shli .vector (IntOp.addi (Scalar.select (IntOp.ori (IntOp.cmpi .eq (BitVec.ofNat 32 f.val) 0#32) (IntOp.cmpi .eq (BitVec.ofNat 32 f.val) 255#32)) 0#32 (IntOp.subi (BitVec.ofNat 32 f.val) 126#32)) 127#32) 23#32
      = BitVec.ofNat 32 (if f.val = 0 then 127 else f.val + 1) <<< 23
    ∧ IntOp.shli .vector (IntOp.subi 127#32 (Scalar.select (IntOp.ori (IntOp.cmpi .eq (BitVec.ofNat 32 f.val) 0#32) (IntOp.cmpi .eq (BitVec.ofNat 32 f.val) 255#32)) 0#32 (IntOp.subi (BitVec.ofNat 32 f.val) 126#32))) 23#32
      = BitVec.ofNat 32 (if f.val = 0 then 127 else 253 - f.val) <<< 23 := by
  decide +kernel

/-- Below 2^120 the scale is one where the input is below the smallest normal number, and otherwise the power of two just above it. -/
theorem scaleE_spec (y : EReal) (hy : y < pw 247) :
    (y < pw 1 ∧ scaleE (F := Ideal) y = pw 127 ∧ invE (F := Ideal) y = pw 127)
    ∨ ∃ f : ℕ, 1 ≤ f ∧ f ≤ 246 ∧ pw f ≤ y ∧ y < pw (f + 1) ∧ scaleE (F := Ideal) y = pw (f + 1) ∧ invE (F := Ideal) y = pw (253 - f) := by
  obtain ⟨f, e, h1, h2, h3⟩ := fieldE_spec y
  have hf : f ≤ 246 := by
    by_contra hc
    rcases h2 with h | h
    · omega
    · by_cases h255 : f = 255
      · subst h255
        have : pw 255 = ⊤ := by
          unfold pw; show Ideal.ieee 8 23 (BitVec.ofNat 32 255 <<< 23) = _
          obtain ⟨a, b, c⟩ := pw_bits ⟨255, by omega⟩
          unfold Ideal.ieee
          simp only [show (8 + 23 : ℕ) = 31 from rfl, a, b, c]
          simp
        rw [this] at h
        exact absurd (lt_of_le_of_lt h hy) (not_lt.2 le_top)
      · exact absurd (lt_of_le_of_lt h hy) (not_lt.2 (pw_le (by omega) (by omega) (by omega)))
  obtain ⟨b1, b2⟩ := bits_of_field ⟨f, by omega⟩
  have es : scaleE (F := Ideal) y = pw (if f = 0 then 127 else f + 1) := by
    unfold scaleE expE; rw [e]; exact congrArg (Ideal.ofBits .f32) b1
  have ei : invE (F := Ideal) y = pw (if f = 0 then 127 else 253 - f) := by
    unfold invE expE; rw [e]; exact congrArg (Ideal.ofBits .f32) b2
  have hlt : y < pw (f + 1) := h3.resolve_left (by omega)
  by_cases h0 : f = 0
  · subst h0
    exact Or.inl ⟨hlt, es, ei⟩
  · rw [if_neg h0] at es ei
    exact Or.inr ⟨f, by omega, hf, h2.resolve_left h0, hlt, es, ei⟩

/-- The same scale as the least power of two above the input. -/
def scaleR (y : EReal) : EReal :=
  if y < pw 1 then 1 else
    (Finset.univ : Finset (Fin 254)).fold min ⊤ fun k => if y < Ideal.exp2 (((k.val : ℤ) - 125 : ℤ) : ℝ) then Ideal.exp2 (((k.val : ℤ) - 125 : ℤ) : ℝ) else ⊤

theorem exp2_int (z : ℤ) : Ideal.exp2 ((z : ℝ) : EReal) = (((2 : ℝ) ^ z : ℝ) : EReal) := by
  show ((Real.rpow 2 (z : ℝ) : ℝ) : EReal) = _
  congr 1
  exact Real.rpow_intCast 2 z

theorem scaleE_eq (y : EReal) (hy : y < pw 247) : scaleE (F := Ideal) y = scaleR y ∧ invE (F := Ideal) y = Ideal.div 1 (scaleR y) := by
  rcases scaleE_spec y hy with ⟨h, hs, hi⟩ | ⟨f, h1, h2, hl, hu, hs, hi⟩
  · have : scaleR y = 1 := by unfold scaleR; rw [if_pos h]
    have h1 := div_pw 127 (by omega) (by omega)
    rw [pw_127] at h1
    rw [this, hs, hi, h1]
    exact ⟨pw_127, pw_127⟩
  · have : scaleR y = pw (f + 1) := by
      unfold scaleR
      rw [if_neg (not_lt.2 (le_trans (pw_le (le_refl 1) h1 (by omega)) hl))]
      apply le_antisymm
      · rw [Finset.fold_min_le]
        right
        refine ⟨⟨f - 1, by omega⟩, Finset.mem_univ _, ?_⟩
        have e : Ideal.exp2 (((((f - 1 : ℕ) : ℤ) - 125 : ℤ) : ℝ) : EReal) = pw (f + 1) := by
          rw [exp2_int, pw_eq (f + 1) (by omega) (by omega)]
          congr 2; push_cast [h1]; omega
        simp only [e, if_pos hu, le_refl]
      · rw [Finset.le_fold_min]
        refine ⟨le_top, fun k _ => ?_⟩
        split
        · next hk =>
          rw [exp2_int] at hk ⊢
          have hk' := lt_of_le_of_lt hl hk
          rw [pw_eq f h1 (by omega), EReal.coe_lt_coe_iff, zpow_lt_zpow_iff_right₀ (by norm_num)] at hk'
          rw [pw_eq (f + 1) (by omega) (by omega), EReal.coe_le_coe_iff]
          exact zpow_le_zpow_right₀ (by norm_num) (by push_cast; omega)
        · exact le_top
    rw [this, hs, hi, div_pw (f + 1) (by omega) (by omega)]
    exact ⟨rfl, congrArg pw (by omega)⟩

/-- The largest magnitude of a block over 448. -/
def yB (g : Fin 128 → EReal) : EReal :=
  (Finset.univ : Finset (Fin 128)).fold max (Ideal.ofBits .f32 4286578688#32) (fun x => FloatOps.absf (F := Ideal) (φ := .f32) (g x)) * Ideal.ofBits .f32 991054117#32

/-- One token's code under the reciprocal of its block's scale. -/
def codeE (a inv : EReal) : EReal := min (Ideal.ofBits .f32 1138753536#32) (max (Ideal.ofBits .f32 3286237184#32) (a * inv))

end Cert.KernelIdeal.V

end
-- ==== Proof.V.RefAt.lean ====
module

public import proofs.«01_k».proof.Proof.V.Scale
public import proofs.«01_k».proof.Proof.Gen.ReferenceIdeal.Skeleton

@[expose] public section

/-! The reference's results, entry by entry. -/

set_option maxHeartbeats 200000

noncomputable section

namespace Cert.ReferenceIdeal.V

open Cert.ReferenceIdeal.Gen Idealize.ShloMosaic
open Cert.KernelIdeal.V (yB codeE scaleR pw)

theorem inf_bits : Ideal.ofBits .f32 2139095040#32 = ⊤ := by
  show Ideal.ieee 8 23 (2139095040#32) = _
  unfold Ideal.ieee
  simp

theorem ninf_bits : Ideal.ofBits .f32 4286578688#32 = ⊥ := by
  show Ideal.ieee 8 23 (4286578688#32) = _
  unfold Ideal.ieee
  simp

section Any
variable {F : FTy → Type} [FloatOps F]

/-- The largest entry of each block. -/
def maxOf (w : FVec F S1536x8x128 .f32) : FVec F S1536x8 .f32 := multiReduction .maximumf [2] S1536x8 w 0xFF800000#32 reduces_S1536x8x128_S1536x8 (.inl rfl) rfl

/-- Over 448. -/
def over (w : FVec F S1536x8 .f32) : FVec F S1536x8 .f32 := mulf w (broadcast S1536x8 (Scalar.ofBits .f32 0x3B124925#32))

/-- Each block's largest magnitude over 448. -/
def yR (x : Vec F S1536x1024 .bf16) : FVec F S1536x8 .f32 := over (maxOf (absf (k0_pay3 x)))

/-- The powers of two. -/
def powR : FVec F S1536x8x254 .f32 := exp2 (sitofp .f32 (subi (iota .tc S1536x8x254 32 [2] iota_S1536x8x254_d2_w32) (broadcast S1536x8x254 125#32)))

/-- The powers above the block's value, infinity for the others. -/
def aboveR (y : FVec F S1536x8 .f32) (p : FVec F S1536x8x254 .f32) : FVec F S1536x8x254 .f32 :=
  select (cmpf .ogt p (broadcastTo S1536x8x254 (shapeCast S1536x8x1 y shapeCasts_S1536x8_S1536x8x1) broadcasts_S1536x8x1_S1536x8x254)) p (broadcast S1536x8x254 (Scalar.ofBits .f32 0x7F800000#32))

/-- The least of them, one for a block value below the smallest normal number. -/
def scaleOf (y : FVec F S1536x8 .f32) (a : FVec F S1536x8x254 .f32) : FVec F S1536x8 .f32 :=
  select (cmpf .olt y (broadcast S1536x8 (Scalar.ofBits .f32 0x00800000#32))) (broadcast S1536x8 (Scalar.ofBits .f32 0x3F800000#32))
    (multiReduction .minimumf [2] S1536x8 a 0x7F800000#32 reduces_S1536x8x254_S1536x8 (.inl rfl) rfl)

theorem pay4_eq (x : Vec F S1536x1024 .bf16) : k0_pay4 x = scaleOf (yR x) (aboveR (yR x) powR) := rfl

/-- The codes of tokens under scales. -/
def codesOf (v : FVec F S1536x8x128 .f32) (s : FVec F S1536x8 .f32) : FVec F S1536x8x128 .fp8e4m3 :=
  truncf .fp8e4m3 (minimumf (broadcast S1536x8x128 (Scalar.ofBits .f32 0x43E00000#32)) (maximumf (broadcast S1536x8x128 (Scalar.ofBits .f32 0xC3E00000#32))
    (mulf v (broadcastTo S1536x8x128 (shapeCast S1536x8x1 (divf (broadcast S1536x8 (Scalar.ofBits .f32 0x3F800000#32)) s) shapeCasts_S1536x8_S1536x8x1) broadcasts_S1536x8x1_S1536x8x128)))) bitsLt_fp8e4m3_f32

theorem pay5_eq (x : Vec F S1536x1024 .bf16) : k0_pay5 x = codesOf (k0_pay3 x) (k0_pay4 x) := rfl

/-- The tokens dequantised. -/
def deqOf (q : FVec F S1536x8x128 .fp8e4m3) (s : FVec F S1536x8 .f32) : FVec F S1536x1024 .bf16 :=
  shapeCast S1536x1024 (mulf (extf .bf16 q bitsLt_fp8e4m3_bf16) (broadcastTo S1536x8x128 (shapeCast S1536x8x1 (truncf .bf16 s bitsLt_bf16_f32) shapeCasts_S1536x8_S1536x8x1) broadcasts_S1536x8x1_S1536x8x128)) shapeCasts_S1536x8x128_S1536x1024

theorem pay6_eq (x : Vec F S1536x1024 .bf16) : k0_pay6 x = deqOf (k0_pay5 x) (k0_pay4 x) := rfl

/-- The greatest logit of each row. -/
def bigOf (z : FVec F S1536x32000 .f32) : FVec F S1536 .f32 := multiReduction .maximumf [1] S1536 z 0xFF800000#32 reduces_S1536x32000_S1536 (.inl rfl) rfl

/-- The exponentials below it. -/
def expOf (z : FVec F S1536x32000 .f32) (b : FVec F S1536 .f32) : FVec F S1536x32000 .f32 :=
  exp (subf z (broadcastTo S1536x32000 (shapeCast S1536x1 b shapeCasts_S1536_S1536x1) broadcasts_S1536x1_S1536x32000))

/-- The logarithm of the sum of the exponentials. -/
def logOf (e : FVec F S1536x32000 .f32) (b : FVec F S1536 .f32) : FVec F S4x384 .f32 :=
  shapeCast S4x384 (addf (shapeCast S1536 (shapeCast S1536x1 b shapeCasts_S1536_S1536x1) shapeCasts_S1536x1_S1536)
    (log (multiReduction .add [1] S1536 e 0x00000000#32 reduces_S1536x32000_S1536 (.inl rfl) rfl))) shapeCasts_S1536_S4x384

def lseOf (z : FVec F S1536x32000 .f32) : FVec F S4x384 .f32 := logOf (expOf z (bigOf z)) (bigOf z)

theorem pay11_eq (v : FVec F S1536x1024 .bf16) (w : FVec F S32000x8x128 .bf16) (s : FVec F S32000x8 .bf16) : k0_pay11 v w s = lseOf (k0_pay9 v w s) := rfl

/-- Which columns are some teacher's, as ones and zeros. -/
def supOf (h : IVec S1536x50x32000 1) : FVec F S1536x32000 .f32 :=
  multiReduction .maximumf [1] S1536x32000 (select h (broadcast S1536x50x32000 (Scalar.ofBits .f32 0x3F800000#32)) (broadcast S1536x50x32000 (Scalar.ofBits .f32 0x00000000#32)))
    0xFF800000#32 reduces_S1536x50x32000_S1536x32000 (.inl rfl) rfl

/-- The logits with those columns taken out. -/
def restOf (u z : FVec F S1536x32000 .f32) : FVec F S1536x32000 .f32 :=
  select (cmpf .ogt u (broadcast S1536x32000 (Scalar.ofBits .f32 0x00000000#32))) (broadcast S1536x32000 (Scalar.ofBits .f32 0xFF800000#32)) z

theorem pay12_eq (v : FVec F S1536x1024 .bf16) (w : FVec F S32000x8x128 .bf16) (s : FVec F S32000x8 .bf16) (i : Vec F S1536x50 .i32) :
    k0_pay12 v w s i = lseOf (restOf (supOf (k0_pay10 i)) (k0_pay9 v w s)) := rfl

end Any

theorem pay3_at (v : Vec Ideal S1536x1024 .bf16) (r : Fin 1536) (l : Fin 8) (x : Fin 128) :
    k0_pay3 v (ix3 r l x) = v (ix2 r ⟨l.val * 128 + x.val, by omega⟩) := by
  pointwise [k0_pay3]

theorem maxOf_at (w : FVec Ideal S1536x8x128 .f32) (r : Fin 1536) (l : Fin 8) :
    maxOf (absf w) (ix2 r l) = (Finset.univ : Finset (Fin 128)).fold max (Ideal.ofBits .f32 4286578688#32) (fun x => FloatOps.absf (F := Ideal) (φ := .f32) (w (ix3 r l x))) := by
  unfold maxOf
  pointwise []

theorem over_at (w : FVec Ideal S1536x8 .f32) (r : Fin 1536) (l : Fin 8) : over w (ix2 r l) = (w (ix2 r l) * Ideal.ofBits .f32 991054117#32 : EReal) := by
  unfold over
  pointwise []

theorem yR_at (v : Vec Ideal S1536x1024 .bf16) (r : Fin 1536) (l : Fin 8) :
    yR v (ix2 r l) = yB (fun k => v (ix2 r ⟨l.val * 128 + k.val, by omega⟩)) := by
  have e : (fun k => k0_pay3 v (ix3 r l k)) = fun k : Fin 128 => v (ix2 r ⟨l.val * 128 + k.val, by omega⟩) := funext fun k => pay3_at v r l k
  unfold yR
  rw [over_at, maxOf_at]
  exact congrArg yB e

theorem powR_at (r : Fin 1536) (l : Fin 8) (x : Fin 254) : powR (F := Ideal) (ix3 r l x) = Ideal.exp2 ((((x.val : ℤ) - 125 : ℤ) : ℝ) : EReal) := by
  unfold powR
  pointwise []
  show Ideal.exp2 _ = Ideal.exp2 _
  congr 1
  show (((IntOp.subi (BitVec.ofNat 32 x.val) 125#32).toInt : ℝ) : EReal) = _
  have : ∀ x : Fin 254, (IntOp.subi (BitVec.ofNat 32 x.val) 125#32).toInt = (x.val : ℤ) - 125 := by decide +kernel
  rw [this]

theorem aboveR_at (y : FVec Ideal S1536x8 .f32) (p : FVec Ideal S1536x8x254 .f32) (r : Fin 1536) (l : Fin 8) (x : Fin 254) :
    aboveR y p (ix3 r l x) = (if (y (ix2 r l) : EReal) < p (ix3 r l x) then (p (ix3 r l x) : EReal) else ⊤) := by
  unfold aboveR
  pointwise []
  rw [inf_bits]

theorem scaleOf_at (y : FVec Ideal S1536x8 .f32) (a : FVec Ideal S1536x8x254 .f32) (r : Fin 1536) (l : Fin 8) :
    scaleOf y a (ix2 r l) = (if (y (ix2 r l) : EReal) < pw 1 then (1 : EReal) else (Finset.univ : Finset (Fin 254)).fold min ⊤ fun k => (a (ix3 r l k) : EReal)) := by
  have e1 : Ideal.ofBits .f32 8388608#32 = pw 1 := congrArg (Ideal.ofBits .f32) (by decide : 8388608#32 = BitVec.ofNat 32 1 <<< 23)
  unfold scaleOf
  pointwise []
  rw [inf_bits, e1]

theorem scale_at (v : Vec Ideal S1536x1024 .bf16) (r : Fin 1536) (l : Fin 8) :
    k0_pay4 v (ix2 r l) = scaleR (yB (fun k => v (ix2 r ⟨l.val * 128 + k.val, by omega⟩))) := by
  rw [pay4_eq, scaleOf_at, yR_at]
  unfold scaleR
  simp only [aboveR_at, powR_at, yR_at]

theorem codesOf_at (v : FVec Ideal S1536x8x128 .f32) (s : FVec Ideal S1536x8 .f32) (r : Fin 1536) (l : Fin 1024) :
    k0_pay2 (codesOf v s) (ix2 r l) = codeE (v (ix3 r ⟨l.val / 128, by omega⟩ ⟨l.val % 128, by omega⟩)) (Ideal.div 1 (s (ix2 r ⟨l.val / 128, by omega⟩))) := by
  unfold codesOf
  pointwise [k0_pay2]
  rfl

theorem code_at (v : Vec Ideal S1536x1024 .bf16) (r : Fin 1536) (l : Fin 1024) :
    k0_pay2 (k0_pay5 v) (ix2 r l) = codeE (v (ix2 r l)) (Ideal.div 1 (k0_pay4 v (ix2 r ⟨l.val / 128, by omega⟩))) := by
  rw [pay5_eq, codesOf_at, pay3_at]
  congr 3
  apply Fin.ext; show l.val / 128 * 128 + l.val % 128 = l.val; omega

theorem deqOf_at (q : FVec Ideal S1536x8x128 .fp8e4m3) (s : FVec Ideal S1536x8 .f32) (r : Fin 1536) (l : Fin 1024) :
    deqOf q s (ix2 r l) = (k0_pay2 q (ix2 r l) * s (ix2 r ⟨l.val / 128, by omega⟩) : EReal) := by
  unfold deqOf
  pointwise [k0_pay2]

theorem deq_at (v : Vec Ideal S1536x1024 .bf16) (r : Fin 1536) (l : Fin 1024) :
    k0_pay6 v (ix2 r l) = (k0_pay2 (k0_pay5 v) (ix2 r l) * k0_pay4 v (ix2 r ⟨l.val / 128, by omega⟩) : EReal) := by
  rw [pay6_eq, deqOf_at]

/-- One logit. -/
def zE (a w s : Fin 1024 → EReal) : EReal := ∑ x, a x * (w x * s x)

theorem z_at (v : FVec Ideal S1536x1024 .bf16) (w : Vec Ideal S32000x1024 .fp8e4m3) (s : Vec Ideal S32000x8 .f32) (r : Fin 1536) (l : Fin 32000) :
    k0_pay9 v (k0_pay7 w) (k0_pay8 s) (ix2 r l) = zE (fun x => v (ix2 r x)) (fun x => w (ix2 l x)) (fun x => s (ix2 l ⟨x.val / 128, by omega⟩)) := by
  pointwise [k0_pay9, k0_pay7, k0_pay8]
  unfold zE
  rfl

/-- The greatest of a row. -/
def bigE {n : ℕ} (g : Fin n → EReal) : EReal := (Finset.univ : Finset (Fin n)).fold max ⊥ g

/-- The logarithm of a row's sum of exponentials, through its greatest entry. -/
def lseE {n : ℕ} (g : Fin n → EReal) : EReal := bigE g + Ideal.log (∑ x, Ideal.exp (g x - bigE g))

theorem bigOf_at (z : FVec Ideal S1536x32000 .f32) (r : Fin 1536) : bigOf z (ix1 r) = bigE (fun x => (z (ix2 r x) : EReal)) := by
  unfold bigOf
  pointwise []
  rw [ninf_bits]
  rfl

theorem expOf_at (z : FVec Ideal S1536x32000 .f32) (b : FVec Ideal S1536 .f32) (r : Fin 1536) (l : Fin 32000) :
    expOf z b (ix2 r l) = Ideal.exp ((z (ix2 r l) : EReal) - b (ix1 r)) := by
  unfold expOf
  pointwise []

theorem logOf_at (e : FVec Ideal S1536x32000 .f32) (b : FVec Ideal S1536 .f32) (r : Fin 4) (l : Fin 384) :
    logOf e b (ix2 r l) = ((b (ix1 ⟨r.val * 384 + l.val, by omega⟩) : EReal) + Ideal.log (∑ x : Fin 32000, (e (ix2 ⟨r.val * 384 + l.val, by omega⟩ x) : EReal)) : EReal) := by
  unfold logOf
  pointwise []

theorem lseOf_at (z : FVec Ideal S1536x32000 .f32) (r : Fin 4) (l : Fin 384) :
    lseOf z (ix2 r l) = lseE (fun x => (z (ix2 ⟨r.val * 384 + l.val, by omega⟩ x) : EReal)) := by
  unfold lseOf lseE
  rw [logOf_at, bigOf_at]
  simp only [expOf_at, bigOf_at]

theorem hit_at (i : Vec Ideal S1536x50 .i32) (r : Fin 1536) (j : Fin 50) (l : Fin 32000) :
    k0_pay10 i (ix3 r j l) = IntOp.cmpi .eq (i (ix2 r j)) (BitVec.ofNat 32 l.val) := by
  pointwise [k0_pay10]

theorem restOf_at (u z : FVec Ideal S1536x32000 .f32) (r : Fin 1536) (l : Fin 32000) :
    restOf u z (ix2 r l) = (if (0 : EReal) < u (ix2 r l) then (⊥ : EReal) else z (ix2 r l)) := by
  unfold restOf
  pointwise []
  rw [ninf_bits]

theorem supOf_at (h : IVec S1536x50x32000 1) (r : Fin 1536) (l : Fin 32000) :
    (0 : EReal) < supOf (F := Ideal) h (ix2 r l) ↔ ∃ j : Fin 50, h (ix3 r j l) = 1#1 := by
  unfold supOf
  pointwise []
  rw [ninf_bits, Finset.lt_fold_max]
  simp only [not_lt_bot, false_or, Finset.mem_univ, true_and]
  refine exists_congr fun j => ?_
  unfold Scalar.select
  split
  · next h1 => simp [h1]
  · next h1 => exact ⟨fun h2 => absurd h2 (lt_irrefl _), fun h2 => absurd h2 h1⟩

theorem rest_at (i : Vec Ideal S1536x50 .i32) (z : FVec Ideal S1536x32000 .f32) (r : Fin 1536) (l : Fin 32000) :
    restOf (supOf (k0_pay10 i)) z (ix2 r l) = (open Classical in if (∃ j : Fin 50, i (ix2 r j) = BitVec.ofNat 32 l.val) then (⊥ : EReal) else z (ix2 r l)) := by
  rw [restOf_at]
  simp only [supOf_at, hit_at]
  have : ∀ a b : BitVec 32, IntOp.cmpi .eq a b = 1#1 ↔ a = b := by
    intro a b
    unfold IntOp.cmpi
    by_cases h : a = b
    · simp [h]
    · rw [show (BitVec.ofBool (a == b)) = 0#1 by rw [beq_eq_false_iff_ne.2 h]; rfl]
      exact ⟨fun h2 => absurd h2 (by decide), fun h2 => absurd h2 h⟩
  simp only [this]

theorem zsupOf_at (i : Vec Ideal S1536x50 .i32) (z : FVec Ideal S1536x1x32000 .f32) (r : Fin 1536) (l : Fin 50) :
    k0_pay1 (k0_pay10 i) z (ix2 r l) = (∑ x : Fin 32000, Scalar.select (IntOp.cmpi .eq (i (ix2 r l)) (BitVec.ofNat 32 x.val)) (z (ix3 r 0 x) : EReal) 0 : EReal) := by
  pointwise [k0_pay1, k0_pay10]

theorem pay13_at (v : FVec Ideal S1536x1024 .bf16) (w : FVec Ideal S32000x8x128 .bf16) (s : FVec Ideal S32000x8 .bf16) (r : Fin 1536) (l : Fin 32000) :
    k0_pay13 v w s (ix3 r 0 l) = k0_pay9 v w s (ix2 r l) := by
  unfold k0_pay13
  generalize k0_pay9 v w s = z
  pointwise []

theorem zsup_at (v : FVec Ideal S1536x1024 .bf16) (w : FVec Ideal S32000x8x128 .bf16) (s : FVec Ideal S32000x8 .bf16) (i : Vec Ideal S1536x50 .i32)
    (r : Fin 1536) (l : Fin 50) (n : Fin 32000) (h : i (ix2 r l) = BitVec.ofNat 32 n.val) :
    k0_pay1 (k0_pay10 i) (k0_pay13 v w s) (ix2 r l) = k0_pay9 v w s (ix2 r n) := by
  rw [zsupOf_at, Finset.sum_eq_single n]
  · rw [h, pay13_at]; simp [IntOp.cmpi, Scalar.select]
  · intro b _ hb
    have : BitVec.ofNat 32 n.val ≠ BitVec.ofNat 32 b.val := by
      intro e
      apply hb
      have := congrArg BitVec.toNat e
      rw [BitVec.toNat_ofNat, BitVec.toNat_ofNat, Nat.mod_eq_of_lt (by omega), Nat.mod_eq_of_lt (by omega)] at this
      exact Fin.ext this.symm
    rw [h]
    have e : IntOp.cmpi .eq (BitVec.ofNat 32 n.val) (BitVec.ofNat 32 b.val) = 0#1 := by
      show BitVec.ofBool (_ == _) = _
      rw [beq_eq_false_iff_ne.2 this]; rfl
    rw [e]; rfl
  · intro hn; exact absurd (Finset.mem_univ _) hn

end Cert.ReferenceIdeal.V

end
-- ==== Proof.V.LogSum.lean ====
module

public import proofs.«01_k».proof.Proof.V.RefAt

@[expose] public section

/-! The logarithm of a sum of exponentials over the extended reals, whole and in running parts. An infinite entry makes it `⊥`, and so
does having no entry above `⊥`. -/

set_option maxHeartbeats 400000

noncomputable section

namespace Cert.KernelIdeal.V

open Idealize.ShloMosaic
open Cert.ReferenceIdeal.V (bigE lseE)

/-- The exponential of an entry, as a real: zero at `⊥`. -/
def eR (z : EReal) : ℝ := if z = ⊥ then 0 else Real.exp z.toReal

theorem eR_bot : eR ⊥ = 0 := by simp [eR]
theorem eR_coe (r : ℝ) : eR (r : EReal) = Real.exp r := by simp [eR]
theorem eR_nonneg (z : EReal) : 0 ≤ eR z := by unfold eR; split; exact le_refl _; exact (Real.exp_pos _).le

/-- The logarithm of the sum `T` of exponentials; `P` says that an entry was infinite. -/
def LSE (P : Prop) (T : ℝ) : EReal := open Classical in if P then ⊥ else Ideal.log ((T : ℝ) : EReal)

theorem log_coe (r : ℝ) : Ideal.log (r : EReal) = if r ≤ 0 then ⊥ else (Real.log r : EReal) := rfl

theorem log_zero : Ideal.log (0 : EReal) = ⊥ := (log_coe 0).trans (if_pos (le_refl _))

theorem exp_top_sub (z : EReal) : Ideal.exp (z - ⊤) = 0 := by
  rw [sub_eq_add_neg, EReal.neg_top, EReal.add_bot]; rfl

/-- An entry's exponential below a real bound. -/
theorem exp_sub (z : EReal) (hz : z ≠ ⊤) (r : ℝ) : Ideal.exp (z - (r : EReal)) = ((eR z * Real.exp (-r) : ℝ) : EReal) := by
  induction z with
  | bot => rw [EReal.bot_sub, eR_bot, zero_mul]; rfl
  | coe x =>
    rw [← EReal.coe_sub, eR_coe, ← Real.exp_add, ← sub_eq_add_neg]; rfl
  | top => exact absurd rfl hz

theorem sum_coe {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The bound plus the logarithm of the sum below it. -/
theorem add_log (r T : ℝ) (hT : 0 ≤ T) : (r : EReal) + Ideal.log ((T * Real.exp (-r) : ℝ) : EReal) = Ideal.log ((T : ℝ) : EReal) := by
  rcases hT.eq_or_lt with h | h
  · subst h
    rw [zero_mul]
    rw [EReal.coe_zero, log_zero, EReal.add_bot]
  · have e1 : Ideal.log ((T : ℝ) : EReal) = ((Real.log T : ℝ) : EReal) := (log_coe T).trans (if_neg (not_le.2 h))
    have hp : 0 < T * Real.exp (-r) := mul_pos h (Real.exp_pos _)
    have e2 : Ideal.log ((T * Real.exp (-r) : ℝ) : EReal) = ((Real.log (T * Real.exp (-r)) : ℝ) : EReal) :=
      (log_coe _).trans (if_neg (not_le.2 hp))
    rw [e1, e2, ← EReal.coe_add, Real.log_mul h.ne' (Real.exp_pos _).ne', Real.log_exp]
    congr 1; ring

theorem le_bigE {n : ℕ} (g : Fin n → EReal) (x : Fin n) : g x ≤ bigE g := by
  unfold bigE; rw [Finset.le_fold_max]; exact Or.inr ⟨x, Finset.mem_univ _, le_refl _⟩

theorem bigE_top {n : ℕ} (g : Fin n → EReal) : bigE g = ⊤ ↔ ∃ x, g x = ⊤ := by
  constructor
  · intro h
    by_contra hc
    push Not at hc
    have : bigE g < ⊤ := by
      unfold bigE; rw [Finset.fold_max_lt]
      exact ⟨bot_lt_top, fun x _ => lt_top_iff_ne_top.2 (hc x)⟩
    exact this.ne h
  · rintro ⟨x, h⟩
    exact top_le_iff.1 (h ▸ le_bigE g x)

/-- The log of the sum of exponentials through the greatest entry. -/
theorem lseE_eq {n : ℕ} (g : Fin n → EReal) : lseE g = LSE (∃ x, g x = ⊤) (∑ x, eR (g x)) := by
  unfold lseE LSE
  by_cases h : ∃ x, g x = ⊤
  · rw [if_pos h, (bigE_top g).2 h]
    simp only [exp_top_sub, Finset.sum_const_zero, log_zero, EReal.add_bot]
  · rw [if_neg h]
    have ht : bigE g ≠ ⊤ := fun hc => h ((bigE_top g).1 hc)
    have hg : ∀ x, g x ≠ ⊤ := fun x hx => h ⟨x, hx⟩
    by_cases hb : bigE g = ⊥
    · have hz : ∀ x, g x = ⊥ := fun x => le_bot_iff.1 (hb ▸ le_bigE g x)
      rw [hb, EReal.bot_add]
      simp only [hz, eR_bot, Finset.sum_const_zero, EReal.coe_zero, log_zero]
    · obtain ⟨r, hr⟩ : ∃ r : ℝ, bigE g = r := ⟨(bigE g).toReal, (EReal.coe_toReal ht hb).symm⟩
      rw [hr]
      simp only [fun x => exp_sub (g x) (hg x) r]
      rw [sum_coe, ← Finset.sum_mul, add_log r _ (Finset.sum_nonneg fun _ _ => eR_nonneg _)]

/-- What a running maximum and sum hold: of entries whose exponentials sum to `T`, `P` saying that one was infinite. -/
def Run (P : Prop) (T : ℝ) (m s : EReal) : Prop :=
  (P ∧ m = ⊤ ∧ s = 0) ∨ (¬P ∧ 0 ≤ T ∧ ∃ r : ℝ, m = r ∧ s = ((T * Real.exp (-r) : ℝ) : EReal))

theorem Run.nonneg {P : Prop} {T : ℝ} {m s : EReal} (h : Run P T m s) (hP : ¬P) : 0 ≤ T := by
  rcases h with ⟨hp, _⟩ | ⟨_, h, _⟩
  · exact absurd hp hP
  · exact h

/-- Taking in more entries, below a bound that is infinite only where an entry or the maximum is. -/
theorem Run.step_le {n : ℕ} {P : Prop} {T : ℝ} {m s : EReal} (h : Run P T m s) (g : Fin n → EReal) (M : EReal)
    (hm1 : m ≤ M) (hg1 : ∀ x, g x ≤ M) (hM : M = ⊤ → m = ⊤ ∨ ∃ x, g x = ⊤) :
    Run (P ∨ ∃ x, g x = ⊤) (T + ∑ x, eR (g x)) M (s * Ideal.exp (m - M) + ∑ x, Ideal.exp (g x - M)) := by
  by_cases hP : P ∨ ∃ x, g x = ⊤
  · left
    have hMt : M = ⊤ := by
      rcases hP with hp | ⟨x, hx⟩
      · rcases h with ⟨_, hm, _⟩ | ⟨hn, _⟩
        · exact top_le_iff.1 (hm ▸ hm1)
        · exact absurd hp hn
      · exact top_le_iff.1 (hx ▸ hg1 x)
    refine ⟨hP, hMt, ?_⟩
    rw [hMt]
    simp only [exp_top_sub, Finset.sum_const_zero, mul_zero, add_zero]
  · right
    have hP' := hP
    push Not at hP
    obtain ⟨hp, hg⟩ := hP
    rcases h with ⟨hp', _⟩ | ⟨_, hT, r, hm, hs⟩
    · exact absurd hp' hp
    · have hMt : M ≠ ⊤ := fun hc => by
        rcases hM hc with h1 | ⟨x, h1⟩
        · exact EReal.coe_ne_top r (hm ▸ h1)
        · exact hg x h1
      have hMb : M ≠ ⊥ := fun hc => by
        rw [hc, hm] at hm1
        exact (EReal.bot_lt_coe r).not_ge hm1
      obtain ⟨q, hq⟩ : ∃ q : ℝ, M = q := ⟨M.toReal, (EReal.coe_toReal hMt hMb).symm⟩
      refine ⟨hP', add_nonneg hT (Finset.sum_nonneg fun _ _ => eR_nonneg _), q, hq, ?_⟩
      rw [hq, hm, hs, exp_sub _ (EReal.coe_ne_top r) q, eR_coe]
      simp only [fun x => exp_sub (g x) (hg x) q]
      rw [sum_coe, ← EReal.coe_mul, ← EReal.coe_add, ← Finset.sum_mul]
      congr 1
      have : Real.exp (-r) * Real.exp r = 1 := by rw [← Real.exp_add]; simp
      calc T * Real.exp (-r) * (Real.exp r * Real.exp (-q)) + (∑ i, eR (g i)) * Real.exp (-q)
          = T * (Real.exp (-r) * Real.exp r) * Real.exp (-q) + (∑ i, eR (g i)) * Real.exp (-q) := by ring
        _ = _ := by rw [this]; ring

/-- Taking in more entries. -/
theorem Run.step {n : ℕ} {P : Prop} {T : ℝ} {m s : EReal} (h : Run P T m s) (g : Fin n → EReal) (M : EReal) (hM : M = max m (bigE g)) :
    Run (P ∨ ∃ x, g x = ⊤) (T + ∑ x, eR (g x)) M (s * Ideal.exp (m - M) + ∑ x, Ideal.exp (g x - M)) := by
  subst hM
  refine h.step_le g _ (le_max_left _ _) (fun x => (le_bigE g x).trans (le_max_right _ _)) fun hc => ?_
  rcases max_eq_top.1 hc with h1 | h1
  · exact Or.inl h1
  · exact Or.inr ((bigE_top g).1 h1)

/-- Joining the runs of several lanes: the greatest maximum and the sum below it make one run. -/
theorem Run.join {n : ℕ} (hn : 0 < n) {P : Fin n → Prop} {T : Fin n → ℝ} {m s : Fin n → EReal} (h : ∀ i, Run (P i) (T i) (m i) (s i)) :
    Run (∃ i, P i) (∑ i, T i) (bigE m) (∑ i, s i * Ideal.exp (m i - bigE m)) := by
  by_cases hP : ∃ i, P i
  · left
    have hb : bigE m = ⊤ := by
      obtain ⟨i, hi⟩ := hP
      rcases h i with ⟨_, hm, _⟩ | ⟨hn, _⟩
      · exact (bigE_top m).2 ⟨i, hm⟩
      · exact absurd hi hn
    refine ⟨hP, hb, ?_⟩
    rw [hb]
    simp only [exp_top_sub, mul_zero, Finset.sum_const_zero]
  · right
    refine ⟨hP, ?_⟩
    push Not at hP
    have h' : ∀ i, 0 ≤ T i ∧ ∃ r : ℝ, m i = r ∧ s i = ((T i * Real.exp (-r) : ℝ) : EReal) := fun i => by
      rcases h i with ⟨hp, _⟩ | ⟨_, h1, h2⟩
      · exact absurd hp (hP i)
      · exact ⟨h1, h2⟩
    choose hT r hm hs using h'
    have hbt : bigE m ≠ ⊤ := fun hc => by
      obtain ⟨x, hx⟩ := (bigE_top m).1 hc
      rw [hm x] at hx; exact EReal.coe_ne_top _ hx
    have hbb : bigE m ≠ ⊥ := fun hc => by
      have := le_bigE m ⟨0, hn⟩
      rw [hc, hm] at this
      exact (EReal.bot_lt_coe _).not_ge this
    obtain ⟨q, hq⟩ : ∃ q : ℝ, bigE m = q := ⟨(bigE m).toReal, (EReal.coe_toReal hbt hbb).symm⟩
    refine ⟨Finset.sum_nonneg fun i _ => hT i, q, hq, ?_⟩
    rw [hq]
    have e : ∀ i, s i * Ideal.exp (m i - (q : EReal)) = ((T i * Real.exp (-q) : ℝ) : EReal) := by
      intro i
      rw [hs i, hm i, exp_sub _ (EReal.coe_ne_top _) q, eR_coe, ← EReal.coe_mul]
      congr 1
      have : Real.exp (-r i) * Real.exp (r i) = 1 := by rw [← Real.exp_add]; simp
      calc T i * Real.exp (-r i) * (Real.exp (r i) * Real.exp (-q)) = T i * (Real.exp (-r i) * Real.exp (r i)) * Real.exp (-q) := by ring
        _ = _ := by rw [this]; ring
    simp only [e]
    rw [sum_coe, ← Finset.sum_mul]

/-- The maximum plus the logarithm of the sum. -/
theorem Run.lse {P : Prop} {T : ℝ} {m s : EReal} (h : Run P T m s) : m + Ideal.log s = LSE P T := by
  unfold LSE
  rcases h with ⟨hp, hm, hs⟩ | ⟨hp, hT, r, hm, hs⟩
  · rw [if_pos hp, hm, hs, log_zero, EReal.add_bot]
  · rw [if_neg hp, hm, hs, add_log r T hT]

end Cert.KernelIdeal.V

end
-- ==== Proof.V.Step.lean ====
module

public import proofs.«01_k».proof.Proof.V.LogSum
public import proofs.«01_k».proof.Proof.V.Cell

@[expose] public section

/-! One tile's update of an entry's statistics, over the extended reals: the running maximum and sum take in the tile's unmarked logits
of the entry's lane, and the support's logit is picked where its column lies in the tile. -/

set_option maxHeartbeats 400000

noncomputable section

namespace Cert.KernelIdeal.V

open Idealize.ShloMosaic
open Cert.ReferenceIdeal.V (bigE lseE)

section Select
variable {α : Type}

theorem sel_eq (a b : BitVec 32) (x y : α) : Scalar.select (Scalar.cmpi .eq a b) x y = if a = b then x else y := by
  unfold Scalar.select Scalar.cmpi IntOp.cmpi
  by_cases h : a = b
  · simp [h]
  · have e : (a == b) = false := beq_eq_false_iff_ne.2 h
    simp [h, e]

theorem sel_ne (a b : BitVec 32) (x y : α) : Scalar.select (Scalar.cmpi .ne a b) x y = if a ≠ b then x else y := by
  unfold Scalar.select Scalar.cmpi IntOp.cmpi
  by_cases h : a = b
  · simp [h]
  · have e : (a != b) = true := bne_iff_ne.2 h
    simp [h, e]
end Select

theorem supC_hit (c : Fin 10) (z : Fin 10 → EReal) (s : EReal) : supC (F := Ideal) (BitVec.ofNat 32 c.val) z s = z c := by
  unfold supC
  simp only [sel_eq]
  fin_cases c <;> simp

theorem supC_miss (hi : BitVec 32) (h : ∀ c : Fin 10, hi ≠ BitVec.ofNat 32 c.val) (z : Fin 10 → EReal) (s : EReal) :
    supC (F := Ideal) hi z s = s := by
  unfold supC
  simp only [sel_eq]
  have h' : ∀ (b : BitVec 32) (c : Fin 10), b = BitVec.ofNat 32 c.val → hi ≠ b := fun b c hb => hb ▸ h c
  rw [if_neg (h' 9#32 9 rfl), if_neg (h' 8#32 8 rfl), if_neg (h' 7#32 7 rfl), if_neg (h' 6#32 6 rfl), if_neg (h' 5#32 5 rfl), if_neg (h' 4#32 4 rfl), if_neg (h' 3#32 3 rfl), if_neg (h' 2#32 2 rfl), if_neg (h' 1#32 1 rfl), if_neg (h' 0#32 0 rfl)]

/-- A logit, masked where its bit is set. -/
def maskE (w : BitVec 32) (c : Fin 10) (z : EReal) : EReal := open Classical in if w &&& BitVec.ofNat 32 (2 ^ c.val) ≠ 0#32 then ⊥ else z

theorem maskC_eq (w b : BitVec 32) (c : Fin 10) (h : b = BitVec.ofNat 32 (2 ^ c.val)) (z : EReal) : maskC (F := Ideal) w b z = maskE w c z := by
  unfold maskC maskE
  rw [sel_ne, ← h]
  by_cases hw : w &&& b ≠ 0#32
  · rw [if_pos hw, if_pos hw]; exact Cert.ReferenceIdeal.V.ninf_bits
  · rw [if_neg hw, if_neg hw]

theorem maxC_mask (w : BitVec 32) (m : EReal) (z : Fin 10 → EReal) :
    maxC (F := Ideal) w m z = max (max (max (max (max (max (max (max (max (max m (maskE w 0 (z 0))) (maskE w 1 (z 1))) (maskE w 2 (z 2))) (maskE w 3 (z 3))) (maskE w 4 (z 4))) (maskE w 5 (z 5))) (maskE w 6 (z 6))) (maskE w 7 (z 7))) (maskE w 8 (z 8))) (maskE w 9 (z 9)) := by
  unfold maxC
  rw [maskC_eq w 1#32 0 (by decide), maskC_eq w 2#32 1 (by decide), maskC_eq w 4#32 2 (by decide), maskC_eq w 8#32 3 (by decide), maskC_eq w 16#32 4 (by decide), maskC_eq w 32#32 5 (by decide), maskC_eq w 64#32 6 (by decide), maskC_eq w 128#32 7 (by decide), maskC_eq w 256#32 8 (by decide), maskC_eq w 512#32 9 (by decide)]
  rfl

theorem max_ten (m : EReal) (g : Fin 10 → EReal) :
    max (max (max (max (max (max (max (max (max (max m (g 0)) (g 1)) (g 2)) (g 3)) (g 4)) (g 5)) (g 6)) (g 7)) (g 8)) (g 9) = max m (bigE g) := by
  refine eq_of_forall_ge_iff fun x => ?_
  unfold bigE
  simp only [max_le_iff, Finset.fold_max_le, bot_le, true_and, Finset.mem_univ, forall_true_left]
  constructor
  · rintro ⟨⟨⟨⟨⟨⟨⟨⟨⟨⟨hm, h0⟩, h1⟩, h2⟩, h3⟩, h4⟩, h5⟩, h6⟩, h7⟩, h8⟩, h9⟩
    exact ⟨hm, fun c => by fin_cases c <;> assumption⟩
  · rintro ⟨hm, h⟩
    exact ⟨⟨⟨⟨⟨⟨⟨⟨⟨⟨hm, h 0⟩, h 1⟩, h 2⟩, h 3⟩, h 4⟩, h 5⟩, h 6⟩, h 7⟩, h 8⟩, h 9⟩

theorem sum_ten (a : EReal) (g : Fin 10 → EReal) :
    a + g 0 + g 1 + g 2 + g 3 + g 4 + g 5 + g 6 + g 7 + g 8 + g 9 = a + ∑ c, g c := by
  simp only [Fin.sum_univ_succ, Fin.sum_univ_zero, add_assoc, add_zero]
  rfl

theorem maxC_eq (w : BitVec 32) (m : EReal) (z : Fin 10 → EReal) : maxC (F := Ideal) w m z = max m (bigE fun c => maskE w c (z c)) :=
  (maxC_mask w m z).trans (max_ten m fun c => maskE w c (z c))

theorem sumC_eq (w : BitVec 32) (m s : EReal) (z : Fin 10 → EReal) :
    sumC (F := Ideal) w m s z = s * Ideal.exp (m - maxC (F := Ideal) w m z) + ∑ c, Ideal.exp (maskE w c (z c) - maxC (F := Ideal) w m z) := by
  refine Eq.trans ?_ (sum_ten _ fun c => Ideal.exp (maskE w c (z c) - maxC (F := Ideal) w m z))
  unfold sumC
  generalize maxC (F := Ideal) w m z = M
  rw [maskC_eq w 1#32 0 (by decide), maskC_eq w 2#32 1 (by decide), maskC_eq w 4#32 2 (by decide), maskC_eq w 8#32 3 (by decide), maskC_eq w 16#32 4 (by decide), maskC_eq w 32#32 5 (by decide), maskC_eq w 64#32 6 (by decide), maskC_eq w 128#32 7 (by decide), maskC_eq w 256#32 8 (by decide), maskC_eq w 512#32 9 (by decide)]
  rfl

/-- The running maximum and sum after a tile. -/
theorem run_step {P : Prop} {T : ℝ} {m s : EReal} (h : Run P T m s) (w : BitVec 32) (z : Fin 10 → EReal) :
    Run (P ∨ ∃ c, maskE w c (z c) = ⊤) (T + ∑ c, eR (maskE w c (z c))) (maxC (F := Ideal) w m z) (sumC (F := Ideal) w m s z) := by
  rw [sumC_eq]
  exact h.step (fun c => maskE w c (z c)) _ (maxC_eq w m z)

/-! ### Words -/

theorem and_pow (x : BitVec 32) (c : ℕ) (hc : c < 32) : x &&& BitVec.ofNat 32 (2 ^ c) ≠ 0#32 ↔ x.getLsbD c = true := by
  have e : BitVec.ofNat 32 (2 ^ c) = BitVec.twoPow 32 c := by
    apply BitVec.eq_of_toNat_eq
    rw [BitVec.toNat_ofNat, BitVec.toNat_twoPow]
  rw [e, BitVec.and_twoPow]
  cases h : x.getLsbD c
  · simp
  · simp only [if_true, iff_true]
    intro hh
    have := congrArg (fun v => BitVec.getLsbD v c) hh
    simp [hc] at this

theorem and_one (x : BitVec 32) : x &&& 1#32 ≠ 0#32 ↔ x.getLsbD 0 = true := and_pow x 0 (by decide)

/-- Bit `c` of a word shifted by `s` is bit `s + c` of the word. -/
theorem bit_at (x : BitVec 32) (s c : ℕ) (hs : s < 32) (hc : c < 32) (h : s + c < 32) :
    (Scalar.shrui x (BitVec.ofNat 32 s)) &&& BitVec.ofNat 32 (2 ^ c) ≠ 0#32 ↔
      IntOp.andi (IntOp.shrui .host x (BitVec.ofNat 32 (s + c))) 1#32 ≠ 0#32 := by
  have e1 : Scalar.shrui x (BitVec.ofNat 32 s) = x >>> s := by
    unfold Scalar.shrui
    simp [IntOp.shrui, Nat.mod_eq_of_lt (show s < 4294967296 by omega), hs]
  have e2 : IntOp.shrui .host x (BitVec.ofNat 32 (s + c)) = x >>> (s + c) := by
    simp [IntOp.shrui, Nat.mod_eq_of_lt (show s + c < 4294967296 by omega), h]
  rw [e1, e2, and_pow _ c hc]
  show _ ↔ (x >>> (s + c)) &&& 1#32 ≠ 0#32
  rw [and_one]
  simp [BitVec.getLsbD_ushiftRight]

/-- The lane of a column number. -/
theorem lane_of (n : ℕ) (hn : n < 32000) : laneC (IntOp.andi (BitVec.ofNat 32 n) 127#32) = ⟨n % 128, Nat.mod_lt _ (by decide)⟩ := by
  have e : (IntOp.andi (BitVec.ofNat 32 n) 127#32).toNat = n % 128 := by
    show (BitVec.ofNat 32 n &&& 127#32).toNat = _
    rw [BitVec.toNat_and, BitVec.toNat_ofNat, Nat.mod_eq_of_lt (show n < 2 ^ 32 by omega)]
    exact Nat.and_two_pow_sub_one_eq_mod n 7
  generalize IntOp.andi (BitVec.ofNat 32 n) 127#32 = v at e
  have hlt : v.toNat < 128 := by omega
  have hs : BitVec.slt v 0#32 = false := by
    simp only [BitVec.slt, BitVec.toInt_eq_toNat_cond]; simp; omega
  unfold laneC
  apply Fin.ext
  show (Scalar.select (Scalar.cmpi .slt v 0#32) (v + 128#32) v).toNat % 128 = n % 128
  have : Scalar.cmpi .slt v 0#32 = 0#1 := by
    unfold Scalar.cmpi IntOp.cmpi; simp [hs]
  rw [this]
  show v.toNat % 128 = _
  rw [e]; omega

/-- The block of 128 columns of a column number. -/
theorem block_of (n : ℕ) (hn : n < 32000) : IntOp.shrui .vector (BitVec.ofNat 32 n) 7#32 = BitVec.ofNat 32 (n / 128) := by
  apply BitVec.eq_of_toNat_eq
  have : IntOp.shrui .vector (BitVec.ofNat 32 n) 7#32 = BitVec.ofNat 32 n >>> 7 := if_pos (by decide)
  rw [this, BitVec.toNat_ushiftRight, BitVec.toNat_ofNat, BitVec.toNat_ofNat, Nat.mod_eq_of_lt (show n < 2 ^ 32 by omega), Nat.shiftRight_eq_div_pow,
    Nat.mod_eq_of_lt (show n / 128 < 2 ^ 32 by omega)]

/-- A block number less a tile's first is a block of the tile only where it lies in the tile. -/
theorem block_sub (q t c : ℕ) (hq : q < 250) (ht : t < 25) (hc : c < 10) :
    BitVec.ofNat 32 q - BitVec.ofNat 32 (10 * t) = BitVec.ofNat 32 c ↔ q = 10 * t + c := by
  constructor
  · intro h
    have h' : BitVec.ofNat 32 q = BitVec.ofNat 32 c + BitVec.ofNat 32 (10 * t) := by rw [← h, BitVec.sub_add_cancel]
    have := congrArg BitVec.toNat h'
    simp only [BitVec.toNat_add, BitVec.toNat_ofNat] at this
    omega
  · rintro rfl
    apply BitVec.eq_of_toNat_eq
    simp only [BitVec.toNat_sub, BitVec.toNat_ofNat]
    omega

end Cert.KernelIdeal.V

end
-- ==== Proof.V.FinishAt.lean ====
module

public import proofs.«01_k».proof.Proof.V.LogSum
public import proofs.«01_k».proof.Proof.V.Finish

@[expose] public section

/-! The last step's rowwise results, entry by entry: a row's 128 lanes are joined, and the support's logits added. -/

set_option maxHeartbeats 400000

noncomputable section

namespace Cert.KernelIdeal.V

open Cert.KernelIdeal.Gen Idealize.ShloMosaic
open Cert.ReferenceIdeal.V (bigE lseE ninf_bits)

section Any
variable {F : FTy → Type} [FloatOps F]

/-- The greatest of each row, along its lanes. -/
def bigV (z : FVec F S128x128 .f32) : FVec F S128x128 .f32 :=
  broadcastTo S128x128 (shapeCast S128x1 (shapeCast S128x1 (multiReduction .maximumf [1] S128 z 0xFF800000#32 reduces_S128x128_S128 (.inl rfl) rfl) shapeCasts_S128_S128x1) shapeCasts_S128x1_S128x1) broadcasts_S128x1_S128x128

/-- The sum of each row, along its lanes. -/
def totV (z : FVec F S128x128 .f32) : FVec F S128x128 .f32 :=
  broadcastTo S128x128 (shapeCast S128x1 (shapeCast S128x1 (multiReduction .add [1] S128 z 0x00000000#32 reduces_S128x128_S128 (.inl rfl) rfl) shapeCasts_S128_S128x1) shapeCasts_S128x1_S128x1) broadcasts_S128x1_S128x128

/-- The support's logits, far below past the fifty. -/
def padV (u : FVec F S128x128 .f32) : FVec F S128x128 .f32 := select k0_pay8 u (broadcast S128x128 (Scalar.ofBits .f32 0xFF61B1E6#32))

/-- Exponentials of the support's logits below `b`, zero past the fifty. -/
def padExpV (u b : FVec F S128x128 .f32) : FVec F S128x128 .f32 := select k0_pay8 (exp (subf u b)) (broadcast S128x128 (Scalar.ofBits .f32 0x00000000#32))

/-- Sums `s` below `m` brought below `b`. -/
def downV (m s b : FVec F S128x128 .f32) : FVec F S128x128 .f32 := mulf s (exp (subf m b))

/-- The bound plus the logarithm of the sum. -/
def plusLogV (b t : FVec F S128x128 .f32) : FVec F S128x128 .f32 := addf b (log t)

theorem pay187_eq (M S : Vec F S128x128 .f32) : k0_pay187 M S = plusLogV (bigV M) (totV (downV M S (bigV M))) := rfl

theorem pay188_eq (M S U : Vec F S128x128 .f32) : k0_pay188 k0_pay8 M S U =
    plusLogV (maximumf (bigV M) (bigV (padV U)))
      (addf (downV (bigV M) (totV (downV M S (bigV M))) (maximumf (bigV M) (bigV (padV U)))) (totV (padExpV (padV U) (maximumf (bigV M) (bigV (padV U)))))) := rfl

/-- Three columns side by side, turned to rows. -/
def turnV (a b d : FVec F S128x128 .f32) : FVec F S128x128 .f32 := k0_pay196 lanesW a b d

theorem lseB_eq (M S U : Vec F S128x128 .f32) (P : Vec F S128x50 .bf16) : ∃ d, lseB lanesW M S U P =
    extractStridedSlice S1x128 ![1, 0] (turnV (k0_pay187 M S) (k0_pay188 k0_pay8 M S U) d) slices_S128x128_o1_0_S1x128 := ⟨_, rfl⟩

theorem restB_eq (M S U : Vec F S128x128 .f32) (P : Vec F S128x50 .bf16) : ∃ d, restB lanesW M S U P =
    extractStridedSlice S1x128 ![2, 0] (turnV (k0_pay187 M S) (k0_pay188 k0_pay8 M S U) d) slices_S128x128_o2_0_S1x128 := ⟨_, rfl⟩

end Any

theorem valid_at (r l : Fin 128) : k0_pay8 (ix2 r l) = if l.val < 50 then 1#1 else 0#1 := by
  have h : ∀ l : Fin 128, IntOp.cmpi .slt (BitVec.ofNat 32 l.val) 50#32 = if l.val < 50 then 1#1 else 0#1 := by decide +kernel
  refine Eq.trans ?_ (h l)
  pointwise [k0_pay8]

theorem bigV_at (z : FVec Ideal S128x128 .f32) (r l : Fin 128) : bigV z (ix2 r l) = bigE (fun x => (z (ix2 r x) : EReal)) := by
  unfold bigV
  pointwise []
  rw [ninf_bits]
  rfl

theorem totV_at (z : FVec Ideal S128x128 .f32) (r l : Fin 128) : totV z (ix2 r l) = (∑ x : Fin 128, (z (ix2 r x) : EReal) : EReal) := by
  unfold totV
  pointwise []

/-- The number the support's logits are padded with. -/
def farE : EReal := Ideal.ofBits .f32 0xFF61B1E6#32

theorem padV_at (u : FVec Ideal S128x128 .f32) (r l : Fin 128) : padV u (ix2 r l) = (if l.val < 50 then (u (ix2 r l) : EReal) else farE : EReal) := by
  have h : padV u (ix2 r l) = Scalar.select (k0_pay8 (ix2 r l)) (u (ix2 r l)) (Ideal.ofBits .f32 0xFF61B1E6#32) := rfl
  rw [h, valid_at]
  by_cases hl : l.val < 50
  · rw [if_pos hl, if_pos hl]; rfl
  · rw [if_neg hl, if_neg hl]; rfl

theorem downV_at (m s b : FVec Ideal S128x128 .f32) (r l : Fin 128) :
    downV m s b (ix2 r l) = (s (ix2 r l) * Ideal.exp ((m (ix2 r l) : EReal) - b (ix2 r l)) : EReal) := by
  unfold downV
  pointwise []

theorem plusLogV_at (b t : FVec Ideal S128x128 .f32) (r l : Fin 128) :
    plusLogV b t (ix2 r l) = (b (ix2 r l) + Ideal.log (t (ix2 r l)) : EReal) := by
  unfold plusLogV
  pointwise []

theorem padExpV_at (u b : FVec Ideal S128x128 .f32) (r l : Fin 128) :
    padExpV u b (ix2 r l) = (if l.val < 50 then Ideal.exp ((u (ix2 r l) : EReal) - b (ix2 r l)) else 0 : EReal) := by
  have h : padExpV u b (ix2 r l) = Scalar.select (k0_pay8 (ix2 r l)) (Ideal.exp ((u (ix2 r l) : EReal) - b (ix2 r l))) (Ideal.ofBits .f32 0x00000000#32) := rfl
  rw [h, valid_at]
  by_cases hl : l.val < 50
  · rw [if_pos hl, if_pos hl]; rfl
  · rw [if_neg hl, if_neg hl]
    show Ideal.ofBits .f32 0x00000000#32 = 0
    show Ideal.ieee 8 23 (0x00000000#32) = _
    unfold Ideal.ieee
    simp

theorem turn_at1 (a b d : FVec Ideal S128x128 .f32) (l : Fin 128) :
    extractStridedSlice S1x128 ![1, 0] (turnV a b d) slices_S128x128_o1_0_S1x128 (ix2 (0 : Fin 1) l) = b (ix2 l 1) := by
  unfold turnV lanesW
  pointwise [k0_pay196]
  rfl

theorem turn_at2 (a b d : FVec Ideal S128x128 .f32) (l : Fin 128) :
    extractStridedSlice S1x128 ![2, 0] (turnV a b d) slices_S128x128_o2_0_S1x128 (ix2 (0 : Fin 1) l) = a (ix2 l 2) := by
  unfold turnV lanesW
  pointwise [k0_pay196]
  rfl

end Cert.KernelIdeal.V

end
-- ==== Proof.V.Logit.lean ====
module

public import proofs.«01_k».proof.Proof.V.RefAt
public import proofs.«01_k».proof.Proof.V.Spec

@[expose] public section

/-! One logit of the kernel: the sum over the features of the token times the widened weight. -/

set_option maxHeartbeats 400000

noncomputable section

namespace Cert.KernelIdeal.V

open Cert.KernelIdeal.Gen Idealize.ShloMosaic
open Cert.ReferenceIdeal.V (zE)

theorem zB_at (a : Vec Ideal S512x1024 .bf16) (b : Vec Ideal S1280x1024 .bf16) (r : Fin 512) (v : Fin 1280) :
    zB a b (ix2 r v) = (∑ x : Fin 1024, a (ix2 r x) * b (ix2 v x) : EReal) := by
  unfold zB
  pointwise [k0_pay239]

theorem wideV_at (w : Vec Ideal S1280x1024 .fp8e4m3) (s : Vec Ideal S1280x8 .f32) (v : Fin 1280) (x : Fin 1024) :
    wideV w s (ix2 v x) = (w (ix2 v x) * s (ix2 v ⟨x.val / 128, by omega⟩) : EReal) := rfl

theorem zV_at (xb : Vec Ideal S1536x1024 .bf16) (w : Vec Ideal S1280x1024 .fp8e4m3) (s : Vec Ideal S1280x8 .f32) (r : Fin 1536) (v : Fin 1280) :
    zV xb (wideV w s) r v = zE (fun x => xb (ix2 r x)) (fun x => w (ix2 v x)) (fun x => s (ix2 v ⟨x.val / 128, by omega⟩)) := by
  refine (zB_at (rowsZ xb ⟨r.val / 512, by omega⟩) (wideV w s) ⟨r.val % 512, by omega⟩ v).trans ?_
  unfold zE
  refine Finset.sum_congr rfl fun x _ => ?_
  rw [wideV_at]
  have e : rowsZ xb ⟨r.val / 512, by omega⟩ (ix2 ⟨r.val % 512, by omega⟩ x) = xb (ix2 r x) := by
    unfold rowsZ
    refine congrArg (fun q : Fin 1536 => xb (ix2 q x)) (Fin.ext ?_)
    show 512 * (r.val / 512) + r.val % 512 = r.val
    omega
  rw [e]

end Cert.KernelIdeal.V

end
-- ==== Proof.V.Sweep.lean ====
module

public import proofs.«01_k».proof.Proof.V.Step
public import proofs.«01_k».proof.Proof.V.FinishAt
public import proofs.«01_k».proof.Proof.V.Logit
public import proofs.«01_k».proof.Proof.V.Frame

@[expose] public section

/-! The sweep over the tiles: what the running statistics hold after each. -/

set_option maxHeartbeats 400000

noncomputable section

namespace Cert.KernelIdeal.V

open Cert.KernelIdeal.Gen Idealize.ShloMosaic
open Cert.ReferenceIdeal.V (bigE lseE)

/-- Column `n` is in row `r`'s support. -/
def Marked (ids : Vec Ideal S1536x50 .i32) (r : Fin 1536) (n : ℕ) : Prop := ∃ j : Fin 50, ids (ix2 r j) = BitVec.ofNat 32 n

/-- A row's logits with its support masked. -/
def restE (Z : Fin 1536 → ℕ → EReal) (ids : Vec Ideal S1536x50 .i32) (r : Fin 1536) (n : ℕ) : EReal := open Classical in if Marked ids r n then ⊥ else Z r n

/-- An entry of lane `l` in the first `t` tiles is infinite. -/
def topT (g : ℕ → EReal) (l t : ℕ) : Prop := ∃ t' < t, ∃ c : Fin 10, g (1280 * t' + 128 * c.val + l) = ⊤

/-- The exponentials of lane `l` in the first `t` tiles. -/
def sumT (g : ℕ → EReal) (l t : ℕ) : ℝ := ∑ t' ∈ Finset.range t, ∑ c : Fin 10, eR (g (1280 * t' + 128 * c.val + l))

theorem topT_succ (g : ℕ → EReal) (l t : ℕ) : topT g l (t + 1) ↔ topT g l t ∨ ∃ c : Fin 10, g (1280 * t + 128 * c.val + l) = ⊤ := by
  unfold topT
  constructor
  · rintro ⟨t', h, c, hc⟩
    rcases Nat.lt_succ_iff_lt_or_eq.1 h with h | h
    · exact Or.inl ⟨t', h, c, hc⟩
    · subst h; exact Or.inr ⟨c, hc⟩
  · rintro (⟨t', h, c, hc⟩ | ⟨c, hc⟩)
    · exact ⟨t', by omega, c, hc⟩
    · exact ⟨t, by omega, c, hc⟩

theorem sumT_succ (g : ℕ → EReal) (l t : ℕ) : sumT g l (t + 1) = sumT g l t + ∑ c : Fin 10, eR (g (1280 * t + 128 * c.val + l)) := by
  unfold sumT
  rw [Finset.sum_range_succ]

/-- What the statistics hold after `t` tiles. -/
structure Inv (Z : Fin 1536 → ℕ → EReal) (ids : Vec Ideal S1536x50 .i32) (t : ℕ) (p : St Ideal) : Prop where
  run : ∀ (r : Fin 1536) (l : Fin 128), Run (topT (restE Z ids r) l.val t) (sumT (restE Z ids r) l.val t) (p.m (ix2 r l)) (p.s (ix2 r l))
  sup : ∀ (r : Fin 1536) (j : Fin 50) (n : ℕ), n < 32000 → ids (ix2 r j) = BitVec.ofNat 32 n → n < 1280 * t → p.sup (ix2 r ⟨j.val, by omega⟩) = Z r n

theorem far_real : ∃ q : ℝ, farE = (q : EReal) := by
  unfold farE
  show ∃ q : ℝ, Ideal.ieee 8 23 (0xFF61B1E6#32) = (q : EReal)
  unfold Ideal.ieee
  simp
  exact ⟨_, rfl⟩

theorem zero_bits : Ideal.ofBits .f32 0x00000000#32 = 0 := by
  show Ideal.ieee 8 23 (0x00000000#32) = _
  unfold Ideal.ieee
  simp

theorem inv_init (Z : Fin 1536 → ℕ → EReal) (ids : Vec Ideal S1536x50 .i32) (x0 : Vec Ideal S1536x1024 .bf16) (x4 : Vec Ideal S1536x50 .i32) :
    Inv Z ids 0 (initSt x0 x4) where
  run r l := by
    right
    obtain ⟨q, hq⟩ := far_real
    refine ⟨?_, ?_, q, ?_, ?_⟩
    · rintro ⟨t', h, _⟩; omega
    · unfold sumT; simp
    · rw [← hq]; rfl
    · unfold sumT
      simp only [Finset.range_zero, Finset.sum_empty, zero_mul, EReal.coe_zero]
      exact zero_bits
  sup r j n _ _ h := by omega

theorem shC_eq (t : Fin cfg0.N) : shC (grid0.coords t) = BitVec.ofNat 32 (t.val % 3 * 10) :=
  (by decide +kernel : ∀ t : Fin grid0.N, shC (grid0.coords t) = BitVec.ofNat 32 (t.val % 3 * 10)) t

theorem fcC_eq (t : Fin cfg0.N) : fcC (grid0.coords t) = BitVec.ofNat 32 (10 * t.val) :=
  (by decide +kernel : ∀ t : Fin grid0.N, fcC (grid0.coords t) = BitVec.ofNat 32 (10 * t.val)) t

theorem inv_step (Z : Fin 1536 → ℕ → EReal) (ids : Vec Ideal S1536x50 .i32) (t : Fin cfg0.N) (p : St Ideal)
    (x1 : Vec Ideal S1280x1024 .fp8e4m3) (x2 : Vec Ideal S1280x8 .f32) (x3 : Vec Ideal S1x1536x128 .i32)
    (hz : ∀ (r : Fin 1536) (v : Fin 1280), zV p.xbf (wideV x1 x2) r v = Z r (1280 * t.val + v.val))
    (hw : ∀ (r : Fin 1536) (c : Fin 10) (l : Fin 128), (IntOp.andi (IntOp.shrui .host (x3 (ix3 (0 : Fin 1) r l)) (BitVec.ofNat 32 (t.val % 3 * 10 + c.val))) 1#32 ≠ 0#32
      ↔ Marked ids r (1280 * t.val + 128 * c.val + l.val)))
    (hlo : p.lo = loV (F := Ideal) ids) (hhi : p.hi = hiV (F := Ideal) ids) (h : Inv Z ids t.val p) :
    Inv Z ids (t.val + 1) (sweepSt (grid0.coords t) x1 x2 x3 p) where
  run r l := by
    have hN : t.val < 25 := lt_of_lt_of_eq t.isLt N_0
    have hs := run_step (h.run r l) (Scalar.shrui (x3 (ix3 (0 : Fin 1) r l)) (shC (grid0.coords t))) (fun c => zV p.xbf (wideV x1 x2) r (col c l))
    have hm : ∀ c : Fin 10, maskE (Scalar.shrui (x3 (ix3 (0 : Fin 1) r l)) (shC (grid0.coords t))) c (zV p.xbf (wideV x1 x2) r (col c l))
        = restE Z ids r (1280 * t.val + 128 * c.val + l.val) := by
      intro c
      unfold maskE restE
      have hb : (Scalar.shrui (x3 (ix3 (0 : Fin 1) r l)) (shC (grid0.coords t)) &&& BitVec.ofNat 32 (2 ^ c.val) ≠ 0#32) ↔ Marked ids r (1280 * t.val + 128 * c.val + l.val) := by
        rw [shC_eq, ← hw r c l]
        exact bit_at _ _ _ (by omega) (by omega) (by omega)
      have hv : zV p.xbf (wideV x1 x2) r (col c l) = Z r (1280 * t.val + 128 * c.val + l.val) := by
        rw [hz]; congr 1; show 1280 * t.val + (128 * c.val + l.val) = _; omega
      by_cases hk : Marked ids r (1280 * t.val + 128 * c.val + l.val)
      · rw [if_pos hk, if_pos (hb.2 hk)]
      · rw [if_neg hk, if_neg (fun hc => hk (hb.1 hc)), hv]
    simp only [hm] at hs
    rw [← topT_succ, ← sumT_succ] at hs
    exact hs
  sup r j n hn hj hlt := by
    have hN : t.val < 25 := lt_of_lt_of_eq t.isLt N_0
    have hlo' : p.lo (ix2 r (⟨j.val, by omega⟩ : Fin 128)) = IntOp.andi (BitVec.ofNat 32 n) 127#32 := by
      rw [hlo, ← hj]; unfold loV; exact (dif_pos j.isLt).trans rfl
    have hhi' : p.hi (ix2 r (⟨j.val, by omega⟩ : Fin 128)) = BitVec.ofNat 32 (n / 128) := by
      rw [hhi, ← block_of n hn, ← hj]; unfold hiV; exact (dif_pos j.isLt).trans rfl
    show supC (F := Ideal) (p.hi (ix2 r (⟨j.val, by omega⟩ : Fin 128)) - fcC (grid0.coords t))
      (fun c => zV p.xbf (wideV x1 x2) r (col c (laneC (p.lo (ix2 r (⟨j.val, by omega⟩ : Fin 128)))))) (p.sup (ix2 r (⟨j.val, by omega⟩ : Fin 128))) = _
    rw [hlo', hhi', fcC_eq, lane_of n hn]
    by_cases hc : 10 * t.val ≤ n / 128
    · have hc' : n / 128 = 10 * t.val + (⟨n / 128 - 10 * t.val, by omega⟩ : Fin 10).val := by show _ = 10 * t.val + (n / 128 - 10 * t.val); omega
      rw [(block_sub (n / 128) t.val (⟨n / 128 - 10 * t.val, by omega⟩ : Fin 10).val (by omega) hN (Fin.isLt _)).2 hc', supC_hit, hz]
      congr 1
      show 1280 * t.val + (128 * (n / 128 - 10 * t.val) + n % 128) = n
      omega
    · rw [supC_miss]
      · exact h.sup r j n hn hj (by omega)
      · intro c hc2
        have := (block_sub (n / 128) t.val c.val (by omega) hN c.isLt).1 hc2
        omega

end Cert.KernelIdeal.V

end
-- ==== Proof.V.Total.lean ====
module

public import proofs.«01_k».proof.Proof.V.Sweep

@[expose] public section

/-! Sums over all columns from sums over lanes and tiles, and the whole normaliser from the rest's and the support's. -/

set_option maxHeartbeats 400000

noncomputable section

namespace Cert.KernelIdeal.V

open Cert.KernelIdeal.Gen Idealize.ShloMosaic
open Cert.ReferenceIdeal.V (bigE lseE)

/-- A column is a lane of a block of a tile. -/
def splitCol : Fin 128 × Fin 25 × Fin 10 ≃ Fin 32000 where
  toFun q := ⟨1280 * q.2.1.val + 128 * q.2.2.val + q.1.val, by have := q.1.isLt; have := q.2.1.isLt; have := q.2.2.isLt; omega⟩
  invFun n := (⟨n.val % 128, by omega⟩, ⟨n.val / 1280, by omega⟩, ⟨n.val % 1280 / 128, by omega⟩)
  left_inv := by
    rintro ⟨a, b, c⟩
    refine Prod.ext (Fin.ext ?_) (Prod.ext (Fin.ext ?_) (Fin.ext ?_)) <;> dsimp only <;> omega
  right_inv n := Fin.ext (by dsimp only; omega)

theorem sum_lanes (g : ℕ → EReal) : ∑ l : Fin 128, sumT g l.val 25 = ∑ n : Fin 32000, eR (g n.val) := by
  rw [← Equiv.sum_comp splitCol, Fintype.sum_prod_type]
  refine Finset.sum_congr rfl fun l _ => ?_
  rw [Fintype.sum_prod_type]
  unfold sumT
  rw [Finset.sum_range]
  rfl

theorem top_lanes (g : ℕ → EReal) : (∃ l : Fin 128, topT g l.val 25) ↔ ∃ n : Fin 32000, g n.val = ⊤ := by
  constructor
  · rintro ⟨l, t, ht, c, h⟩
    exact ⟨splitCol (l, ⟨t, ht⟩, c), h⟩
  · rintro ⟨n, h⟩
    refine ⟨⟨n.val % 128, by omega⟩, n.val / 1280, by omega, ⟨n.val % 1280 / 128, by omega⟩, ?_⟩
    rw [show 1280 * (n.val / 1280) + 128 * (n.val % 1280 / 128) + n.val % 128 = n.val by omega]
    exact h

/-- A sum over the lanes of a row that is zero past the fifty. -/
theorem sum_pad {α : Type} [AddCommMonoid α] (f : Fin 128 → α) : (∑ x : Fin 128, if x.val < 50 then f x else 0) = ∑ j : Fin 50, f ⟨j.val, by omega⟩ := by
  refine (Fin.sum_univ_add (a := 50) (b := 78) fun x : Fin (50 + 78) => if x.val < 50 then f x else 0).trans ?_
  have h2 : ∀ j : Fin 78, (if (Fin.natAdd 50 j).val < 50 then f (Fin.natAdd 50 j) else 0) = 0 := fun j => if_neg (by simp)
  rw [Finset.sum_congr rfl (fun j _ => h2 j), Finset.sum_const_zero, add_zero]
  exact Finset.sum_congr rfl fun j _ => if_pos j.isLt

/-- Adding the support's entries to a run, below a bound kept finite from below. -/
theorem Run.support {P : Prop} {T : ℝ} {m s : EReal} (h : Run P T m s) (u : Fin 128 → EReal) (M : EReal)
    (hM : M = max m (bigE fun x : Fin 128 => if x.val < 50 then u x else farE)) :
    M + Ideal.log (s * Ideal.exp (m - M) + ∑ x : Fin 128, if x.val < 50 then Ideal.exp ((if x.val < 50 then u x else farE) - M) else 0)
      = LSE (P ∨ ∃ j : Fin 50, u ⟨j.val, by omega⟩ = ⊤) (T + ∑ j : Fin 50, eR (u ⟨j.val, by omega⟩)) := by
  have hs := h.step_le (fun j : Fin 50 => u ⟨j.val, by omega⟩) M (hM ▸ le_max_left _ _)
    (fun j => by
      have := le_bigE (fun x : Fin 128 => if x.val < 50 then u x else farE) ⟨j.val, by omega⟩
      rw [if_pos j.isLt] at this
      exact this.trans (hM ▸ le_max_right _ _))
    (fun hc => by
      rw [hM] at hc
      rcases max_eq_top.1 hc with h1 | h1
      · exact Or.inl h1
      · obtain ⟨x, hx⟩ := (bigE_top _).1 h1
        by_cases hl : x.val < 50
        · rw [if_pos hl] at hx; exact Or.inr ⟨⟨x.val, hl⟩, hx⟩
        · rw [if_neg hl] at hx
          obtain ⟨q, hq⟩ := far_real
          exact absurd (hq ▸ hx) (EReal.coe_ne_top q))
  rw [← hs.lse]
  have e : (∑ x : Fin 128, if x.val < 50 then Ideal.exp ((if x.val < 50 then u x else farE) - M) else 0) = ∑ j : Fin 50, Ideal.exp (u ⟨j.val, by omega⟩ - M) := by
    rw [sum_pad fun x : Fin 128 => Ideal.exp ((if x.val < 50 then u x else farE) - M)]
    exact Finset.sum_congr rfl fun j _ => by rw [if_pos j.isLt]
  rw [e]

/-- The normaliser over all columns, from the columns outside the support and the support's own. -/
theorem split_lse (z : Fin 32000 → EReal) (n : Fin 50 → Fin 32000) (hn : Function.Injective n) (g : Fin 32000 → EReal)
    (hg1 : ∀ x, (∃ j, n j = x) → g x = ⊥) (hg2 : ∀ x, (¬∃ j, n j = x) → g x = z x) :
    LSE ((∃ x, g x = ⊤) ∨ ∃ j, z (n j) = ⊤) ((∑ x, eR (g x)) + ∑ j, eR (z (n j))) = LSE (∃ x, z x = ⊤) (∑ x, eR (z x)) := by
  classical
  have hP : ((∃ x, g x = ⊤) ∨ ∃ j, z (n j) = ⊤) ↔ ∃ x, z x = ⊤ := by
    constructor
    · rintro (⟨x, hx⟩ | ⟨j, hj⟩)
      · by_cases hk : ∃ j, n j = x
        · rw [hg1 x hk] at hx; exact absurd hx bot_ne_top
        · exact ⟨x, hg2 x hk ▸ hx⟩
      · exact ⟨n j, hj⟩
    · rintro ⟨x, hx⟩
      by_cases hk : ∃ j, n j = x
      · obtain ⟨j, rfl⟩ := hk; exact Or.inr ⟨j, hx⟩
      · exact Or.inl ⟨x, (hg2 x hk).trans hx⟩
  have hS : (∑ x, eR (g x)) + ∑ j, eR (z (n j)) = ∑ x, eR (z x) := by
    have e1 : ∑ j, eR (z (n j)) = ∑ x, if (∃ j, n j = x) then eR (z x) else 0 := by
      rw [← Finset.sum_filter]
      have : (Finset.univ.filter fun x => ∃ j, n j = x) = Finset.univ.image n := by ext x; simp
      rw [this, Finset.sum_image fun a _ b _ h => hn h]
    rw [e1, ← Finset.sum_add_distrib]
    refine Finset.sum_congr rfl fun x _ => ?_
    by_cases hk : ∃ j, n j = x
    · rw [hg1 x hk, eR_bot, if_pos hk, zero_add]
    · rw [hg2 x hk, if_neg hk, add_zero]
  rw [hS]
  unfold LSE
  by_cases h : ∃ x, z x = ⊤
  · rw [if_pos h, if_pos (hP.2 h)]
  · rw [if_neg h, if_neg fun hc => h (hP.1 hc)]

end Cert.KernelIdeal.V

end
-- ==== Proof.V.Out.lean ====
module

public import proofs.«01_k».proof.Proof.V.Total

@[expose] public section

/-! What the last point writes, from what the statistics hold after the sweep. -/

set_option maxHeartbeats 400000

noncomputable section

namespace Cert.KernelIdeal.V

open Cert.KernelIdeal.Gen Idealize.ShloMosaic
open Cert.ReferenceIdeal.V (bigE lseE)

theorem big_row (M : FVec Ideal S128x128 .f32) (g : Fin 128 → EReal) (a : Fin 128) (hM : ∀ x, M (ix2 a x) = g x) (b : Fin 128) :
    bigV M (ix2 a b) = bigE g := by
  rw [bigV_at]; exact congrArg bigE (funext hM)

theorem tot_row (M S : FVec Ideal S128x128 .f32) (g s : Fin 128 → EReal) (a : Fin 128) (hM : ∀ x, M (ix2 a x) = g x) (hS : ∀ x, S (ix2 a x) = s x) (b : Fin 128) :
    totV (downV M S (bigV M)) (ix2 a b) = ∑ x, s x * Ideal.exp (g x - bigE g) := by
  rw [totV_at]
  refine Finset.sum_congr rfl fun x _ => ?_
  rw [downV_at, big_row M g a hM, hM, hS]

theorem rest_row (M S : FVec Ideal S128x128 .f32) (g s : Fin 128 → EReal) (a : Fin 128) (hM : ∀ x, M (ix2 a x) = g x) (hS : ∀ x, S (ix2 a x) = s x) (b : Fin 128) :
    k0_pay187 (F := Ideal) M S (ix2 a b) = (bigE g + Ideal.log (∑ x, s x * Ideal.exp (g x - bigE g)) : EReal) := by
  rw [pay187_eq, plusLogV_at, big_row M g a hM, tot_row M S g s a hM hS]

theorem lse_row (M S U : FVec Ideal S128x128 .f32) (g s u : Fin 128 → EReal) (a : Fin 128) (hM : ∀ x, M (ix2 a x) = g x) (hS : ∀ x, S (ix2 a x) = s x)
    (hU : ∀ x, U (ix2 a x) = u x) (b : Fin 128) (B : EReal) (hB : B = max (bigE g) (bigE fun x : Fin 128 => if x.val < 50 then u x else farE)) :
    k0_pay188 (F := Ideal) k0_pay8 M S U (ix2 a b) = (B + Ideal.log ((∑ x, s x * Ideal.exp (g x - bigE g)) * Ideal.exp (bigE g - B)
      + ∑ x : Fin 128, if x.val < 50 then Ideal.exp ((if x.val < 50 then u x else farE) - B) else 0) : EReal) := by
  have hpad : ∀ x, padV U (ix2 a x) = if x.val < 50 then u x else farE := fun x => by rw [padV_at, hU]
  have hb : ∀ x, maximumf (bigV M) (bigV (padV U)) (ix2 a x) = B := fun x => by
    rw [hB, ← big_row M g a hM x, ← big_row (padV U) _ a hpad x]; rfl
  rw [pay188_eq, plusLogV_at, hb]
  refine congrArg (fun v : EReal => B + Ideal.log v) ?_
  refine congrArg₂ (fun v w : EReal => v + w) ?_ ?_
  · rw [downV_at, tot_row M S g s a hM hS, big_row M g a hM, hb]
  · rw [totV_at]
    refine Finset.sum_congr rfl fun x _ => ?_
    rw [padExpV_at, hpad, hb]

variable (Z : Fin 1536 → ℕ → EReal) (ids : Vec Ideal S1536x50 .i32) (p : St Ideal) (h : Inv Z ids 25 p)

/-- Row `384 k + l`. -/
def rowOf (k : Fin 4) (l : Fin 384) : Fin 1536 := ⟨k.val * 384 + l.val, by omega⟩

theorem rowsB_at {w : ℕ} (x : (⟨2, ![1536, w]⟩ : Shape).Idx → EReal) (k : Fin 4) (l : Fin 384) (j : Fin w) :
    rowsB x k ⟨l.val / 128, by omega⟩ (ix2 (⟨l.val % 128, by omega⟩ : Fin 128) j) = x (ix2 (rowOf k l) j) := by
  unfold rowsB
  refine congrArg (fun q : Fin 1536 => x (ix2 q j)) (Fin.ext ?_)
  show 384 * k.val + 128 * (l.val / 128) + l.val % 128 = k.val * 384 + l.val
  omega

include h

theorem join_row (r : Fin 1536) : Run (∃ n : Fin 32000, restE Z ids r n.val = ⊤) (∑ n : Fin 32000, eR (restE Z ids r n.val))
    (bigE fun x => p.m (ix2 r x)) (∑ x : Fin 128, p.s (ix2 r x) * Ideal.exp (p.m (ix2 r x) - bigE fun x => p.m (ix2 r x))) := by
  have hj := Run.join (by decide) (h.run r)
  rw [propext (top_lanes _), sum_lanes] at hj
  exact hj

theorem rest_out (x5 : Vec Ideal S1536x50 .bf16) (k : Fin 4) (l : Fin 384) : outV restB p.m p.s p.sup x5 (ix2 k l)
    = LSE (∃ n : Fin 32000, restE Z ids (rowOf k l) n.val = ⊤) (∑ n : Fin 32000, eR (restE Z ids (rowOf k l) n.val)) := by
  obtain ⟨d, hd⟩ := restB_eq (rowsB p.m k (⟨l.val / 128, by omega⟩ : Fin 3)) (rowsB p.s k (⟨l.val / 128, by omega⟩ : Fin 3)) (rowsB p.sup k (⟨l.val / 128, by omega⟩ : Fin 3)) (rowsB x5 k (⟨l.val / 128, by omega⟩ : Fin 3))
  refine (congrFun hd (ix2 (0 : Fin 1) (⟨l.val % 128, by omega⟩ : Fin 128))).trans ?_
  refine (turn_at2 _ _ d _).trans ?_
  refine (rest_row _ _ (fun x => p.m (ix2 (rowOf k l) x)) (fun x => p.s (ix2 (rowOf k l) x)) _ (rowsB_at p.m k l) (rowsB_at p.s k l) _).trans ?_
  exact (join_row Z ids p h (rowOf k l)).lse

theorem lse_out (x5 : Vec Ideal S1536x50 .bf16) (k : Fin 4) (l : Fin 384) (n : Fin 50 → Fin 32000)
    (hn : ∀ j, ids (ix2 (rowOf k l) j) = BitVec.ofNat 32 (n j).val) : outV lseB p.m p.s p.sup x5 (ix2 k l)
    = LSE ((∃ x : Fin 32000, restE Z ids (rowOf k l) x.val = ⊤) ∨ ∃ j, Z (rowOf k l) (n j).val = ⊤)
        ((∑ x : Fin 32000, eR (restE Z ids (rowOf k l) x.val)) + ∑ j, eR (Z (rowOf k l) (n j).val)) := by
  obtain ⟨d, hd⟩ := lseB_eq (rowsB p.m k (⟨l.val / 128, by omega⟩ : Fin 3)) (rowsB p.s k (⟨l.val / 128, by omega⟩ : Fin 3)) (rowsB p.sup k (⟨l.val / 128, by omega⟩ : Fin 3)) (rowsB x5 k (⟨l.val / 128, by omega⟩ : Fin 3))
  refine (congrFun hd (ix2 (0 : Fin 1) (⟨l.val % 128, by omega⟩ : Fin 128))).trans ?_
  refine (turn_at1 _ _ d _).trans ?_
  refine (lse_row _ _ _ (fun x => p.m (ix2 (rowOf k l) x)) (fun x => p.s (ix2 (rowOf k l) x)) (fun x => p.sup (ix2 (rowOf k l) x)) _
    (rowsB_at p.m k l) (rowsB_at p.s k l) (rowsB_at p.sup k l) _ _ rfl).trans ?_
  refine ((join_row Z ids p h (rowOf k l)).support (fun x => p.sup (ix2 (rowOf k l) x)) _ rfl).trans ?_
  have hs : ∀ j : Fin 50, p.sup (ix2 (rowOf k l) ⟨j.val, by omega⟩) = Z (rowOf k l) (n j).val := fun j =>
    h.sup _ j _ (n j).isLt (hn j) (n j).isLt
  simp only [hs]

theorem zsup_out (r : Fin 1536) (j : Fin 50) (n : Fin 32000) (hn : ids (ix2 r j) = BitVec.ofNat 32 n.val) :
    zsV p.sup (ix2 r j) = Z r n.val := by
  refine Eq.trans ?_ (h.sup r j n.val n.isLt hn n.isLt)
  unfold zsV zsB k0_pay195
  show rowsB p.sup _ _ (fun a => _) = _
  unfold rowsB
  refine congrArg p.sup (funext fun a => Fin.ext ?_)
  match a with
  | ⟨0, _⟩ => show 384 * (r.val / 384) + 128 * (r.val % 384 / 128) + _ = r.val; simp; omega
  | ⟨1, _⟩ => show _ = j.val; simp

end Cert.KernelIdeal.V

end
-- ==== Proof.V.Codes.lean ====
module

public import proofs.«01_k».proof.Proof.V.Quant
public import proofs.«01_k».proof.Proof.V.Scale

@[expose] public section

/-! The kernel's codes, scales and dequantised tokens, one by one. -/

set_option maxHeartbeats 60000

noncomputable section

namespace Cert.KernelIdeal.V

open Cert.KernelIdeal.Gen Idealize.ShloMosaic

theorem pay15_at (v : Vec Ideal S32x128 .bf16) (r : Fin 32) (l : Fin 128) : k0_pay15 v (ix2 r l) = yB (fun k => v (ix2 r k)) := by
  pointwise [k0_pay15, k0_pay14]
  rfl

section Any
variable {F : FTy → Type} [FloatOps F]

theorem pay16_at (v : Vec F S32x128 .bf16) (i : S32x128.Idx) :
    k0_pay16 v i = stp (k0_pay15 v i) 16#32 (stp (k0_pay15 v i) 32#32 (stp (k0_pay15 v i) 64#32 (stp (k0_pay15 v i) 128#32 0#32))) := rfl

theorem pay18_at (y : FVec F S32x128 .f32) (f : IVec S32x128 32) (i : S32x128.Idx) :
    k0_pay18 y f k0_pay17 i =
      (fun g => Scalar.select (IntOp.ori (IntOp.cmpi .eq g 0#32) (IntOp.cmpi .eq g 255#32)) 0#32 (IntOp.subi g 126#32))
        (stp (y i) 1#32 (stp (y i) 2#32 (stp (y i) 4#32 (stp (y i) 8#32 (f i))))) := rfl

theorem exp_at (v : Vec F S32x128 .bf16) (i : S32x128.Idx) : k0_pay18 (k0_pay15 v) (k0_pay16 v) k0_pay17 i = expE (k0_pay15 v i) := by
  rw [pay18_at, pay16_at]; rfl

theorem scaleB_at (v : Vec F S32x128 .bf16) (i : S32x128.Idx) : scaleB v i = scaleE (k0_pay15 v i) := by
  unfold scaleE; rw [← exp_at]; rfl

theorem inv_at (v : Vec F S32x128 .bf16) (i : S32x128.Idx) :
    FloatOps.ofBits (F := F) .f32 (k0_pay20 (k0_pay15 v) (k0_pay16 v) k0_pay17 i) = invE (k0_pay15 v i) := by
  unfold invE; rw [← exp_at]; rfl

theorem pay14_at (v : Vec F S32x128 .bf16) (i : S32x128.Idx) : k0_pay14 v i = FloatOps.extf .f32 bitsLt_bf16_f32 (v i) := by
  unfold k0_pay14; rw [shapeCast_self]; rfl

theorem codeB_at' (v : Vec F S32x128 .bf16) (i : S32x128.Idx) :
    codeB v i = FloatOps.truncf .fp8e4m3 bitsLt_fp8e4m3_f32 (FloatOps.minimumf (FloatOps.ofBits .f32 0x43E00000#32) (FloatOps.maximumf (FloatOps.ofBits .f32 0xC3E00000#32)
      (FloatOps.mulf (FloatOps.extf .f32 bitsLt_bf16_f32 (v i)) (invE (k0_pay15 v i))))) := by
  rw [← inv_at, ← pay14_at v i]; rfl

theorem xbfB_at' (v : Vec F S32x128 .bf16) (i : S32x128.Idx) :
    xbfB v i = FloatOps.mulf (FloatOps.extf .bf16 bitsLt_fp8e4m3_bf16 (codeB v i)) (FloatOps.truncf .bf16 bitsLt_bf16_f32 (scaleE (k0_pay15 v i))) := by
  rw [← scaleB_at]
  unfold xbfB k0_pay22; rw [shapeCast_self]; rfl

end Any

theorem codeB_at (v : Vec Ideal S32x128 .bf16) (i : S32x128.Idx) : codeB v i = codeE (v i) (invE (k0_pay15 v i)) := codeB_at' v i

theorem xbfB_at (v : Vec Ideal S32x128 .bf16) (i : S32x128.Idx) : xbfB v i = (codeB v i * scaleE (k0_pay15 v i) : EReal) := xbfB_at' v i

/-- One block's magnitude over 448, read from all the tokens. -/
def yV (x : Vec Ideal S1536x1024 .bf16) (r : Fin 1536) (b : Fin 8) : EReal :=
  yB (fun k => x (ix2 r ⟨b.val * 128 + k.val, by omega⟩))

theorem y_chunk (x : Vec Ideal S1536x1024 .bf16) (r : Fin 1536) (b : Fin 8) (l : Fin 128) :
    k0_pay15 (chunk x ⟨r.val / 32, by omega⟩ b) (ix2 ⟨r.val % 32, by omega⟩ l) = yV x r b := by
  rw [pay15_at]
  unfold yV
  congr 1
  funext k
  show x (ix2 _ _) = x (ix2 _ _)
  congr 2
  · apply Fin.ext; show 32 * (r.val / 32) + r.val % 32 = r.val; omega
  · apply Fin.ext; show 128 * b.val + k.val = b.val * 128 + k.val; omega

theorem chunk_at (x : Vec Ideal S1536x1024 .bf16) (r : Fin 1536) (l : Fin 1024) :
    chunk x ⟨r.val / 32, by omega⟩ ⟨l.val / 128, by omega⟩ (ix2 ⟨r.val % 32, by omega⟩ ⟨l.val % 128, by omega⟩) = x (ix2 r l) := by
  show x (ix2 _ _) = x (ix2 _ _)
  congr 2
  · apply Fin.ext; show 32 * (r.val / 32) + r.val % 32 = r.val; omega
  · apply Fin.ext; show 128 * (l.val / 128) + l.val % 128 = l.val; omega

theorem codesV_at (x : Vec Ideal S1536x1024 .bf16) (r : Fin 1536) (l : Fin 1024) :
    codesV x (ix2 r l) = codeE (x (ix2 r l)) (invE (F := Ideal) (yV x r ⟨l.val / 128, by omega⟩)) :=
  (codeB_at _ _).trans (congrArg₂ codeE (chunk_at x r l) (congrArg (invE (F := Ideal)) (y_chunk x r _ _)))

theorem xbfV_at (x : Vec Ideal S1536x1024 .bf16) (r : Fin 1536) (l : Fin 1024) :
    xbfV x (ix2 r l) = (codesV x (ix2 r l) * scaleE (F := Ideal) (yV x r ⟨l.val / 128, by omega⟩) : EReal) :=
  (xbfB_at _ _).trans (congrArg (fun u : EReal => (codesV x (ix2 r l) * scaleE (F := Ideal) u : EReal)) (y_chunk x r _ _))

theorem scalesV_at (x : Vec Ideal S1536x1024 .bf16) (r : Fin 1536) (b : Fin 8) : scalesV x (ix2 r b) = scaleE (F := Ideal) (yV x r b) :=
  (scaleB_at _ _).trans (congrArg (scaleE (F := Ideal)) (y_chunk x r _ _))

theorem ieee_pos (b : BitVec 32) (e f : ℕ) (h1 : (b.extractLsb' 31 1 == 1#1) = false) (h2 : (b.extractLsb' 23 8).toNat = e) (h3 : (b.extractLsb' 0 23).toNat = f)
    (he : e ≠ 255) (he' : e ≠ 0) : Ideal.ofBits .f32 b = (((8388608 + f : ℝ) * (2 : ℝ) ^ ((e : ℤ) - 150) : ℝ) : EReal) := by
  show Ideal.ieee 8 23 b = _
  unfold Ideal.ieee
  simp only [show (8 + 23 : ℕ) = 31 from rfl, h1, h2, h3]
  rw [if_neg (by omega), if_neg he', EReal.coe_eq_coe_iff, if_neg (by decide)]
  push_cast
  norm_num
  left; ring_nf

/-- Tokens of finite magnitude give a block value in the range of the search. -/
theorem yB_lt (g : Fin 128 → EReal) (h : ∀ k, FloatOps.absf (F := Ideal) (φ := .f32) (g k) ≤ Ideal.ofBits .f32 0x7F7F0000#32) : yB g < pw 247 := by
  have e1 := ieee_pos 0x7F7F0000#32 254 8323072 (by decide) (by decide) (by decide) (by omega) (by omega)
  have e2 := ieee_pos 991054117#32 118 1198373 (by decide) (by decide) (by decide) (by omega) (by omega)
  have hb : (Finset.univ : Finset (Fin 128)).fold max (Ideal.ofBits .f32 4286578688#32) (fun x => FloatOps.absf (F := Ideal) (φ := .f32) (g x)) ≤ Ideal.ofBits .f32 0x7F7F0000#32 := by
    rw [Finset.fold_max_le]
    refine ⟨?_, fun k _ => h k⟩
    have : Ideal.ofBits .f32 4286578688#32 = ⊥ := by
      show Ideal.ieee 8 23 (4286578688#32) = _
      unfold Ideal.ieee
      simp
    rw [this]; exact bot_le
  unfold yB
  rw [e2]
  refine lt_of_le_of_lt (mul_le_mul_of_nonneg_right hb (EReal.coe_nonneg.2 (by positivity))) ?_
  rw [e1, pw_eq 247 (by omega) (by omega), ← EReal.coe_mul, EReal.coe_lt_coe_iff]
  norm_num

end Cert.KernelIdeal.V

end
-- ==== Proof.V.Same.lean ====
module

public import proofs.«01_k».proof.Proof.V.Codes
public import proofs.«01_k».proof.Proof.V.RefAt

@[expose] public section

/-! The kernel's codes, scales and dequantised tokens are the reference's, for tokens of finite magnitude. -/

set_option maxHeartbeats 400000

noncomputable section

namespace Cert.KernelIdeal.V

open Cert.KernelIdeal.Gen Idealize.ShloMosaic

theorem idx2_eq {a b : ℕ} (y : (⟨2, ![a, b]⟩ : Shape).Idx) : ∃ (r : Fin a) (l : Fin b), y = ix2 r l :=
  ⟨y 0, y 1, by funext i; fin_cases i <;> rfl⟩

variable (x : Vec Ideal S1536x1024 .bf16) (hx : ∀ i, FloatOps.absf (F := Ideal) (φ := .f32) (x i) ≤ Ideal.ofBits .f32 0x7F7F0000#32)
include hx

theorem yV_lt (r : Fin 1536) (b : Fin 8) : yV x r b < pw 247 := yB_lt _ fun _ => hx _

theorem scale_same (r : Fin 1536) (b : Fin 8) : scaleE (F := Ideal) (yV x r b) = Cert.ReferenceIdeal.Gen.k0_pay4 x (ix2 r b)
    ∧ invE (F := Ideal) (yV x r b) = Ideal.div 1 (Cert.ReferenceIdeal.Gen.k0_pay4 x (ix2 r b)) := by
  have h := scaleE_eq (yV x r b) (yV_lt x hx r b)
  rw [Cert.ReferenceIdeal.V.scale_at]
  exact h

theorem scales_same : scalesV x = Cert.ReferenceIdeal.Gen.k0_pay4 x := by
  funext y
  obtain ⟨r, l, rfl⟩ := idx2_eq y
  rw [scalesV_at]
  exact (scale_same x hx _ _).1

theorem codes_same : codesV x = Cert.ReferenceIdeal.Gen.k0_pay2 (Cert.ReferenceIdeal.Gen.k0_pay5 x) := by
  funext y
  obtain ⟨r, l, rfl⟩ := idx2_eq y
  rw [codesV_at, Cert.ReferenceIdeal.V.code_at]
  exact congrArg (codeE _) (scale_same x hx _ _).2

theorem xbf_same : xbfV x = Cert.ReferenceIdeal.Gen.k0_pay6 x := by
  funext y
  obtain ⟨r, l, rfl⟩ := idx2_eq y
  rw [xbfV_at, Cert.ReferenceIdeal.V.deq_at, codes_same x hx]
  exact congrArg (fun u : EReal => (Cert.ReferenceIdeal.Gen.k0_pay2 (Cert.ReferenceIdeal.Gen.k0_pay5 x) _ * u : EReal)) (scale_same x hx _ _).1

end Cert.KernelIdeal.V

end
-- ==== Proof.V.Value.lean ====
module

public import proofs.«01_k».proof.Proof.V.Frame

@[expose] public section

/-! The arrays the kernel leaves, and the blocks it reads, in terms of the arguments. -/

set_option maxHeartbeats 2000000

noncomputable section

namespace Cert.KernelIdeal.V

open Cert.KernelIdeal.Gen
open Idealize.ShloMosaic Idealize.ShloMosaic.TcCoe
open Idealize.SL Idealize.SL.Sem
open Idealize.ShloMosaic.Pipeline (Dat Cfg Window)

variable {F : FTy → Type} [FloatOps F]

variable (m : (ℓ : Loc nD τ sig) → Buf (Elt F) ℓ) (ρ : Dev nD → PrngReg)

/-- The last point. -/
abbrev tLast : Fin cfg0.N := ⟨24, lt_of_lt_of_eq (by decide) N_0.symm⟩

theorem eq_tLast (t : Fin cfg0.N) (h : t.val % 25 = 24) : t = tLast := by
  have hN : cfg0.N = 25 := N_0
  have := t.isLt
  exact Fin.ext (by show t.val = 24; omega)

/-- What is carried after the last point. -/
def finalSt (c : Dev nD) : St F := outsAt0 m c 24 (lt_of_lt_of_eq (by decide) N_0.symm)

/-- The one write-back of window 7, at the last point, writes the whole array. -/
theorem flushed7_eq (c : Dev nD) (t : Fin cfg0.N) (hf : (cfg0.win 7).flush t = true) :
    (dats m 0 c).flushed 7 t = ((cfg0.win 7).blk t).view.read (Elt F) ((finalSt m c).lse : Buf (Elt F) ((c : Thread nD τ).loc main_v3_1)) := by
  obtain rfl := eq_tLast t ((flush0_7 t).mp hf)
  show (cfg0.win 7).cut (grid0.coords tLast) ((dats m 0 c).after 7 tLast) = _
  rw [after0_7]
  have hz' : (fun a => win0_7.index tLast a * main_v3_1.ty.shape.size a) = fun _ => 0 := funext fun a => by fin_cases a <;> decide +kernel
  exact (Memref.read_access_unit_zero (Elt F) main_v3_1 hz' (fun a => by rw [congrFun hz' a]; simp) ((finalSt m c).lse)).symm

theorem final7 (c : Dev nD) : (dats m 0 c).arrAt 7 cfg0.N = ((finalSt m c).lse : Buf (Elt F) ((c : Thread nD τ).loc main_v3_1)) :=
  (dats m 0 c).arrAt_eq_of_cover 7 _ (flushed7_eq m c) fun i =>
    ⟨tLast, (flush0_7 tLast).mpr rfl, by
      show i ∈ ((View.whole main_v3_1).slice (win0_7.rect tLast)).set
      rw [View.set_slice_whole, Rect.mem_set_unit]
      intro a
      have h0 : (i 0 : Nat) < 4 := (i 0).isLt
      have h1 : (i 1 : Nat) < 384 := (i 1).isLt
      match a with
      | ⟨0, _⟩ => show win0_7.index tLast 0 * win0_7.size 0 ≤ (i 0 : Nat) ∧ (i 0 : Nat) < win0_7.index tLast 0 * win0_7.size 0 + win0_7.xsize (grid0.coords tLast) 0
                  rw [show win0_7.index tLast 0 * win0_7.size 0 = 0 from by decide +kernel, show win0_7.xsize (grid0.coords tLast) 0 = 4 from by decide +kernel]; omega
      | ⟨1, _⟩ => show win0_7.index tLast 1 * win0_7.size 1 ≤ (i 1 : Nat) ∧ (i 1 : Nat) < win0_7.index tLast 1 * win0_7.size 1 + win0_7.xsize (grid0.coords tLast) 1
                  rw [show win0_7.index tLast 1 * win0_7.size 1 = 0 from by decide +kernel, show win0_7.xsize (grid0.coords tLast) 1 = 384 from by decide +kernel]; omega⟩

/-- The one write-back of window 8, at the last point, writes the whole array. -/
theorem flushed8_eq (c : Dev nD) (t : Fin cfg0.N) (hf : (cfg0.win 8).flush t = true) :
    (dats m 0 c).flushed 8 t = ((cfg0.win 8).blk t).view.read (Elt F) ((finalSt m c).rest : Buf (Elt F) ((c : Thread nD τ).loc main_v3_2)) := by
  obtain rfl := eq_tLast t ((flush0_8 t).mp hf)
  show (cfg0.win 8).cut (grid0.coords tLast) ((dats m 0 c).after 8 tLast) = _
  rw [after0_8]
  have hz' : (fun a => win0_8.index tLast a * main_v3_2.ty.shape.size a) = fun _ => 0 := funext fun a => by fin_cases a <;> decide +kernel
  exact (Memref.read_access_unit_zero (Elt F) main_v3_2 hz' (fun a => by rw [congrFun hz' a]; simp) ((finalSt m c).rest)).symm

theorem final8 (c : Dev nD) : (dats m 0 c).arrAt 8 cfg0.N = ((finalSt m c).rest : Buf (Elt F) ((c : Thread nD τ).loc main_v3_2)) :=
  (dats m 0 c).arrAt_eq_of_cover 8 _ (flushed8_eq m c) fun i =>
    ⟨tLast, (flush0_8 tLast).mpr rfl, by
      show i ∈ ((View.whole main_v3_2).slice (win0_8.rect tLast)).set
      rw [View.set_slice_whole, Rect.mem_set_unit]
      intro a
      have h0 : (i 0 : Nat) < 4 := (i 0).isLt
      have h1 : (i 1 : Nat) < 384 := (i 1).isLt
      match a with
      | ⟨0, _⟩ => show win0_8.index tLast 0 * win0_8.size 0 ≤ (i 0 : Nat) ∧ (i 0 : Nat) < win0_8.index tLast 0 * win0_8.size 0 + win0_8.xsize (grid0.coords tLast) 0
                  rw [show win0_8.index tLast 0 * win0_8.size 0 = 0 from by decide +kernel, show win0_8.xsize (grid0.coords tLast) 0 = 4 from by decide +kernel]; omega
      | ⟨1, _⟩ => show win0_8.index tLast 1 * win0_8.size 1 ≤ (i 1 : Nat) ∧ (i 1 : Nat) < win0_8.index tLast 1 * win0_8.size 1 + win0_8.xsize (grid0.coords tLast) 1
                  rw [show win0_8.index tLast 1 * win0_8.size 1 = 0 from by decide +kernel, show win0_8.xsize (grid0.coords tLast) 1 = 384 from by decide +kernel]; omega⟩

/-- The one write-back of window 9, at the last point, writes the whole array. -/
theorem flushed9_eq (c : Dev nD) (t : Fin cfg0.N) (hf : (cfg0.win 9).flush t = true) :
    (dats m 0 c).flushed 9 t = ((cfg0.win 9).blk t).view.read (Elt F) ((finalSt m c).zsup : Buf (Elt F) ((c : Thread nD τ).loc main_v3_3)) := by
  obtain rfl := eq_tLast t ((flush0_9 t).mp hf)
  show (cfg0.win 9).cut (grid0.coords tLast) ((dats m 0 c).after 9 tLast) = _
  rw [after0_9]
  have hz' : (fun a => win0_9.index tLast a * main_v3_3.ty.shape.size a) = fun _ => 0 := funext fun a => by fin_cases a <;> decide +kernel
  exact (Memref.read_access_unit_zero (Elt F) main_v3_3 hz' (fun a => by rw [congrFun hz' a]; simp) ((finalSt m c).zsup)).symm

theorem final9 (c : Dev nD) : (dats m 0 c).arrAt 9 cfg0.N = ((finalSt m c).zsup : Buf (Elt F) ((c : Thread nD τ).loc main_v3_3)) :=
  (dats m 0 c).arrAt_eq_of_cover 9 _ (flushed9_eq m c) fun i =>
    ⟨tLast, (flush0_9 tLast).mpr rfl, by
      show i ∈ ((View.whole main_v3_3).slice (win0_9.rect tLast)).set
      rw [View.set_slice_whole, Rect.mem_set_unit]
      intro a
      have h0 : (i 0 : Nat) < 1536 := (i 0).isLt
      have h1 : (i 1 : Nat) < 50 := (i 1).isLt
      match a with
      | ⟨0, _⟩ => show win0_9.index tLast 0 * win0_9.size 0 ≤ (i 0 : Nat) ∧ (i 0 : Nat) < win0_9.index tLast 0 * win0_9.size 0 + win0_9.xsize (grid0.coords tLast) 0
                  rw [show win0_9.index tLast 0 * win0_9.size 0 = 0 from by decide +kernel, show win0_9.xsize (grid0.coords tLast) 0 = 1536 from by decide +kernel]; omega
      | ⟨1, _⟩ => show win0_9.index tLast 1 * win0_9.size 1 ≤ (i 1 : Nat) ∧ (i 1 : Nat) < win0_9.index tLast 1 * win0_9.size 1 + win0_9.xsize (grid0.coords tLast) 1
                  rw [show win0_9.index tLast 1 * win0_9.size 1 = 0 from by decide +kernel, show win0_9.xsize (grid0.coords tLast) 1 = 50 from by decide +kernel]; omega⟩

/-- The one write-back of window 10, at the last point, writes the whole array. -/
theorem flushed10_eq (c : Dev nD) (t : Fin cfg0.N) (hf : (cfg0.win 10).flush t = true) :
    (dats m 0 c).flushed 10 t = ((cfg0.win 10).blk t).view.read (Elt F) ((finalSt m c).codes : Buf (Elt F) ((c : Thread nD τ).loc main_v3_4)) := by
  obtain rfl := eq_tLast t ((flush0_10 t).mp hf)
  show (cfg0.win 10).cut (grid0.coords tLast) ((dats m 0 c).after 10 tLast) = _
  rw [after0_10]
  have hz' : (fun a => win0_10.index tLast a * main_v3_4.ty.shape.size a) = fun _ => 0 := funext fun a => by fin_cases a <;> decide +kernel
  exact (Memref.read_access_unit_zero (Elt F) main_v3_4 hz' (fun a => by rw [congrFun hz' a]; simp) ((finalSt m c).codes)).symm

theorem final10 (c : Dev nD) : (dats m 0 c).arrAt 10 cfg0.N = ((finalSt m c).codes : Buf (Elt F) ((c : Thread nD τ).loc main_v3_4)) :=
  (dats m 0 c).arrAt_eq_of_cover 10 _ (flushed10_eq m c) fun i =>
    ⟨tLast, (flush0_10 tLast).mpr rfl, by
      show i ∈ ((View.whole main_v3_4).slice (win0_10.rect tLast)).set
      rw [View.set_slice_whole, Rect.mem_set_unit]
      intro a
      have h0 : (i 0 : Nat) < 1536 := (i 0).isLt
      have h1 : (i 1 : Nat) < 1024 := (i 1).isLt
      match a with
      | ⟨0, _⟩ => show win0_10.index tLast 0 * win0_10.size 0 ≤ (i 0 : Nat) ∧ (i 0 : Nat) < win0_10.index tLast 0 * win0_10.size 0 + win0_10.xsize (grid0.coords tLast) 0
                  rw [show win0_10.index tLast 0 * win0_10.size 0 = 0 from by decide +kernel, show win0_10.xsize (grid0.coords tLast) 0 = 1536 from by decide +kernel]; omega
      | ⟨1, _⟩ => show win0_10.index tLast 1 * win0_10.size 1 ≤ (i 1 : Nat) ∧ (i 1 : Nat) < win0_10.index tLast 1 * win0_10.size 1 + win0_10.xsize (grid0.coords tLast) 1
                  rw [show win0_10.index tLast 1 * win0_10.size 1 = 0 from by decide +kernel, show win0_10.xsize (grid0.coords tLast) 1 = 1024 from by decide +kernel]; omega⟩

/-- The one write-back of window 11, at the last point, writes the whole array. -/
theorem flushed11_eq (c : Dev nD) (t : Fin cfg0.N) (hf : (cfg0.win 11).flush t = true) :
    (dats m 0 c).flushed 11 t = ((cfg0.win 11).blk t).view.read (Elt F) ((finalSt m c).scales : Buf (Elt F) ((c : Thread nD τ).loc main_v3_5)) := by
  obtain rfl := eq_tLast t ((flush0_11 t).mp hf)
  show (cfg0.win 11).cut (grid0.coords tLast) ((dats m 0 c).after 11 tLast) = _
  rw [after0_11]
  have hz' : (fun a => win0_11.index tLast a * main_v3_5.ty.shape.size a) = fun _ => 0 := funext fun a => by fin_cases a <;> decide +kernel
  exact (Memref.read_access_unit_zero (Elt F) main_v3_5 hz' (fun a => by rw [congrFun hz' a]; simp) ((finalSt m c).scales)).symm

theorem final11 (c : Dev nD) : (dats m 0 c).arrAt 11 cfg0.N = ((finalSt m c).scales : Buf (Elt F) ((c : Thread nD τ).loc main_v3_5)) :=
  (dats m 0 c).arrAt_eq_of_cover 11 _ (flushed11_eq m c) fun i =>
    ⟨tLast, (flush0_11 tLast).mpr rfl, by
      show i ∈ ((View.whole main_v3_5).slice (win0_11.rect tLast)).set
      rw [View.set_slice_whole, Rect.mem_set_unit]
      intro a
      have h0 : (i 0 : Nat) < 1536 := (i 0).isLt
      have h1 : (i 1 : Nat) < 8 := (i 1).isLt
      match a with
      | ⟨0, _⟩ => show win0_11.index tLast 0 * win0_11.size 0 ≤ (i 0 : Nat) ∧ (i 0 : Nat) < win0_11.index tLast 0 * win0_11.size 0 + win0_11.xsize (grid0.coords tLast) 0
                  rw [show win0_11.index tLast 0 * win0_11.size 0 = 0 from by decide +kernel, show win0_11.xsize (grid0.coords tLast) 0 = 1536 from by decide +kernel]; omega
      | ⟨1, _⟩ => show win0_11.index tLast 1 * win0_11.size 1 ≤ (i 1 : Nat) ∧ (i 1 : Nat) < win0_11.index tLast 1 * win0_11.size 1 + win0_11.xsize (grid0.coords tLast) 1
                  rw [show win0_11.index tLast 1 * win0_11.size 1 = 0 from by decide +kernel, show win0_11.xsize (grid0.coords tLast) 1 = 8 from by decide +kernel]; omega⟩

/-- The run, read: the result arrays at what is carried after the last point, the arguments unchanged. -/
theorem run : θ_run defs (onTc (τ := τ) (main (F := F))) ⟨m, fun _ => 0, ρ⟩ fun r => ∀ c : Dev nD,
      r.2.mem ((c : Thread nD τ).loc main_v3_1) = (finalSt m c).lse
      ∧ r.2.mem ((c : Thread nD τ).loc main_v3_2) = (finalSt m c).rest
      ∧ r.2.mem ((c : Thread nD τ).loc main_v3_3) = (finalSt m c).zsup
      ∧ r.2.mem ((c : Thread nD τ).loc main_v3_4) = (finalSt m c).codes
      ∧ r.2.mem ((c : Thread nD τ).loc main_v3_5) = (finalSt m c).scales
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1 7).trans (final7 m c),
      ((h c).1 8).trans (final8 m c),
      ((h c).1 9).trans (final9 m c),
      ((h c).1 10).trans (final10 m c),
      ((h c).1 11).trans (final11 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

/-- The kernel's first operand, `x` with its rows in one axis. -/
theorem V_main_v0 (c : Dev nD) : V m c main_v0 = shapeCast S1536x1024 (m ((c : Thread nD τ).loc main_arg0)) shapeCasts_S4x384x1024_S1536x1024 := by
  show StableHlo.after hostOps0 _ (Proc.devRef .tc main_v0) = _
  after_results
  rfl

/-- The ids with their rows in one axis. -/
theorem V_main_v1 (c : Dev nD) : V m c main_v1 = shapeCast S1536x50 (m ((c : Thread nD τ).loc main_arg4)) shapeCasts_S4x384x50_S1536x50 := by
  show StableHlo.after hostOps0 _ (Proc.devRef .tc main_v1) = _
  after_results
  rfl

theorem iblk0_eq (c : Dev nD) (t : Fin cfg0.N) : (iblk m c 0 t : Vec F S1536x1024 .bf16) = V m c main_v0 := by
  have hz' : (fun a => win0_0.index t a * main_v0.ty.shape.size a) = fun _ => 0 := funext fun a => by fin_cases a <;> rfl
  exact Memref.read_access_unit_zero (Elt F) main_v0 hz' (fun a => by rw [congrFun hz' a]; simp) (V m c main_v0)

theorem iblk4_eq (c : Dev nD) (t : Fin cfg0.N) : (iblk m c 4 t : Vec F S1536x50 .i32) = V m c main_v1 := by
  have hz' : (fun a => win0_4.index t a * main_v1.ty.shape.size a) = fun _ => 0 := funext fun a => by fin_cases a <;> rfl
  exact Memref.read_access_unit_zero (Elt F) main_v1 hz' (fun a => by rw [congrFun hz' a]; simp) (V m c main_v1)

theorem iblk1_apply (c : Dev nD) (t : Fin cfg0.N) (y : S1280x1024.Idx) (k : S32000x1024.Idx)
    (h0 : (k 0).val = t.val * 1280 + (y 0).val) (h1 : (k 1).val = (y 1).val) :
    (iblk m c 1 t : Vec F S1280x1024 .fp8e4m3) y = m ((c : Thread nD τ).loc main_arg1) k := by
  have hi : win0_1.index t 0 = t.val ∧ win0_1.index t 1 = 0 := (by decide +kernel : ∀ t : Fin grid0.N, win0_1.index t 0 = t.val ∧ win0_1.index t 1 = 0) t
  show V m c main_arg1 (((cfg0.win 1).blk t).view.emb y) = _
  rw [V_main_arg1]
  congr 1
  funext a; apply Fin.ext
  match a with
  | ⟨0, _⟩ => show win0_1.index t (0 : Fin 2) * 1280 + 1 * (y 0).val = (k 0).val; rw [hi.1]; omega
  | ⟨1, _⟩ => show win0_1.index t (1 : Fin 2) * 1024 + 1 * (y 1).val = (k 1).val; rw [hi.2]; omega

theorem iblk2_apply (c : Dev nD) (t : Fin cfg0.N) (y : S1280x8.Idx) (k : S32000x8.Idx)
    (h0 : (k 0).val = t.val * 1280 + (y 0).val) (h1 : (k 1).val = (y 1).val) :
    (iblk m c 2 t : Vec F S1280x8 .f32) y = m ((c : Thread nD τ).loc main_arg2) k := by
  have hi : win0_2.index t 0 = t.val ∧ win0_2.index t 1 = 0 := (by decide +kernel : ∀ t : Fin grid0.N, win0_2.index t 0 = t.val ∧ win0_2.index t 1 = 0) t
  show V m c main_arg2 (((cfg0.win 2).blk t).view.emb y) = _
  rw [V_main_arg2]
  congr 1
  funext a; apply Fin.ext
  match a with
  | ⟨0, _⟩ => show win0_2.index t (0 : Fin 2) * 1280 + 1 * (y 0).val = (k 0).val; rw [hi.1]; omega
  | ⟨1, _⟩ => show win0_2.index t (1 : Fin 2) * 8 + 1 * (y 1).val = (k 1).val; rw [hi.2]; omega

theorem iblk3_apply (c : Dev nD) (t : Fin cfg0.N) (y : S1x1536x128.Idx) (k : S9x1536x128.Idx)
    (h0 : (k 0).val = t.val / 3) (h1 : (k 1).val = (y 1).val) (h2 : (k 2).val = (y 2).val) :
    (iblk m c 3 t : Vec F S1x1536x128 .i32) y = m ((c : Thread nD τ).loc main_arg3) k := by
  have hi : win0_3.index t 0 = t.val / 3 ∧ win0_3.index t 1 = 0 ∧ win0_3.index t 2 = 0 :=
    (by decide +kernel : ∀ t : Fin grid0.N, win0_3.index t 0 = t.val / 3 ∧ win0_3.index t 1 = 0 ∧ win0_3.index t 2 = 0) t
  show V m c main_arg3 (((cfg0.win 3).blk t).view.emb y) = _
  rw [V_main_arg3]
  congr 1
  have hy : (y 0).val < 1 := (y 0).isLt
  funext a; apply Fin.ext
  match a with
  | ⟨0, _⟩ => show win0_3.index t (0 : Fin 3) * 1 + 1 * (y 0).val = (k 0).val; rw [hi.1]; omega
  | ⟨1, _⟩ => show win0_3.index t (1 : Fin 3) * 1536 + 1 * (y 1).val = (k 1).val; rw [hi.2.1]; omega
  | ⟨2, _⟩ => show win0_3.index t (2 : Fin 3) * 128 + 1 * (y 2).val = (k 2).val; rw [hi.2.2]; omega

end Cert.KernelIdeal.V

end
-- ==== Proof.V.Final.lean ====
module

public import proofs.«01_k».proof.Proof.V.Out
public import proofs.«01_k».proof.Proof.V.Same
public import proofs.«01_k».proof.Proof.V.Value

@[expose] public section

/-! The kernel's five arrays are the reference's values of the same arguments. -/

set_option maxHeartbeats 400000

noncomputable section

namespace Cert.KernelIdeal.V

open Cert.KernelIdeal.Gen Idealize.ShloMosaic Idealize.ShloMosaic.TcCoe
open Cert.ReferenceIdeal.V (bigE lseE zE)

/-- The reference's logits. -/
def zRef (x : Vec Ideal S1536x1024 .bf16) (w : Vec Ideal S32000x1024 .fp8e4m3) (s : Vec Ideal S32000x8 .f32) : FVec Ideal Cert.ReferenceIdeal.S1536x32000 .f32 :=
  Cert.ReferenceIdeal.Gen.k0_pay9 (Cert.ReferenceIdeal.Gen.k0_pay6 x) (Cert.ReferenceIdeal.Gen.k0_pay7 w) (Cert.ReferenceIdeal.Gen.k0_pay8 s)

/-- They by column number. -/
def zN (z : FVec Ideal Cert.ReferenceIdeal.S1536x32000 .f32) (r : Fin 1536) (n : ℕ) : EReal := z (ix2 r (⟨n % 32000, Nat.mod_lt _ (by decide)⟩ : Fin 32000))

theorem zN_fin (z : FVec Ideal Cert.ReferenceIdeal.S1536x32000 .f32) (r : Fin 1536) (n : Fin 32000) : zN z r n.val = z (ix2 r n) := by
  unfold zN
  exact congrArg (fun q : Fin 32000 => z (ix2 r q)) (Fin.ext (Nat.mod_eq_of_lt n.isLt))

section State
variable (m : (ℓ : Loc nD τ sig) → Buf (Elt Ideal) ℓ) (c : Dev nD)

/-- The tokens, their rows in one axis. -/
def xK : Vec Ideal S1536x1024 .bf16 := shapeCast S1536x1024 (m ((c : Thread nD τ).loc main_arg0)) shapeCasts_S4x384x1024_S1536x1024
/-- The weights' codes. -/
def wK : Vec Ideal S32000x1024 .fp8e4m3 := m ((c : Thread nD τ).loc main_arg1)
/-- The weights' scales. -/
def sK : Vec Ideal S32000x8 .f32 := m ((c : Thread nD τ).loc main_arg2)
/-- The mask words. -/
def mK : Vec Ideal S9x1536x128 .i32 := m ((c : Thread nD τ).loc main_arg3)
/-- The ids, their rows in one axis. -/
def iK : Vec Ideal S1536x50 .i32 := shapeCast S1536x50 (m ((c : Thread nD τ).loc main_arg4)) shapeCasts_S4x384x50_S1536x50

/-- What the arguments satisfy. -/
structure Good : Prop where
  x : ∀ i, FloatOps.absf (F := Ideal) (φ := .f32) (xK m c i) ≤ Ideal.ofBits .f32 0x7F7F0000#32
  range : ∀ (r : Fin 1536) (j : Fin 50), ∃ n : Fin 32000, iK m c (ix2 r j) = BitVec.ofNat 32 n.val
  distinct : ∀ (r : Fin 1536) (j k : Fin 50), iK m c (ix2 r j) = iK m c (ix2 r k) → j = k
  words : ∀ (w : Fin 9) (r : Fin 1536) (b : Fin 30) (l : Fin 128), w.val * 3840 + b.val * 128 + l.val < 32000 →
    (IntOp.andi (IntOp.shrui .host (mK m c (ix3 w r l)) (BitVec.ofNat 32 b.val)) 1#32 ≠ 0#32 ↔ ∃ j : Fin 50, iK m c (ix2 r j) = BitVec.ofNat 32 (w.val * 3840 + b.val * 128 + l.val))

/-- What is carried after `t` tiles. -/
structure Carried (t : ℕ) (p : St Ideal) : Prop where
  codes : p.codes = codesV (xK m c)
  scales : p.scales = scalesV (xK m c)
  xbf : p.xbf = xbfV (xK m c)
  lo : p.lo = loV (F := Ideal) (iK m c)
  hi : p.hi = hiV (F := Ideal) (iK m c)
  inv : Inv (zN (zRef (xK m c) (wK m c) (sK m c))) (iK m c) t p

variable {m c}

theorem carried_step (hg : Good m c) (t : Fin cfg0.N) (p : St Ideal) (h : Carried m c t.val p) :
    Carried m c (t.val + 1) (sweepSt (grid0.coords t) (iblk m c 1 t) (iblk m c 2 t) (iblk m c 3 t) p) where
  codes := h.codes
  scales := h.scales
  xbf := h.xbf
  lo := h.lo
  hi := h.hi
  inv := by
    have hN : t.val < 25 := lt_of_lt_of_eq t.isLt N_0
    refine inv_step _ _ t p _ _ _ (fun r v => ?_) (fun r b l => ?_) h.lo h.hi h.inv
    · have hv : 1280 * t.val + v.val < 32000 := by omega
      rw [zV_at, h.xbf, xbf_same (xK m c) hg.x]
      refine Eq.trans ?_ (zN_fin _ r ⟨1280 * t.val + v.val, hv⟩).symm
      refine Eq.trans ?_ (Cert.ReferenceIdeal.V.z_at _ _ _ r ⟨1280 * t.val + v.val, hv⟩).symm
      refine congrArg₂ (zE _) (funext fun x => ?_) (funext fun x => ?_)
      · exact iblk1_apply m c t (ix2 v x) (ix2 ⟨1280 * t.val + v.val, hv⟩ x) (by show 1280 * t.val + v.val = t.val * 1280 + v.val; omega) rfl
      · exact iblk2_apply m c t (ix2 v ⟨x.val / 128, by omega⟩) (ix2 ⟨1280 * t.val + v.val, hv⟩ ⟨x.val / 128, by omega⟩) (by show 1280 * t.val + v.val = t.val * 1280 + v.val; omega) rfl
    · have e := iblk3_apply m c t (ix3 (0 : Fin 1) r l) (ix3 ⟨t.val / 3, by omega⟩ r l) rfl rfl rfl
      rw [e]
      have hw := hg.words ⟨t.val / 3, by omega⟩ r ⟨t.val % 3 * 10 + b.val, by omega⟩ l (by show t.val / 3 * 3840 + (t.val % 3 * 10 + b.val) * 128 + l.val < 32000; omega)
      rw [show (⟨t.val / 3, by omega⟩ : Fin 9).val * 3840 + (⟨t.val % 3 * 10 + b.val, by omega⟩ : Fin 30).val * 128 + l.val = 1280 * t.val + 128 * b.val + l.val by
        show t.val / 3 * 3840 + (t.val % 3 * 10 + b.val) * 128 + l.val = _; omega] at hw
      exact hw

theorem carried_fin (x5 : Vec Ideal S1536x50 .bf16) (t : ℕ) (p : St Ideal) (h : Carried m c t p) : Carried m c t (finSt x5 p) where
  codes := h.codes
  scales := h.scales
  xbf := h.xbf
  lo := h.lo
  hi := h.hi
  inv := ⟨h.inv.run, h.inv.sup⟩

theorem carried_init (t : Fin cfg0.N) : Carried m c 0 (initSt (iblk m c 0 t) (iblk m c 4 t)) := by
  have e0 : (iblk m c 0 t : Vec Ideal S1536x1024 .bf16) = xK m c := (iblk0_eq m c t).trans (V_main_v0 m c)
  have e4 : (iblk m c 4 t : Vec Ideal S1536x50 .i32) = iK m c := (iblk4_eq m c t).trans (V_main_v1 m c)
  exact { codes := congrArg codesV e0, scales := congrArg scalesV e0, xbf := congrArg xbfV e0, lo := congrArg (loV (F := Ideal)) e4, hi := congrArg (hiV (F := Ideal)) e4
          inv := inv_init _ _ _ _ }

theorem carried (hg : Good m c) : ∀ (n : ℕ) (hn : n < cfg0.N), Carried m c (n + 1) (outsAt0 m c n hn)
  | 0, hn => by
    rw [outsAt0_A m c ⟨0, hn⟩ (Nat.zero_mod _)]
    exact carried_step hg ⟨0, hn⟩ _ (carried_init _)
  | n + 1, hn => by
    have ih := carried hg n (Nat.lt_of_succ_lt hn)
    have hN : n + 1 < 25 := lt_of_lt_of_eq hn (show cfg0.N = 25 from N_0)
    by_cases h1 : (n + 1) % 25 = 24
    · rw [outsAt0_C m c ⟨n + 1, hn⟩ (by show ¬(n + 1) % 25 = 0; omega) h1]
      exact carried_fin _ _ _ (carried_step hg ⟨n + 1, hn⟩ _ ih)
    · rw [outsAt0_B m c ⟨n + 1, hn⟩ (by show ¬(n + 1) % 25 = 0; omega) h1]
      exact carried_step hg ⟨n + 1, hn⟩ _ ih

theorem last (hg : Good m c) : Carried m c 25 (finalSt m c) := carried hg 24 _

theorem last_out : ∃ x5 : Vec Ideal S1536x50 .bf16, (finalSt m c).lse = outV lseB (finalSt m c).m (finalSt m c).s (finalSt m c).sup x5
    ∧ (finalSt m c).rest = outV restB (finalSt m c).m (finalSt m c).s (finalSt m c).sup x5 ∧ (finalSt m c).zsup = zsV (finalSt m c).sup := by
  have e : finalSt m c = _ := outsAt0_C m c tLast (by decide) (by decide)
  rw [e]
  exact ⟨iblk m c 5 tLast, rfl, rfl, rfl⟩

theorem codes_eq (hg : Good m c) : (finalSt m c).codes = Cert.ReferenceIdeal.Gen.k0_pay2 (Cert.ReferenceIdeal.Gen.k0_pay5 (xK m c)) :=
  (last hg).codes.trans (codes_same (xK m c) hg.x)

theorem scales_eq (hg : Good m c) : (finalSt m c).scales = Cert.ReferenceIdeal.Gen.k0_pay4 (xK m c) :=
  (last hg).scales.trans (scales_same (xK m c) hg.x)

theorem zsup_eq (hg : Good m c) : (finalSt m c).zsup = Cert.ReferenceIdeal.Gen.k0_pay1 (Cert.ReferenceIdeal.Gen.k0_pay10 (iK m c))
    (Cert.ReferenceIdeal.Gen.k0_pay13 (Cert.ReferenceIdeal.Gen.k0_pay6 (xK m c)) (Cert.ReferenceIdeal.Gen.k0_pay7 (wK m c)) (Cert.ReferenceIdeal.Gen.k0_pay8 (sK m c))) := by
  obtain ⟨x5, _, _, hz⟩ := last_out (m := m) (c := c)
  rw [hz]
  funext y
  obtain ⟨r, j, rfl⟩ : ∃ (r : Fin 1536) (j : Fin 50), y = ix2 r j := idx2_eq y
  obtain ⟨n, hn⟩ := hg.range r j
  refine (zsup_out _ _ _ (last hg).inv r j n hn).trans ((zN_fin _ r n).trans ?_)
  exact (Cert.ReferenceIdeal.V.zsup_at _ _ _ _ r j n hn).symm

theorem restE_eq (z : FVec Ideal Cert.ReferenceIdeal.S1536x32000 .f32) (ids : Vec Ideal S1536x50 .i32) (r : Fin 1536) (n : Fin 32000) :
    restE (zN z) ids r n.val = (Cert.ReferenceIdeal.V.restOf (F := Ideal) (Cert.ReferenceIdeal.V.supOf (F := Ideal) (Cert.ReferenceIdeal.Gen.k0_pay10 ids)) z (ix2 r n) : EReal) := by
  refine Eq.trans ?_ (Cert.ReferenceIdeal.V.rest_at ids z r n).symm
  unfold restE Marked
  rw [zN_fin]
  by_cases h : ∃ j : Fin 50, ids (ix2 r j) = BitVec.ofNat 32 n.val
  · exact (if_pos h).trans (if_pos h).symm
  · exact (if_neg h).trans (if_neg h).symm

theorem rest_eq (hg : Good m c) : (finalSt m c).rest = Cert.ReferenceIdeal.Gen.k0_pay12 (Cert.ReferenceIdeal.Gen.k0_pay6 (xK m c)) (Cert.ReferenceIdeal.Gen.k0_pay7 (wK m c))
    (Cert.ReferenceIdeal.Gen.k0_pay8 (sK m c)) (iK m c) := by
  obtain ⟨x5, _, hr, _⟩ := last_out (m := m) (c := c)
  rw [hr, Cert.ReferenceIdeal.V.pay12_eq]
  funext y
  obtain ⟨k, l, rfl⟩ : ∃ (k : Fin 4) (l : Fin 384), y = ix2 k l := idx2_eq y
  refine (rest_out _ _ _ (last hg).inv x5 k l).trans ?_
  refine Eq.trans ?_ ((Cert.ReferenceIdeal.V.lseOf_at _ k l).trans (lseE_eq _)).symm
  simp only [restE_eq]
  rfl

theorem lse_eq (hg : Good m c) : (finalSt m c).lse = Cert.ReferenceIdeal.Gen.k0_pay11 (Cert.ReferenceIdeal.Gen.k0_pay6 (xK m c)) (Cert.ReferenceIdeal.Gen.k0_pay7 (wK m c))
    (Cert.ReferenceIdeal.Gen.k0_pay8 (sK m c)) := by
  obtain ⟨x5, hl, _, _⟩ := last_out (m := m) (c := c)
  rw [hl, Cert.ReferenceIdeal.V.pay11_eq]
  funext y
  obtain ⟨k, l, rfl⟩ : ∃ (k : Fin 4) (l : Fin 384), y = ix2 k l := idx2_eq y
  choose n hn using hg.range (rowOf k l)
  have hinj : Function.Injective n := fun a b hab => hg.distinct (rowOf k l) a b ((hn a).trans ((congrArg (fun v : Fin 32000 => BitVec.ofNat 32 v.val) hab).trans (hn b).symm))
  refine (lse_out _ _ _ (last hg).inv x5 k l n hn).trans ?_
  refine Eq.trans ?_ ((Cert.ReferenceIdeal.V.lseOf_at _ k l).trans (lseE_eq _)).symm
  simp only [zN_fin]
  have hmark : ∀ x : Fin 32000, Marked (iK m c) (rowOf k l) x.val ↔ ∃ j, n j = x := by
    intro x
    refine exists_congr fun j => ?_
    rw [hn j]
    constructor
    · intro e
      have := congrArg BitVec.toNat e
      rw [BitVec.toNat_ofNat, BitVec.toNat_ofNat, Nat.mod_eq_of_lt (by omega), Nat.mod_eq_of_lt (by omega)] at this
      exact Fin.ext this
    · rintro rfl; rfl
  refine split_lse (fun x => zRef (xK m c) (wK m c) (sK m c) (ix2 (rowOf k l) x)) n hinj _ (fun x hx => ?_) fun x hx => ?_
  · exact if_pos ((hmark x).2 hx)
  · exact (if_neg fun hc => hx ((hmark x).1 hc)).trans (zN_fin _ _ x)
end State

end Cert.KernelIdeal.V

end
-- ==== Proof.lean ====
/- The proof of the claim: the frames of the kernel (one hand proof, Proof/V/Frame.lean, at both instances: the two programs' texts
   agree) and of the reference, the preservation, which is trivial with no rewrites, and the equality of the five results over the
   extended reals (Proof/V/Final.lean). -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.V.Eq
public import proofs.«01_k».proof.Proof.V.RefValue
public import proofs.«01_k».proof.Proof.V.Admit
public import proofs.«01_k».proof.Proof.V.Final
public import Idealize.ShloMosaic.Adequacy
public import Idealize.ShloMosaic.Init

@[expose] public section

noncomputable section

namespace Cert.Proof

open Idealize.ShloMosaic Idealize.SL.Sem

/-- The precondition gives what the equality needs of the arguments. -/
theorem good (m : (ℓ : Loc Cert.KernelIdeal.nD Cert.KernelIdeal.τ Cert.KernelIdeal.sig) → Buf (Elt Ideal) ℓ)
    (h : Cert.Pre_KernelIdeal_admissible (hPre_admissible := Cert.Pre_admissible.facts) m) (c : Dev Cert.KernelIdeal.nD) : Cert.KernelIdeal.V.Good m c :=
  have ok := Cert.Pre_admissible.ok_of _ _ _ _ _ _ (h c).1 (h c).2.1 (h c).2.2.1 (h c).2.2.2
  { x := fun _ => ok.x _, range := ok.range, distinct := ok.distinct, words := ok.words }

theorem algebraic : Cert.algebraic_KernelIdeal_ReferenceIdeal_pre_admissible (hKernelIdeal := Cert.KernelIdeal.Gen.facts)
    (hReferenceIdeal := Cert.ReferenceIdeal.Gen.facts) (hPre_admissible := Cert.Pre_admissible.facts) := by
  intro m g m' g' hpre hm
  have ex : ∀ c, Cert.ReferenceIdeal.V.xs m' c = Cert.KernelIdeal.V.xK m c := fun c => by
    unfold Cert.ReferenceIdeal.V.xs Cert.KernelIdeal.V.xK; rw [(hm c).1]
  have ew : ∀ c, Cert.ReferenceIdeal.V.ws m' c = Cert.KernelIdeal.V.wK m c := fun c => (hm c).2.1
  have es : ∀ c, Cert.ReferenceIdeal.V.ss m' c = Cert.KernelIdeal.V.sK m c := fun c => (hm c).2.2.1
  have ei : ∀ c, Cert.ReferenceIdeal.V.is m' c = Cert.KernelIdeal.V.iK m c := fun c => by
    unfold Cert.ReferenceIdeal.V.is Cert.KernelIdeal.V.iK; rw [(hm c).2.2.2.2.1]
  refine ⟨_, _, _, _, _, Cert.KernelIdeal.V.run m g, ?_⟩
  refine (θ_run Cert.ReferenceIdeal.defs _ _).mono (fun r h c => ?_) (Cert.ReferenceIdeal.V.run m' g')
  have hg := good m hpre c
  obtain ⟨h0, h1, h2, h3, h4, hargs⟩ := h c
  rw [ex, ew, es] at h0
  rw [ex, ew, es, ei] at h1
  rw [ex, ew, es, ei] at h2
  rw [ex] at h3
  rw [ex] at h4
  exact ⟨h0.trans (Cert.KernelIdeal.V.lse_eq hg).symm, h1.trans (Cert.KernelIdeal.V.rest_eq hg).symm, h2.trans (Cert.KernelIdeal.V.zsup_eq hg).symm,
    h3.trans (Cert.KernelIdeal.V.codes_eq hg).symm, h4.trans (Cert.KernelIdeal.V.scales_eq hg).symm, hargs⟩

theorem claim : Cert.Claim := ⟨Cert.Kernel.Gen.facts, Cert.KernelIdeal.Gen.facts, Cert.ReferenceIdeal.Gen.facts, Cert.Pre_admissible.facts,
  fun m ρ _ => Cert.KernelIdeal.V.frame_kernel m ρ, fun m ρ _ => Cert.KernelIdeal.V.frame m ρ, fun m ρ _ => Cert.KernelIdeal.V.frame m ρ,
  fun m ρ _ => Cert.ReferenceIdeal.Gen.frame m ρ, fun m ρ _ => Cert.ReferenceIdeal.Gen.frame m ρ, trivial, algebraic⟩

end Cert.Proof

end
